-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decay [hPre_finite_decay : Cert.Pre_finite_decay.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decay [hPre_finite_decay : Cert.Pre_finite_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_decay [hKernelIdeal : Cert.KernelIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_decay [hReferenceIdeal : Cert.ReferenceIdeal.Facts] [hPre_finite_decay : Cert.Pre_finite_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_decay [hKernelIdeal : Cert.KernelIdeal.Facts] [hReferenceIdeal : Cert.ReferenceIdeal.Facts] [hPre_finite_decay : Cert.Pre_finite_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65_1)) (v1 : (c : Dev Cert.KernelIdeal.nD) → Buf (Elt Ideal) ((c.tc : Thread Cert.KernelIdeal.nD Cert.KernelIdeal.τ).loc Cert.KernelIdeal.main_v65_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_1) = v0 c
          ∧ r.2.mem ((c.tc : Thread Cert.KernelIdeal.nD Cert.KernelIdeal.τ).loc Cert.KernelIdeal.main_v65_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_1)) (v1 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_1) = v0 c
          ∧ r.2.mem ((c.tc : Thread Cert.Kernel7Ideal.nD Cert.Kernel7Ideal.τ).loc Cert.Kernel7Ideal.main_v1_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_decay : Cert.Pre_finite_decay.Facts),
    quiescent_Kernel (hKernel := hKernel)
    ∧ quiescent_KernelIdeal (hKernelIdeal := hKernelIdeal)
    ∧ quiescent_KernelIdeal_pre_finite_decay (hKernelIdeal := hKernelIdeal) (hPre_finite_decay := hPre_finite_decay)
    ∧ quiescent_ReferenceIdeal (hReferenceIdeal := hReferenceIdeal)
    ∧ quiescent_ReferenceIdeal_pre_finite_decay (hReferenceIdeal := hReferenceIdeal) (hPre_finite_decay := hPre_finite_decay)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_decay (hKernelIdeal := hKernelIdeal) (hReferenceIdeal := hReferenceIdeal) (hPre_finite_decay := hPre_finite_decay)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_decay.lean ====
abbrev S8448x12288 : Shape := ⟨2, ![8448, 12288]⟩
abbrev S8448x1024 : Shape := ⟨2, ![8448, 1024]⟩
abbrev S1x512 : Shape := ⟨2, ![1, 512]⟩
abbrev S4x512x256 : Shape := ⟨3, ![4, 512, 256]⟩
abbrev S128x4x256x512 : Shape := ⟨4, ![128, 4, 256, 512]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel

variable [Facts]

def fn {F : FTy → Type} [FloatOps F] (main_arg0 : FVec F S8448x12288 .bf16) (main_arg1 : FVec F S8448x1024 .f32) (main_arg2 : FVec F S1x512 .f32) (main_arg3 : FVec F S4x512x256 .f32) (main_arg4 : FVec F S128x4x256x512 .f32) : IVec S_ 1 :=
  let main_v0 : FVec F S8448x1024 .f32 := Host.absf main_arg1
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  main_v3
-- ==== Kernel.lean ====
abbrev S8448x12288 : Shape := ⟨2, ![8448, 12288]⟩
abbrev S8448x1024 : Shape := ⟨2, ![8448, 1024]⟩
abbrev S1x512 : Shape := ⟨2, ![1, 512]⟩
abbrev S4x512x256 : Shape := ⟨3, ![4, 512, 256]⟩
abbrev S128x4x256x512 : Shape := ⟨4, ![128, 4, 256, 512]⟩
abbrev S128x1 : Shape := ⟨2, ![128, 1]⟩
abbrev S128x128 : Shape := ⟨2, ![128, 128]⟩
abbrev S8448x256 : Shape := ⟨2, ![8448, 256]⟩
abbrev S8448x2048 : Shape := ⟨2, ![8448, 2048]⟩
abbrev S128 : Shape := ⟨1, ![128]⟩
abbrev S1x128 : Shape := ⟨2, ![1, 128]⟩
abbrev S1024x128 : Shape := ⟨2, ![1024, 128]⟩
abbrev S1024x256 : Shape := ⟨2, ![1024, 256]⟩
abbrev S8320x2048 : Shape := ⟨2, ![8320, 2048]⟩
abbrev S4x4x256x512 : Shape := ⟨4, ![4, 4, 256, 512]⟩
abbrev S128x1024 : Shape := ⟨2, ![128, 1024]⟩
abbrev S128x2048 : Shape := ⟨2, ![128, 2048]⟩
abbrev S2x4x256x512 : Shape := ⟨4, ![2, 4, 256, 512]⟩
abbrev S1x4x256x512 : Shape := ⟨4, ![1, 4, 256, 512]⟩
abbrev S512x256 : Shape := ⟨2, ![512, 256]⟩
abbrev S1x512x256 : Shape := ⟨3, ![1, 512, 256]⟩
abbrev S128x512 : Shape := ⟨2, ![128, 512]⟩
abbrev S128x256 : Shape := ⟨2, ![128, 256]⟩
abbrev S256x256 : Shape := ⟨2, ![256, 256]⟩
abbrev S1x256 : Shape := ⟨2, ![1, 256]⟩
abbrev S1x128x256 : Shape := ⟨3, ![1, 128, 256]⟩
abbrev S1x64x256 : Shape := ⟨3, ![1, 64, 256]⟩
abbrev S2x64x256 : Shape := ⟨3, ![2, 64, 256]⟩
abbrev S2x32x256 : Shape := ⟨3, ![2, 32, 256]⟩
abbrev S4x32x256 : Shape := ⟨3, ![4, 32, 256]⟩
abbrev S4x16x256 : Shape := ⟨3, ![4, 16, 256]⟩
abbrev S8x16x256 : Shape := ⟨3, ![8, 16, 256]⟩
abbrev S8x8x256 : Shape := ⟨3, ![8, 8, 256]⟩
abbrev S8x128 : Shape := ⟨2, ![8, 128]⟩
abbrev S256x128 : Shape := ⟨2, ![256, 128]⟩
abbrev S8x512 : Shape := ⟨2, ![8, 512]⟩
abbrev S256x512 : Shape := ⟨2, ![256, 512]⟩
abbrev S1x1x256x512 : Shape := ⟨4, ![1, 1, 256, 512]⟩
abbrev S512 : Shape := ⟨1, ![512]⟩
abbrev S1 : Shape := ⟨1, ![1]⟩
abbrev S1x1 : Shape := ⟨2, ![1, 1]⟩

abbrev nBuf : Space → Nat
  | .hbm => 82
  | .vmem => 36
  | .smem => 0
  | _ => 0

abbrev bufTy : (tb : Table) → Fin (tcTables nBuf tb) → BufTy
  | .hbm, ⟨0, _⟩ => ⟨S8448x12288, .bf16⟩
  | .hbm, ⟨1, _⟩ => ⟨S8448x1024, .f32⟩
  | .hbm, ⟨2, _⟩ => ⟨S1x512, .f32⟩
  | .hbm, ⟨3, _⟩ => ⟨S4x512x256, .f32⟩
  | .hbm, ⟨4, _⟩ => ⟨S128x4x256x512, .f32⟩
  | .hbm, ⟨5, _⟩ => ⟨S128x1, .i32⟩
  | .hbm, ⟨6, _⟩ => ⟨S128x1, .i32⟩
  | .hbm, ⟨7, _⟩ => ⟨S128x1, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S128x1, .i32⟩
  | .hbm, ⟨12, _⟩ => ⟨S128x1, .i32⟩
  | .hbm, ⟨13, _⟩ => ⟨S128x128, .i32⟩
  | .hbm, ⟨14, _⟩ => ⟨S8448x256, .f32⟩
  | .hbm, ⟨15, _⟩ => ⟨S8448x256, .bf16⟩
  | .hbm, ⟨16, _⟩ => ⟨S8448x256, .f32⟩
  | .hbm, ⟨17, _⟩ => ⟨S8448x256, .f32⟩
  | .hbm, ⟨18, _⟩ => ⟨S8448x256, .bf16⟩
  | .hbm, ⟨19, _⟩ => ⟨S8448x256, .f32⟩
  | .hbm, ⟨20, _⟩ => ⟨S8448x256, .bf16⟩
  | .hbm, ⟨21, _⟩ => ⟨S8448x256, .f32⟩
  | .hbm, ⟨22, _⟩ => ⟨S8448x256, .f32⟩
  | .hbm, ⟨23, _⟩ => ⟨S8448x256, .bf16⟩
  | .hbm, ⟨24, _⟩ => ⟨S8448x256, .f32⟩
  | .hbm, ⟨25, _⟩ => ⟨S8448x256, .bf16⟩
  | .hbm, ⟨26, _⟩ => ⟨S8448x256, .f32⟩
  | .hbm, ⟨27, _⟩ => ⟨S8448x256, .f32⟩
  | .hbm, ⟨28, _⟩ => ⟨S8448x256, .bf16⟩
  | .hbm, ⟨29, _⟩ => ⟨S8448x256, .f32⟩
  | .hbm, ⟨30, _⟩ => ⟨S8448x256, .bf16⟩
  | .hbm, ⟨31, _⟩ => ⟨S8448x256, .f32⟩
  | .hbm, ⟨32, _⟩ => ⟨S8448x256, .f32⟩
  | .hbm, ⟨33, _⟩ => ⟨S8448x256, .bf16⟩
  | .hbm, ⟨34, _⟩ => ⟨S8448x2048, .bf16⟩
  | .hbm, ⟨35, _⟩ => ⟨S128, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .f32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S128x128, .f32⟩
  | .hbm, ⟨45, _⟩ => ⟨S128x128, .f32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S128x128, .f32⟩
  | .hbm, ⟨50, _⟩ => ⟨S128x128, .f32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S128x128, .f32⟩
  | .hbm, ⟨55, _⟩ => ⟨S128x128, .f32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S128x128, .f32⟩
  | .hbm, ⟨60, _⟩ => ⟨S128x128, .f32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S128x128, .f32⟩
  | .hbm, ⟨65, _⟩ => ⟨S128x128, .f32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S128x128, .f32⟩
  | .hbm, ⟨70, _⟩ => ⟨S128x128, .f32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S128x128, .f32⟩
  | .hbm, ⟨75, _⟩ => ⟨S128x128, .f32⟩
  | .hbm, ⟨76, _⟩ => ⟨S1024x128, .f32⟩
  | .hbm, ⟨77, _⟩ => ⟨S1024x256, .f32⟩
  | .hbm, ⟨78, _⟩ => ⟨S1024x256, .bf16⟩
  | .hbm, ⟨79, _⟩ => ⟨S8320x2048, .bf16⟩
  | .hbm, ⟨80, _⟩ => ⟨S4x4x256x512, .f32⟩
  | .hbm, ⟨81, _⟩ => ⟨S128x4x256x512, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S1x512, .f32⟩
  | .local _ .vmem, ⟨11, _⟩ => ⟨S4x512x256, .f32⟩
  | .local _ .vmem, ⟨12, _⟩ => ⟨S1024x256, .bf16⟩
  | .local _ .vmem, ⟨13, _⟩ => ⟨S128x128, .i32⟩
  | .local _ .vmem, ⟨14, _⟩ => ⟨S128x1024, .bf16⟩
  | .local _ .vmem, ⟨15, _⟩ => ⟨S128x1024, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S2x4x256x512, .f32⟩
  | .local _ .vmem, ⟨20, _⟩ => ⟨S2x4x256x512, .f32⟩
  | .local _ .vmem, ⟨21, _⟩ => ⟨S128x2048, .bf16⟩
  | .local _ .vmem, ⟨22, _⟩ => ⟨S128x2048, .bf16⟩
  | .local _ .vmem, ⟨23, _⟩ => ⟨S1x4x256x512, .f32⟩
  | .local _ .vmem, ⟨24, _⟩ => ⟨S1x4x256x512, .f32⟩
  | .local _ .vmem, ⟨25, _⟩ => ⟨S2x4x256x512, .f32⟩
  | .local _ .vmem, ⟨26, _⟩ => ⟨S2x4x256x512, .f32⟩
  | .local _ .vmem, ⟨27, _⟩ => ⟨S128x2048, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | _, _ => ⟨S8448x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65_0 : Ref sig .tc := ⟨.hbm, 79, rfl⟩
abbrev main_v65_1 : Ref sig .tc := ⟨.hbm, 80, rfl⟩
abbrev main_v65_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond5 (i : grid0.Coords) : BitVec 1 :=
  let arg0 : BitVec 32 := BitVec.ofNat 32 (i 0).val
  let c64_i32_0 : BitVec 32 := 64#32
  let v3 : BitVec 1 := Scalar.cmpi .eq arg0 c64_i32_0
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c16_i32 : BitVec 32 := 16#32
  let c0_i32_2 : BitVec 32 := 0#32
  let v6 : BitVec 1 := Scalar.cmpi .eq c16_i32 c0_i32_2
  let c1_i32 : BitVec 32 := 1#32
  let v7 : BitVec 32 := Scalar.select v6 c1_i32 c16_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c15_i32 : BitVec 32 := 15#32
  let v1587 : BitVec 1 := Scalar.cmpi .eq v15 c15_i32
  let v1588 : BitVec 32 := Scalar.extui v1587
  let c0_i32_655 : BitVec 32 := 0#32
  let v1589 : BitVec 1 := Scalar.cmpi .ne v1588 c0_i32_655
  v1589

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_10 (i : grid0.Coords) : Fin 2 → Nat :=
  let arg0 : BitVec 32 := BitVec.ofNat 32 (i 0).val
  let c64_i32 : BitVec 32 := 64#32
  let c1_i32 : BitVec 32 := 1#32
  let c0_i32 : BitVec 32 := 0#32
  ![c64_i32.toNat, c1_i32.toNat]

def cc0_transform_11 (i : grid0.Coords) : Fin 2 → Nat :=
  let arg0 : BitVec 32 := BitVec.ofNat 32 (i 0).val
  let c64_i32 : BitVec 32 := 64#32
  let c1_i32 : BitVec 32 := 1#32
  let c0_i32 : BitVec 32 := 0#32
  ![c64_i32.toNat, c1_i32.toNat]

def cc0_transform_12 (i : grid0.Coords) : Fin 2 → Nat :=
  let arg0 : BitVec 32 := BitVec.ofNat 32 (i 0).val
  let c64_i32 : BitVec 32 := 64#32
  let c2_i32 : BitVec 32 := 2#32
  let c0_i32 : BitVec 32 := 0#32
  ![c64_i32.toNat, c2_i32.toNat]

def cc0_transform_13 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_14 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_17 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x4x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x4x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S8448x12288 : Shape := ⟨2, ![8448, 12288]⟩
abbrev S8448x1024 : Shape := ⟨2, ![8448, 1024]⟩
abbrev S1x512 : Shape := ⟨2, ![1, 512]⟩
abbrev S4x512x256 : Shape := ⟨3, ![4, 512, 256]⟩
abbrev S128x4x256x512 : Shape := ⟨4, ![128, 4, 256, 512]⟩
abbrev S8448x2048 : Shape := ⟨2, ![8448, 2048]⟩
abbrev S4x256x512 : Shape := ⟨3, ![4, 256, 512]⟩
abbrev S1x4x256x512 : Shape := ⟨4, ![1, 4, 256, 512]⟩
abbrev S4x4x256x512 : Shape := ⟨4, ![4, 4, 256, 512]⟩
abbrev S8192x1024 : Shape := ⟨2, ![8192, 1024]⟩
abbrev S4x2048x4x256 : Shape := ⟨4, ![4, 2048, 4, 256]⟩
abbrev S4x4x2048x256 : Shape := ⟨4, ![4, 4, 2048, 256]⟩
abbrev S8192x2048 : Shape := ⟨2, ![8192, 2048]⟩
abbrev S4x2048x4x512 : Shape := ⟨4, ![4, 2048, 4, 512]⟩
abbrev S4x4x2048x512 : Shape := ⟨4, ![4, 4, 2048, 512]⟩
abbrev S_ : Shape := ⟨0, ![]⟩
abbrev S4x4x1x256 : Shape := ⟨4, ![4, 4, 1, 256]⟩
abbrev S4x4x256 : Shape := ⟨3, ![4, 4, 256]⟩
abbrev S4x4x256x1 : Shape := ⟨4, ![4, 4, 256, 1]⟩
abbrev S128x1024 : Shape := ⟨2, ![128, 1024]⟩
abbrev S128x1x4x256 : Shape := ⟨4, ![128, 1, 4, 256]⟩
abbrev S128x4x1x256 : Shape := ⟨4, ![128, 4, 1, 256]⟩
abbrev S128x2048 : Shape := ⟨2, ![128, 2048]⟩
abbrev S128x1x4x512 : Shape := ⟨4, ![128, 1, 4, 512]⟩
abbrev S128x4x1x512 : Shape := ⟨4, ![128, 4, 1, 512]⟩
abbrev S128x4x256 : Shape := ⟨3, ![128, 4, 256]⟩
abbrev S128x4x256x1 : Shape := ⟨4, ![128, 4, 256, 1]⟩

abbrev nBuf : Space → Nat
  | .hbm => 57
  | .vmem => 0
  | .smem => 0
  | _ => 0

abbrev bufTy : (tb : Table) → Fin (tcTables nBuf tb) → BufTy
  | .hbm, ⟨0, _⟩ => ⟨S8448x12288, .bf16⟩
  | .hbm, ⟨1, _⟩ => ⟨S8448x1024, .f32⟩
  | .hbm, ⟨2, _⟩ => ⟨S1x512, .f32⟩
  | .hbm, ⟨3, _⟩ => ⟨S4x512x256, .f32⟩
  | .hbm, ⟨4, _⟩ => ⟨S128x4x256x512, .f32⟩
  | .hbm, ⟨5, _⟩ => ⟨S8448x12288, .f32⟩
  | .hbm, ⟨6, _⟩ => ⟨S8448x1024, .f32⟩
  | .hbm, ⟨7, _⟩ => ⟨S8448x2048, .f32⟩
  | .hbm, ⟨8, _⟩ => ⟨S4x256x512, .f32⟩
  | .hbm, ⟨9, _⟩ => ⟨S1x4x256x512, .f32⟩
  | .hbm, ⟨10, _⟩ => ⟨S4x4x256x512, .f32⟩
  | .hbm, ⟨11, _⟩ => ⟨S8192x1024, .f32⟩
  | .hbm, ⟨12, _⟩ => ⟨S4x2048x4x256, .f32⟩
  | .hbm, ⟨13, _⟩ => ⟨S4x4x2048x256, .f32⟩
  | .hbm, ⟨14, _⟩ => ⟨S8192x2048, .f32⟩
  | .hbm, ⟨15, _⟩ => ⟨S4x2048x4x512, .f32⟩
  | .hbm, ⟨16, _⟩ => ⟨S4x4x2048x512, .f32⟩
  | .hbm, ⟨17, _⟩ => ⟨S8192x1024, .f32⟩
  | .hbm, ⟨18, _⟩ => ⟨S4x2048x4x256, .f32⟩
  | .hbm, ⟨19, _⟩ => ⟨S4x4x2048x256, .f32⟩
  | .hbm, ⟨20, _⟩ => ⟨S_, .f32⟩
  | .hbm, ⟨21, _⟩ => ⟨S_, .f32⟩
  | .hbm, ⟨22, _⟩ => ⟨S4x4x2048x256, .f32⟩
  | .hbm, ⟨23, _⟩ => ⟨S4x4x1x256, .f32⟩
  | .hbm, ⟨24, _⟩ => ⟨S4x4x256, .f32⟩
  | .hbm, ⟨25, _⟩ => ⟨S4x4x256, .f32⟩
  | .hbm, ⟨26, _⟩ => ⟨S4x4x256x1, .f32⟩
  | .hbm, ⟨27, _⟩ => ⟨S4x4x256x512, .f32⟩
  | .hbm, ⟨28, _⟩ => ⟨S4x4x256x512, .f32⟩
  | .hbm, ⟨29, _⟩ => ⟨S4x4x2048x256, .f32⟩
  | .hbm, ⟨30, _⟩ => ⟨S4x4x2048x256, .f32⟩
  | .hbm, ⟨31, _⟩ => ⟨S4x4x2048x256, .f32⟩
  | .hbm, ⟨32, _⟩ => ⟨S4x4x2048x256, .f32⟩
  | .hbm, ⟨33, _⟩ => ⟨S4x4x256x512, .f32⟩
  | .hbm, ⟨34, _⟩ => ⟨S4x4x256x512, .f32⟩
  | .hbm, ⟨35, _⟩ => ⟨S128x1024, .f32⟩
  | .hbm, ⟨36, _⟩ => ⟨S128x1x4x256, .f32⟩
  | .hbm, ⟨37, _⟩ => ⟨S128x4x1x256, .f32⟩
  | .hbm, ⟨38, _⟩ => ⟨S128x2048, .f32⟩
  | .hbm, ⟨39, _⟩ => ⟨S128x1x4x512, .f32⟩
  | .hbm, ⟨40, _⟩ => ⟨S128x4x1x512, .f32⟩
  | .hbm, ⟨41, _⟩ => ⟨S128x1024, .f32⟩
  | .hbm, ⟨42, _⟩ => ⟨S128x1x4x256, .f32⟩
  | .hbm, ⟨43, _⟩ => ⟨S128x4x1x256, .f32⟩
  | .hbm, ⟨44, _⟩ => ⟨S_, .f32⟩
  | .hbm, ⟨45, _⟩ => ⟨S_, .f32⟩
  | .hbm, ⟨46, _⟩ => ⟨S128x4x1x256, .f32⟩
  | .hbm, ⟨47, _⟩ => ⟨S128x4x256, .f32⟩
  | .hbm, ⟨48, _⟩ => ⟨S128x4x256, .f32⟩
  | .hbm, ⟨49, _⟩ => ⟨S128x4x256x1, .f32⟩
  | .hbm, ⟨50, _⟩ => ⟨S128x4x256x512, .f32⟩
  | .hbm, ⟨51, _⟩ => ⟨S128x4x256x512, .f32⟩
  | .hbm, ⟨52, _⟩ => ⟨S128x4x1x256, .f32⟩
  | .hbm, ⟨53, _⟩ => ⟨S128x4x1x256, .f32⟩
  | .hbm, ⟨54, _⟩ => ⟨S128x4x1x256, .f32⟩
  | .hbm, ⟨55, _⟩ => ⟨S128x4x256x512, .f32⟩
  | .hbm, ⟨56, _⟩ => ⟨S128x4x256x512, .f32⟩
  | _, _ => ⟨S8448x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_call0_cst : Ref sig .tc := ⟨.hbm, 20, rfl⟩
abbrev main_call0_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call1_call0_cst : Ref sig .tc := ⟨.hbm, 44, rfl⟩
abbrev main_call1_call0_v0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel2.lean ====
abbrev S8320x4096 : Shape := ⟨2, ![8320, 4096]⟩
abbrev S4096x11008 : Shape := ⟨2, ![4096, 11008]⟩
abbrev S11008x4096 : Shape := ⟨2, ![11008, 4096]⟩
abbrev S8320x11264 : Shape := ⟨2, ![8320, 11264]⟩
abbrev S11264x4096 : Shape := ⟨2, ![11264, 4096]⟩
abbrev S2080x4096 : Shape := ⟨2, ![2080, 4096]⟩
abbrev S4096x256 : Shape := ⟨2, ![4096, 256]⟩
abbrev S256x4096 : Shape := ⟨2, ![256, 4096]⟩
abbrev S2080x256 : Shape := ⟨2, ![2080, 256]⟩

abbrev nBuf : Space → Nat
  | .hbm => 6
  | .vmem => 11
  | .smem => 0
  | _ => 0

abbrev bufTy : (tb : Table) → Fin (tcTables nBuf tb) → BufTy
  | .hbm, ⟨0, _⟩ => ⟨S8320x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S8320x11264, .bf16⟩
  | .hbm, ⟨5, _⟩ => ⟨S11264x4096, .bf16⟩
  | .local _ .vmem, ⟨0, _⟩ => ⟨S2080x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S256x4096, .f32⟩
  | .local _ .vmem, ⟨6, _⟩ => ⟨S256x4096, .f32⟩
  | .local _ .vmem, ⟨7, _⟩ => ⟨S2080x256, .bf16⟩
  | .local _ .vmem, ⟨8, _⟩ => ⟨S2080x256, .bf16⟩
  | .local _ .vmem, ⟨9, _⟩ => ⟨S256x4096, .bf16⟩
  | .local _ .vmem, ⟨10, _⟩ => ⟨S256x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 44], ![false, false]⟩

def k0_cond1 (i : grid0.Coords) : BitVec 1 :=
  let arg1 : BitVec 32 := BitVec.ofNat 32 (i 1).val
  let c43_i32 : BitVec 32 := 43#32
  let v0 : BitVec 1 := Scalar.cmpi .slt arg1 c43_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c43_i32_0 : BitVec 32 := 43#32
  let v3 : BitVec 1 := Scalar.cmpi .sge arg1 c43_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c0_i32_2 : BitVec 32 := 0#32
  let v6 : BitVec 1 := Scalar.cmpi .eq arg0 c0_i32_2
  let arg1 : BitVec 32 := BitVec.ofNat 32 (i 1).val
  let c43_i32_3 : BitVec 32 := 43#32
  let v7 : BitVec 1 := Scalar.cmpi .slt arg1 c43_i32_3
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_5 : BitVec 32 := 0#32
  let v11 : BitVec 1 := Scalar.cmpi .eq arg0 c0_i32_5
  let arg1 : BitVec 32 := BitVec.ofNat 32 (i 1).val
  let c43_i32_6 : BitVec 32 := 43#32
  let v12 : BitVec 1 := Scalar.cmpi .sge arg1 c43_i32_6
  let v13 : BitVec 1 := Scalar.andi v11 v12
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.minsi arg1 c42_i32
  let c42_i32_0 : BitVec 32 := 42#32
  let v2 : BitVec 32 := Scalar.select v0 v1 c42_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c43_i32 : BitVec 32 := 43#32
  let v1 : BitVec 32 := Scalar.select v0 arg1 c43_i32
  let c0_i32_0 : BitVec 32 := 0#32
  let c0_i32_1 : BitVec 32 := 0#32
  ![v1.toNat, c0_i32_0.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2080x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8320x4096 : Shape := ⟨2, ![8320, 4096]⟩
abbrev S4096x11008 : Shape := ⟨2, ![4096, 11008]⟩
abbrev S11008x4096 : Shape := ⟨2, ![11008, 4096]⟩
abbrev S8320x11008 : Shape := ⟨2, ![8320, 11008]⟩
abbrev S_ : Shape := ⟨0, ![]⟩
abbrev S8320x11264 : Shape := ⟨2, ![8320, 11264]⟩
abbrev S11264x4096 : Shape := ⟨2, ![11264, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S8320x4096, .f32⟩
  | .hbm, ⟨5, _⟩ => ⟨S8320x11008, .f32⟩
  | .hbm, ⟨6, _⟩ => ⟨S8320x11008, .f32⟩
  | .hbm, ⟨7, _⟩ => ⟨S8320x11008, .f32⟩
  | .hbm, ⟨8, _⟩ => ⟨S_, .f32⟩
  | .hbm, ⟨9, _⟩ => ⟨S8320x11008, .f32⟩
  | .hbm, ⟨10, _⟩ => ⟨S8320x11008, .f32⟩
  | .hbm, ⟨11, _⟩ => ⟨S_, .f32⟩
  | .hbm, ⟨12, _⟩ => ⟨S8320x11008, .f32⟩
  | .hbm, ⟨13, _⟩ => ⟨S8320x11008, .f32⟩
  | .hbm, ⟨14, _⟩ => ⟨S8320x11008, .f32⟩
  | .hbm, ⟨15, _⟩ => ⟨S8320x11008, .f32⟩
  | .hbm, ⟨16, _⟩ => ⟨S8320x11008, .f32⟩
  | .hbm, ⟨17, _⟩ => ⟨S_, .i32⟩
  | .hbm, ⟨18, _⟩ => ⟨S_, .f32⟩
  | .hbm, ⟨19, _⟩ => ⟨S8320x11264, .f32⟩
  | .hbm, ⟨20, _⟩ => ⟨S8320x11264, .bf16⟩
  | .hbm, ⟨21, _⟩ => ⟨S_, .i32⟩
  | .hbm, ⟨22, _⟩ => ⟨S_, .f32⟩
  | .hbm, ⟨23, _⟩ => ⟨S11264x4096, .f32⟩
  | .hbm, ⟨24, _⟩ => ⟨S11264x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩

abbrev nD : Nat := 1
abbrev τ : Topo := Topo.v7x

variable {F : FTy → Type} [FloatOps F]
-- ==== Kernel3.lean ====
abbrev S8320x11264 : Shape := ⟨2, ![8320, 11264]⟩
abbrev S11264x4096 : Shape := ⟨2, ![11264, 4096]⟩
abbrev S8320x4096 : Shape := ⟨2, ![8320, 4096]⟩
abbrev S8320x1 : Shape := ⟨2, ![8320, 1]⟩
abbrev S4096 : Shape := ⟨1, ![4096]⟩
abbrev S1x4096 : Shape := ⟨2, ![1, 4096]⟩
abbrev S8320x128 : Shape := ⟨2, ![8320, 128]⟩
abbrev S_ : Shape := ⟨0, ![]⟩
abbrev S2080x1024 : Shape := ⟨2, ![2080, 1024]⟩
abbrev S1024x1024 : Shape := ⟨2, ![1024, 1024]⟩
abbrev S2080x128 : Shape := ⟨2, ![2080, 128]⟩
abbrev S1x1024 : Shape := ⟨2, ![1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8320x11264, .bf16⟩
  | .hbm, ⟨1, _⟩ => ⟨S11264x4096, .bf16⟩
  | .hbm, ⟨2, _⟩ => ⟨S8320x4096, .f32⟩
  | .hbm, ⟨3, _⟩ => ⟨S8320x1, .f32⟩
  | .hbm, ⟨4, _⟩ => ⟨S8320x1, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S8320x128, .f32⟩
  | .hbm, ⟨10, _⟩ => ⟨S8320x128, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S8320x4096, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .f32⟩
  | .local _ .vmem, ⟨5, _⟩ => ⟨S2080x1024, .f32⟩
  | .local _ .vmem, ⟨6, _⟩ => ⟨S2080x128, .f32⟩
  | .local _ .vmem, ⟨7, _⟩ => ⟨S2080x128, .f32⟩
  | .local _ .vmem, ⟨8, _⟩ => ⟨S2080x128, .f32⟩
  | .local _ .vmem, ⟨9, _⟩ => ⟨S2080x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S2080x1024, .f32⟩
  | .local _ .vmem, ⟨15, _⟩ => ⟨S2080x1024, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2080x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2080x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S8320x11264 : Shape := ⟨2, ![8320, 11264]⟩
abbrev S11264x4096 : Shape := ⟨2, ![11264, 4096]⟩
abbrev S8320x4096 : Shape := ⟨2, ![8320, 4096]⟩
abbrev S8320x1 : Shape := ⟨2, ![8320, 1]⟩
abbrev S4096 : Shape := ⟨1, ![4096]⟩
abbrev S1x4096 : Shape := ⟨2, ![1, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S11264x4096, .bf16⟩
  | .hbm, ⟨2, _⟩ => ⟨S8320x4096, .f32⟩
  | .hbm, ⟨3, _⟩ => ⟨S8320x1, .f32⟩
  | .hbm, ⟨4, _⟩ => ⟨S8320x1, .f32⟩
  | .hbm, ⟨5, _⟩ => ⟨S4096, .f32⟩
  | .hbm, ⟨6, _⟩ => ⟨S4096, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S8320x4096, .f32⟩
  | .hbm, ⟨11, _⟩ => ⟨S1x4096, .f32⟩
  | .hbm, ⟨12, _⟩ => ⟨S8320x4096, .f32⟩
  | .hbm, ⟨13, _⟩ => ⟨S8320x4096, .f32⟩
  | .hbm, ⟨14, _⟩ => ⟨S1x4096, .f32⟩
  | .hbm, ⟨15, _⟩ => ⟨S8320x4096, .f32⟩
  | .hbm, ⟨16, _⟩ => ⟨S8320x4096, .f32⟩
  | .hbm, ⟨17, _⟩ => ⟨S_, .f32⟩
  | .hbm, ⟨18, _⟩ => ⟨S8320x4096, .f32⟩
  | .hbm, ⟨19, _⟩ => ⟨S8320x4096, .f32⟩
  | .hbm, ⟨20, _⟩ => ⟨S8320x11264, .f32⟩
  | .hbm, ⟨21, _⟩ => ⟨S11264x4096, .f32⟩
  | .hbm, ⟨22, _⟩ => ⟨S8320x4096, .f32⟩
  | .hbm, ⟨23, _⟩ => ⟨S8320x4096, .f32⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel4.lean ====
abbrev S8448x4096 : Shape := ⟨2, ![8448, 4096]⟩
abbrev S4096x12304 : Shape := ⟨2, ![4096, 12304]⟩
abbrev S8448x128 : Shape := ⟨2, ![8448, 128]⟩
abbrev S16x1024 : Shape := ⟨2, ![16, 1024]⟩
abbrev S1024 : Shape := ⟨1, ![1024]⟩
abbrev S12304x4096 : Shape := ⟨2, ![12304, 4096]⟩
abbrev S_ : Shape := ⟨0, ![]⟩
abbrev S128x1024 : Shape := ⟨2, ![128, 1024]⟩
abbrev S1x1024 : Shape := ⟨2, ![1, 1024]⟩
abbrev S8448x12288 : Shape := ⟨2, ![8448, 12288]⟩
abbrev S8448x2048 : Shape := ⟨2, ![8448, 2048]⟩
abbrev S1408x4096 : Shape := ⟨2, ![1408, 4096]⟩
abbrev S512x4096 : Shape := ⟨2, ![512, 4096]⟩
abbrev S1408x128 : Shape := ⟨2, ![1408, 128]⟩
abbrev S128x256 : Shape := ⟨2, ![128, 256]⟩
abbrev S1x256 : Shape := ⟨2, ![1, 256]⟩
abbrev S1408x512 : Shape := ⟨2, ![1408, 512]⟩
abbrev S1408x256 : Shape := ⟨2, ![1408, 256]⟩

abbrev nBuf : Space → Nat
  | .hbm => 12
  | .vmem => 14
  | .smem => 0
  | _ => 0

abbrev bufTy : (tb : Table) → Fin (tcTables nBuf tb) → BufTy
  | .hbm, ⟨0, _⟩ => ⟨S8448x4096, .bf16⟩
  | .hbm, ⟨1, _⟩ => ⟨S4096x12304, .f32⟩
  | .hbm, ⟨2, _⟩ => ⟨S8448x128, .f32⟩
  | .hbm, ⟨3, _⟩ => ⟨S16x1024, .f32⟩
  | .hbm, ⟨4, _⟩ => ⟨S1024, .f32⟩
  | .hbm, ⟨5, _⟩ => ⟨S12304x4096, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S1x1024, .f32⟩
  | .hbm, ⟨10, _⟩ => ⟨S8448x12288, .bf16⟩
  | .hbm, ⟨11, _⟩ => ⟨S8448x2048, .bf16⟩
  | .local _ .vmem, ⟨0, _⟩ => ⟨S1408x4096, .bf16⟩
  | .local _ .vmem, ⟨1, _⟩ => ⟨S1408x4096, .bf16⟩
  | .local _ .vmem, ⟨2, _⟩ => ⟨S512x4096, .f32⟩
  | .local _ .vmem, ⟨3, _⟩ => ⟨S512x4096, .f32⟩
  | .local _ .vmem, ⟨4, _⟩ => ⟨S1408x128, .f32⟩
  | .local _ .vmem, ⟨5, _⟩ => ⟨S1408x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | .local _ .vmem, ⟨10, _⟩ => ⟨S1408x512, .bf16⟩
  | .local _ .vmem, ⟨11, _⟩ => ⟨S1408x512, .bf16⟩
  | .local _ .vmem, ⟨12, _⟩ => ⟨S1408x512, .bf16⟩
  | .local _ .vmem, ⟨13, _⟩ => ⟨S1408x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 24], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.muli arg1 c512_i32_0
  let c6144_i32 : BitVec 32 := 6144#32
  let v2 : BitVec 1 := Scalar.cmpi .sge v1 c6144_i32
  let c16_i32 : BitVec 32 := 16#32
  let c0_i32 : BitVec 32 := 0#32
  let v3 : BitVec 32 := Scalar.select v2 c16_i32 c0_i32
  let v4 : BitVec 32 := Scalar.addi v0 v3
  v4
def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c512_i32 : BitVec 32 := 512#32
  let v3 : BitVec 32 := Scalar.muli arg1 c512_i32
  let c4096_i32 : BitVec 32 := 4096#32
  let v4 : BitVec 1 := Scalar.cmpi .sge v3 c4096_i32
  let c512_i32_0 : BitVec 32 := 512#32
  let v5 : BitVec 32 := Scalar.muli arg1 c512_i32_0
  let c6144_i32 : BitVec 32 := 6144#32
  let v6 : BitVec 1 := Scalar.cmpi .slt v5 c6144_i32
  let v7 : BitVec 1 := Scalar.andi v4 v6
  let v8 : BitVec 32 := Scalar.extui v7
  let c0_i32_1 : BitVec 32 := 0#32
  let v9 : BitVec 1 := Scalar.cmpi .ne v8 c0_i32_1
  v9

def k0_cond3 (i : grid0.Coords) : BitVec 1 :=
  let arg1 : BitVec 32 := BitVec.ofNat 32 (i 1).val
  let c4_i32_2 : BitVec 32 := 4#32
  let v10 : BitVec 1 := Scalar.cmpi .sge arg1 c4_i32_2
  let c512_i32 : BitVec 32 := 512#32
  let v3 : BitVec 32 := Scalar.muli arg1 c512_i32
  let c4096_i32 : BitVec 32 := 4096#32
  let v4 : BitVec 1 := Scalar.cmpi .sge v3 c4096_i32
  let c512_i32_0 : BitVec 32 := 512#32
  let v5 : BitVec 32 := Scalar.muli arg1 c512_i32_0
  let c6144_i32 : BitVec 32 := 6144#32
  let v6 : BitVec 1 := Scalar.cmpi .slt v5 c6144_i32
  let v7 : BitVec 1 := Scalar.andi v4 v6
  let v_true : BitVec 1 := 1#1
  let v11 : BitVec 1 := Scalar.xori v7 v_true
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.muli arg1 c512_i32_0
  let c6144_i32 : BitVec 32 := 6144#32
  let v2 : BitVec 1 := Scalar.cmpi .sge v1 c6144_i32
  let c16_i32 : BitVec 32 := 16#32
  let c0_i32 : BitVec 32 := 0#32
  let v3 : BitVec 32 := Scalar.select v2 c16_i32 c0_i32
  let v4 : BitVec 32 := Scalar.addi v0 v3
  let v5 : BitVec 32 := v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8448x4096 : Shape := ⟨2, ![8448, 4096]⟩
abbrev S4096x12304 : Shape := ⟨2, ![4096, 12304]⟩
abbrev S8448x128 : Shape := ⟨2, ![8448, 128]⟩
abbrev S16x1024 : Shape := ⟨2, ![16, 1024]⟩
abbrev S1024 : Shape := ⟨1, ![1024]⟩
abbrev S8448x12304 : Shape := ⟨2, ![8448, 12304]⟩
abbrev S8448x2048 : Shape := ⟨2, ![8448, 2048]⟩
abbrev S8448x6144 : Shape := ⟨2, ![8448, 6144]⟩
abbrev S_ : Shape := ⟨0, ![]⟩
abbrev S8448x12288 : Shape := ⟨2, ![8448, 12288]⟩

abbrev nBuf : Space → Nat
  | .hbm => 21
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x12304, .f32⟩
  | .hbm, ⟨2, _⟩ => ⟨S8448x128, .f32⟩
  | .hbm, ⟨3, _⟩ => ⟨S16x1024, .f32⟩
  | .hbm, ⟨4, _⟩ => ⟨S1024, .f32⟩
  | .hbm, ⟨5, _⟩ => ⟨S8448x4096, .f32⟩
  | .hbm, ⟨6, _⟩ => ⟨S8448x12304, .f32⟩
  | .hbm, ⟨7, _⟩ => ⟨S8448x4096, .f32⟩
  | .hbm, ⟨8, _⟩ => ⟨S8448x2048, .f32⟩
  | .hbm, ⟨9, _⟩ => ⟨S8448x6144, .f32⟩
  | .hbm, ⟨10, _⟩ => ⟨S8448x2048, .f32⟩
  | .hbm, ⟨11, _⟩ => ⟨S8448x2048, .f32⟩
  | .hbm, ⟨12, _⟩ => ⟨S_, .f32⟩
  | .hbm, ⟨13, _⟩ => ⟨S8448x2048, .f32⟩
  | .hbm, ⟨14, _⟩ => ⟨S8448x2048, .f32⟩
  | .hbm, ⟨15, _⟩ => ⟨S_, .f32⟩
  | .hbm, ⟨16, _⟩ => ⟨S8448x2048, .f32⟩
  | .hbm, ⟨17, _⟩ => ⟨S8448x2048, .f32⟩
  | .hbm, ⟨18, _⟩ => ⟨S8448x2048, .f32⟩
  | .hbm, ⟨19, _⟩ => ⟨S8448x12288, .f32⟩
  | .hbm, ⟨20, _⟩ => ⟨S8448x12288, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel5.lean ====
abbrev S8448x2048 : Shape := ⟨2, ![8448, 2048]⟩
abbrev S4096x4096 : Shape := ⟨2, ![4096, 4096]⟩
abbrev S8192x4096 : Shape := ⟨2, ![8192, 4096]⟩
abbrev S8448x1 : Shape := ⟨2, ![8448, 1]⟩
abbrev S4096 : Shape := ⟨1, ![4096]⟩
abbrev S1792x4096 : Shape := ⟨2, ![1792, 4096]⟩
abbrev S1x4096 : Shape := ⟨2, ![1, 4096]⟩
abbrev S8448x128 : Shape := ⟨2, ![8448, 128]⟩
abbrev S_ : Shape := ⟨0, ![]⟩
abbrev S8320x4096 : Shape := ⟨2, ![8320, 4096]⟩
abbrev S1664x2048 : Shape := ⟨2, ![1664, 2048]⟩
abbrev S2048x256 : Shape := ⟨2, ![2048, 256]⟩
abbrev S1664x256 : Shape := ⟨2, ![1664, 256]⟩
abbrev S1664x128 : Shape := ⟨2, ![1664, 128]⟩
abbrev S1x256 : Shape := ⟨2, ![1, 256]⟩

abbrev nBuf : Space → Nat
  | .hbm => 20
  | .vmem => 22
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4096x4096, .f32⟩
  | .hbm, ⟨3, _⟩ => ⟨S8192x4096, .f32⟩
  | .hbm, ⟨4, _⟩ => ⟨S8448x1, .f32⟩
  | .hbm, ⟨5, _⟩ => ⟨S8448x1, .f32⟩
  | .hbm, ⟨6, _⟩ => ⟨S4096, .f32⟩
  | .hbm, ⟨7, _⟩ => ⟨S4096, .f32⟩
  | .hbm, ⟨8, _⟩ => ⟨S1792x4096, .f32⟩
  | .hbm, ⟨9, _⟩ => ⟨S1x4096, .f32⟩
  | .hbm, ⟨10, _⟩ => ⟨S1x4096, .f32⟩
  | .hbm, ⟨11, _⟩ => ⟨S8448x128, .f32⟩
  | .hbm, ⟨12, _⟩ => ⟨S8448x128, .f32⟩
  | .hbm, ⟨13, _⟩ => ⟨S_, .f32⟩
  | .hbm, ⟨14, _⟩ => ⟨S1x4096, .f32⟩
  | .hbm, ⟨15, _⟩ => ⟨S1x4096, .f32⟩
  | .hbm, ⟨16, _⟩ => ⟨S_, .f32⟩
  | .hbm, ⟨17, _⟩ => ⟨S1x4096, .f32⟩
  | .hbm, ⟨18, _⟩ => ⟨S1x4096, .f32⟩
  | .hbm, ⟨19, _⟩ => ⟨S8320x4096, .f32⟩
  | .local _ .vmem, ⟨0, _⟩ => ⟨S1664x2048, .bf16⟩
  | .local _ .vmem, ⟨1, _⟩ => ⟨S1664x2048, .bf16⟩
  | .local _ .vmem, ⟨2, _⟩ => ⟨S1664x2048, .bf16⟩
  | .local _ .vmem, ⟨3, _⟩ => ⟨S1664x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1664x256, .f32⟩
  | .local _ .vmem, ⟨9, _⟩ => ⟨S1664x256, .f32⟩
  | .local _ .vmem, ⟨10, _⟩ => ⟨S1664x128, .f32⟩
  | .local _ .vmem, ⟨11, _⟩ => ⟨S1664x128, .f32⟩
  | .local _ .vmem, ⟨12, _⟩ => ⟨S1664x128, .f32⟩
  | .local _ .vmem, ⟨13, _⟩ => ⟨S1664x128, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1664x256, .f32⟩
  | .local _ .vmem, ⟨19, _⟩ => ⟨S1664x256, .f32⟩
  | .local _ .vmem, ⟨20, _⟩ => ⟨S1664x256, .f32⟩
  | .local _ .vmem, ⟨21, _⟩ => ⟨S1664x256, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c0_i32 : BitVec 32 := 0#32
  let v2 : BitVec 32 := Scalar.select v1 arg1 c0_i32
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1664x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1664x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1664x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1664x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1664x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8448x2048 : Shape := ⟨2, ![8448, 2048]⟩
abbrev S4096x4096 : Shape := ⟨2, ![4096, 4096]⟩
abbrev S8192x4096 : Shape := ⟨2, ![8192, 4096]⟩
abbrev S8448x1 : Shape := ⟨2, ![8448, 1]⟩
abbrev S4096 : Shape := ⟨1, ![4096]⟩
abbrev S1792x4096 : Shape := ⟨2, ![1792, 4096]⟩
abbrev S6656x4096 : Shape := ⟨2, ![6656, 4096]⟩
abbrev S6656x1 : Shape := ⟨2, ![6656, 1]⟩
abbrev S1x4096 : Shape := ⟨2, ![1, 4096]⟩
abbrev S1664x4096 : Shape := ⟨2, ![1664, 4096]⟩
abbrev S8320x4096 : Shape := ⟨2, ![8320, 4096]⟩
abbrev S8448x4096 : Shape := ⟨2, ![8448, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4096x4096, .f32⟩
  | .hbm, ⟨3, _⟩ => ⟨S8192x4096, .f32⟩
  | .hbm, ⟨4, _⟩ => ⟨S8448x1, .f32⟩
  | .hbm, ⟨5, _⟩ => ⟨S8448x1, .f32⟩
  | .hbm, ⟨6, _⟩ => ⟨S4096, .f32⟩
  | .hbm, ⟨7, _⟩ => ⟨S4096, .f32⟩
  | .hbm, ⟨8, _⟩ => ⟨S1792x4096, .f32⟩
  | .hbm, ⟨9, _⟩ => ⟨S6656x4096, .f32⟩
  | .hbm, ⟨10, _⟩ => ⟨S6656x1, .f32⟩
  | .hbm, ⟨11, _⟩ => ⟨S6656x4096, .f32⟩
  | .hbm, ⟨12, _⟩ => ⟨S6656x4096, .f32⟩
  | .hbm, ⟨13, _⟩ => ⟨S6656x1, .f32⟩
  | .hbm, ⟨14, _⟩ => ⟨S6656x4096, .f32⟩
  | .hbm, ⟨15, _⟩ => ⟨S6656x4096, .f32⟩
  | .hbm, ⟨16, _⟩ => ⟨S1x4096, .f32⟩
  | .hbm, ⟨17, _⟩ => ⟨S6656x4096, .f32⟩
  | .hbm, ⟨18, _⟩ => ⟨S6656x4096, .f32⟩
  | .hbm, ⟨19, _⟩ => ⟨S1x4096, .f32⟩
  | .hbm, ⟨20, _⟩ => ⟨S6656x4096, .f32⟩
  | .hbm, ⟨21, _⟩ => ⟨S6656x4096, .f32⟩
  | .hbm, ⟨22, _⟩ => ⟨S1664x4096, .f32⟩
  | .hbm, ⟨23, _⟩ => ⟨S8320x4096, .f32⟩
  | .hbm, ⟨24, _⟩ => ⟨S8448x4096, .bf16⟩
  | .hbm, ⟨25, _⟩ => ⟨S8320x4096, .bf16⟩
  | .hbm, ⟨26, _⟩ => ⟨S8320x4096, .f32⟩
  | .hbm, ⟨27, _⟩ => ⟨S_, .f32⟩
  | .hbm, ⟨28, _⟩ => ⟨S8320x4096, .f32⟩
  | .hbm, ⟨29, _⟩ => ⟨S8320x4096, .f32⟩
  | .hbm, ⟨30, _⟩ => ⟨S8320x4096, .f32⟩
  | .hbm, ⟨31, _⟩ => ⟨S8320x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel6.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S128x4096 : Shape := ⟨2, ![128, 4096]⟩
abbrev S512x4096 : Shape := ⟨2, ![512, 4096]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 7
  | .vmem => 8
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S128x4096, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | .local _ .vmem, ⟨7, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8192x4096 : Shape := ⟨2, ![8192, 4096]⟩
abbrev S128x4096 : Shape := ⟨2, ![128, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S8320x4096, .f32⟩
  | .hbm, ⟨10, _⟩ => ⟨S8320x4096, .f32⟩
  | .hbm, ⟨11, _⟩ => ⟨S8320x4096, .f32⟩
  | .hbm, ⟨12, _⟩ => ⟨S_, .f32⟩
  | .hbm, ⟨13, _⟩ => ⟨S8320, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x4096, .f32⟩
  | .hbm, ⟨19, _⟩ => ⟨S8320x4096, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x1, .f32⟩
  | .hbm, ⟨24, _⟩ => ⟨S8320x4096, .f32⟩
  | .hbm, ⟨25, _⟩ => ⟨S8320x4096, .f32⟩
  | .hbm, ⟨26, _⟩ => ⟨S1x4096, .f32⟩
  | .hbm, ⟨27, _⟩ => ⟨S8320x4096, .f32⟩
  | .hbm, ⟨28, _⟩ => ⟨S8320x4096, .f32⟩
  | .hbm, ⟨29, _⟩ => ⟨S1x4096, .f32⟩
  | .hbm, ⟨30, _⟩ => ⟨S8320x4096, .f32⟩
  | .hbm, ⟨31, _⟩ => ⟨S8320x4096, .f32⟩
  | .hbm, ⟨32, _⟩ => ⟨S8192x4096, .f32⟩
  | .hbm, ⟨33, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel7.lean ====
abbrev S8448x12288 : Shape := ⟨2, ![8448, 12288]⟩
abbrev S3x2048 : Shape := ⟨2, ![3, 2048]⟩
abbrev S128x2x2048 : Shape := ⟨3, ![128, 2, 2048]⟩
abbrev S128x4096 : Shape := ⟨2, ![128, 4096]⟩
abbrev S8448x2048 : Shape := ⟨2, ![8448, 2048]⟩
abbrev S4x2x2048 : Shape := ⟨3, ![4, 2, 2048]⟩
abbrev S256x2048 : Shape := ⟨2, ![256, 2048]⟩
abbrev S16x2048 : Shape := ⟨2, ![16, 2048]⟩
abbrev S1x2x2048 : Shape := ⟨3, ![1, 2, 2048]⟩
abbrev S264x2048 : Shape := ⟨2, ![264, 2048]⟩
abbrev S2x2048 : Shape := ⟨2, ![2, 2048]⟩
abbrev S1x2048 : Shape := ⟨2, ![1, 2048]⟩
abbrev S128x2048 : Shape := ⟨2, ![128, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8448x12288, .bf16⟩
  | .hbm, ⟨1, _⟩ => ⟨S3x2048, .f32⟩
  | .hbm, ⟨2, _⟩ => ⟨S128x2x2048, .f32⟩
  | .hbm, ⟨3, _⟩ => ⟨S128x4096, .f32⟩
  | .hbm, ⟨4, _⟩ => ⟨S8448x2048, .bf16⟩
  | .hbm, ⟨5, _⟩ => ⟨S4x2x2048, .f32⟩
  | .hbm, ⟨6, _⟩ => ⟨S128x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S16x2048, .bf16⟩
  | .local _ .vmem, ⟨7, _⟩ => ⟨S16x2048, .bf16⟩
  | .local _ .vmem, ⟨8, _⟩ => ⟨S3x2048, .f32⟩
  | .local _ .vmem, ⟨9, _⟩ => ⟨S128x4096, .f32⟩
  | .local _ .vmem, ⟨10, _⟩ => ⟨S256x2048, .bf16⟩
  | .local _ .vmem, ⟨11, _⟩ => ⟨S256x2048, .bf16⟩
  | .local _ .vmem, ⟨12, _⟩ => ⟨S1x2x2048, .f32⟩
  | .local _ .vmem, ⟨13, _⟩ => ⟨S1x2x2048, .f32⟩
  | .local _ .vmem, ⟨14, _⟩ => ⟨S128x4096, .f32⟩
  | .local _ .vmem, ⟨15, _⟩ => ⟨S264x2048, .f32⟩
  | _, _ => ⟨S8448x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond4 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c8_i32_22 : BitVec 32 := 8#32
  let c0_i32_23 : BitVec 32 := 0#32
  let v50 : BitVec 1 := Scalar.cmpi .eq c8_i32_22 c0_i32_23
  let c1_i32_24 : BitVec 32 := 1#32
  let v51 : BitVec 32 := Scalar.select v50 c1_i32_24 c8_i32_22
  let v52 : BitVec 32 := Scalar.remsi arg0 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c7_i32 : BitVec 32 := 7#32
  let v60 : BitVec 1 := Scalar.cmpi .eq v59 c7_i32
  let v61 : BitVec 32 := Scalar.extui v60
  let c0_i32_28 : BitVec 32 := 0#32
  let v62 : BitVec 1 := Scalar.cmpi .ne v61 c0_i32_28
  v62

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c520_i32 : BitVec 32 := 520#32
  let c4_i32 : BitVec 32 := 4#32
  let c0_i32 : BitVec 32 := 0#32
  ![c520_i32.toNat, c4_i32.toNat]

def cc0_transform_4 (i : grid0.Coords) : Fin 2 → Nat :=
  let arg0 : BitVec 32 := BitVec.ofNat 32 (i 0).val
  let c520_i32 : BitVec 32 := 520#32
  let c5_i32 : BitVec 32 := 5#32
  let c0_i32 : BitVec 32 := 0#32
  ![c520_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S8448x12288 : Shape := ⟨2, ![8448, 12288]⟩
abbrev S3x2048 : Shape := ⟨2, ![3, 2048]⟩
abbrev S128x2x2048 : Shape := ⟨3, ![128, 2, 2048]⟩
abbrev S8448x2048 : Shape := ⟨2, ![8448, 2048]⟩
abbrev S8192x2048 : Shape := ⟨2, ![8192, 2048]⟩
abbrev S4x2048x2048 : Shape := ⟨3, ![4, 2048, 2048]⟩
abbrev S4x2x2048 : Shape := ⟨3, ![4, 2, 2048]⟩
abbrev S128x1x2048 : Shape := ⟨3, ![128, 1, 2048]⟩
abbrev S128x2048 : Shape := ⟨2, ![128, 2048]⟩
abbrev S128x4096 : Shape := ⟨2, ![128, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8448x12288, .bf16⟩
  | .hbm, ⟨1, _⟩ => ⟨S3x2048, .f32⟩
  | .hbm, ⟨2, _⟩ => ⟨S128x2x2048, .f32⟩
  | .hbm, ⟨3, _⟩ => ⟨S8448x12288, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8192x2048, .f32⟩
  | .hbm, ⟨8, _⟩ => ⟨S4x2048x2048, .f32⟩
  | .hbm, ⟨9, _⟩ => ⟨S4x2x2048, .f32⟩
  | .hbm, ⟨10, _⟩ => ⟨S128x1x2048, .f32⟩
  | .hbm, ⟨11, _⟩ => ⟨S128x2048, .f32⟩
  | .hbm, ⟨12, _⟩ => ⟨S128x2048, .f32⟩
  | .hbm, ⟨13, _⟩ => ⟨S128x4096, .f32⟩
  | _, _ => ⟨S8448x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.KI.Runs.lean ====
/- What the runs of the body share: the launch's arrays and blocks, the branch conditions over the grid points, where each window is idle, and the buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 16000000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 12).trans (((dats 0 c).arrAt_in 12 rfl _).trans ((hA c 12).trans (V_main_arg0 m c))),
      ((h c).2 main_arg1 (Pipeline.mem_restRefs_of main_arg1 (by decide) (by decide))).trans (V_main_arg1 m c),
      ((h c).1 5).trans (((dats 0 c).arrAt_in 5 rfl _).trans ((hA c 5).trans (V_main_arg2 m c))),
      ((h c).1 6).trans (((dats 0 c).arrAt_in 6 rfl _).trans ((hA c 6).trans (V_main_arg3 m c))),
      ((h c).1 14).trans (((dats 0 c).arrAt_in 14 rfl _).trans ((hA c 14).trans (V_main_arg4 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 64 — decided over the grid. -/
theorem hcond0_0 : ∀ t : Fin cfg0.N, cond0_0 (grid0.coords t) ↔ t.val < 64 :=
  (by decide +kernel : ∀ t : Fin grid0.N, cond0_0 (grid0.coords t) ↔ t.val < 64)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1
/-- It holds at the points ≡ 0 (mod 16) — decided over the grid. -/
theorem hcond0_1 : ∀ t : Fin cfg0.N, cond0_1 (grid0.coords t) ↔ t.val % 16 = 0 :=
  (by decide +kernel : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the first point only — by arithmetic of the point. -/
theorem hcond0_2 : ∀ t : Fin cfg0.N, cond0_2 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_2, e0]
    word_cmp
   : ∀ t : Fin grid0.N, cond0_2 (grid0.coords t) ↔ t.val % 65 = 0)

/-- The condition of the body's `scf.if` 3 (`k0_h4`), from the grid coordinates (the skeleton's scalar
    chain substituted). -/
abbrev cond0_3 (i : grid0.Coords) : Prop := k0_cond4 i = 1#1
/-- It holds at the points ≡ 15 (mod 16) — decided over the grid. -/
theorem hcond0_3 : ∀ t : Fin cfg0.N, cond0_3 (grid0.coords t) ↔ t.val % 16 = 15 :=
  (by decide +kernel : ∀ t : Fin grid0.N, cond0_3 (grid0.coords t) ↔ t.val % 16 = 15)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_4, k0_cond5, e0]
    word_cmp
   : ∀ t : Fin grid0.N, cond0_4 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- Case B's branch conditions on the grid, as one proposition. -/
abbrev conds0_B (i : grid0.Coords) : Prop := cond0_0 i ∧ ¬cond0_1 i ∧ ¬cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- Case C's branch conditions on the grid, as one proposition. -/
abbrev conds0_C (i : grid0.Coords) : Prop := cond0_0 i ∧ ¬cond0_1 i ∧ ¬cond0_2 i ∧ cond0_3 i ∧ ¬cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- Case D's branch conditions on the grid, as one proposition. -/
abbrev conds0_D (i : grid0.Coords) : Prop := cond0_0 i ∧ cond0_1 i ∧ ¬cond0_2 i ∧ ¬cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- At the points of case A the printed configuration (`Cfg.idle`) calls output 15 live: the case stores into it. -/
theorem liveAt0_15_A : ∀ t : Fin cfg0.N, cond0_0 (grid0.coords t) → cond0_1 (grid0.coords t) → cond0_2 (grid0.coords t) → ¬cond0_3 (grid0.coords t) → ¬cond0_4 (grid0.coords t) → cfg0.idle 15 (grid0.coords t) = false :=
  fun t h0 h1 h2 h3 h4 => (by decide +kernel : ∀ t : Fin cfg0.N, conds0_A (grid0.coords t) → cfg0.idle 15 (grid0.coords t) = false) t ⟨h0, h1, h2, h3, h4⟩
/-- At the points of case B the printed configuration (`Cfg.idle`) calls output 15 live: the case stores into it. -/
theorem liveAt0_15_B : ∀ t : Fin cfg0.N, cond0_0 (grid0.coords t) → ¬cond0_1 (grid0.coords t) → ¬cond0_2 (grid0.coords t) → ¬cond0_3 (grid0.coords t) → ¬cond0_4 (grid0.coords t) → cfg0.idle 15 (grid0.coords t) = false :=
  fun t h0 h1 h2 h3 h4 => (by decide +kernel : ∀ t : Fin cfg0.N, conds0_B (grid0.coords t) → cfg0.idle 15 (grid0.coords t) = false) t ⟨h0, h1, h2, h3, h4⟩
/-- At the points of case C the printed configuration (`Cfg.idle`) calls output 15 live: the case stores into it. -/
theorem liveAt0_15_C : ∀ t : Fin cfg0.N, cond0_0 (grid0.coords t) → ¬cond0_1 (grid0.coords t) → ¬cond0_2 (grid0.coords t) → cond0_3 (grid0.coords t) → ¬cond0_4 (grid0.coords t) → cfg0.idle 15 (grid0.coords t) = false :=
  fun t h0 h1 h2 h3 h4 => (by decide +kernel : ∀ t : Fin cfg0.N, conds0_C (grid0.coords t) → cfg0.idle 15 (grid0.coords t) = false) t ⟨h0, h1, h2, h3, h4⟩
/-- At the points of case D the printed configuration (`Cfg.idle`) calls output 15 live: the case stores into it. -/
theorem liveAt0_15_D : ∀ t : Fin cfg0.N, cond0_0 (grid0.coords t) → cond0_1 (grid0.coords t) → ¬cond0_2 (grid0.coords t) → ¬cond0_3 (grid0.coords t) → ¬cond0_4 (grid0.coords t) → cfg0.idle 15 (grid0.coords t) = false :=
  fun t h0 h1 h2 h3 h4 => (by decide +kernel : ∀ t : Fin cfg0.N, conds0_D (grid0.coords t) → cfg0.idle 15 (grid0.coords t) = false) t ⟨h0, h1, h2, h3, h4⟩
/-- At the points of case E the printed configuration (`Cfg.idle`) calls output 15 live: the case stores into it. -/
theorem liveAt0_15_E : ∀ t : Fin cfg0.N, ¬cond0_0 (grid0.coords t) → cond0_4 (grid0.coords t) → cfg0.idle 15 (grid0.coords t) = false := by decide +kernel
/-- Whether output 16's buffer is FRESH at each position `1 ‥ N` — holds nothing the body stored since the region's entry or the
    last write-back (written back at the point before, or idle there and fresh before it) —, as a bitmask the classifier
    computed, bit `n` for position `n + 1`; position 0 is fresh. `freshTab0_16_step` checks it against the configuration's own
    step point by point and Lib/Pipeline/TableIdle.lean `Cfg.fresh_tab` makes it `Cfg.fresh` (`fresh0_16_eq`). -/
def freshTab0_16 : ℕ → Bool
  | 0 => true
  | n + 1 => (0x17fffffffffffffff : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- At the points of case A the printed configuration (`Cfg.idle`) calls output 16 idle: the case stores nothing into it. -/
theorem idleAt0_16_A : ∀ t : Fin cfg0.N, cond0_0 (grid0.coords t) → cond0_1 (grid0.coords t) → cond0_2 (grid0.coords t) → ¬cond0_3 (grid0.coords t) → ¬cond0_4 (grid0.coords t) → cfg0.idle 16 (grid0.coords t) = true :=
  fun t h0 h1 h2 h3 h4 => (by decide +kernel : ∀ t : Fin cfg0.N, conds0_A (grid0.coords t) → cfg0.idle 16 (grid0.coords t) = true) t ⟨h0, h1, h2, h3, h4⟩
/-- At the points of case A the pipeline does not write output 16's block back. -/
theorem noFlush0_16_A : ∀ t : Fin cfg0.N, cond0_0 (grid0.coords t) → cond0_1 (grid0.coords t) → cond0_2 (grid0.coords t) → ¬cond0_3 (grid0.coords t) → ¬cond0_4 (grid0.coords t) → (cfg0.win 16).flush t = false :=
  fun t h0 h1 h2 h3 h4 => (by decide +kernel : ∀ t : Fin cfg0.N, conds0_A (grid0.coords t) → (cfg0.win 16).flush t = false) t ⟨h0, h1, h2, h3, h4⟩
/-- At the points of case B the printed configuration (`Cfg.idle`) calls output 16 idle: the case stores nothing into it. -/
theorem idleAt0_16_B : ∀ t : Fin cfg0.N, cond0_0 (grid0.coords t) → ¬cond0_1 (grid0.coords t) → ¬cond0_2 (grid0.coords t) → ¬cond0_3 (grid0.coords t) → ¬cond0_4 (grid0.coords t) → cfg0.idle 16 (grid0.coords t) = true :=
  fun t h0 h1 h2 h3 h4 => (by decide +kernel : ∀ t : Fin cfg0.N, conds0_B (grid0.coords t) → cfg0.idle 16 (grid0.coords t) = true) t ⟨h0, h1, h2, h3, h4⟩
/-- At the points of case B the pipeline does not write output 16's block back. -/
theorem noFlush0_16_B : ∀ t : Fin cfg0.N, cond0_0 (grid0.coords t) → ¬cond0_1 (grid0.coords t) → ¬cond0_2 (grid0.coords t) → ¬cond0_3 (grid0.coords t) → ¬cond0_4 (grid0.coords t) → (cfg0.win 16).flush t = false :=
  fun t h0 h1 h2 h3 h4 => (by decide +kernel : ∀ t : Fin cfg0.N, conds0_B (grid0.coords t) → (cfg0.win 16).flush t = false) t ⟨h0, h1, h2, h3, h4⟩
/-- At the points of case C the printed configuration (`Cfg.idle`) calls output 16 live: the case stores into it. -/
theorem liveAt0_16_C : ∀ t : Fin cfg0.N, cond0_0 (grid0.coords t) → ¬cond0_1 (grid0.coords t) → ¬cond0_2 (grid0.coords t) → cond0_3 (grid0.coords t) → ¬cond0_4 (grid0.coords t) → cfg0.idle 16 (grid0.coords t) = false :=
  fun t h0 h1 h2 h3 h4 => (by decide +kernel : ∀ t : Fin cfg0.N, conds0_C (grid0.coords t) → cfg0.idle 16 (grid0.coords t) = false) t ⟨h0, h1, h2, h3, h4⟩
/-- At the points of case D the printed configuration (`Cfg.idle`) calls output 16 idle: the case stores nothing into it. -/
theorem idleAt0_16_D : ∀ t : Fin cfg0.N, cond0_0 (grid0.coords t) → cond0_1 (grid0.coords t) → ¬cond0_2 (grid0.coords t) → ¬cond0_3 (grid0.coords t) → ¬cond0_4 (grid0.coords t) → cfg0.idle 16 (grid0.coords t) = true :=
  fun t h0 h1 h2 h3 h4 => (by decide +kernel : ∀ t : Fin cfg0.N, conds0_D (grid0.coords t) → cfg0.idle 16 (grid0.coords t) = true) t ⟨h0, h1, h2, h3, h4⟩
/-- At the points of case D the pipeline does not write output 16's block back. -/
theorem noFlush0_16_D : ∀ t : Fin cfg0.N, cond0_0 (grid0.coords t) → cond0_1 (grid0.coords t) → ¬cond0_2 (grid0.coords t) → ¬cond0_3 (grid0.coords t) → ¬cond0_4 (grid0.coords t) → (cfg0.win 16).flush t = false :=
  fun t h0 h1 h2 h3 h4 => (by decide +kernel : ∀ t : Fin cfg0.N, conds0_D (grid0.coords t) → (cfg0.win 16).flush t = false) t ⟨h0, h1, h2, h3, h4⟩
theorem idleAt0_16_E : ∀ t : Fin cfg0.N, ¬cond0_0 (grid0.coords t) → cond0_4 (grid0.coords t) → cfg0.idle 16 (grid0.coords t) = true := by decide +kernel
theorem flushAt0_16_E : ∀ t : Fin cfg0.N, ¬cond0_0 (grid0.coords t) → cond0_4 (grid0.coords t) → (cfg0.win 16).flush t = true := by decide +kernel
/-- At the points of case E, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_E : ∀ t : Fin cfg0.N, ¬cond0_0 (grid0.coords t) → cond0_4 (grid0.coords t) → cfg0.fresh 16 t.val = false := by
  intro t; rw [fresh0_16_eq t]; revert t; decide +kernel
/-- Whether output 17's buffer is FRESH at each position `1 ‥ N` — holds nothing the body stored since the region's entry or the
    last write-back (written back at the point before, or idle there and fresh before it) —, as a bitmask the classifier
    computed, bit `n` for position `n + 1`; position 0 is fresh. `freshTab0_17_step` checks it against the configuration's own
    step point by point and Lib/Pipeline/TableIdle.lean `Cfg.fresh_tab` makes it `Cfg.fresh` (`fresh0_17_eq`). -/
def freshTab0_17 : ℕ → Bool
  | 0 => true
  | n + 1 => (0x17fffffffffffffff : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
/-- At the points of case A the printed configuration (`Cfg.idle`) calls output 17 live: the case stores into it. -/
theorem liveAt0_17_A : ∀ t : Fin cfg0.N, cond0_0 (grid0.coords t) → cond0_1 (grid0.coords t) → cond0_2 (grid0.coords t) → ¬cond0_3 (grid0.coords t) → ¬cond0_4 (grid0.coords t) → cfg0.idle 17 (grid0.coords t) = false :=
  fun t h0 h1 h2 h3 h4 => (by decide +kernel : ∀ t : Fin cfg0.N, conds0_A (grid0.coords t) → cfg0.idle 17 (grid0.coords t) = false) t ⟨h0, h1, h2, h3, h4⟩
/-- At the points of case B the printed configuration (`Cfg.idle`) calls output 17 live: the case stores into it. -/
theorem liveAt0_17_B : ∀ t : Fin cfg0.N, cond0_0 (grid0.coords t) → ¬cond0_1 (grid0.coords t) → ¬cond0_2 (grid0.coords t) → ¬cond0_3 (grid0.coords t) → ¬cond0_4 (grid0.coords t) → cfg0.idle 17 (grid0.coords t) = false :=
  fun t h0 h1 h2 h3 h4 => (by decide +kernel : ∀ t : Fin cfg0.N, conds0_B (grid0.coords t) → cfg0.idle 17 (grid0.coords t) = false) t ⟨h0, h1, h2, h3, h4⟩
/-- At the points of case C the printed configuration (`Cfg.idle`) calls output 17 live: the case stores into it. -/
theorem liveAt0_17_C : ∀ t : Fin cfg0.N, cond0_0 (grid0.coords t) → ¬cond0_1 (grid0.coords t) → ¬cond0_2 (grid0.coords t) → cond0_3 (grid0.coords t) → ¬cond0_4 (grid0.coords t) → cfg0.idle 17 (grid0.coords t) = false :=
  fun t h0 h1 h2 h3 h4 => (by decide +kernel : ∀ t : Fin cfg0.N, conds0_C (grid0.coords t) → cfg0.idle 17 (grid0.coords t) = false) t ⟨h0, h1, h2, h3, h4⟩
/-- At the points of case D the printed configuration (`Cfg.idle`) calls output 17 live: the case stores into it. -/
theorem liveAt0_17_D : ∀ t : Fin cfg0.N, cond0_0 (grid0.coords t) → cond0_1 (grid0.coords t) → ¬cond0_2 (grid0.coords t) → ¬cond0_3 (grid0.coords t) → ¬cond0_4 (grid0.coords t) → cfg0.idle 17 (grid0.coords t) = false :=
  fun t h0 h1 h2 h3 h4 => (by decide +kernel : ∀ t : Fin cfg0.N, conds0_D (grid0.coords t) → cfg0.idle 17 (grid0.coords t) = false) t ⟨h0, h1, h2, h3, h4⟩
theorem idleAt0_17_E : ∀ t : Fin cfg0.N, ¬cond0_0 (grid0.coords t) → cond0_4 (grid0.coords t) → cfg0.idle 17 (grid0.coords t) = true := by decide +kernel
theorem flushAt0_17_E : ∀ t : Fin cfg0.N, ¬cond0_0 (grid0.coords t) → cond0_4 (grid0.coords t) → (cfg0.win 17).flush t = true := by decide +kernel
/-- At the points of case E, which keeps output 17's prior contents (reads it before covering, or covers it in part), the
    window's buffer is not FRESH: something was stored into it since the region's entry or its last write-back, idle points
    between or not (Lib/Pipeline/TableIdle.lean `Cfg.fresh`, by the table `freshTab0_17`). -/
theorem notFresh0_17_E : ∀ t : Fin cfg0.N, ¬cond0_0 (grid0.coords t) → cond0_4 (grid0.coords t) → cfg0.fresh 17 t.val = false := by
  intro t; rw [fresh0_17_eq t]; revert t; decide +kernel

/-! ## The kernel body on any staging memrefs: a subtype the run finds -/

/-- One staging buffer of output window 15, through which its contents are stated (`View.read_writes_of_cover`: the
    choice does not matter). -/
abbrev VO0_15 : View sig .tc .vmem S128x2048 .bf16 := (Memref.whole cc0_stg15_0 : Memref sig .tc .vmem S128x2048 .bf16).view
/-- One staging buffer of output window 16, through which its contents are stated (`View.read_writes_of_cover`: the
    choice does not matter). -/
abbrev VO0_16 : View sig .tc .vmem S1x4x256x512 .f32 := (Memref.whole cc0_stg16_0 : Memref sig .tc .vmem S1x4x256x512 .f32).view
/-- One staging buffer of output window 17, through which its contents are stated (`View.read_writes_of_cover`: the
    choice does not matter). -/
abbrev VO0_17 : View sig .tc .vmem S2x4x256x512 .f32 := (Memref.whole cc0_stg17_0 : Memref sig .tc .vmem S2x4x256x512 .f32).view
/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x4x256x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x2048 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4x256x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x4x256x512 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S128x2048 .f32 := Memref.whole cc0_scratch0
abbrev scM0_1 : Memref sig .tc .vmem S512x256 .f32 := Memref.whole cc0_scratch1
abbrev scM0_2 : Memref sig .tc .vmem S512x256 .f32 := Memref.whole cc0_scratch2
abbrev scM0_3 : Memref sig .tc .vmem S512x256 .f32 := Memref.whole cc0_scratch3
abbrev scM0_4 : Memref sig .tc .vmem S512x256 .f32 := Memref.whole cc0_scratch4
abbrev scM0_5 : Memref sig .tc .vmem S1024x256 .f32 := Memref.whole cc0_scratch5
abbrev scM0_6 : Memref sig .tc .vmem S1024x256 .f32 := Memref.whole cc0_scratch6
abbrev scM0_7 : Memref sig .tc .vmem S1024x256 .f32 := Memref.whole cc0_scratch7
abbrev scM0_8 : Memref sig .tc .vmem S1024x256 .f32 := Memref.whole cc0_scratch8
/-- The scratch `arg19` the kernel carries between points, as a view: what it holds is stated through it. -/
abbrev VS0_0 : View sig .tc .vmem S128x2048 .f32 := scM0_0.view
/-- The scratch `arg20` the kernel carries between points, as a view: what it holds is stated through it. -/
abbrev VS0_1 : View sig .tc .vmem S512x256 .f32 := scM0_1.view
/-- The scratch `arg21` the kernel carries between points, as a view: what it holds is stated through it. -/
abbrev VS0_2 : View sig .tc .vmem S512x256 .f32 := scM0_2.view
/-- The scratch `arg22` the kernel carries between points, as a view: what it holds is stated through it. -/
abbrev VS0_3 : View sig .tc .vmem S512x256 .f32 := scM0_3.view
/-- The scratch `arg23` the kernel carries between points, as a view: what it holds is stated through it. -/
abbrev VS0_4 : View sig .tc .vmem S512x256 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gen

end
-- ==== Proof.KI.Bundle.lean ====
/- The body's operands, inputs and results bundled. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs of one call of the body — inputs 1–15, outputs 16–18, the carried scratch 19–23, the work scratch 24–27 —, each whole. -/
structure Rf where
  a1 : Memref sig .tc .vmem S128x1024 .bf16
  a2 : Memref sig .tc .vmem S128x1024 .bf16
  a3 : Memref sig .tc .vmem S128x2048 .bf16
  a4 : Memref sig .tc .vmem S128x2048 .bf16
  a5 : Memref sig .tc .vmem S128x2048 .bf16
  a6 : Memref sig .tc .vmem S1x512 .f32
  a7 : Memref sig .tc .vmem S4x512x256 .f32
  a8 : Memref sig .tc .vmem S1024x256 .bf16
  a9 : Memref sig .tc .vmem S128x128 .i32
  a10 : Memref sig .tc .vmem S128x1024 .bf16
  a11 : Memref sig .tc .vmem S128x1024 .bf16
  a12 : Memref sig .tc .vmem S128x2048 .bf16
  a13 : Memref sig .tc .vmem S128x2048 .bf16
  a14 : Memref sig .tc .vmem S128x2048 .bf16
  a15 : Memref sig .tc .vmem S2x4x256x512 .f32
  a16 : Memref sig .tc .vmem S128x2048 .bf16
  a17 : Memref sig .tc .vmem S1x4x256x512 .f32
  a18 : Memref sig .tc .vmem S2x4x256x512 .f32
  a19 : Memref sig .tc .vmem S128x2048 .f32
  a20 : Memref sig .tc .vmem S512x256 .f32
  a21 : Memref sig .tc .vmem S512x256 .f32
  a22 : Memref sig .tc .vmem S512x256 .f32
  a23 : Memref sig .tc .vmem S512x256 .f32
  a24 : Memref sig .tc .vmem S1024x256 .f32
  a25 : Memref sig .tc .vmem S1024x256 .f32
  a26 : Memref sig .tc .vmem S1024x256 .f32
  a27 : Memref sig .tc .vmem S1024x256 .f32
  h1 : a1.IsWhole
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole
  h14 : a14.IsWhole
  h15 : a15.IsWhole
  h16 : a16.IsWhole
  h17 : a17.IsWhole
  h18 : a18.IsWhole
  h19 : a19.IsWhole
  h20 : a20.IsWhole
  h21 : a21.IsWhole
  h22 : a22.IsWhole
  h23 : a23.IsWhole
  h24 : a24.IsWhole
  h25 : a25.IsWhole
  h26 : a26.IsWhole
  h27 : a27.IsWhole

/-- The blocks that the fifteen inputs hold. -/
structure Xs (F : FTy → Type) where
  x0 : Vec F S128x1024 .bf16
  x1 : Vec F S128x1024 .bf16
  x2 : Vec F S128x2048 .bf16
  x3 : Vec F S128x2048 .bf16
  x4 : Vec F S128x2048 .bf16
  x5 : Vec F S1x512 .f32
  x6 : Vec F S4x512x256 .f32
  x7 : Vec F S1024x256 .bf16
  x8 : Vec F S128x128 .i32
  x9 : Vec F S128x1024 .bf16
  x10 : Vec F S128x1024 .bf16
  x11 : Vec F S128x2048 .bf16
  x12 : Vec F S128x2048 .bf16
  x13 : Vec F S128x2048 .bf16
  x14 : Vec F S2x4x256x512 .f32

/-- What the three outputs and the carried scratch (the sample rows' accumulator, the four heads' states) hold. -/
structure Outs (F : FTy → Type) where
  o15 : Vec F S128x2048 .bf16
  o16 : Vec F S1x4x256x512 .f32
  o17 : Vec F S2x4x256x512 .f32
  s0 : Vec F S128x2048 .f32
  s1 : Vec F S512x256 .f32
  s2 : Vec F S512x256 .f32
  s3 : Vec F S512x256 .f32
  s4 : Vec F S512x256 .f32

/-- Point `t`'s memrefs. -/
def rf (t : Fin cfg0.N) : Rf where
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := ms0_8 t
  h9 := hs0_8 t
  a10 := ms0_9 t
  h10 := hs0_9 t
  a11 := ms0_10 t
  h11 := hs0_10 t
  a12 := ms0_11 t
  h12 := hs0_11 t
  a13 := ms0_12 t
  h13 := hs0_12 t
  a14 := ms0_13 t
  h14 := hs0_13 t
  a15 := ms0_14 t
  h15 := hs0_14 t
  a16 := ms0_15 t
  h16 := hs0_15 t
  a17 := ms0_16 t
  h17 := hs0_16 t
  a18 := ms0_17 t
  h18 := hs0_17 t
  a19 := scM0_0
  h19 := Memref.isWhole_whole _
  a20 := scM0_1
  h20 := Memref.isWhole_whole _
  a21 := scM0_2
  h21 := Memref.isWhole_whole _
  a22 := scM0_3
  h22 := Memref.isWhole_whole _
  a23 := scM0_4
  h23 := Memref.isWhole_whole _
  a24 := scM0_5
  h24 := Memref.isWhole_whole _
  a25 := scM0_6
  h25 := Memref.isWhole_whole _
  a26 := scM0_7
  h26 := Memref.isWhole_whole _
  a27 := scM0_8
  h27 := Memref.isWhole_whole _

/-- Point `t`'s input blocks. -/
def xs (c : Dev nD) (t : Fin cfg0.N) : Xs F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t

/-- The inputs owned at their blocks. -/
def insOwn (c : Dev nD) (r : Rf) (x : Xs F) : sProp 𝕄 :=
  iprop(owns (c : Thread nD τ) r.a1 fullShare x.x0 ∗ owns (c : Thread nD τ) r.a2 fullShare x.x1 ∗ owns (c : Thread nD τ) r.a3 fullShare x.x2 ∗ owns (c : Thread nD τ) r.a4 fullShare x.x3 ∗ owns (c : Thread nD τ) r.a5 fullShare x.x4 ∗ owns (c : Thread nD τ) r.a6 fullShare x.x5 ∗ owns (c : Thread nD τ) r.a7 fullShare x.x6 ∗ owns (c : Thread nD τ) r.a8 fullShare x.x7 ∗ owns (c : Thread nD τ) r.a9 fullShare x.x8 ∗ owns (c : Thread nD τ) r.a10 fullShare x.x9 ∗ owns (c : Thread nD τ) r.a11 fullShare x.x10 ∗ owns (c : Thread nD τ) r.a12 fullShare x.x11 ∗ owns (c : Thread nD τ) r.a13 fullShare x.x12 ∗ owns (c : Thread nD τ) r.a14 fullShare x.x13 ∗ owns (c : Thread nD τ) r.a15 fullShare x.x14)

/-- The carried scratch owned at `o`'s contents. -/
def carryOwn (c : Dev nD) (r : Rf) (o : Outs F) : sProp 𝕄 :=
  iprop(owns (c : Thread nD τ) r.a19 fullShare o.s0 ∗ owns (c : Thread nD τ) r.a20 fullShare o.s1 ∗ owns (c : Thread nD τ) r.a21 fullShare o.s2 ∗ owns (c : Thread nD τ) r.a22 fullShare o.s3 ∗ owns (c : Thread nD τ) r.a23 fullShare o.s4)

/-- The carried scratch owned at anything. -/
def carryAny (c : Dev nD) (r : Rf) : sProp 𝕄 :=
  iprop((∃ d, owns (c : Thread nD τ) r.a19 fullShare d) ∗ (∃ d, owns (c : Thread nD τ) r.a20 fullShare d) ∗ (∃ d, owns (c : Thread nD τ) r.a21 fullShare d) ∗ (∃ d, owns (c : Thread nD τ) r.a22 fullShare d) ∗ (∃ d, owns (c : Thread nD τ) r.a23 fullShare d))

/-- The work scratch owned at anything. -/
def workAny (c : Dev nD) (r : Rf) : sProp 𝕄 :=
  iprop((∃ d, owns (c : Thread nD τ) r.a24 fullShare d) ∗ (∃ d, owns (c : Thread nD τ) r.a25 fullShare d) ∗ (∃ d, owns (c : Thread nD τ) r.a26 fullShare d) ∗ (∃ d, owns (c : Thread nD τ) r.a27 fullShare d))

/-- The body called on bundled memrefs. -/
abbrev bodyOf (i : grid0.Coords) (r : Rf) : Prog (TpuEff nD τ sig (Elt F) Λ₀ .tc) PUnit :=
  cc0_gla i r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27

end Cert.KernelIdeal.Gen

end
-- ==== Proof.KI.RunA.lean ====
/- The whole body's run in case A: from the inputs' blocks and the scratch to the pieces that each buffer ends with. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces that the body's stores leave in each buffer in case A, last first, with the proof that the body runs from the buffers held to these pieces written. -/
noncomputable def kernelRun0_A (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x512 .f32) (harg6 : arg6.IsWhole) (arg7 : Memref sig .tc .vmem S4x512x256 .f32) (harg7 : arg7.IsWhole) (arg8 : Memref sig .tc .vmem S1024x256 .bf16) (harg8 : arg8.IsWhole) (arg9 : Memref sig .tc .vmem S128x128 .i32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S2x4x256x512 .f32) (harg15 : arg15.IsWhole) (arg16 : Memref sig .tc .vmem S128x2048 .bf16) (harg16 : arg16.IsWhole) (arg17 : Memref sig .tc .vmem S1x4x256x512 .f32) (harg17 : arg17.IsWhole) (arg18 : Memref sig .tc .vmem S2x4x256x512 .f32) (harg18 : arg18.IsWhole) (arg19 : Memref sig .tc .vmem S128x2048 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S1024x256 .f32) (harg27 : arg27.IsWhole) (hc0 : cond0_0 i) (hc1 : cond0_1 i) (hc2 : cond0_2 i) (hc3 : ¬cond0_3 i) (hc4 : ¬cond0_4 i)
    (x0 : Vec F S128x1024 .bf16) (x1 : Vec F S128x1024 .bf16) (x2 : Vec F S128x2048 .bf16) (x3 : Vec F S128x2048 .bf16) (x4 : Vec F S128x2048 .bf16) (x5 : Vec F S1x512 .f32) (x6 : Vec F S4x512x256 .f32) (x7 : Vec F S1024x256 .bf16) (x8 : Vec F S128x128 .i32) (x9 : Vec F S128x1024 .bf16) (x10 : Vec F S128x1024 .bf16) (x11 : Vec F S128x2048 .bf16) (x12 : Vec F S128x2048 .bf16) (x13 : Vec F S128x2048 .bf16) (x14 : Vec F S2x4x256x512 .f32) :
    Σ' (L15 : List (View.Piece (Elt F) S128x2048 .bf16)), Σ' (L16 : List (View.Piece (Elt F) S1x4x256x512 .f32)), Σ' (L17 : List (View.Piece (Elt F) S2x4x256x512 .f32)), Σ' (LS0 : List (View.Piece (Elt F) S128x2048 .f32)), Σ' (LS1 : List (View.Piece (Elt F) S512x256 .f32)), Σ' (LS2 : List (View.Piece (Elt F) S512x256 .f32)), Σ' (LS3 : List (View.Piece (Elt F) S512x256 .f32)), Σ' (LS4 : List (View.Piece (Elt F) S512x256 .f32)), Σ' (LT5 : List (View.Piece (Elt F) S1024x256 .f32)), Σ' (LT6 : List (View.Piece (Elt F) S1024x256 .f32)), Σ' (LT7 : List (View.Piece (Elt F) S1024x256 .f32)), { LT8 : List (View.Piece (Elt F) S1024x256 .f32) //
      ∀ (xi16 : Vec F S1x4x256x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xi16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ owns (c : Thread nD τ) arg17 fullShare xi16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, ?_, ?_, ?_, ?_, ?_, ?_, fun xi16 E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.KI.CaseA.lean ====
/- The body's triple in case A, on bundled operands, inputs and results. -/
module

public import proofs.«01_k».proof.Proof.KI.Bundle
public import proofs.«01_k».proof.Proof.KI.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case A -/

/-- The conditions of case A. -/
abbrev CaseA (i : grid0.Coords) : Prop := cond0_0 i ∧ cond0_1 i ∧ cond0_2 i ∧ ¬cond0_3 i ∧ ¬cond0_4 i

/-- Case A's run on bundled arguments. -/
abbrev pcA (c : Dev nD) (i : grid0.Coords) (r : Rf) (h : CaseA i) (x : Xs F) :=
  kernelRun0_A c i r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 h.1 h.2.1 h.2.2.1 h.2.2.2.1 h.2.2.2.2 x.x0 x.x1 x.x2 x.x3 x.x4 x.x5 x.x6 x.x7 x.x8 x.x9 x.x10 x.x11 x.x12 x.x13 x.x14

/-- What case A leaves, `p` being what the point before left. -/
def outsA (c : Dev nD) (i : grid0.Coords) (r : Rf) (h : CaseA i) (x : Xs F) (p : Outs F) : Outs F where
  o15 := VO0_15.read (Elt F) (VO0_15.writes (Elt F) VO0_15.junk (pcA c i r h x).1)
  o16 := p.o16
  o17 := VO0_17.read (Elt F) (VO0_17.writes (Elt F) VO0_17.junk (pcA c i r h x).2.2.1)
  s0 := VS0_0.read (Elt F) (VS0_0.writes (Elt F) VS0_0.junk (pcA c i r h x).2.2.2.1)
  s1 := VS0_1.read (Elt F) (VS0_1.writes (Elt F) VS0_1.junk (pcA c i r h x).2.2.2.2.1)
  s2 := VS0_2.read (Elt F) (VS0_2.writes (Elt F) VS0_2.junk (pcA c i r h x).2.2.2.2.2.1)
  s3 := VS0_3.read (Elt F) (VS0_3.writes (Elt F) VS0_3.junk (pcA c i r h x).2.2.2.2.2.2.1)
  s4 := VS0_4.read (Elt F) (VS0_4.writes (Elt F) VS0_4.junk (pcA c i r h x).2.2.2.2.2.2.2.1)

set_option maxHeartbeats 4000000 in
/-- Case A's stores into buffer 16 cover it. -/
theorem coverA_o15 (c : Dev nD) (i : grid0.Coords) (r : Rf) (h : CaseA i) (x : Xs F) (y : S128x2048.Idx) :
    ∃ pc ∈ (pcA c i r h x).1, y ∈ pc.1.set :=
  View.cover_of_tiledL (pcA c i r h x).1 S128x512.size (by sl_kernel_rfl) y

set_option maxHeartbeats 4000000 in
/-- Buffer 16 reads what case A leaves in it, over any contents before. -/
theorem backA_o15 (c : Dev nD) (i : grid0.Coords) (r : Rf) (h : CaseA i) (x : Xs F) (p : Outs F) (f) :
    r.a16.view.read (Elt F) (r.a16.view.writes (Elt F) f (pcA c i r h x).1) = (outsA c i r h x p).o15 := by
  dsimp only [outsA]
  exact View.read_writes_of_cover _ _ _ _ _ (coverA_o15 c i r h x)

set_option maxHeartbeats 4000000 in
/-- Case A's stores into buffer 18 cover it. -/
theorem coverA_o17 (c : Dev nD) (i : grid0.Coords) (r : Rf) (h : CaseA i) (x : Xs F) (y : S2x4x256x512.Idx) :
    ∃ pc ∈ (pcA c i r h x).2.2.1, y ∈ pc.1.set :=
  View.cover_of_tiledL (pcA c i r h x).2.2.1 S1x1x256x512.size (by sl_kernel_rfl) y

set_option maxHeartbeats 4000000 in
/-- Buffer 18 reads what case A leaves in it, over any contents before. -/
theorem backA_o17 (c : Dev nD) (i : grid0.Coords) (r : Rf) (h : CaseA i) (x : Xs F) (p : Outs F) (f) :
    r.a18.view.read (Elt F) (r.a18.view.writes (Elt F) f (pcA c i r h x).2.2.1) = (outsA c i r h x p).o17 := by
  dsimp only [outsA]
  exact View.read_writes_of_cover _ _ _ _ _ (coverA_o17 c i r h x)

set_option maxHeartbeats 4000000 in
set_option maxHeartbeats 4000000 in
/-- Case A's stores cover the sample rows' accumulator: the first fills it whole. -/
theorem coverA_s0 (c : Dev nD) (i : grid0.Coords) (r : Rf) (h : CaseA i) (x : Xs F) (y : S128x2048.Idx) :
    ∃ pc ∈ (pcA c i r h x).2.2.2.1, y ∈ pc.1.set := by
  exact View.cover_of_wholeMem (pcA c i r h x).2.2.2.1 (by sl_whole_mem) y

/-- Buffer 19 reads what case A leaves in it, over any contents before. -/
theorem backA_s0 (c : Dev nD) (i : grid0.Coords) (r : Rf) (h : CaseA i) (x : Xs F) (p : Outs F) (f) :
    r.a19.view.read (Elt F) (r.a19.view.writes (Elt F) f (pcA c i r h x).2.2.2.1) = (outsA c i r h x p).s0 := by
  dsimp only [outsA]
  exact View.read_writes_of_cover _ _ _ _ _ (coverA_s0 c i r h x)

set_option maxHeartbeats 4000000 in
/-- Case A's stores into buffer 20 cover it. -/
theorem coverA_s1 (c : Dev nD) (i : grid0.Coords) (r : Rf) (h : CaseA i) (x : Xs F) (y : S512x256.Idx) :
    ∃ pc ∈ (pcA c i r h x).2.2.2.2.1, y ∈ pc.1.set :=
  View.cover_of_tiledL (pcA c i r h x).2.2.2.2.1 S512x256.size (by sl_kernel_rfl) y

set_option maxHeartbeats 4000000 in
/-- Buffer 20 reads what case A leaves in it, over any contents before. -/
theorem backA_s1 (c : Dev nD) (i : grid0.Coords) (r : Rf) (h : CaseA i) (x : Xs F) (p : Outs F) (f) :
    r.a20.view.read (Elt F) (r.a20.view.writes (Elt F) f (pcA c i r h x).2.2.2.2.1) = (outsA c i r h x p).s1 := by
  dsimp only [outsA]
  exact View.read_writes_of_cover _ _ _ _ _ (coverA_s1 c i r h x)

set_option maxHeartbeats 4000000 in
/-- Case A's stores into buffer 21 cover it. -/
theorem coverA_s2 (c : Dev nD) (i : grid0.Coords) (r : Rf) (h : CaseA i) (x : Xs F) (y : S512x256.Idx) :
    ∃ pc ∈ (pcA c i r h x).2.2.2.2.2.1, y ∈ pc.1.set :=
  View.cover_of_tiledL (pcA c i r h x).2.2.2.2.2.1 S512x256.size (by sl_kernel_rfl) y

set_option maxHeartbeats 4000000 in
/-- Buffer 21 reads what case A leaves in it, over any contents before. -/
theorem backA_s2 (c : Dev nD) (i : grid0.Coords) (r : Rf) (h : CaseA i) (x : Xs F) (p : Outs F) (f) :
    r.a21.view.read (Elt F) (r.a21.view.writes (Elt F) f (pcA c i r h x).2.2.2.2.2.1) = (outsA c i r h x p).s2 := by
  dsimp only [outsA]
  exact View.read_writes_of_cover _ _ _ _ _ (coverA_s2 c i r h x)

set_option maxHeartbeats 4000000 in
/-- Case A's stores into buffer 22 cover it. -/
theorem coverA_s3 (c : Dev nD) (i : grid0.Coords) (r : Rf) (h : CaseA i) (x : Xs F) (y : S512x256.Idx) :
    ∃ pc ∈ (pcA c i r h x).2.2.2.2.2.2.1, y ∈ pc.1.set :=
  View.cover_of_tiledL (pcA c i r h x).2.2.2.2.2.2.1 S512x256.size (by sl_kernel_rfl) y

set_option maxHeartbeats 4000000 in
/-- Buffer 22 reads what case A leaves in it, over any contents before. -/
theorem backA_s3 (c : Dev nD) (i : grid0.Coords) (r : Rf) (h : CaseA i) (x : Xs F) (p : Outs F) (f) :
    r.a22.view.read (Elt F) (r.a22.view.writes (Elt F) f (pcA c i r h x).2.2.2.2.2.2.1) = (outsA c i r h x p).s3 := by
  dsimp only [outsA]
  exact View.read_writes_of_cover _ _ _ _ _ (coverA_s3 c i r h x)

set_option maxHeartbeats 4000000 in
/-- Case A's stores into buffer 23 cover it. -/
theorem coverA_s4 (c : Dev nD) (i : grid0.Coords) (r : Rf) (h : CaseA i) (x : Xs F) (y : S512x256.Idx) :
    ∃ pc ∈ (pcA c i r h x).2.2.2.2.2.2.2.1, y ∈ pc.1.set :=
  View.cover_of_tiledL (pcA c i r h x).2.2.2.2.2.2.2.1 S512x256.size (by sl_kernel_rfl) y

set_option maxHeartbeats 4000000 in
/-- Buffer 23 reads what case A leaves in it, over any contents before. -/
theorem backA_s4 (c : Dev nD) (i : grid0.Coords) (r : Rf) (h : CaseA i) (x : Xs F) (p : Outs F) (f) :
    r.a23.view.read (Elt F) (r.a23.view.writes (Elt F) f (pcA c i r h x).2.2.2.2.2.2.2.1) = (outsA c i r h x p).s4 := by
  dsimp only [outsA]
  exact View.read_writes_of_cover _ _ _ _ _ (coverA_s4 c i r h x)

set_option maxHeartbeats 4000000 in
/-- The body in case A, from the inputs' blocks and the carried scratch to what it leaves. -/
theorem tripleA (c : Dev nD) (i : grid0.Coords) (r : Rf) (h : CaseA i) (x : Xs F) (p : Outs F) (xi : Vec F S1x4x256x512 .f32) (K : PUnit → sProp 𝕄) :
    iprop(insOwn c r x ∗ (∃ d, owns (c : Thread nD τ) r.a16 fullShare d) ∗ owns (c : Thread nD τ) r.a17 fullShare xi ∗ (∃ d, owns (c : Thread nD τ) r.a18 fullShare d) ∗ carryAny c r ∗ workAny c r
      ∗ (iprop(insOwn c r x ∗ owns (c : Thread nD τ) r.a16 fullShare (outsA c i r h x p).o15 ∗ owns (c : Thread nD τ) r.a17 fullShare xi ∗ owns (c : Thread nD τ) r.a18 fullShare (outsA c i r h x p).o17 ∗ carryOwn c r (outsA c i r h x p) ∗ workAny c r) -∗ K ⟨⟩))
      ⊢ wp frame (wpE (defs₀ (F := F)) Variants.none c none) Set.univ (bodyOf i r) K := by
  unfold insOwn carryOwn carryAny workAny
  iintro ⟨⟨H0, H1, H2, H3, H4, H5, H6, H7, H8, H9, H10, H11, H12, H13, H14⟩, H15, H16, H17, ⟨HS0, HS1, HS2, HS3, HS4⟩, ⟨HS5, HS6, HS7, HS8⟩, HK⟩
  iapply ((pcA c i r h x).2.2.2.2.2.2.2.2.2.2.2.2 xi Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, ⟨%e15, H15⟩, H16, ⟨%e17, H17⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  iapply HK
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]
  · unfold owns; iexists _; isplitr
    swap; · iexact H15
    ipureintro; exact backA_o15 c i r h x p _
  isplitl [H16]; · iexact H16
  isplitl [H17]
  · unfold owns; iexists _; isplitr
    swap; · iexact H17
    ipureintro; exact backA_o17 c i r h x p _
  isplitl [HS0 HS1 HS2 HS3 HS4]
  · isplitl [HS0]
    · unfold owns; iexists _; isplitr
      swap; · iexact HS0
      ipureintro; exact backA_s0 c i r h x p _
    isplitl [HS1]
    · unfold owns; iexists _; isplitr
      swap; · iexact HS1
      ipureintro; exact backA_s1 c i r h x p _
    isplitl [HS2]
    · unfold owns; iexists _; isplitr
      swap; · iexact HS2
      ipureintro; exact backA_s2 c i r h x p _
    isplitl [HS3]
    · unfold owns; iexists _; isplitr
      swap; · iexact HS3
      ipureintro; exact backA_s3 c i r h x p _
    unfold owns; iexists _; isplitr
    swap; · iexact HS4
    ipureintro; exact backA_s4 c i r h x p _
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  iexists _; unfold owns; iexists _; isplitr
  swap; · iexact HS8
  ipureintro; rfl

end Cert.KernelIdeal.Gen

end
-- ==== Proof.KI.RunB.lean ====
/- The whole body's run in case B: from the inputs' blocks and the scratch to the pieces that each buffer ends with. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces that the body's stores leave in each buffer in case B, last first, with the proof that the body runs from the buffers held to these pieces written. -/
noncomputable def kernelRun0_B (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x512 .f32) (harg6 : arg6.IsWhole) (arg7 : Memref sig .tc .vmem S4x512x256 .f32) (harg7 : arg7.IsWhole) (arg8 : Memref sig .tc .vmem S1024x256 .bf16) (harg8 : arg8.IsWhole) (arg9 : Memref sig .tc .vmem S128x128 .i32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S2x4x256x512 .f32) (harg15 : arg15.IsWhole) (arg16 : Memref sig .tc .vmem S128x2048 .bf16) (harg16 : arg16.IsWhole) (arg17 : Memref sig .tc .vmem S1x4x256x512 .f32) (harg17 : arg17.IsWhole) (arg18 : Memref sig .tc .vmem S2x4x256x512 .f32) (harg18 : arg18.IsWhole) (arg19 : Memref sig .tc .vmem S128x2048 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S1024x256 .f32) (harg27 : arg27.IsWhole) (hc0 : cond0_0 i) (hc1 : ¬cond0_1 i) (hc2 : ¬cond0_2 i) (hc3 : ¬cond0_3 i) (hc4 : ¬cond0_4 i)
    (x0 : Vec F S128x1024 .bf16) (x1 : Vec F S128x1024 .bf16) (x2 : Vec F S128x2048 .bf16) (x3 : Vec F S128x2048 .bf16) (x4 : Vec F S128x2048 .bf16) (x5 : Vec F S1x512 .f32) (x6 : Vec F S4x512x256 .f32) (x7 : Vec F S1024x256 .bf16) (x8 : Vec F S128x128 .i32) (x9 : Vec F S128x1024 .bf16) (x10 : Vec F S128x1024 .bf16) (x11 : Vec F S128x2048 .bf16) (x12 : Vec F S128x2048 .bf16) (x13 : Vec F S128x2048 .bf16) (x14 : Vec F S2x4x256x512 .f32) (xs0 : Vec F S128x2048 .f32) (xs1 : Vec F S512x256 .f32) (xs2 : Vec F S512x256 .f32) (xs3 : Vec F S512x256 .f32) (xs4 : Vec F S512x256 .f32) :
    Σ' (L15 : List (View.Piece (Elt F) S128x2048 .bf16)), Σ' (L16 : List (View.Piece (Elt F) S1x4x256x512 .f32)), Σ' (L17 : List (View.Piece (Elt F) S2x4x256x512 .f32)), Σ' (LS0 : List (View.Piece (Elt F) S128x2048 .f32)), Σ' (LS1 : List (View.Piece (Elt F) S512x256 .f32)), Σ' (LS2 : List (View.Piece (Elt F) S512x256 .f32)), Σ' (LS3 : List (View.Piece (Elt F) S512x256 .f32)), Σ' (LS4 : List (View.Piece (Elt F) S512x256 .f32)), Σ' (LT5 : List (View.Piece (Elt F) S1024x256 .f32)), Σ' (LT6 : List (View.Piece (Elt F) S1024x256 .f32)), Σ' (LT7 : List (View.Piece (Elt F) S1024x256 .f32)), { LT8 : List (View.Piece (Elt F) S1024x256 .f32) //
      ∀ (xi16 : Vec F S1x4x256x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xi16 ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ owns (c : Thread nD τ) arg17 fullShare xi16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, ?_, ?_, ?_, ?_, ?_, ?_, fun xi16 E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%d17, %f17, -, H17⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg19.eq_unread hfs0; obtain rfl := harg20.eq_unread hfs1; obtain rfl := harg21.eq_unread hfs2; obtain rfl := harg22.eq_unread hfs3; obtain rfl := harg23.eq_unread hfs4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.KI.CaseB.lean ====
/- The body's triple in case B, on bundled operands, inputs and results. -/
module

public import proofs.«01_k».proof.Proof.KI.Bundle
public import proofs.«01_k».proof.Proof.KI.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case B -/

/-- The conditions of case B. -/
abbrev CaseB (i : grid0.Coords) : Prop := cond0_0 i ∧ ¬cond0_1 i ∧ ¬cond0_2 i ∧ ¬cond0_3 i ∧ ¬cond0_4 i

/-- Case B's run on bundled arguments. -/
abbrev pcB (c : Dev nD) (i : grid0.Coords) (r : Rf) (h : CaseB i) (x : Xs F) (p : Outs F) :=
  kernelRun0_B c i r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 h.1 h.2.1 h.2.2.1 h.2.2.2.1 h.2.2.2.2 x.x0 x.x1 x.x2 x.x3 x.x4 x.x5 x.x6 x.x7 x.x8 x.x9 x.x10 x.x11 x.x12 x.x13 x.x14 p.s0 p.s1 p.s2 p.s3 p.s4

/-- What case B leaves, `p` being what the point before left. -/
def outsB (c : Dev nD) (i : grid0.Coords) (r : Rf) (h : CaseB i) (x : Xs F) (p : Outs F) : Outs F where
  o15 := VO0_15.read (Elt F) (VO0_15.writes (Elt F) VO0_15.junk (pcB c i r h x p).1)
  o16 := p.o16
  o17 := VO0_17.read (Elt F) (VO0_17.writes (Elt F) VO0_17.junk (pcB c i r h x p).2.2.1)
  s0 := VS0_0.read (Elt F) (VS0_0.writes (Elt F) VS0_0.junk (pcB c i r h x p).2.2.2.1)
  s1 := VS0_1.read (Elt F) (VS0_1.writes (Elt F) VS0_1.junk (pcB c i r h x p).2.2.2.2.1)
  s2 := VS0_2.read (Elt F) (VS0_2.writes (Elt F) VS0_2.junk (pcB c i r h x p).2.2.2.2.2.1)
  s3 := VS0_3.read (Elt F) (VS0_3.writes (Elt F) VS0_3.junk (pcB c i r h x p).2.2.2.2.2.2.1)
  s4 := VS0_4.read (Elt F) (VS0_4.writes (Elt F) VS0_4.junk (pcB c i r h x p).2.2.2.2.2.2.2.1)

set_option maxHeartbeats 4000000 in
/-- Case B's stores into buffer 16 cover it. -/
theorem coverB_o15 (c : Dev nD) (i : grid0.Coords) (r : Rf) (h : CaseB i) (x : Xs F) (p : Outs F) (y : S128x2048.Idx) :
    ∃ pc ∈ (pcB c i r h x p).1, y ∈ pc.1.set :=
  View.cover_of_tiledL (pcB c i r h x p).1 S128x512.size (by sl_kernel_rfl) y

set_option maxHeartbeats 4000000 in
/-- Buffer 16 reads what case B leaves in it, over any contents before. -/
theorem backB_o15 (c : Dev nD) (i : grid0.Coords) (r : Rf) (h : CaseB i) (x : Xs F) (p : Outs F) (f) :
    r.a16.view.read (Elt F) (r.a16.view.writes (Elt F) f (pcB c i r h x p).1) = (outsB c i r h x p).o15 := by
  dsimp only [outsB]
  exact View.read_writes_of_cover _ _ _ _ _ (coverB_o15 c i r h x p)

set_option maxHeartbeats 4000000 in
/-- Case B's stores into buffer 18 cover it. -/
theorem coverB_o17 (c : Dev nD) (i : grid0.Coords) (r : Rf) (h : CaseB i) (x : Xs F) (p : Outs F) (y : S2x4x256x512.Idx) :
    ∃ pc ∈ (pcB c i r h x p).2.2.1, y ∈ pc.1.set :=
  View.cover_of_tiledL (pcB c i r h x p).2.2.1 S1x1x256x512.size (by sl_kernel_rfl) y

set_option maxHeartbeats 4000000 in
/-- Buffer 18 reads what case B leaves in it, over any contents before. -/
theorem backB_o17 (c : Dev nD) (i : grid0.Coords) (r : Rf) (h : CaseB i) (x : Xs F) (p : Outs F) (f) :
    r.a18.view.read (Elt F) (r.a18.view.writes (Elt F) f (pcB c i r h x p).2.2.1) = (outsB c i r h x p).o17 := by
  dsimp only [outsB]
  exact View.read_writes_of_cover _ _ _ _ _ (coverB_o17 c i r h x p)

set_option maxHeartbeats 4000000 in
/-- Case B's stores into buffer 19 cover it. -/
theorem coverB_s0 (c : Dev nD) (i : grid0.Coords) (r : Rf) (h : CaseB i) (x : Xs F) (p : Outs F) (y : S128x2048.Idx) :
    ∃ pc ∈ (pcB c i r h x p).2.2.2.1, y ∈ pc.1.set :=
  View.cover_of_tiledL (pcB c i r h x p).2.2.2.1 S128x512.size (by sl_kernel_rfl) y

set_option maxHeartbeats 4000000 in
/-- Buffer 19 reads what case B leaves in it, over any contents before. -/
theorem backB_s0 (c : Dev nD) (i : grid0.Coords) (r : Rf) (h : CaseB i) (x : Xs F) (p : Outs F) (f) :
    r.a19.view.read (Elt F) (r.a19.view.writes (Elt F) f (pcB c i r h x p).2.2.2.1) = (outsB c i r h x p).s0 := by
  dsimp only [outsB]
  exact View.read_writes_of_cover _ _ _ _ _ (coverB_s0 c i r h x p)

set_option maxHeartbeats 4000000 in
/-- Case B's stores into buffer 20 cover it. -/
theorem coverB_s1 (c : Dev nD) (i : grid0.Coords) (r : Rf) (h : CaseB i) (x : Xs F) (p : Outs F) (y : S512x256.Idx) :
    ∃ pc ∈ (pcB c i r h x p).2.2.2.2.1, y ∈ pc.1.set :=
  View.cover_of_tiledL (pcB c i r h x p).2.2.2.2.1 S512x256.size (by sl_kernel_rfl) y

set_option maxHeartbeats 4000000 in
/-- Buffer 20 reads what case B leaves in it, over any contents before. -/
theorem backB_s1 (c : Dev nD) (i : grid0.Coords) (r : Rf) (h : CaseB i) (x : Xs F) (p : Outs F) (f) :
    r.a20.view.read (Elt F) (r.a20.view.writes (Elt F) f (pcB c i r h x p).2.2.2.2.1) = (outsB c i r h x p).s1 := by
  dsimp only [outsB]
  exact View.read_writes_of_cover _ _ _ _ _ (coverB_s1 c i r h x p)

set_option maxHeartbeats 4000000 in
/-- Case B's stores into buffer 21 cover it. -/
theorem coverB_s2 (c : Dev nD) (i : grid0.Coords) (r : Rf) (h : CaseB i) (x : Xs F) (p : Outs F) (y : S512x256.Idx) :
    ∃ pc ∈ (pcB c i r h x p).2.2.2.2.2.1, y ∈ pc.1.set :=
  View.cover_of_tiledL (pcB c i r h x p).2.2.2.2.2.1 S512x256.size (by sl_kernel_rfl) y

set_option maxHeartbeats 4000000 in
/-- Buffer 21 reads what case B leaves in it, over any contents before. -/
theorem backB_s2 (c : Dev nD) (i : grid0.Coords) (r : Rf) (h : CaseB i) (x : Xs F) (p : Outs F) (f) :
    r.a21.view.read (Elt F) (r.a21.view.writes (Elt F) f (pcB c i r h x p).2.2.2.2.2.1) = (outsB c i r h x p).s2 := by
  dsimp only [outsB]
  exact View.read_writes_of_cover _ _ _ _ _ (coverB_s2 c i r h x p)

set_option maxHeartbeats 4000000 in
/-- Case B's stores into buffer 22 cover it. -/
theorem coverB_s3 (c : Dev nD) (i : grid0.Coords) (r : Rf) (h : CaseB i) (x : Xs F) (p : Outs F) (y : S512x256.Idx) :
    ∃ pc ∈ (pcB c i r h x p).2.2.2.2.2.2.1, y ∈ pc.1.set :=
  View.cover_of_tiledL (pcB c i r h x p).2.2.2.2.2.2.1 S512x256.size (by sl_kernel_rfl) y

set_option maxHeartbeats 4000000 in
/-- Buffer 22 reads what case B leaves in it, over any contents before. -/
theorem backB_s3 (c : Dev nD) (i : grid0.Coords) (r : Rf) (h : CaseB i) (x : Xs F) (p : Outs F) (f) :
    r.a22.view.read (Elt F) (r.a22.view.writes (Elt F) f (pcB c i r h x p).2.2.2.2.2.2.1) = (outsB c i r h x p).s3 := by
  dsimp only [outsB]
  exact View.read_writes_of_cover _ _ _ _ _ (coverB_s3 c i r h x p)

set_option maxHeartbeats 4000000 in
/-- Case B's stores into buffer 23 cover it. -/
theorem coverB_s4 (c : Dev nD) (i : grid0.Coords) (r : Rf) (h : CaseB i) (x : Xs F) (p : Outs F) (y : S512x256.Idx) :
    ∃ pc ∈ (pcB c i r h x p).2.2.2.2.2.2.2.1, y ∈ pc.1.set :=
  View.cover_of_tiledL (pcB c i r h x p).2.2.2.2.2.2.2.1 S512x256.size (by sl_kernel_rfl) y

set_option maxHeartbeats 4000000 in
/-- Buffer 23 reads what case B leaves in it, over any contents before. -/
theorem backB_s4 (c : Dev nD) (i : grid0.Coords) (r : Rf) (h : CaseB i) (x : Xs F) (p : Outs F) (f) :
    r.a23.view.read (Elt F) (r.a23.view.writes (Elt F) f (pcB c i r h x p).2.2.2.2.2.2.2.1) = (outsB c i r h x p).s4 := by
  dsimp only [outsB]
  exact View.read_writes_of_cover _ _ _ _ _ (coverB_s4 c i r h x p)

set_option maxHeartbeats 4000000 in
/-- The body in case B, from the inputs' blocks and the carried scratch to what it leaves. -/
theorem tripleB (c : Dev nD) (i : grid0.Coords) (r : Rf) (h : CaseB i) (x : Xs F) (p : Outs F) (xi : Vec F S1x4x256x512 .f32) (K : PUnit → sProp 𝕄) :
    iprop(insOwn c r x ∗ (∃ d, owns (c : Thread nD τ) r.a16 fullShare d) ∗ owns (c : Thread nD τ) r.a17 fullShare xi ∗ (∃ d, owns (c : Thread nD τ) r.a18 fullShare d) ∗ carryOwn c r p ∗ workAny c r
      ∗ (iprop(insOwn c r x ∗ owns (c : Thread nD τ) r.a16 fullShare (outsB c i r h x p).o15 ∗ owns (c : Thread nD τ) r.a17 fullShare xi ∗ owns (c : Thread nD τ) r.a18 fullShare (outsB c i r h x p).o17 ∗ carryOwn c r (outsB c i r h x p) ∗ workAny c r) -∗ K ⟨⟩))
      ⊢ wp frame (wpE (defs₀ (F := F)) Variants.none c none) Set.univ (bodyOf i r) K := by
  unfold insOwn carryOwn workAny
  iintro ⟨⟨H0, H1, H2, H3, H4, H5, H6, H7, H8, H9, H10, H11, H12, H13, H14⟩, H15, H16, H17, ⟨HS0, HS1, HS2, HS3, HS4⟩, ⟨HS5, HS6, HS7, HS8⟩, HK⟩
  iapply ((pcB c i r h x p).2.2.2.2.2.2.2.2.2.2.2.2 xi Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, ⟨%e15, H15⟩, H16, ⟨%e17, H17⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  iapply HK
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]
  · unfold owns; iexists _; isplitr
    swap; · iexact H15
    ipureintro; exact backB_o15 c i r h x p _
  isplitl [H16]; · iexact H16
  isplitl [H17]
  · unfold owns; iexists _; isplitr
    swap; · iexact H17
    ipureintro; exact backB_o17 c i r h x p _
  isplitl [HS0 HS1 HS2 HS3 HS4]
  · isplitl [HS0]
    · unfold owns; iexists _; isplitr
      swap; · iexact HS0
      ipureintro; exact backB_s0 c i r h x p _
    isplitl [HS1]
    · unfold owns; iexists _; isplitr
      swap; · iexact HS1
      ipureintro; exact backB_s1 c i r h x p _
    isplitl [HS2]
    · unfold owns; iexists _; isplitr
      swap; · iexact HS2
      ipureintro; exact backB_s2 c i r h x p _
    isplitl [HS3]
    · unfold owns; iexists _; isplitr
      swap; · iexact HS3
      ipureintro; exact backB_s3 c i r h x p _
    unfold owns; iexists _; isplitr
    swap; · iexact HS4
    ipureintro; exact backB_s4 c i r h x p _
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  iexists _; unfold owns; iexists _; isplitr
  swap; · iexact HS8
  ipureintro; rfl

end Cert.KernelIdeal.Gen

end
-- ==== Proof.KI.RunC.lean ====
/- The whole body's run in case C: from the inputs' blocks and the scratch to the pieces that each buffer ends with. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces that the body's stores leave in each buffer in case C, last first, with the proof that the body runs from the buffers held to these pieces written. -/
noncomputable def kernelRun0_C (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x512 .f32) (harg6 : arg6.IsWhole) (arg7 : Memref sig .tc .vmem S4x512x256 .f32) (harg7 : arg7.IsWhole) (arg8 : Memref sig .tc .vmem S1024x256 .bf16) (harg8 : arg8.IsWhole) (arg9 : Memref sig .tc .vmem S128x128 .i32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S2x4x256x512 .f32) (harg15 : arg15.IsWhole) (arg16 : Memref sig .tc .vmem S128x2048 .bf16) (harg16 : arg16.IsWhole) (arg17 : Memref sig .tc .vmem S1x4x256x512 .f32) (harg17 : arg17.IsWhole) (arg18 : Memref sig .tc .vmem S2x4x256x512 .f32) (harg18 : arg18.IsWhole) (arg19 : Memref sig .tc .vmem S128x2048 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S1024x256 .f32) (harg27 : arg27.IsWhole) (hc0 : cond0_0 i) (hc1 : ¬cond0_1 i) (hc2 : ¬cond0_2 i) (hc3 : cond0_3 i) (hc4 : ¬cond0_4 i)
    (x0 : Vec F S128x1024 .bf16) (x1 : Vec F S128x1024 .bf16) (x2 : Vec F S128x2048 .bf16) (x3 : Vec F S128x2048 .bf16) (x4 : Vec F S128x2048 .bf16) (x5 : Vec F S1x512 .f32) (x6 : Vec F S4x512x256 .f32) (x7 : Vec F S1024x256 .bf16) (x8 : Vec F S128x128 .i32) (x9 : Vec F S128x1024 .bf16) (x10 : Vec F S128x1024 .bf16) (x11 : Vec F S128x2048 .bf16) (x12 : Vec F S128x2048 .bf16) (x13 : Vec F S128x2048 .bf16) (x14 : Vec F S2x4x256x512 .f32) (xs0 : Vec F S128x2048 .f32) (xs1 : Vec F S512x256 .f32) (xs2 : Vec F S512x256 .f32) (xs3 : Vec F S512x256 .f32) (xs4 : Vec F S512x256 .f32) :
    Σ' (L15 : List (View.Piece (Elt F) S128x2048 .bf16)), Σ' (L16 : List (View.Piece (Elt F) S1x4x256x512 .f32)), Σ' (L17 : List (View.Piece (Elt F) S2x4x256x512 .f32)), Σ' (LS0 : List (View.Piece (Elt F) S128x2048 .f32)), Σ' (LS1 : List (View.Piece (Elt F) S512x256 .f32)), Σ' (LS2 : List (View.Piece (Elt F) S512x256 .f32)), Σ' (LS3 : List (View.Piece (Elt F) S512x256 .f32)), Σ' (LS4 : List (View.Piece (Elt F) S512x256 .f32)), Σ' (LT5 : List (View.Piece (Elt F) S1024x256 .f32)), Σ' (LT6 : List (View.Piece (Elt F) S1024x256 .f32)), Σ' (LT7 : List (View.Piece (Elt F) S1024x256 .f32)), { LT8 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg19.eq_unread hfs0; obtain rfl := harg20.eq_unread hfs1; obtain rfl := harg21.eq_unread hfs2; obtain rfl := harg22.eq_unread hfs3; obtain rfl := harg23.eq_unread hfs4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.KI.CaseC.lean ====
/- The body's triple in case C, on bundled operands, inputs and results. -/
module

public import proofs.«01_k».proof.Proof.KI.Bundle
public import proofs.«01_k».proof.Proof.KI.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case C -/

/-- The conditions of case C. -/
abbrev CaseC (i : grid0.Coords) : Prop := cond0_0 i ∧ ¬cond0_1 i ∧ ¬cond0_2 i ∧ cond0_3 i ∧ ¬cond0_4 i

/-- Case C's run on bundled arguments. -/
abbrev pcC (c : Dev nD) (i : grid0.Coords) (r : Rf) (h : CaseC i) (x : Xs F) (p : Outs F) :=
  kernelRun0_C c i r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 h.1 h.2.1 h.2.2.1 h.2.2.2.1 h.2.2.2.2 x.x0 x.x1 x.x2 x.x3 x.x4 x.x5 x.x6 x.x7 x.x8 x.x9 x.x10 x.x11 x.x12 x.x13 x.x14 p.s0 p.s1 p.s2 p.s3 p.s4

/-- What case C leaves, `p` being what the point before left. -/
def outsC (c : Dev nD) (i : grid0.Coords) (r : Rf) (h : CaseC i) (x : Xs F) (p : Outs F) : Outs F where
  o15 := VO0_15.read (Elt F) (VO0_15.writes (Elt F) VO0_15.junk (pcC c i r h x p).1)
  o16 := VO0_16.read (Elt F) (VO0_16.writes (Elt F) VO0_16.junk (pcC c i r h x p).2.1)
  o17 := VO0_17.read (Elt F) (VO0_17.writes (Elt F) VO0_17.junk (pcC c i r h x p).2.2.1)
  s0 := VS0_0.read (Elt F) (VS0_0.writes (Elt F) VS0_0.junk (pcC c i r h x p).2.2.2.1)
  s1 := VS0_1.read (Elt F) (VS0_1.writes (Elt F) VS0_1.junk (pcC c i r h x p).2.2.2.2.1)
  s2 := VS0_2.read (Elt F) (VS0_2.writes (Elt F) VS0_2.junk (pcC c i r h x p).2.2.2.2.2.1)
  s3 := VS0_3.read (Elt F) (VS0_3.writes (Elt F) VS0_3.junk (pcC c i r h x p).2.2.2.2.2.2.1)
  s4 := VS0_4.read (Elt F) (VS0_4.writes (Elt F) VS0_4.junk (pcC c i r h x p).2.2.2.2.2.2.2.1)

set_option maxHeartbeats 4000000 in
/-- Case C's stores into buffer 16 cover it. -/
theorem coverC_o15 (c : Dev nD) (i : grid0.Coords) (r : Rf) (h : CaseC i) (x : Xs F) (p : Outs F) (y : S128x2048.Idx) :
    ∃ pc ∈ (pcC c i r h x p).1, y ∈ pc.1.set :=
  View.cover_of_tiledL (pcC c i r h x p).1 S128x512.size (by sl_kernel_rfl) y

set_option maxHeartbeats 4000000 in
/-- Buffer 16 reads what case C leaves in it, over any contents before. -/
theorem backC_o15 (c : Dev nD) (i : grid0.Coords) (r : Rf) (h : CaseC i) (x : Xs F) (p : Outs F) (f) :
    r.a16.view.read (Elt F) (r.a16.view.writes (Elt F) f (pcC c i r h x p).1) = (outsC c i r h x p).o15 := by
  dsimp only [outsC]
  exact View.read_writes_of_cover _ _ _ _ _ (coverC_o15 c i r h x p)

set_option maxHeartbeats 4000000 in
/-- Case C's stores into buffer 17 cover it. -/
theorem coverC_o16 (c : Dev nD) (i : grid0.Coords) (r : Rf) (h : CaseC i) (x : Xs F) (p : Outs F) (y : S1x4x256x512.Idx) :
    ∃ pc ∈ (pcC c i r h x p).2.1, y ∈ pc.1.set :=
  View.cover_of_tiledL (pcC c i r h x p).2.1 S1x1x256x512.size (by sl_kernel_rfl) y

set_option maxHeartbeats 4000000 in
/-- Buffer 17 reads what case C leaves in it, over any contents before. -/
theorem backC_o16 (c : Dev nD) (i : grid0.Coords) (r : Rf) (h : CaseC i) (x : Xs F) (p : Outs F) (f) :
    r.a17.view.read (Elt F) (r.a17.view.writes (Elt F) f (pcC c i r h x p).2.1) = (outsC c i r h x p).o16 := by
  dsimp only [outsC]
  exact View.read_writes_of_cover _ _ _ _ _ (coverC_o16 c i r h x p)

set_option maxHeartbeats 4000000 in
/-- Case C's stores into buffer 18 cover it. -/
theorem coverC_o17 (c : Dev nD) (i : grid0.Coords) (r : Rf) (h : CaseC i) (x : Xs F) (p : Outs F) (y : S2x4x256x512.Idx) :
    ∃ pc ∈ (pcC c i r h x p).2.2.1, y ∈ pc.1.set :=
  View.cover_of_tiledL (pcC c i r h x p).2.2.1 S1x1x256x512.size (by sl_kernel_rfl) y

set_option maxHeartbeats 4000000 in
/-- Buffer 18 reads what case C leaves in it, over any contents before. -/
theorem backC_o17 (c : Dev nD) (i : grid0.Coords) (r : Rf) (h : CaseC i) (x : Xs F) (p : Outs F) (f) :
    r.a18.view.read (Elt F) (r.a18.view.writes (Elt F) f (pcC c i r h x p).2.2.1) = (outsC c i r h x p).o17 := by
  dsimp only [outsC]
  exact View.read_writes_of_cover _ _ _ _ _ (coverC_o17 c i r h x p)

set_option maxHeartbeats 4000000 in
/-- Case C's stores into buffer 19 cover it. -/
theorem coverC_s0 (c : Dev nD) (i : grid0.Coords) (r : Rf) (h : CaseC i) (x : Xs F) (p : Outs F) (y : S128x2048.Idx) :
    ∃ pc ∈ (pcC c i r h x p).2.2.2.1, y ∈ pc.1.set :=
  View.cover_of_tiledL (pcC c i r h x p).2.2.2.1 S128x512.size (by sl_kernel_rfl) y

set_option maxHeartbeats 4000000 in
/-- Buffer 19 reads what case C leaves in it, over any contents before. -/
theorem backC_s0 (c : Dev nD) (i : grid0.Coords) (r : Rf) (h : CaseC i) (x : Xs F) (p : Outs F) (f) :
    r.a19.view.read (Elt F) (r.a19.view.writes (Elt F) f (pcC c i r h x p).2.2.2.1) = (outsC c i r h x p).s0 := by
  dsimp only [outsC]
  exact View.read_writes_of_cover _ _ _ _ _ (coverC_s0 c i r h x p)

set_option maxHeartbeats 4000000 in
/-- Case C's stores into buffer 20 cover it. -/
theorem coverC_s1 (c : Dev nD) (i : grid0.Coords) (r : Rf) (h : CaseC i) (x : Xs F) (p : Outs F) (y : S512x256.Idx) :
    ∃ pc ∈ (pcC c i r h x p).2.2.2.2.1, y ∈ pc.1.set :=
  View.cover_of_tiledL (pcC c i r h x p).2.2.2.2.1 S512x256.size (by sl_kernel_rfl) y

set_option maxHeartbeats 4000000 in
/-- Buffer 20 reads what case C leaves in it, over any contents before. -/
theorem backC_s1 (c : Dev nD) (i : grid0.Coords) (r : Rf) (h : CaseC i) (x : Xs F) (p : Outs F) (f) :
    r.a20.view.read (Elt F) (r.a20.view.writes (Elt F) f (pcC c i r h x p).2.2.2.2.1) = (outsC c i r h x p).s1 := by
  dsimp only [outsC]
  exact View.read_writes_of_cover _ _ _ _ _ (coverC_s1 c i r h x p)

set_option maxHeartbeats 4000000 in
/-- Case C's stores into buffer 21 cover it. -/
theorem coverC_s2 (c : Dev nD) (i : grid0.Coords) (r : Rf) (h : CaseC i) (x : Xs F) (p : Outs F) (y : S512x256.Idx) :
    ∃ pc ∈ (pcC c i r h x p).2.2.2.2.2.1, y ∈ pc.1.set :=
  View.cover_of_tiledL (pcC c i r h x p).2.2.2.2.2.1 S512x256.size (by sl_kernel_rfl) y

set_option maxHeartbeats 4000000 in
/-- Buffer 21 reads what case C leaves in it, over any contents before. -/
theorem backC_s2 (c : Dev nD) (i : grid0.Coords) (r : Rf) (h : CaseC i) (x : Xs F) (p : Outs F) (f) :
    r.a21.view.read (Elt F) (r.a21.view.writes (Elt F) f (pcC c i r h x p).2.2.2.2.2.1) = (outsC c i r h x p).s2 := by
  dsimp only [outsC]
  exact View.read_writes_of_cover _ _ _ _ _ (coverC_s2 c i r h x p)

set_option maxHeartbeats 4000000 in
/-- Case C's stores into buffer 22 cover it. -/
theorem coverC_s3 (c : Dev nD) (i : grid0.Coords) (r : Rf) (h : CaseC i) (x : Xs F) (p : Outs F) (y : S512x256.Idx) :
    ∃ pc ∈ (pcC c i r h x p).2.2.2.2.2.2.1, y ∈ pc.1.set :=
  View.cover_of_tiledL (pcC c i r h x p).2.2.2.2.2.2.1 S512x256.size (by sl_kernel_rfl) y

set_option maxHeartbeats 4000000 in
/-- Buffer 22 reads what case C leaves in it, over any contents before. -/
theorem backC_s3 (c : Dev nD) (i : grid0.Coords) (r : Rf) (h : CaseC i) (x : Xs F) (p : Outs F) (f) :
    r.a22.view.read (Elt F) (r.a22.view.writes (Elt F) f (pcC c i r h x p).2.2.2.2.2.2.1) = (outsC c i r h x p).s3 := by
  dsimp only [outsC]
  exact View.read_writes_of_cover _ _ _ _ _ (coverC_s3 c i r h x p)

set_option maxHeartbeats 4000000 in
/-- Case C's stores into buffer 23 cover it. -/
theorem coverC_s4 (c : Dev nD) (i : grid0.Coords) (r : Rf) (h : CaseC i) (x : Xs F) (p : Outs F) (y : S512x256.Idx) :
    ∃ pc ∈ (pcC c i r h x p).2.2.2.2.2.2.2.1, y ∈ pc.1.set :=
  View.cover_of_tiledL (pcC c i r h x p).2.2.2.2.2.2.2.1 S512x256.size (by sl_kernel_rfl) y

set_option maxHeartbeats 4000000 in
/-- Buffer 23 reads what case C leaves in it, over any contents before. -/
theorem backC_s4 (c : Dev nD) (i : grid0.Coords) (r : Rf) (h : CaseC i) (x : Xs F) (p : Outs F) (f) :
    r.a23.view.read (Elt F) (r.a23.view.writes (Elt F) f (pcC c i r h x p).2.2.2.2.2.2.2.1) = (outsC c i r h x p).s4 := by
  dsimp only [outsC]
  exact View.read_writes_of_cover _ _ _ _ _ (coverC_s4 c i r h x p)

set_option maxHeartbeats 4000000 in
/-- The body in case C, from the inputs' blocks and the carried scratch to what it leaves. -/
theorem tripleC (c : Dev nD) (i : grid0.Coords) (r : Rf) (h : CaseC i) (x : Xs F) (p : Outs F) (K : PUnit → sProp 𝕄) :
    iprop(insOwn c r x ∗ (∃ d, owns (c : Thread nD τ) r.a16 fullShare d) ∗ (∃ d, owns (c : Thread nD τ) r.a17 fullShare d) ∗ (∃ d, owns (c : Thread nD τ) r.a18 fullShare d) ∗ carryOwn c r p ∗ workAny c r
      ∗ (iprop(insOwn c r x ∗ owns (c : Thread nD τ) r.a16 fullShare (outsC c i r h x p).o15 ∗ owns (c : Thread nD τ) r.a17 fullShare (outsC c i r h x p).o16 ∗ owns (c : Thread nD τ) r.a18 fullShare (outsC c i r h x p).o17 ∗ carryOwn c r (outsC c i r h x p) ∗ workAny c r) -∗ K ⟨⟩))
      ⊢ wp frame (wpE (defs₀ (F := F)) Variants.none c none) Set.univ (bodyOf i r) K := by
  unfold insOwn carryOwn workAny
  iintro ⟨⟨H0, H1, H2, H3, H4, H5, H6, H7, H8, H9, H10, H11, H12, H13, H14⟩, H15, H16, H17, ⟨HS0, HS1, HS2, HS3, HS4⟩, ⟨HS5, HS6, HS7, HS8⟩, HK⟩
  iapply ((pcC c i r h x p).2.2.2.2.2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, ⟨%e15, H15⟩, ⟨%e16, H16⟩, ⟨%e17, H17⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  iapply HK
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]
  · unfold owns; iexists _; isplitr
    swap; · iexact H15
    ipureintro; exact backC_o15 c i r h x p _
  isplitl [H16]
  · unfold owns; iexists _; isplitr
    swap; · iexact H16
    ipureintro; exact backC_o16 c i r h x p _
  isplitl [H17]
  · unfold owns; iexists _; isplitr
    swap; · iexact H17
    ipureintro; exact backC_o17 c i r h x p _
  isplitl [HS0 HS1 HS2 HS3 HS4]
  · isplitl [HS0]
    · unfold owns; iexists _; isplitr
      swap; · iexact HS0
      ipureintro; exact backC_s0 c i r h x p _
    isplitl [HS1]
    · unfold owns; iexists _; isplitr
      swap; · iexact HS1
      ipureintro; exact backC_s1 c i r h x p _
    isplitl [HS2]
    · unfold owns; iexists _; isplitr
      swap; · iexact HS2
      ipureintro; exact backC_s2 c i r h x p _
    isplitl [HS3]
    · unfold owns; iexists _; isplitr
      swap; · iexact HS3
      ipureintro; exact backC_s3 c i r h x p _
    unfold owns; iexists _; isplitr
    swap; · iexact HS4
    ipureintro; exact backC_s4 c i r h x p _
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  iexists _; unfold owns; iexists _; isplitr
  swap; · iexact HS8
  ipureintro; rfl

end Cert.KernelIdeal.Gen

end
-- ==== Proof.KI.RunD.lean ====
/- The whole body's run in case D: from the inputs' blocks and the scratch to the pieces that each buffer ends with. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces that the body's stores leave in each buffer in case D, last first, with the proof that the body runs from the buffers held to these pieces written. -/
noncomputable def kernelRun0_D (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x512 .f32) (harg6 : arg6.IsWhole) (arg7 : Memref sig .tc .vmem S4x512x256 .f32) (harg7 : arg7.IsWhole) (arg8 : Memref sig .tc .vmem S1024x256 .bf16) (harg8 : arg8.IsWhole) (arg9 : Memref sig .tc .vmem S128x128 .i32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S2x4x256x512 .f32) (harg15 : arg15.IsWhole) (arg16 : Memref sig .tc .vmem S128x2048 .bf16) (harg16 : arg16.IsWhole) (arg17 : Memref sig .tc .vmem S1x4x256x512 .f32) (harg17 : arg17.IsWhole) (arg18 : Memref sig .tc .vmem S2x4x256x512 .f32) (harg18 : arg18.IsWhole) (arg19 : Memref sig .tc .vmem S128x2048 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S1024x256 .f32) (harg27 : arg27.IsWhole) (hc0 : cond0_0 i) (hc1 : cond0_1 i) (hc2 : ¬cond0_2 i) (hc3 : ¬cond0_3 i) (hc4 : ¬cond0_4 i)
    (x0 : Vec F S128x1024 .bf16) (x1 : Vec F S128x1024 .bf16) (x2 : Vec F S128x2048 .bf16) (x3 : Vec F S128x2048 .bf16) (x4 : Vec F S128x2048 .bf16) (x5 : Vec F S1x512 .f32) (x6 : Vec F S4x512x256 .f32) (x7 : Vec F S1024x256 .bf16) (x8 : Vec F S128x128 .i32) (x9 : Vec F S128x1024 .bf16) (x10 : Vec F S128x1024 .bf16) (x11 : Vec F S128x2048 .bf16) (x12 : Vec F S128x2048 .bf16) (x13 : Vec F S128x2048 .bf16) (x14 : Vec F S2x4x256x512 .f32) (xs0 : Vec F S128x2048 .f32) :
    Σ' (L15 : List (View.Piece (Elt F) S128x2048 .bf16)), Σ' (L16 : List (View.Piece (Elt F) S1x4x256x512 .f32)), Σ' (L17 : List (View.Piece (Elt F) S2x4x256x512 .f32)), Σ' (LS0 : List (View.Piece (Elt F) S128x2048 .f32)), Σ' (LS1 : List (View.Piece (Elt F) S512x256 .f32)), Σ' (LS2 : List (View.Piece (Elt F) S512x256 .f32)), Σ' (LS3 : List (View.Piece (Elt F) S512x256 .f32)), Σ' (LS4 : List (View.Piece (Elt F) S512x256 .f32)), Σ' (LT5 : List (View.Piece (Elt F) S1024x256 .f32)), Σ' (LT6 : List (View.Piece (Elt F) S1024x256 .f32)), Σ' (LT7 : List (View.Piece (Elt F) S1024x256 .f32)), { LT8 : List (View.Piece (Elt F) S1024x256 .f32) //
      ∀ (xi16 : Vec F S1x4x256x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xi16 ∗ (∃ d, owns (c : Thread nD τ) arg18 fullShare d) ∗ owns (c : Thread nD τ) arg19 fullShare xs0 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ owns (c : Thread nD τ) arg17 fullShare xi16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ f, arg24.view.loc (c : Thread nD τ) ↦[arg24.view.set]{fullShare} arg24.view.writes (Elt F) f LT5) ∗ (∃ f, arg25.view.loc (c : Thread nD τ) ↦[arg25.view.set]{fullShare} arg25.view.writes (Elt F) f LT6) ∗ (∃ f, arg26.view.loc (c : Thread nD τ) ↦[arg26.view.set]{fullShare} arg26.view.writes (Elt F) f LT7) ∗ (∃ f, arg27.view.loc (c : Thread nD τ) ↦[arg27.view.set]{fullShare} arg27.view.writes (Elt F) f LT8)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, ?_, ?_, ?_, ?_, ?_, ?_, fun xi16 E K => ?run⟩
  case run =>
    simp only [cc0_gla_eq_skeleton]; unfold cc0_gla_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%d17, %f17, -, H17⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg19.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [H17]; · iexists _; iexact H17
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.KI.CaseD.lean ====
/- The body's triple in case D, on bundled operands, inputs and results. -/
module

public import proofs.«01_k».proof.Proof.KI.Bundle
public import proofs.«01_k».proof.Proof.KI.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case D -/

/-- The conditions of case D. -/
abbrev CaseD (i : grid0.Coords) : Prop := cond0_0 i ∧ cond0_1 i ∧ ¬cond0_2 i ∧ ¬cond0_3 i ∧ ¬cond0_4 i

/-- Case D's run on bundled arguments. -/
abbrev pcD (c : Dev nD) (i : grid0.Coords) (r : Rf) (h : CaseD i) (x : Xs F) (p : Outs F) :=
  kernelRun0_D c i r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 h.1 h.2.1 h.2.2.1 h.2.2.2.1 h.2.2.2.2 x.x0 x.x1 x.x2 x.x3 x.x4 x.x5 x.x6 x.x7 x.x8 x.x9 x.x10 x.x11 x.x12 x.x13 x.x14 p.s0

/-- What case D leaves, `p` being what the point before left. -/
def outsD (c : Dev nD) (i : grid0.Coords) (r : Rf) (h : CaseD i) (x : Xs F) (p : Outs F) : Outs F where
  o15 := VO0_15.read (Elt F) (VO0_15.writes (Elt F) VO0_15.junk (pcD c i r h x p).1)
  o16 := p.o16
  o17 := VO0_17.read (Elt F) (VO0_17.writes (Elt F) VO0_17.junk (pcD c i r h x p).2.2.1)
  s0 := VS0_0.read (Elt F) (VS0_0.writes (Elt F) VS0_0.junk (pcD c i r h x p).2.2.2.1)
  s1 := VS0_1.read (Elt F) (VS0_1.writes (Elt F) VS0_1.junk (pcD c i r h x p).2.2.2.2.1)
  s2 := VS0_2.read (Elt F) (VS0_2.writes (Elt F) VS0_2.junk (pcD c i r h x p).2.2.2.2.2.1)
  s3 := VS0_3.read (Elt F) (VS0_3.writes (Elt F) VS0_3.junk (pcD c i r h x p).2.2.2.2.2.2.1)
  s4 := VS0_4.read (Elt F) (VS0_4.writes (Elt F) VS0_4.junk (pcD c i r h x p).2.2.2.2.2.2.2.1)

set_option maxHeartbeats 4000000 in
/-- Case D's stores into buffer 16 cover it. -/
theorem coverD_o15 (c : Dev nD) (i : grid0.Coords) (r : Rf) (h : CaseD i) (x : Xs F) (p : Outs F) (y : S128x2048.Idx) :
    ∃ pc ∈ (pcD c i r h x p).1, y ∈ pc.1.set :=
  View.cover_of_tiledL (pcD c i r h x p).1 S128x512.size (by sl_kernel_rfl) y

set_option maxHeartbeats 4000000 in
/-- Buffer 16 reads what case D leaves in it, over any contents before. -/
theorem backD_o15 (c : Dev nD) (i : grid0.Coords) (r : Rf) (h : CaseD i) (x : Xs F) (p : Outs F) (f) :
    r.a16.view.read (Elt F) (r.a16.view.writes (Elt F) f (pcD c i r h x p).1) = (outsD c i r h x p).o15 := by
  dsimp only [outsD]
  exact View.read_writes_of_cover _ _ _ _ _ (coverD_o15 c i r h x p)

set_option maxHeartbeats 4000000 in
/-- Case D's stores into buffer 18 cover it. -/
theorem coverD_o17 (c : Dev nD) (i : grid0.Coords) (r : Rf) (h : CaseD i) (x : Xs F) (p : Outs F) (y : S2x4x256x512.Idx) :
    ∃ pc ∈ (pcD c i r h x p).2.2.1, y ∈ pc.1.set :=
  View.cover_of_tiledL (pcD c i r h x p).2.2.1 S1x1x256x512.size (by sl_kernel_rfl) y

set_option maxHeartbeats 4000000 in
/-- Buffer 18 reads what case D leaves in it, over any contents before. -/
theorem backD_o17 (c : Dev nD) (i : grid0.Coords) (r : Rf) (h : CaseD i) (x : Xs F) (p : Outs F) (f) :
    r.a18.view.read (Elt F) (r.a18.view.writes (Elt F) f (pcD c i r h x p).2.2.1) = (outsD c i r h x p).o17 := by
  dsimp only [outsD]
  exact View.read_writes_of_cover _ _ _ _ _ (coverD_o17 c i r h x p)

set_option maxHeartbeats 4000000 in
/-- Case D's stores into buffer 19 cover it. -/
theorem coverD_s0 (c : Dev nD) (i : grid0.Coords) (r : Rf) (h : CaseD i) (x : Xs F) (p : Outs F) (y : S128x2048.Idx) :
    ∃ pc ∈ (pcD c i r h x p).2.2.2.1, y ∈ pc.1.set :=
  View.cover_of_tiledL (pcD c i r h x p).2.2.2.1 S128x512.size (by sl_kernel_rfl) y

set_option maxHeartbeats 4000000 in
/-- Buffer 19 reads what case D leaves in it, over any contents before. -/
theorem backD_s0 (c : Dev nD) (i : grid0.Coords) (r : Rf) (h : CaseD i) (x : Xs F) (p : Outs F) (f) :
    r.a19.view.read (Elt F) (r.a19.view.writes (Elt F) f (pcD c i r h x p).2.2.2.1) = (outsD c i r h x p).s0 := by
  dsimp only [outsD]
  exact View.read_writes_of_cover _ _ _ _ _ (coverD_s0 c i r h x p)

set_option maxHeartbeats 4000000 in
/-- Case D's stores into buffer 20 cover it. -/
theorem coverD_s1 (c : Dev nD) (i : grid0.Coords) (r : Rf) (h : CaseD i) (x : Xs F) (p : Outs F) (y : S512x256.Idx) :
    ∃ pc ∈ (pcD c i r h x p).2.2.2.2.1, y ∈ pc.1.set :=
  View.cover_of_tiledL (pcD c i r h x p).2.2.2.2.1 S512x256.size (by sl_kernel_rfl) y

set_option maxHeartbeats 4000000 in
/-- Buffer 20 reads what case D leaves in it, over any contents before. -/
theorem backD_s1 (c : Dev nD) (i : grid0.Coords) (r : Rf) (h : CaseD i) (x : Xs F) (p : Outs F) (f) :
    r.a20.view.read (Elt F) (r.a20.view.writes (Elt F) f (pcD c i r h x p).2.2.2.2.1) = (outsD c i r h x p).s1 := by
  dsimp only [outsD]
  exact View.read_writes_of_cover _ _ _ _ _ (coverD_s1 c i r h x p)

set_option maxHeartbeats 4000000 in
/-- Case D's stores into buffer 21 cover it. -/
theorem coverD_s2 (c : Dev nD) (i : grid0.Coords) (r : Rf) (h : CaseD i) (x : Xs F) (p : Outs F) (y : S512x256.Idx) :
    ∃ pc ∈ (pcD c i r h x p).2.2.2.2.2.1, y ∈ pc.1.set :=
  View.cover_of_tiledL (pcD c i r h x p).2.2.2.2.2.1 S512x256.size (by sl_kernel_rfl) y

set_option maxHeartbeats 4000000 in
/-- Buffer 21 reads what case D leaves in it, over any contents before. -/
theorem backD_s2 (c : Dev nD) (i : grid0.Coords) (r : Rf) (h : CaseD i) (x : Xs F) (p : Outs F) (f) :
    r.a21.view.read (Elt F) (r.a21.view.writes (Elt F) f (pcD c i r h x p).2.2.2.2.2.1) = (outsD c i r h x p).s2 := by
  dsimp only [outsD]
  exact View.read_writes_of_cover _ _ _ _ _ (coverD_s2 c i r h x p)

set_option maxHeartbeats 4000000 in
/-- Case D's stores into buffer 22 cover it. -/
theorem coverD_s3 (c : Dev nD) (i : grid0.Coords) (r : Rf) (h : CaseD i) (x : Xs F) (p : Outs F) (y : S512x256.Idx) :
    ∃ pc ∈ (pcD c i r h x p).2.2.2.2.2.2.1, y ∈ pc.1.set :=
  View.cover_of_tiledL (pcD c i r h x p).2.2.2.2.2.2.1 S512x256.size (by sl_kernel_rfl) y

set_option maxHeartbeats 4000000 in
/-- Buffer 22 reads what case D leaves in it, over any contents before. -/
theorem backD_s3 (c : Dev nD) (i : grid0.Coords) (r : Rf) (h : CaseD i) (x : Xs F) (p : Outs F) (f) :
    r.a22.view.read (Elt F) (r.a22.view.writes (Elt F) f (pcD c i r h x p).2.2.2.2.2.2.1) = (outsD c i r h x p).s3 := by
  dsimp only [outsD]
  exact View.read_writes_of_cover _ _ _ _ _ (coverD_s3 c i r h x p)

set_option maxHeartbeats 4000000 in
/-- Case D's stores into buffer 23 cover it. -/
theorem coverD_s4 (c : Dev nD) (i : grid0.Coords) (r : Rf) (h : CaseD i) (x : Xs F) (p : Outs F) (y : S512x256.Idx) :
    ∃ pc ∈ (pcD c i r h x p).2.2.2.2.2.2.2.1, y ∈ pc.1.set :=
  View.cover_of_tiledL (pcD c i r h x p).2.2.2.2.2.2.2.1 S512x256.size (by sl_kernel_rfl) y

set_option maxHeartbeats 4000000 in
/-- Buffer 23 reads what case D leaves in it, over any contents before. -/
theorem backD_s4 (c : Dev nD) (i : grid0.Coords) (r : Rf) (h : CaseD i) (x : Xs F) (p : Outs F) (f) :
    r.a23.view.read (Elt F) (r.a23.view.writes (Elt F) f (pcD c i r h x p).2.2.2.2.2.2.2.1) = (outsD c i r h x p).s4 := by
  dsimp only [outsD]
  exact View.read_writes_of_cover _ _ _ _ _ (coverD_s4 c i r h x p)

set_option maxHeartbeats 4000000 in
/-- The body in case D, from the inputs' blocks and the carried scratch to what it leaves. -/
theorem tripleD (c : Dev nD) (i : grid0.Coords) (r : Rf) (h : CaseD i) (x : Xs F) (p : Outs F) (xi : Vec F S1x4x256x512 .f32) (K : PUnit → sProp 𝕄) :
    iprop(insOwn c r x ∗ (∃ d, owns (c : Thread nD τ) r.a16 fullShare d) ∗ owns (c : Thread nD τ) r.a17 fullShare xi ∗ (∃ d, owns (c : Thread nD τ) r.a18 fullShare d) ∗ carryOwn c r p ∗ workAny c r
      ∗ (iprop(insOwn c r x ∗ owns (c : Thread nD τ) r.a16 fullShare (outsD c i r h x p).o15 ∗ owns (c : Thread nD τ) r.a17 fullShare xi ∗ owns (c : Thread nD τ) r.a18 fullShare (outsD c i r h x p).o17 ∗ carryOwn c r (outsD c i r h x p) ∗ workAny c r) -∗ K ⟨⟩))
      ⊢ wp frame (wpE (defs₀ (F := F)) Variants.none c none) Set.univ (bodyOf i r) K := by
  unfold insOwn carryOwn workAny
  iintro ⟨⟨H0, H1, H2, H3, H4, H5, H6, H7, H8, H9, H10, H11, H12, H13, H14⟩, H15, H16, H17, ⟨HS0, HS1, HS2, HS3, HS4⟩, ⟨HS5, HS6, HS7, HS8⟩, HK⟩
  iapply ((pcD c i r h x p).2.2.2.2.2.2.2.2.2.2.2.2 xi Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexists _; iexact HS1
  isplitl [HS2]; · iexists _; iexact HS2
  isplitl [HS3]; · iexists _; iexact HS3
  isplitl [HS4]; · iexists _; iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, ⟨%e15, H15⟩, H16, ⟨%e17, H17⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  iapply HK
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]
  · unfold owns; iexists _; isplitr
    swap; · iexact H15
    ipureintro; exact backD_o15 c i r h x p _
  isplitl [H16]; · iexact H16
  isplitl [H17]
  · unfold owns; iexists _; isplitr
    swap; · iexact H17
    ipureintro; exact backD_o17 c i r h x p _
  isplitl [HS0 HS1 HS2 HS3 HS4]
  · isplitl [HS0]
    · unfold owns; iexists _; isplitr
      swap; · iexact HS0
      ipureintro; exact backD_s0 c i r h x p _
    isplitl [HS1]
    · unfold owns; iexists _; isplitr
      swap; · iexact HS1
      ipureintro; exact backD_s1 c i r h x p _
    isplitl [HS2]
    · unfold owns; iexists _; isplitr
      swap; · iexact HS2
      ipureintro; exact backD_s2 c i r h x p _
    isplitl [HS3]
    · unfold owns; iexists _; isplitr
      swap; · iexact HS3
      ipureintro; exact backD_s3 c i r h x p _
    unfold owns; iexists _; isplitr
    swap; · iexact HS4
    ipureintro; exact backD_s4 c i r h x p _
  isplitl [HS5]
  · iexists _; unfold owns; iexists _; isplitr
    swap; · iexact HS5
    ipureintro; rfl
  isplitl [HS6]
  · iexists _; unfold owns; iexists _; isplitr
    swap; · iexact HS6
    ipureintro; rfl
  isplitl [HS7]
  · iexists _; unfold owns; iexists _; isplitr
    swap; · iexact HS7
    ipureintro; rfl
  iexists _; unfold owns; iexists _; isplitr
  swap; · iexact HS8
  ipureintro; rfl

end Cert.KernelIdeal.Gen

end
-- ==== Proof.KI.RunE.lean ====
/- The whole body's run in case E: from the inputs' blocks and the scratch to the pieces that each buffer ends with. -/
module

public import proofs.«01_k».proof.Proof.KI.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces that the body's stores leave in each buffer in case E, last first, with the proof that the body runs from the buffers held to these pieces written. -/
noncomputable def kernelRun0_E (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x512 .f32) (harg6 : arg6.IsWhole) (arg7 : Memref sig .tc .vmem S4x512x256 .f32) (harg7 : arg7.IsWhole) (arg8 : Memref sig .tc .vmem S1024x256 .bf16) (harg8 : arg8.IsWhole) (arg9 : Memref sig .tc .vmem S128x128 .i32) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S2x4x256x512 .f32) (harg15 : arg15.IsWhole) (arg16 : Memref sig .tc .vmem S128x2048 .bf16) (harg16 : arg16.IsWhole) (arg17 : Memref sig .tc .vmem S1x4x256x512 .f32) (harg17 : arg17.IsWhole) (arg18 : Memref sig .tc .vmem S2x4x256x512 .f32) (harg18 : arg18.IsWhole) (arg19 : Memref sig .tc .vmem S128x2048 .f32) (harg19 : arg19.IsWhole) (arg20 : Memref sig .tc .vmem S512x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S1024x256 .f32) (harg27 : arg27.IsWhole) (hc0 : ¬cond0_0 i) (hc4 : cond0_4 i)
    (x0 : Vec F S128x1024 .bf16) (x1 : Vec F S128x1024 .bf16) (x2 : Vec F S128x2048 .bf16) (x3 : Vec F S128x2048 .bf16) (x4 : Vec F S128x2048 .bf16) (x5 : Vec F S1x512 .f32) (x6 : Vec F S4x512x256 .f32) (x7 : Vec F S1024x256 .bf16) (x8 : Vec F S128x128 .i32) (x9 : Vec F S128x1024 .bf16) (x10 : Vec F S128x1024 .bf16) (x11 : Vec F S128x2048 .bf16) (x12 : Vec F S128x2048 .bf16) (x13 : Vec F S128x2048 .bf16) (x14 : Vec F S2x4x256x512 .f32) (xo16 : Vec F S1x4x256x512 .f32) (xo17 : Vec F S2x4x256x512 .f32) (xs0 : Vec F S128x2048 .f32) (xs1 : Vec F S512x256 .f32) (xs2 : Vec F S512x256 .f32) (xs3 : Vec F S512x256 .f32) (xs4 : Vec F S512x256 .f32) :
    Σ' (L15 : List (View.Piece (Elt F) S128x2048 .bf16)), Σ' (L16 : List (View.Piece (Elt F) S1x4x256x512 .f32)), Σ' (L17 : List (View.Piece (Elt F) S2x4x256x512 .f32)), Σ' (LS0 : List (View.Piece (Elt F) S128x2048 .f32)), Σ' (LS1 : List (View.Piece (Elt F) S512x256 .f32)), Σ' (LS2 : List (View.Piece (Elt F) S512x256 .f32)), Σ' (LS3 : List (View.Piece (Elt F) S512x256 .f32)), Σ' (LS4 : List (View.Piece (Elt F) S512x256 .f32)), Σ' (LT5 : List (View.Piece (Elt F) S1024x256 .f32)), Σ' (LT6 : List (View.Piece (Elt F) S1024x256 .f32)), Σ' (LT7 : List (View.Piece (Elt F) S1024x256 .f32)), { LT8 : List (View.Piece (Elt F) S1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare xo16 ∗ owns (c : Thread nD τ) arg18 fullShare xo17 ∗ owns (c : Thread nD τ) arg19 fullShare xs0 ∗ owns (c : Thread nD τ) arg20 fullShare xs1 ∗ owns (c : Thread nD τ) arg21 fullShare xs2 ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ owns (c : Thread nD τ) arg17 fullShare xo16 ∗ owns (c : Thread nD τ) arg18 fullShare xo17 ∗ owns (c : Thread nD τ) arg19 fullShare xs0 ∗ owns (c : Thread nD τ) arg20 fullShare xs1 ∗ owns (c : Thread nD τ) arg21 fullShare xs2 ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], [], [], [], [], [], [], [], [], [], [], fun E K => ?run⟩
  case run =>
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hf17; obtain rfl := harg19.eq_unread hfs0; obtain rfl := harg20.eq_unread hfs1; obtain rfl := harg21.eq_unread hfs2; obtain rfl := harg22.eq_unread hfs3; obtain rfl := harg23.eq_unread hfs4
    sl_exec (disch := first | sl_exact hc0 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [H17]
    · iexists _; isplitr; · ipureintro; exact harg18.read_unread _
      iexact H17
    isplitl [HS0]
    · iexists _; isplitr; · ipureintro; exact harg19.read_unread _
      iexact HS0
    isplitl [HS1]
    · iexists _; isplitr; · ipureintro; exact harg20.read_unread _
      iexact HS1
    isplitl [HS2]
    · iexists _; isplitr; · ipureintro; exact harg21.read_unread _
      iexact HS2
    isplitl [HS3]
    · iexists _; isplitr; · ipureintro; exact harg22.read_unread _
      iexact HS3
    isplitl [HS4]
    · iexists _; isplitr; · ipureintro; exact harg23.read_unread _
      iexact HS4
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gen

end
-- ==== Proof.KI.CaseE.lean ====
/- The body's triple in case E, on bundled operands, inputs and results. -/
module

public import proofs.«01_k».proof.Proof.KI.Bundle
public import proofs.«01_k».proof.Proof.KI.RunE

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case E -/

/-- The conditions of case E. -/
abbrev CaseE (i : grid0.Coords) : Prop := ¬cond0_0 i ∧ cond0_4 i

/-- Case E's run on bundled arguments. -/
abbrev pcE (c : Dev nD) (i : grid0.Coords) (r : Rf) (h : CaseE i) (x : Xs F) (p : Outs F) :=
  kernelRun0_E c i r.a1 r.h1 r.a2 r.h2 r.a3 r.h3 r.a4 r.h4 r.a5 r.h5 r.a6 r.h6 r.a7 r.h7 r.a8 r.h8 r.a9 r.h9 r.a10 r.h10 r.a11 r.h11 r.a12 r.h12 r.a13 r.h13 r.a14 r.h14 r.a15 r.h15 r.a16 r.h16 r.a17 r.h17 r.a18 r.h18 r.a19 r.h19 r.a20 r.h20 r.a21 r.h21 r.a22 r.h22 r.a23 r.h23 r.a24 r.h24 r.a25 r.h25 r.a26 r.h26 r.a27 r.h27 h.1 h.2 x.x0 x.x1 x.x2 x.x3 x.x4 x.x5 x.x6 x.x7 x.x8 x.x9 x.x10 x.x11 x.x12 x.x13 x.x14 p.o16 p.o17 p.s0 p.s1 p.s2 p.s3 p.s4

/-- What case E leaves, `p` being what the point before left. -/
def outsE (c : Dev nD) (i : grid0.Coords) (r : Rf) (h : CaseE i) (x : Xs F) (p : Outs F) : Outs F where
  o15 := VO0_15.read (Elt F) (VO0_15.writes (Elt F) VO0_15.junk (pcE c i r h x p).1)
  o16 := p.o16
  o17 := p.o17
  s0 := p.s0
  s1 := p.s1
  s2 := p.s2
  s3 := p.s3
  s4 := p.s4

set_option maxHeartbeats 4000000 in
/-- Case E's stores into buffer 16 cover it. -/
theorem coverE_o15 (c : Dev nD) (i : grid0.Coords) (r : Rf) (h : CaseE i) (x : Xs F) (p : Outs F) (y : S128x2048.Idx) :
    ∃ pc ∈ (pcE c i r h x p).1, y ∈ pc.1.set :=
  View.cover_of_tiledL (pcE c i r h x p).1 S128x2048.size (by sl_kernel_rfl) y

set_option maxHeartbeats 4000000 in
/-- Buffer 16 reads what case E leaves in it, over any contents before. -/
theorem backE_o15 (c : Dev nD) (i : grid0.Coords) (r : Rf) (h : CaseE i) (x : Xs F) (p : Outs F) (f) :
    r.a16.view.read (Elt F) (r.a16.view.writes (Elt F) f (pcE c i r h x p).1) = (outsE c i r h x p).o15 := by
  dsimp only [outsE]
  exact View.read_writes_of_cover _ _ _ _ _ (coverE_o15 c i r h x p)

set_option maxHeartbeats 4000000 in
/-- The body in case E, from the inputs' blocks and the carried scratch to what it leaves. -/
theorem tripleE (c : Dev nD) (i : grid0.Coords) (r : Rf) (h : CaseE i) (x : Xs F) (p : Outs F) (K : PUnit → sProp 𝕄) :
    iprop(insOwn c r x ∗ (∃ d, owns (c : Thread nD τ) r.a16 fullShare d) ∗ owns (c : Thread nD τ) r.a17 fullShare p.o16 ∗ owns (c : Thread nD τ) r.a18 fullShare p.o17 ∗ carryOwn c r p ∗ workAny c r
      ∗ (iprop(insOwn c r x ∗ owns (c : Thread nD τ) r.a16 fullShare (outsE c i r h x p).o15 ∗ owns (c : Thread nD τ) r.a17 fullShare (outsE c i r h x p).o16 ∗ owns (c : Thread nD τ) r.a18 fullShare (outsE c i r h x p).o17 ∗ carryOwn c r (outsE c i r h x p) ∗ workAny c r) -∗ K ⟨⟩))
      ⊢ wp frame (wpE (defs₀ (F := F)) Variants.none c none) Set.univ (bodyOf i r) K := by
  unfold insOwn carryOwn workAny
  rw [show (outsE c i r h x p).o16 = p.o16 from by dsimp only [outsE], show (outsE c i r h x p).o17 = p.o17 from by dsimp only [outsE], show (outsE c i r h x p).s0 = p.s0 from by dsimp only [outsE], show (outsE c i r h x p).s1 = p.s1 from by dsimp only [outsE], show (outsE c i r h x p).s2 = p.s2 from by dsimp only [outsE], show (outsE c i r h x p).s3 = p.s3 from by dsimp only [outsE], show (outsE c i r h x p).s4 = p.s4 from by dsimp only [outsE]]
  iintro ⟨⟨H0, H1, H2, H3, H4, H5, H6, H7, H8, H9, H10, H11, H12, H13, H14⟩, H15, H16, H17, ⟨HS0, HS1, HS2, HS3, HS4⟩, ⟨HS5, HS6, HS7, HS8⟩, HK⟩
  iapply ((pcE c i r h x p).2.2.2.2.2.2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, H12, H13, H14, ⟨%e15, H15⟩, H16, H17, HS0, HS1, HS2, HS3, HS4, HS5, HS6, HS7, HS8⟩
  iapply HK
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]
  · unfold owns; iexists _; isplitr
    swap; · iexact H15
    ipureintro; exact backE_o15 c i r h x p _
  isplitl [H16]; · iexact H16
  isplitl [H17]; · iexact H17
  isplitl [HS0 HS1 HS2 HS3 HS4]
  · isplitl [HS0]; · iexact HS0
    isplitl [HS1]; · iexact HS1
    isplitl [HS2]; · iexact HS2
    isplitl [HS3]; · iexact HS3
    iexact HS4
  isplitl [HS5]; · iexact HS5
  isplitl [HS6]; · iexact HS6
  isplitl [HS7]; · iexact HS7
  iexact HS8

end Cert.KernelIdeal.Gen

end
-- ==== Proof.KI.Frame.lean ====
/- The pipeline's proof data, the body's obligation at every point, and the run of the whole program, over any float values. -/
module

public import proofs.«01_k».proof.Proof.KI.CaseA
public import proofs.«01_k».proof.Proof.KI.CaseB
public import proofs.«01_k».proof.Proof.KI.CaseC
public import proofs.«01_k».proof.Proof.KI.CaseD
public import proofs.«01_k».proof.Proof.KI.CaseE
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Arbitrary contents, before the first point. -/
def junkO : Outs F where
  o15 := VO0_15.read (Elt F) VO0_15.junk
  o16 := VO0_16.read (Elt F) VO0_16.junk
  o17 := VO0_17.read (Elt F) VO0_17.junk
  s0 := VS0_0.read (Elt F) VS0_0.junk
  s1 := VS0_1.read (Elt F) VS0_1.junk
  s2 := VS0_2.read (Elt F) VS0_2.junk
  s3 := VS0_3.read (Elt F) VS0_3.junk
  s4 := VS0_4.read (Elt F) VS0_4.junk

open Classical in
/-- What the body leaves at a point, `p` being what the point before left. -/
def stepAt (c : Dev nD) (i : grid0.Coords) (r : Rf) (x : Xs F) (p : Outs F) : Outs F :=
  if h : CaseA i then outsA c i r h x p
  else if h : CaseB i then outsB c i r h x p
  else if h : CaseC i then outsC c i r h x p
  else if h : CaseD i then outsD c i r h x p
  else if h : CaseE i then outsE c i r h x p
  else p

theorem stepAt_A (c : Dev nD) (i : grid0.Coords) (r : Rf) (h : CaseA i) (x : Xs F) (p : Outs F) : stepAt c i r x p = outsA c i r h x p :=
  dif_pos h

theorem stepAt_B (c : Dev nD) (i : grid0.Coords) (r : Rf) (h : CaseB i) (x : Xs F) (p : Outs F) : stepAt c i r x p = outsB c i r h x p :=
  (dif_neg (fun k => h.2.1 k.2.1)).trans (dif_pos h)

theorem stepAt_C (c : Dev nD) (i : grid0.Coords) (r : Rf) (h : CaseC i) (x : Xs F) (p : Outs F) : stepAt c i r x p = outsC c i r h x p :=
  (dif_neg (fun k => h.2.1 k.2.1)).trans ((dif_neg (fun k => k.2.2.2.1 h.2.2.2.1)).trans (dif_pos h))

theorem stepAt_D (c : Dev nD) (i : grid0.Coords) (r : Rf) (h : CaseD i) (x : Xs F) (p : Outs F) : stepAt c i r x p = outsD c i r h x p :=
  (dif_neg (fun k => h.2.2.1 k.2.2.1)).trans ((dif_neg (fun k => k.2.1 h.2.1)).trans ((dif_neg (fun k => k.2.1 h.2.1)).trans (dif_pos h)))

theorem stepAt_E (c : Dev nD) (i : grid0.Coords) (r : Rf) (h : CaseE i) (x : Xs F) (p : Outs F) : stepAt c i r x p = outsE c i r h x p :=
  (dif_neg (fun k => h.1 k.1)).trans ((dif_neg (fun k => h.1 k.1)).trans ((dif_neg (fun k => h.1 k.1)).trans ((dif_neg (fun k => h.1 k.1)).trans (dif_pos h))))

/-- What the outputs and the carried scratch hold before position `n`. -/
def outsPre (c : Dev nD) : (n : ℕ) → n ≤ cfg0.N → Outs F
  | 0, _ => junkO
  | n + 1, hn => stepAt c (grid0.coords ⟨n, hn⟩) (rf ⟨n, hn⟩) (xs m c ⟨n, hn⟩) (outsPre c n (Nat.le_of_succ_le hn))

/-- What they hold before point `t` … -/
abbrev prevAt (c : Dev nD) (t : Fin cfg0.N) : Outs F := outsPre m c t.val (Nat.le_of_lt t.isLt)

/-- … and after it. -/
abbrev nextAt (c : Dev nD) (t : Fin cfg0.N) : Outs F := outsPre m c (t.val + 1) t.isLt

theorem nextAt_eq (c : Dev nD) (t : Fin cfg0.N) : nextAt m c t = stepAt c (grid0.coords t) (rf t) (xs m c t) (prevAt m c t) := rfl

/-- Each point is in one of the five cases. -/
theorem point_cases (t : Fin cfg0.N) : (t.val = 0 ∧ CaseA (grid0.coords t)) ∨ (t.val ≠ 0 ∧ CaseB (grid0.coords t)) ∨ (t.val ≠ 0 ∧ CaseC (grid0.coords t))
    ∨ (t.val ≠ 0 ∧ CaseD (grid0.coords t)) ∨ (t.val ≠ 0 ∧ CaseE (grid0.coords t)) := by
  have hN : t.val < 65 := lt_of_lt_of_eq t.isLt (show cfg0.N = 65 from N_0)
  unfold CaseA CaseB CaseC CaseD CaseE
  simp only [hcond0_0, hcond0_1, hcond0_2, hcond0_3, hcond0_4]
  omega

/-- The region's scratch and the generator register, the carried scratch at `o`'s contents. -/
def scratchAt (c : Dev nD) (o : Outs F) : sProp 𝕄 :=
  iprop(iprop(owns (c : Thread nD τ) scM0_0 fullShare o.s0 ∗ owns (c : Thread nD τ) scM0_1 fullShare o.s1 ∗ owns (c : Thread nD τ) scM0_2 fullShare o.s2 ∗ owns (c : Thread nD τ) scM0_3 fullShare o.s3 ∗ owns (c : Thread nD τ) scM0_4 fullShare o.s4 ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

/-- The invariant before position `n`: any scratch before the first point, then the carried scratch at what the point before left. -/
def PhiS (c : Dev nD) : (n : ℕ) → n ≤ cfg0.N → sProp 𝕄
  | 0, _ => Pipeline.ΦA spec0 c
  | n + 1, hn => scratchAt c (outsPre m c (n + 1) hn)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = scratchAt c (outsPre m c n h) := by
  cases n with
  | zero => exact absurd rfl hz
  | succ n => rfl

/-- The proof data of the one pipeline on core `c`: each input's buffer at its block, the outputs' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (nextAt m c t).o15
    | ⟨16, _⟩ => (nextAt m c t).o16
    | ⟨17, _⟩ => (nextAt m c t).o17
    | ⟨_ + 18, h⟩ => absurd h (Nat.not_lt.2 (Nat.le_add_left _ _))
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (nextAt m c t).o15 := by dsimp only [dats]
theorem after0_16 (c : Dev nD) (t : Fin cfg0.N) : (dats m 0 c).after 16 t = (nextAt m c t).o16 := by dsimp only [dats]
theorem after0_17 (c : Dev nD) (t : Fin cfg0.N) : (dats m 0 c).after 17 t = (nextAt m c t).o17 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- Output 16's contents carry through the points that store nothing into it. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t hz hi _
  rw [after0_16, after0_16, nextAt_eq]
  have hp : nextAt m c ⟨t.val - 1, by omega⟩ = prevAt m c t := by
    obtain ⟨n, hn⟩ := t
    cases n with
    | zero => exact absurd rfl hz
    | succ n => rfl
  rw [hp]
  rcases point_cases t with h | h | h | h | h
  · exact absurd h.1 hz
  · rw [stepAt_B c _ _ h.2]; dsimp only [outsB]
  · rw [liveAt0_16_C t h.2.1 h.2.2.1 h.2.2.2.1 h.2.2.2.2.1 h.2.2.2.2.2] at hi
    exact absurd hi Bool.false_ne_true
  · rw [stepAt_D c _ _ h.2]; dsimp only [outsD]
  · rw [stepAt_E c _ _ h.2]; dsimp only [outsE]

/-- At the last point output 16's buffer holds what the point before left. -/
theorem before0_16_E (c : Dev nD) (t : Fin cfg0.N) (hz : t.val ≠ 0) (h : CaseE (grid0.coords t)) (d) :
    (dats m 0 c).before 16 t d = (prevAt m c t).o16 := by
  rw [Dat.before_out_traj _ 16 rfl (fun _ _ => rfl) (hcarry0_16 m c) t.val t rfl d,
    if_neg (by rw [notFresh0_16_E t h.1 h.2]; exact Bool.false_ne_true)]
  dsimp only [dats]
  obtain ⟨n, hn⟩ := t
  cases n with
  | zero => exact absurd rfl hz
  | succ n => rfl

/-- Output 17's contents carry through the points that store nothing into it. -/
theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t hz hi _
  rw [after0_17, after0_17, nextAt_eq]
  have hp : nextAt m c ⟨t.val - 1, by omega⟩ = prevAt m c t := by
    obtain ⟨n, hn⟩ := t
    cases n with
    | zero => exact absurd rfl hz
    | succ n => rfl
  rw [hp]
  rcases point_cases t with h | h | h | h | h
  · exact absurd h.1 hz
  · rw [liveAt0_17_B t h.2.1 h.2.2.1 h.2.2.2.1 h.2.2.2.2.1 h.2.2.2.2.2] at hi
    exact absurd hi Bool.false_ne_true
  · rw [liveAt0_17_C t h.2.1 h.2.2.1 h.2.2.2.1 h.2.2.2.2.1 h.2.2.2.2.2] at hi
    exact absurd hi Bool.false_ne_true
  · rw [liveAt0_17_D t h.2.1 h.2.2.1 h.2.2.2.1 h.2.2.2.2.1 h.2.2.2.2.2] at hi
    exact absurd hi Bool.false_ne_true
  · rw [stepAt_E c _ _ h.2]; dsimp only [outsE]

/-- At the last point output 17's buffer holds what the point before left. -/
theorem before0_17_E (c : Dev nD) (t : Fin cfg0.N) (hz : t.val ≠ 0) (h : CaseE (grid0.coords t)) (d) :
    (dats m 0 c).before 17 t d = (prevAt m c t).o17 := by
  rw [Dat.before_out_traj _ 17 rfl (fun _ _ => rfl) (hcarry0_17 m c) t.val t rfl d,
    if_neg (by rw [notFresh0_17_E t h.1 h.2]; exact Bool.false_ne_true)]
  dsimp only [dats]
  obtain ⟨n, hn⟩ := t
  cases n with
  | zero => exact absurd rfl hz
  | succ n => rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 4000000 in
/-- The inputs' part of the call, gathered. -/
theorem pre_ins (c : Dev nD) (t : Fin cfg0.N) : bodyPre m c t ⊢ iprop((dats m 0 c).Φ t.castSucc ∗ (dats m 0 c).owesAt () t.castSucc
    ∗ insOwn c (rf t) (xs m c t)
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))) := by
  unfold bodyPre insOwn
  simp only [before0_0, before0_1, before0_2, before0_3, before0_4, before0_5, before0_6, before0_7, before0_8, before0_9, before0_10, before0_11, before0_12, before0_13, before0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17⟩
  isplitl [HΦ]; · iexact HΦ
  isplitl [Ho]; · iexact Ho
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexact H15
  isplitl [H16]; · iexact H16
  iexact H17

set_option maxHeartbeats 4000000 in
/-- The inputs' part of what is returned, spread. -/
theorem post_ins (c : Dev nD) (t : Fin cfg0.N) : iprop(scratchAt c (nextAt m c t) ∗ (dats m 0 c).owesAt () t.castSucc
    ∗ insOwn c (rf t) (xs m c t) ∗ (dats m 0 c).leavesExact 15 t ∗ (dats m 0 c).leavesExact 16 t ∗ (dats m 0 c).leavesExact 17 t) ⊢ bodyPost m c t := by
  unfold bodyPost insOwn
  rw [show (dats m 0 c).owesAt () t.succ = (dats m 0 c).owesAt () t.castSucc from rfl]
  rw [show (dats m 0 c).Φ t.succ = scratchAt c (nextAt m c t) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  iintro ⟨HΦ, Ho, ⟨H0, H1, H2, H3, H4, H5, H6, H7, H8, H9, H10, H11, H12, H13, H14⟩, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

set_option maxHeartbeats 4000000 in
/-- The body at a point of case A. -/
theorem sound_A (c : Dev nD) (t : Fin cfg0.N) (hz : t.val = 0) (h : CaseA (grid0.coords t)) :
    bodyPre m c t ⊢ wp frame (wpE (defs₀ (F := F)) Variants.none c none) Set.univ (bodyAt0 t) (fun _ => bodyPost m c t) := by
  refine (pre_ins m c t).trans ?_
  rw [show (dats m 0 c).Φ t.castSucc = PhiS m c t.val (Nat.le_of_lt t.isLt) from rfl, PhiS_zero m c _ _ hz, PhiA0_eq]
  iintro ⟨⟨⟨HS0, HS1, HS2, HS3, HS4, HS5, HS6, HS7, HS8⟩, Hg⟩, Ho, HI, ⟨%d15, H15⟩, ⟨%d16, H16⟩, ⟨%d17, H17⟩⟩
  iapply (tripleA c (grid0.coords t) (rf t) h (xs m c t) (prevAt m c t) ((dats m 0 c).before 16 t d16) (fun _ => bodyPost m c t))
  isplitl [HI]; · iexact HI
  isplitl [H15]; · iexists _; iexact H15
  isplitl [H16]; · iexact H16
  isplitl [H17]; · iexists _; iexact H17
  isplitl [HS0 HS1 HS2 HS3 HS4]
  · unfold carryAny
    isplitl [HS0]; · iexact HS0
    isplitl [HS1]; · iexact HS1
    isplitl [HS2]; · iexact HS2
    isplitl [HS3]; · iexact HS3
    iexact HS4
  isplitl [HS5 HS6 HS7 HS8]
  · unfold workAny
    isplitl [HS5]; · iexact HS5
    isplitl [HS6]; · iexact HS6
    isplitl [HS7]; · iexact HS7
    iexact HS8
  unfold carryOwn workAny
  iintro ⟨HI, H15, H16, H17, ⟨HS0, HS1, HS2, HS3, HS4⟩, ⟨HS5, HS6, HS7, HS8⟩⟩
  iapply (post_ins m c t)
  rw [show (dats m 0 c).leavesExact 15 t = owns (c : Thread nD τ) (ms0_15 t) fullShare ((dats m 0 c).after 15 t) from by
    unfold Dat.leavesExact; rw [liveAt0_15_A t h.1 h.2.1 h.2.2.1 h.2.2.2.1 h.2.2.2.2], after0_15]
  rw [Dat.leavesExact_idle (dats m 0 c) 16 t (idleAt0_16_A t h.1 h.2.1 h.2.2.1 h.2.2.2.1 h.2.2.2.2) (noFlush0_16_A t h.1 h.2.1 h.2.2.1 h.2.2.2.1 h.2.2.2.2)]
  rw [show (dats m 0 c).leavesExact 17 t = owns (c : Thread nD τ) (ms0_17 t) fullShare ((dats m 0 c).after 17 t) from by
    unfold Dat.leavesExact; rw [liveAt0_17_A t h.1 h.2.1 h.2.2.1 h.2.2.2.1 h.2.2.2.2], after0_17]
  rw [nextAt_eq, stepAt_A c _ _ h]
  unfold scratchAt
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [HI]; · iexact HI
  isplitl [H15]; · iexact H15
  isplitl [H16]; · iexists _; iexact H16
  iexact H17

set_option maxHeartbeats 4000000 in
/-- The body at a point of case B. -/
theorem sound_B (c : Dev nD) (t : Fin cfg0.N) (hz : t.val ≠ 0) (h : CaseB (grid0.coords t)) :
    bodyPre m c t ⊢ wp frame (wpE (defs₀ (F := F)) Variants.none c none) Set.univ (bodyAt0 t) (fun _ => bodyPost m c t) := by
  refine (pre_ins m c t).trans ?_
  rw [show (dats m 0 c).Φ t.castSucc = PhiS m c t.val (Nat.le_of_lt t.isLt) from rfl, PhiS_pos m c _ _ hz]
  unfold scratchAt
  iintro ⟨⟨⟨HS0, HS1, HS2, HS3, HS4, HS5, HS6, HS7, HS8⟩, Hg⟩, Ho, HI, ⟨%d15, H15⟩, ⟨%d16, H16⟩, ⟨%d17, H17⟩⟩
  iapply (tripleB c (grid0.coords t) (rf t) h (xs m c t) (prevAt m c t) ((dats m 0 c).before 16 t d16) (fun _ => bodyPost m c t))
  isplitl [HI]; · iexact HI
  isplitl [H15]; · iexists _; iexact H15
  isplitl [H16]; · iexact H16
  isplitl [H17]; · iexists _; iexact H17
  isplitl [HS0 HS1 HS2 HS3 HS4]
  · unfold carryOwn
    isplitl [HS0]; · iexact HS0
    isplitl [HS1]; · iexact HS1
    isplitl [HS2]; · iexact HS2
    isplitl [HS3]; · iexact HS3
    iexact HS4
  isplitl [HS5 HS6 HS7 HS8]
  · unfold workAny
    isplitl [HS5]; · iexact HS5
    isplitl [HS6]; · iexact HS6
    isplitl [HS7]; · iexact HS7
    iexact HS8
  unfold carryOwn workAny
  iintro ⟨HI, H15, H16, H17, ⟨HS0, HS1, HS2, HS3, HS4⟩, ⟨HS5, HS6, HS7, HS8⟩⟩
  iapply (post_ins m c t)
  rw [show (dats m 0 c).leavesExact 15 t = owns (c : Thread nD τ) (ms0_15 t) fullShare ((dats m 0 c).after 15 t) from by
    unfold Dat.leavesExact; rw [liveAt0_15_B t h.1 h.2.1 h.2.2.1 h.2.2.2.1 h.2.2.2.2], after0_15]
  rw [Dat.leavesExact_idle (dats m 0 c) 16 t (idleAt0_16_B t h.1 h.2.1 h.2.2.1 h.2.2.2.1 h.2.2.2.2) (noFlush0_16_B t h.1 h.2.1 h.2.2.1 h.2.2.2.1 h.2.2.2.2)]
  rw [show (dats m 0 c).leavesExact 17 t = owns (c : Thread nD τ) (ms0_17 t) fullShare ((dats m 0 c).after 17 t) from by
    unfold Dat.leavesExact; rw [liveAt0_17_B t h.1 h.2.1 h.2.2.1 h.2.2.2.1 h.2.2.2.2], after0_17]
  rw [nextAt_eq, stepAt_B c _ _ h]
  unfold scratchAt
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [HI]; · iexact HI
  isplitl [H15]; · iexact H15
  isplitl [H16]; · iexists _; iexact H16
  iexact H17

set_option maxHeartbeats 4000000 in
/-- The body at a point of case C. -/
theorem sound_C (c : Dev nD) (t : Fin cfg0.N) (hz : t.val ≠ 0) (h : CaseC (grid0.coords t)) :
    bodyPre m c t ⊢ wp frame (wpE (defs₀ (F := F)) Variants.none c none) Set.univ (bodyAt0 t) (fun _ => bodyPost m c t) := by
  refine (pre_ins m c t).trans ?_
  rw [show (dats m 0 c).Φ t.castSucc = PhiS m c t.val (Nat.le_of_lt t.isLt) from rfl, PhiS_pos m c _ _ hz]
  unfold scratchAt
  iintro ⟨⟨⟨HS0, HS1, HS2, HS3, HS4, HS5, HS6, HS7, HS8⟩, Hg⟩, Ho, HI, ⟨%d15, H15⟩, ⟨%d16, H16⟩, ⟨%d17, H17⟩⟩
  iapply (tripleC c (grid0.coords t) (rf t) h (xs m c t) (prevAt m c t) (fun _ => bodyPost m c t))
  isplitl [HI]; · iexact HI
  isplitl [H15]; · iexists _; iexact H15
  isplitl [H16]; · iexists _; iexact H16
  isplitl [H17]; · iexists _; iexact H17
  isplitl [HS0 HS1 HS2 HS3 HS4]
  · unfold carryOwn
    isplitl [HS0]; · iexact HS0
    isplitl [HS1]; · iexact HS1
    isplitl [HS2]; · iexact HS2
    isplitl [HS3]; · iexact HS3
    iexact HS4
  isplitl [HS5 HS6 HS7 HS8]
  · unfold workAny
    isplitl [HS5]; · iexact HS5
    isplitl [HS6]; · iexact HS6
    isplitl [HS7]; · iexact HS7
    iexact HS8
  unfold carryOwn workAny
  iintro ⟨HI, H15, H16, H17, ⟨HS0, HS1, HS2, HS3, HS4⟩, ⟨HS5, HS6, HS7, HS8⟩⟩
  iapply (post_ins m c t)
  rw [show (dats m 0 c).leavesExact 15 t = owns (c : Thread nD τ) (ms0_15 t) fullShare ((dats m 0 c).after 15 t) from by
    unfold Dat.leavesExact; rw [liveAt0_15_C t h.1 h.2.1 h.2.2.1 h.2.2.2.1 h.2.2.2.2], after0_15]
  rw [show (dats m 0 c).leavesExact 16 t = owns (c : Thread nD τ) (ms0_16 t) fullShare ((dats m 0 c).after 16 t) from by
    unfold Dat.leavesExact; rw [liveAt0_16_C t h.1 h.2.1 h.2.2.1 h.2.2.2.1 h.2.2.2.2], after0_16]
  rw [show (dats m 0 c).leavesExact 17 t = owns (c : Thread nD τ) (ms0_17 t) fullShare ((dats m 0 c).after 17 t) from by
    unfold Dat.leavesExact; rw [liveAt0_17_C t h.1 h.2.1 h.2.2.1 h.2.2.2.1 h.2.2.2.2], after0_17]
  rw [nextAt_eq, stepAt_C c _ _ h]
  unfold scratchAt
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [HI]; · iexact HI
  isplitl [H15]; · iexact H15
  isplitl [H16]; · iexact H16
  iexact H17

set_option maxHeartbeats 4000000 in
/-- The body at a point of case D. -/
theorem sound_D (c : Dev nD) (t : Fin cfg0.N) (hz : t.val ≠ 0) (h : CaseD (grid0.coords t)) :
    bodyPre m c t ⊢ wp frame (wpE (defs₀ (F := F)) Variants.none c none) Set.univ (bodyAt0 t) (fun _ => bodyPost m c t) := by
  refine (pre_ins m c t).trans ?_
  rw [show (dats m 0 c).Φ t.castSucc = PhiS m c t.val (Nat.le_of_lt t.isLt) from rfl, PhiS_pos m c _ _ hz]
  unfold scratchAt
  iintro ⟨⟨⟨HS0, HS1, HS2, HS3, HS4, HS5, HS6, HS7, HS8⟩, Hg⟩, Ho, HI, ⟨%d15, H15⟩, ⟨%d16, H16⟩, ⟨%d17, H17⟩⟩
  iapply (tripleD c (grid0.coords t) (rf t) h (xs m c t) (prevAt m c t) ((dats m 0 c).before 16 t d16) (fun _ => bodyPost m c t))
  isplitl [HI]; · iexact HI
  isplitl [H15]; · iexists _; iexact H15
  isplitl [H16]; · iexact H16
  isplitl [H17]; · iexists _; iexact H17
  isplitl [HS0 HS1 HS2 HS3 HS4]
  · unfold carryOwn
    isplitl [HS0]; · iexact HS0
    isplitl [HS1]; · iexact HS1
    isplitl [HS2]; · iexact HS2
    isplitl [HS3]; · iexact HS3
    iexact HS4
  isplitl [HS5 HS6 HS7 HS8]
  · unfold workAny
    isplitl [HS5]; · iexact HS5
    isplitl [HS6]; · iexact HS6
    isplitl [HS7]; · iexact HS7
    iexact HS8
  unfold carryOwn workAny
  iintro ⟨HI, H15, H16, H17, ⟨HS0, HS1, HS2, HS3, HS4⟩, ⟨HS5, HS6, HS7, HS8⟩⟩
  iapply (post_ins m c t)
  rw [show (dats m 0 c).leavesExact 15 t = owns (c : Thread nD τ) (ms0_15 t) fullShare ((dats m 0 c).after 15 t) from by
    unfold Dat.leavesExact; rw [liveAt0_15_D t h.1 h.2.1 h.2.2.1 h.2.2.2.1 h.2.2.2.2], after0_15]
  rw [Dat.leavesExact_idle (dats m 0 c) 16 t (idleAt0_16_D t h.1 h.2.1 h.2.2.1 h.2.2.2.1 h.2.2.2.2) (noFlush0_16_D t h.1 h.2.1 h.2.2.1 h.2.2.2.1 h.2.2.2.2)]
  rw [show (dats m 0 c).leavesExact 17 t = owns (c : Thread nD τ) (ms0_17 t) fullShare ((dats m 0 c).after 17 t) from by
    unfold Dat.leavesExact; rw [liveAt0_17_D t h.1 h.2.1 h.2.2.1 h.2.2.2.1 h.2.2.2.2], after0_17]
  rw [nextAt_eq, stepAt_D c _ _ h]
  unfold scratchAt
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [HI]; · iexact HI
  isplitl [H15]; · iexact H15
  isplitl [H16]; · iexists _; iexact H16
  iexact H17

set_option maxHeartbeats 4000000 in
/-- The body at a point of case E. -/
theorem sound_E (c : Dev nD) (t : Fin cfg0.N) (hz : t.val ≠ 0) (h : CaseE (grid0.coords t)) :
    bodyPre m c t ⊢ wp frame (wpE (defs₀ (F := F)) Variants.none c none) Set.univ (bodyAt0 t) (fun _ => bodyPost m c t) := by
  refine (pre_ins m c t).trans ?_
  rw [show (dats m 0 c).Φ t.castSucc = PhiS m c t.val (Nat.le_of_lt t.isLt) from rfl, PhiS_pos m c _ _ hz]
  simp only [before0_16_E m c t hz h, before0_17_E m c t hz h]
  unfold scratchAt
  iintro ⟨⟨⟨HS0, HS1, HS2, HS3, HS4, HS5, HS6, HS7, HS8⟩, Hg⟩, Ho, HI, ⟨%d15, H15⟩, ⟨%d16, H16⟩, ⟨%d17, H17⟩⟩
  iapply (tripleE c (grid0.coords t) (rf t) h (xs m c t) (prevAt m c t) (fun _ => bodyPost m c t))
  isplitl [HI]; · iexact HI
  isplitl [H15]; · iexists _; iexact H15
  isplitl [H16]; · iexact H16
  isplitl [H17]; · iexact H17
  isplitl [HS0 HS1 HS2 HS3 HS4]
  · unfold carryOwn
    isplitl [HS0]; · iexact HS0
    isplitl [HS1]; · iexact HS1
    isplitl [HS2]; · iexact HS2
    isplitl [HS3]; · iexact HS3
    iexact HS4
  isplitl [HS5 HS6 HS7 HS8]
  · unfold workAny
    isplitl [HS5]; · iexact HS5
    isplitl [HS6]; · iexact HS6
    isplitl [HS7]; · iexact HS7
    iexact HS8
  unfold carryOwn workAny
  iintro ⟨HI, H15, H16, H17, ⟨HS0, HS1, HS2, HS3, HS4⟩, ⟨HS5, HS6, HS7, HS8⟩⟩
  iapply (post_ins m c t)
  rw [show (dats m 0 c).leavesExact 15 t = owns (c : Thread nD τ) (ms0_15 t) fullShare ((dats m 0 c).after 15 t) from by
    unfold Dat.leavesExact; rw [liveAt0_15_E t h.1 h.2], after0_15]
  rw [show (dats m 0 c).leavesExact 16 t = owns (c : Thread nD τ) (ms0_16 t) fullShare ((dats m 0 c).after 16 t) from by
    unfold Dat.leavesExact; rw [idleAt0_16_E t h.1 h.2, flushAt0_16_E t h.1 h.2], after0_16]
  rw [show (dats m 0 c).leavesExact 17 t = owns (c : Thread nD τ) (ms0_17 t) fullShare ((dats m 0 c).after 17 t) from by
    unfold Dat.leavesExact; rw [idleAt0_17_E t h.1 h.2, flushAt0_17_E t h.1 h.2], after0_17]
  rw [nextAt_eq, stepAt_E c _ _ h]
  unfold scratchAt
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [HI]; · iexact HI
  isplitl [H15]; · iexact H15
  isplitl [H16]; · iexact H16
  iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  rcases point_cases t with h | h | h | h | h
  · exact sound_A m c t h.1 h.2
  · exact sound_B m c t h.1 h.2
  · exact sound_C m c t h.1 h.2
  · exact sound_D m c t h.1 h.2
  · exact sound_E m c t h.1 h.2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scratchAt
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexact HS5
    isplitl [HS6]
    · iexact HS6
    isplitl [HS7]
    · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KI.Steps.lean ====
/- What one grid step makes of a head's state and of the two sample tokens' states, over any float values. -/
module

public import proofs.«01_k».proof.Proof.KI.Bundle
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The prompt's state -/

/-- Head `h`'s keys in a chunk. -/
def keys (x : Xs F) (h : Fin 4) : Vec F S128x256 .bf16 :=
  View.ld x.x1 (Rect.unit (s := S128x1024) ![0, 256 * h.val] S128x256.size (fun a => by fin_cases a <;> fin_cases h <;> decide))

/-- Head `h`'s values in a chunk. -/
def vals (x : Xs F) (h : Fin 4) : Vec F S128x512 .bf16 :=
  View.ld x.x2 (Rect.unit (s := S128x2048) ![0, 512 * h.val] S128x512.size (fun a => by fin_cases a <;> fin_cases h <;> decide))

/-- Head `h`'s log decays in a chunk, the high halves beside the low halves. -/
def logs (x : Xs F) (h : Fin 4) : Vec F S128x512 .bf16 :=
  View.ld x.x4 (Rect.unit (s := S128x2048) ![0, 512 * h.val] S128x512.size (fun a => by fin_cases a <;> fin_cases h <;> decide))

/-- Head `h`'s decay sums in a chunk: the running sums in the first 128 rows. -/
def sums (x : Xs F) (h : Fin 4) : Vec F S1024x256 .f32 := k0_pay12 (logs x h) x.x7

/-- Head `h`'s state after a chunk, from its state `st` before. -/
def chunk (x : Xs F) (h : Fin 4) (st : Vec F S512x256 .f32) : Vec F S512x256 .f32 :=
  k0_pay67 (k0_pay15 (keys x h)) (vals x h)
    (View.ld (sums x h) (Rect.unit (s := S1024x256) ![0, 0] S128x256.size inb_S1024x256_S128x256_0_0))
    (View.ld (sums x h) (Rect.unit (s := S1024x256) ![127, 0] S1x256.size inb_S1024x256_S1x256_127_0)) st

/-- Head `h`'s state at the start of a sequence. -/
def start (x : Xs F) (h : Fin 4) : Vec F S512x256 .f32 :=
  shapeCast S512x256 (shapeCast S512x256 (View.ld x.x6 (Rect.unit (s := S4x512x256) ![h.val, 0, 0] S1x512x256.size (fun a => by fin_cases a <;> fin_cases h <;> decide))) shapeCasts_S1x512x256_S512x256) shapeCasts_S512x256_S512x256

/-! ## The sample tokens' states -/

/-- The column that picks row `w`, in each of 128 columns. -/
def pickCol (w : BitVec 32) : FVec F S128x128 .bf16 :=
  truncf .bf16 (sitofp .f32 (extui 32 (cmpi .eq (iota .tc S128x128 32 [0] iota_S128x128_d0_w32) (broadcast S128x128 w)) natLt_1_32)) bitsLt_bf16_f32

/-- The row that picks row `w`, in each of 8 rows. -/
def pickRow (w : BitVec 32) : FVec F S8x128 .bf16 :=
  truncf .bf16 (sitofp .f32 (extui 32 (cmpi .eq (iota .tc S8x128 32 [1] iota_S8x128_d1_w32) (broadcast S8x128 w)) natLt_1_32)) bitsLt_bf16_f32

/-- Row `w` of `a` as a column, in each of 128 columns. -/
def column (w : BitVec 32) (a : Vec F S128x256 .bf16) : FVec F S256x128 .f32 :=
  matmul dot_S128x256_S128x128_S256x128_0_0_1_1_n_n none a (pickCol w) (constant S256x128 .f32 0x00000000#32)

/-- A column of 128 equal columns widened to 512. -/
def widen (a : FVec F S256x128 .f32) : FVec F S256x512 .f32 :=
  concatenate S256x512 1 [⟨S256x128, a⟩, ⟨S256x128, a⟩, ⟨S256x128, a⟩, ⟨S256x128, a⟩] concatenates_S256x128_S256x128_S256x128_S256x128_S256x512_d1

/-- The 128 sample rows of head `h`: keys, the halves of the log decays, values. -/
def skeys (x : Xs F) (h : Fin 4) : Vec F S128x256 .bf16 :=
  View.ld x.x10 (Rect.unit (s := S128x1024) ![0, 256 * h.val] S128x256.size (fun a => by fin_cases a <;> fin_cases h <;> decide))
def slogHi (x : Xs F) (h : Fin 4) : Vec F S128x256 .bf16 :=
  View.ld x.x13 (Rect.unit (s := S128x2048) ![0, 512 * h.val] S128x256.size (fun a => by fin_cases a <;> fin_cases h <;> decide))
def slogLo (x : Xs F) (h : Fin 4) : Vec F S128x256 .bf16 :=
  View.ld x.x13 (Rect.unit (s := S128x2048) ![0, 512 * h.val + 256] S128x256.size (fun a => by fin_cases a <;> fin_cases h <;> decide))
def svals (x : Xs F) (h : Fin 4) : Vec F S128x512 .bf16 :=
  View.ld x.x11 (Rect.unit (s := S128x2048) ![0, 512 * h.val] S128x512.size (fun a => by fin_cases a <;> fin_cases h <;> decide))

/-- Token `w`'s state of head `h`, from its state `s` before. -/
def token (w : BitVec 32) (x : Xs F) (h : Fin 4) (s : Vec F S1x1x256x512 .f32) : Vec F S1x1x256x512 .f32 :=
  shapeCast S1x1x256x512
    (addf (mulf (widen (exp (addf (column w (shapeCast S128x256 (slogHi x h) shapeCasts_S128x256_S128x256)) (column w (shapeCast S128x256 (slogLo x h) shapeCasts_S128x256_S128x256))))) (shapeCast S256x512 s shapeCasts_S1x1x256x512_S256x512))
      (mulf (widen (column w (skeys x h)))
        (broadcastTo S256x512 (extractStridedSlice S1x512 ![0, 0]
          (matmul dot_S8x128_S128x512_S8x512_1_0_0_1_n_n none (pickRow w) (svals x h) (constant S8x512 .f32 0x00000000#32))
          slices_S8x512_o0_0_S1x512) broadcasts_S1x512_S256x512)))
    shapeCasts_S256x512_S1x1x256x512

/-- The tile of token `j` and head `h` in the two tokens' states. -/
abbrev tileAt (j : Fin 2) (h : Fin 4) : Rect S2x4x256x512 :=
  Rect.unit (s := S2x4x256x512) ![j.val, h.val, 0, 0] S1x1x256x512.size (fun a => by fin_cases a <;> fin_cases j <;> fin_cases h <;> decide)

/-- The tile that a grid step stores for token `j` and head `h`, `w` being the step's number. -/
def tile (w : BitVec 32) (x : Xs F) (j : Fin 2) (h : Fin 4) : View.Piece (Elt F) S2x4x256x512 .f32 :=
  ⟨tileAt j h, token (Scalar.addi (Scalar.muli w 2#32) (BitVec.ofNat 32 j.val)) x h (View.ld x.x14 (tileAt j h))⟩

/-- All eight, last first. -/
def tiles (w : BitVec 32) (x : Xs F) : List (View.Piece (Elt F) S2x4x256x512 .f32) :=
  [tile w x 1 3, tile w x 0 3, tile w x 1 2, tile w x 0 2, tile w x 1 1, tile w x 0 1, tile w x 1 0, tile w x 0 0]

/-- A state turned, as the result holds it. -/
def turned (s : Vec F S512x256 .f32) : Vec F S1x1x256x512 .f32 :=
  shapeCast S1x1x256x512 (transpose S256x512 [1, 0] s transposes_S512x256_p1_0_S256x512) shapeCasts_S256x512_S1x1x256x512

/-- The tile of head `h` in a sequence's final states. -/
abbrev finalAt (h : Fin 4) : Rect S1x4x256x512 :=
  Rect.unit (s := S1x4x256x512) ![0, h.val, 0, 0] S1x1x256x512.size (fun a => by fin_cases a <;> fin_cases h <;> decide)

/-- What the sequence's last step stores of the heads' states, last first. -/
def finals (s : Fin 4 → Vec F S512x256 .f32) : List (View.Piece (Elt F) S1x4x256x512 .f32) :=
  [⟨finalAt 3, turned (s 3)⟩, ⟨finalAt 2, turned (s 2)⟩, ⟨finalAt 1, turned (s 1)⟩, ⟨finalAt 0, turned (s 0)⟩]

/-- A load of part of what one store of the whole left. -/
theorem readCov_whole {S : Shape} {e : EltTy} {κ : Kind} {sp : Space} (v : View sig κ sp S e) {off : Fin S.rank → ℕ} (hz : off = fun _ => 0)
    (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon', View.canon_unit_zero hz]

end Cert.KernelIdeal.Gen

end
-- ==== Proof.KI.ValA.lean ====
/- What case A leaves in the heads' states and in the outputs, in terms of the grid step's functions. -/
module

public import proofs.«01_k».proof.Proof.KI.Steps
public import proofs.«01_k».proof.Proof.KI.CaseA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- Each head's state takes one chunk further. -/
theorem statesA (c : Dev nD) (i : grid0.Coords) (r : Rf) (h : CaseA i) (x : Xs F) (p : Outs F) :
    (outsA c i r h x p).s1 = chunk x 0 (start x 0) ∧ (outsA c i r h x p).s2 = chunk x 1 (start x 1)
      ∧ (outsA c i r h x p).s3 = chunk x 2 (start x 2) ∧ (outsA c i r h x p).s4 = chunk x 3 (start x 3) := by
  have hz : (![0, 0] : Fin S512x256.rank → ℕ) = fun _ => 0 := by funext a; fin_cases a <;> rfl
  have hz' : (![0, 0] : Fin S1024x256.rank → ℕ) = fun _ => 0 := by funext a; fin_cases a <;> rfl
  dsimp only [outsA]
  simp only [View.read_writes_junk_eq_canon]
  unfold pcA kernelRun0_A
  dsimp only
  sl_unfold_words
  simp only [View.readAt_eq_ld, Memref.IsWhole.read_unread]
  refine ⟨?_, ?_, ?_, ?_⟩
  all_goals
    simp only [View.canon_cons_unit_zero (S := S512x256) hz, readCov_whole (S := S512x256) _ hz, readCov_whole (S := S1024x256) _ hz', View.ld_unit_zero (S := S512x256) hz,
      View.ld_unit_zero (S := S1024x256) hz']
    rfl

set_option maxHeartbeats 4000000 in
theorem tilesA (c : Dev nD) (i : grid0.Coords) (r : Rf) (h : CaseA i) (x : Xs F) (p : Outs F) :
    (pcA c i r h x).2.2.1 = tiles (BitVec.ofNat 32 (i 0).val) x := by
  unfold pcA kernelRun0_A
  dsimp only
  sl_unfold_words
  simp only [View.readAt_eq_ld, Memref.IsWhole.read_unread]
  rfl

end Cert.KernelIdeal.Gen

end
-- ==== Proof.KI.ValB.lean ====
/- What case B leaves in the heads' states and in the outputs, in terms of the grid step's functions. -/
module

public import proofs.«01_k».proof.Proof.KI.Steps
public import proofs.«01_k».proof.Proof.KI.CaseB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- Each head's state takes one chunk further. -/
theorem statesB (c : Dev nD) (i : grid0.Coords) (r : Rf) (h : CaseB i) (x : Xs F) (p : Outs F) :
    (outsB c i r h x p).s1 = chunk x 0 (p.s1) ∧ (outsB c i r h x p).s2 = chunk x 1 (p.s2)
      ∧ (outsB c i r h x p).s3 = chunk x 2 (p.s3) ∧ (outsB c i r h x p).s4 = chunk x 3 (p.s4) := by
  have hz : (![0, 0] : Fin S512x256.rank → ℕ) = fun _ => 0 := by funext a; fin_cases a <;> rfl
  have hz' : (![0, 0] : Fin S1024x256.rank → ℕ) = fun _ => 0 := by funext a; fin_cases a <;> rfl
  dsimp only [outsB]
  simp only [View.read_writes_junk_eq_canon]
  unfold pcB kernelRun0_B
  dsimp only
  sl_unfold_words
  simp only [View.readAt_eq_ld, Memref.IsWhole.read_unread]
  refine ⟨?_, ?_, ?_, ?_⟩
  all_goals
    simp only [View.canon_cons_unit_zero (S := S512x256) hz, readCov_whole (S := S512x256) _ hz, readCov_whole (S := S1024x256) _ hz', View.ld_unit_zero (S := S512x256) hz,
      View.ld_unit_zero (S := S1024x256) hz']
    rfl

set_option maxHeartbeats 4000000 in
theorem tilesB (c : Dev nD) (i : grid0.Coords) (r : Rf) (h : CaseB i) (x : Xs F) (p : Outs F) :
    (pcB c i r h x p).2.2.1 = tiles (BitVec.ofNat 32 (i 0).val) x := by
  unfold pcB kernelRun0_B
  dsimp only
  sl_unfold_words
  simp only [View.readAt_eq_ld, Memref.IsWhole.read_unread]
  rfl

end Cert.KernelIdeal.Gen

end
-- ==== Proof.KI.ValC.lean ====
/- What case C leaves in the heads' states and in the outputs, in terms of the grid step's functions. -/
module

public import proofs.«01_k».proof.Proof.KI.Steps
public import proofs.«01_k».proof.Proof.KI.CaseC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- Each head's state takes one chunk further. -/
theorem statesC (c : Dev nD) (i : grid0.Coords) (r : Rf) (h : CaseC i) (x : Xs F) (p : Outs F) :
    (outsC c i r h x p).s1 = chunk x 0 (p.s1) ∧ (outsC c i r h x p).s2 = chunk x 1 (p.s2)
      ∧ (outsC c i r h x p).s3 = chunk x 2 (p.s3) ∧ (outsC c i r h x p).s4 = chunk x 3 (p.s4) := by
  have hz : (![0, 0] : Fin S512x256.rank → ℕ) = fun _ => 0 := by funext a; fin_cases a <;> rfl
  have hz' : (![0, 0] : Fin S1024x256.rank → ℕ) = fun _ => 0 := by funext a; fin_cases a <;> rfl
  dsimp only [outsC]
  simp only [View.read_writes_junk_eq_canon]
  unfold pcC kernelRun0_C
  dsimp only
  sl_unfold_words
  simp only [View.readAt_eq_ld, Memref.IsWhole.read_unread]
  refine ⟨?_, ?_, ?_, ?_⟩
  all_goals
    simp only [View.canon_cons_unit_zero (S := S512x256) hz, readCov_whole (S := S512x256) _ hz, readCov_whole (S := S1024x256) _ hz', View.ld_unit_zero (S := S512x256) hz,
      View.ld_unit_zero (S := S1024x256) hz']
    rfl

set_option maxHeartbeats 4000000 in
theorem tilesC (c : Dev nD) (i : grid0.Coords) (r : Rf) (h : CaseC i) (x : Xs F) (p : Outs F) :
    (pcC c i r h x p).2.2.1 = tiles (BitVec.ofNat 32 (i 0).val) x := by
  unfold pcC kernelRun0_C
  dsimp only
  sl_unfold_words
  simp only [View.readAt_eq_ld, Memref.IsWhole.read_unread]
  rfl

set_option maxHeartbeats 4000000 in
/-- The final states of the step's sequence. -/
theorem finalsC (c : Dev nD) (i : grid0.Coords) (r : Rf) (h : CaseC i) (x : Xs F) (p : Outs F) :
    (pcC c i r h x p).2.1 = finals ![chunk x 0 p.s1, chunk x 1 p.s2, chunk x 2 p.s3, chunk x 3 p.s4] := by
  have hz : (![0, 0] : Fin S512x256.rank → ℕ) = fun _ => 0 := by funext a; fin_cases a <;> rfl
  have hz' : (![0, 0] : Fin S1024x256.rank → ℕ) = fun _ => 0 := by funext a; fin_cases a <;> rfl
  unfold pcC kernelRun0_C
  dsimp only
  sl_unfold_words
  simp only [View.readAt_eq_ld, Memref.IsWhole.read_unread]
  simp only [readCov_whole (S := S512x256) _ hz, readCov_whole (S := S1024x256) _ hz', View.ld_unit_zero (S := S512x256) hz,
      View.ld_unit_zero (S := S1024x256) hz']
  rfl

end Cert.KernelIdeal.Gen

end
-- ==== Proof.KI.ValD.lean ====
/- What case D leaves in the heads' states and in the outputs, in terms of the grid step's functions. -/
module

public import proofs.«01_k».proof.Proof.KI.Steps
public import proofs.«01_k».proof.Proof.KI.CaseD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- Each head's state takes one chunk further. -/
theorem statesD (c : Dev nD) (i : grid0.Coords) (r : Rf) (h : CaseD i) (x : Xs F) (p : Outs F) :
    (outsD c i r h x p).s1 = chunk x 0 (start x 0) ∧ (outsD c i r h x p).s2 = chunk x 1 (start x 1)
      ∧ (outsD c i r h x p).s3 = chunk x 2 (start x 2) ∧ (outsD c i r h x p).s4 = chunk x 3 (start x 3) := by
  have hz : (![0, 0] : Fin S512x256.rank → ℕ) = fun _ => 0 := by funext a; fin_cases a <;> rfl
  have hz' : (![0, 0] : Fin S1024x256.rank → ℕ) = fun _ => 0 := by funext a; fin_cases a <;> rfl
  dsimp only [outsD]
  simp only [View.read_writes_junk_eq_canon]
  unfold pcD kernelRun0_D
  dsimp only
  sl_unfold_words
  simp only [View.readAt_eq_ld, Memref.IsWhole.read_unread]
  refine ⟨?_, ?_, ?_, ?_⟩
  all_goals
    simp only [View.canon_cons_unit_zero (S := S512x256) hz, readCov_whole (S := S512x256) _ hz, readCov_whole (S := S1024x256) _ hz', View.ld_unit_zero (S := S512x256) hz,
      View.ld_unit_zero (S := S1024x256) hz']
    rfl

set_option maxHeartbeats 4000000 in
theorem tilesD (c : Dev nD) (i : grid0.Coords) (r : Rf) (h : CaseD i) (x : Xs F) (p : Outs F) :
    (pcD c i r h x p).2.2.1 = tiles (BitVec.ofNat 32 (i 0).val) x := by
  unfold pcD kernelRun0_D
  dsimp only
  sl_unfold_words
  simp only [View.readAt_eq_ld, Memref.IsWhole.read_unread]
  rfl

end Cert.KernelIdeal.Gen

end
-- ==== Proof.Math.Decay.lean ====
/- The decayed sum over the extended reals: folding it chunk by chunk gives the sum over the whole sequence. -/
module

public import Idealize.ShloMosaic.PureOps.Ideal

@[expose] public section

noncomputable section

namespace Cert.Decay

/-- Multiplication by a non-negative real distributes over addition. -/
theorem add_mul_coe (a b : EReal) (p : ℝ) (hp : 0 ≤ p) : (a + b) * (p : EReal) = a * p + b * p :=
  EReal.right_distrib_of_nonneg_of_ne_top (EReal.coe_nonneg.mpr hp) (EReal.coe_ne_top p) a b

/-- And over a finite sum. -/
theorem sum_mul_coe {ι : Type} (s : Finset ι) (f : ι → EReal) (p : ℝ) (hp : 0 ≤ p) :
    (∑ i ∈ s, f i) * (p : EReal) = ∑ i ∈ s, f i * p := by
  classical
  induction s using Finset.induction_on with
  | empty => simp
  | insert a s ha ih => rw [Finset.sum_insert ha, Finset.sum_insert ha, add_mul_coe _ _ _ hp, ih]

/-- The sum of the first `n` log decays. -/
def pre (r : ℕ → ℝ) (n : ℕ) : ℝ := ∑ m ∈ Finset.range n, r m

theorem pre_add (r : ℕ → ℝ) (n k : ℕ) : pre r (n + k) = pre r n + pre (fun i => r (n + i)) k := by
  unfold pre
  rw [Finset.sum_range_add]

/-- The state after `n` positions, in closed form. -/
def closed (r : ℕ → ℝ) (k v : ℕ → EReal) (S0 : EReal) (n : ℕ) : EReal :=
  S0 * ((Real.exp (pre r n) : ℝ) : EReal)
    + ∑ i ∈ Finset.range n, v i * (k i * ((Real.exp (pre r n - pre r (i + 1)) : ℝ) : EReal))

/-- One chunk of `c` positions takes the closed form at `n` to the closed form at `n + c`. -/
theorem closed_add (r : ℕ → ℝ) (k v : ℕ → EReal) (S0 : EReal) (n c : ℕ) :
    closed r k v S0 n * ((Real.exp (pre (fun i => r (n + i)) c) : ℝ) : EReal)
        + ∑ i ∈ Finset.range c, v (n + i) * (k (n + i) * ((Real.exp (pre (fun i => r (n + i)) c - pre (fun i => r (n + i)) (i + 1)) : ℝ) : EReal))
      = closed r k v S0 (n + c) := by
  unfold closed
  rw [add_mul_coe _ _ _ (Real.exp_pos _).le, sum_mul_coe _ _ _ (Real.exp_pos _).le, Finset.sum_range_add, ← add_assoc]
  congr 1
  · congr 1
    · rw [mul_assoc, ← EReal.coe_mul, ← Real.exp_add, ← pre_add]
    · refine Finset.sum_congr rfl fun i _ => ?_
      rw [mul_assoc, mul_assoc, ← EReal.coe_mul, ← Real.exp_add, pre_add r n c]
      congr 3
      ring_nf
  · refine Finset.sum_congr rfl fun i _ => ?_
    rw [pre_add r n c, show n + i + 1 = n + (i + 1) from rfl, pre_add r n (i + 1)]
    congr 3
    ring_nf

end Cert.Decay

end
-- ==== Proof.Math.Cum.lean ====
/- Arrays read at natural numbers, and the running sum along the third of four axes, as it is written with windows. -/
module

public import Idealize.ShloMosaic.PureOps.Ideal
public import Idealize.ShloMosaic.Lib.ValueIdx

@[expose] public section

noncomputable section

namespace Cert.Decay

open Idealize.ShloMosaic

/-- The index of row `n`, column `c`. -/
def ij {A B : ℕ} (n c : ℕ) (hn : n < A) (hc : c < B) : (⟨2, ![A, B]⟩ : Shape).Idx :=
  fun a => match a with | ⟨0, _⟩ => ⟨n, hn⟩ | ⟨1, _⟩ => ⟨c, hc⟩

/-- The same with three axes. -/
def ijk {A B C : ℕ} (n c d : ℕ) (hn : n < A) (hc : c < B) (hd : d < C) : (⟨3, ![A, B, C]⟩ : Shape).Idx :=
  fun a => match a with | ⟨0, _⟩ => ⟨n, hn⟩ | ⟨1, _⟩ => ⟨c, hc⟩ | ⟨2, _⟩ => ⟨d, hd⟩

/-- The same with four. -/
def ijkl {A B C D : ℕ} (n c d e : ℕ) (hn : n < A) (hc : c < B) (hd : d < C) (he : e < D) : (⟨4, ![A, B, C, D]⟩ : Shape).Idx :=
  fun a => match a with | ⟨0, _⟩ => ⟨n, hn⟩ | ⟨1, _⟩ => ⟨c, hc⟩ | ⟨2, _⟩ => ⟨d, hd⟩ | ⟨3, _⟩ => ⟨e, he⟩

/-- A matrix's entry at row `n`, column `c`; zero outside. -/
def at2 {A B : ℕ} (x : (⟨2, ![A, B]⟩ : Shape).Idx → EReal) (n c : ℕ) : EReal :=
  if h : n < A ∧ c < B then x (ij n c h.1 h.2) else 0

theorem at2_val {A B : ℕ} (x : (⟨2, ![A, B]⟩ : Shape).Idx → EReal) (i : (⟨2, ![A, B]⟩ : Shape).Idx) :
    x i = at2 x (i 0).val (i 1).val := by
  unfold at2
  rw [dif_pos ⟨(i 0).isLt, (i 1).isLt⟩]
  congr 1
  funext a
  match a with
  | ⟨0, _⟩ => rfl
  | ⟨1, _⟩ => rfl

/-- The same with three axes. -/
def at3 {A B C : ℕ} (x : (⟨3, ![A, B, C]⟩ : Shape).Idx → EReal) (n c d : ℕ) : EReal :=
  if h : n < A ∧ c < B ∧ d < C then x (ijk n c d h.1 h.2.1 h.2.2) else 0

theorem at3_val {A B C : ℕ} (x : (⟨3, ![A, B, C]⟩ : Shape).Idx → EReal) (i : (⟨3, ![A, B, C]⟩ : Shape).Idx) :
    x i = at3 x (i 0).val (i 1).val (i 2).val := by
  unfold at3
  rw [dif_pos ⟨(i 0).isLt, (i 1).isLt, (i 2).isLt⟩]
  congr 1
  funext a
  match a with
  | ⟨0, _⟩ => rfl
  | ⟨1, _⟩ => rfl
  | ⟨2, _⟩ => rfl

/-- The same with four. -/
def at4 {A B C D : ℕ} (x : (⟨4, ![A, B, C, D]⟩ : Shape).Idx → EReal) (n c d e : ℕ) : EReal :=
  if h : n < A ∧ c < B ∧ d < C ∧ e < D then
    x (ijkl n c d e h.1 h.2.1 h.2.2.1 h.2.2.2) else 0

theorem at4_val {A B C D : ℕ} (x : (⟨4, ![A, B, C, D]⟩ : Shape).Idx → EReal) (i : (⟨4, ![A, B, C, D]⟩ : Shape).Idx) :
    x i = at4 x (i 0).val (i 1).val (i 2).val (i 3).val := by
  unfold at4
  rw [dif_pos ⟨(i 0).isLt, (i 1).isLt, (i 2).isLt, (i 3).isLt⟩]
  congr 1
  funext a
  match a with
  | ⟨0, _⟩ => rfl
  | ⟨1, _⟩ => rfl
  | ⟨2, _⟩ => rfl
  | ⟨3, _⟩ => rfl

theorem at2_of_lt {A B : ℕ} (x : (⟨2, ![A, B]⟩ : Shape).Idx → EReal) (n c : ℕ) (hn : n < A) (hc : c < B) :
    at2 x n c = x (ij n c hn hc) := by
  unfold at2
  rw [dif_pos ⟨hn, hc⟩]

/-- Adding a list's values one after the other from zero is its sum. -/
theorem foldl_add_sum {ι : Type} (l : List ι) (g : ι → EReal) (z : EReal) :
    l.foldl (fun r n => r + g n) z = z + (l.map g).sum := by
  induction l generalizing z with
  | nil => simp
  | cons a l ih => rw [List.foldl_cons, ih, List.map_cons, List.sum_cons, add_assoc]

/-- A window's positions, where only the third axis is longer than one. -/
def windowEquiv (N : ℕ) : Fin N ≃ (⟨4, ![1, 1, N, 1]⟩ : Shape).Idx where
  toFun n := fun a => match a with | ⟨0, _⟩ => ⟨0, Nat.one_pos⟩ | ⟨1, _⟩ => ⟨0, Nat.one_pos⟩ | ⟨2, _⟩ => n | ⟨3, _⟩ => ⟨0, Nat.one_pos⟩
  invFun i := i 2
  left_inv n := rfl
  right_inv i := by
    funext a
    match a with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => rfl
    | ⟨3, _⟩ => exact Fin.ext (by have : (i 3).val < 1 := (i 3).isLt; show 0 = (i 3).val; omega)

/-- The running sum along the third axis: entry `j` is the sum of the entries up to and including `j`. -/
theorem running_sum {A B N D M : ℕ} (hN : M + 1 = N) (x : (⟨4, ![A, B, N, D]⟩ : Shape).Idx → EReal) (z : EReal) (hz : z = 0)
    (h : (⟨4, ![A, B, N, D]⟩ : Shape).ReduceWindows (![1, 1, N, 1] : Fin 4 → ℕ) ![1, 1, 1, 1] ![0, 0, M, 0] ![0, 0, 0, 0] ⟨4, ![A, B, N, D]⟩)
    (i : (⟨4, ![A, B, N, D]⟩ : Shape).Idx) :
    Ideal.hostReduceWindowAdd (![1, 1, N, 1] : Fin 4 → ℕ) ![1, 1, 1, 1] ![0, 0, M, 0] ![0, 0, 0, 0] h x z i
      = ∑ n ∈ Finset.range ((i 2).val + 1), at4 x (i 0).val (i 1).val n (i 3).val := by
  subst hN
  subst hz
  unfold Ideal.hostReduceWindowAdd Host.reduceWindow
  refine (foldl_add_sum _ _ _).trans ?_
  rw [zero_add]
  have h2 : (i 2).val < M + 1 := (i 2).isLt
  have key : ∀ n : Fin (M + 1), (if hin : ∀ a : Fin 4, (![0, 0, M, 0] : Fin 4 → ℕ) a ≤ (i a).val * (![1, 1, 1, 1] : Fin 4 → ℕ) a + (windowEquiv (M + 1) n a).val
        ∧ (i a).val * (![1, 1, 1, 1] : Fin 4 → ℕ) a + (windowEquiv (M + 1) n a).val - (![0, 0, M, 0] : Fin 4 → ℕ) a < (⟨4, ![A, B, M + 1, D]⟩ : Shape).size a
      then x (fun a => ⟨_, (hin a).2⟩) else 0) = if M ≤ (i 2).val + n.val then at4 x (i 0).val (i 1).val ((i 2).val + n.val - M) (i 3).val else 0 := by
    intro n
    have hn := n.isLt
    split
    · next hin =>
      have e := (hin 2).1
      change M ≤ (i 2).val * 1 + n.val at e
      rw [if_pos (by omega)]
      refine (at4_val x _).trans ?_
      have e0 : (i 0).val * 1 + 0 - 0 = (i 0).val := by omega
      have e1 : (i 1).val * 1 + 0 - 0 = (i 1).val := by omega
      have e2 : (i 2).val * 1 + n.val - M = (i 2).val + n.val - M := by omega
      have e3 : (i 3).val * 1 + 0 - 0 = (i 3).val := by omega
      show at4 x ((i 0).val * 1 + 0 - 0) ((i 1).val * 1 + 0 - 0) ((i 2).val * 1 + n.val - M) ((i 3).val * 1 + 0 - 0) = _
      rw [e0, e1, e2, e3]
    · next hin =>
      rw [if_neg]
      intro hle
      refine hin fun a => ?_
      match a with
      | ⟨0, _⟩ => exact ⟨Nat.zero_le _, by have : (i 0).val < A := (i 0).isLt; show (i 0).val * 1 + 0 - 0 < A; omega⟩
      | ⟨1, _⟩ => exact ⟨Nat.zero_le _, by have : (i 1).val < B := (i 1).isLt; show (i 1).val * 1 + 0 - 0 < B; omega⟩
      | ⟨2, _⟩ =>
        refine ⟨?_, ?_⟩
        · show M ≤ (i 2).val * 1 + n.val
          omega
        · show (i 2).val * 1 + n.val - M < M + 1
          omega
      | ⟨3, _⟩ => exact ⟨Nat.zero_le _, by have : (i 3).val < D := (i 3).isLt; show (i 3).val * 1 + 0 - 0 < D; omega⟩
  rw [← Fin.sum_univ_def]
  refine (Equiv.sum_comp (⟨4, ![1, 1, M + 1, 1]⟩ : Shape).rowMajor.symm (fun w : (⟨4, ![1, 1, M + 1, 1]⟩ : Shape).Idx =>
    (if hin : ∀ a : Fin 4, (![0, 0, M, 0] : Fin 4 → ℕ) a ≤ (i a).val * (![1, 1, 1, 1] : Fin 4 → ℕ) a + (w a).val
        ∧ (i a).val * (![1, 1, 1, 1] : Fin 4 → ℕ) a + (w a).val - (![0, 0, M, 0] : Fin 4 → ℕ) a < (⟨4, ![A, B, M + 1, D]⟩ : Shape).size a
      then x (fun a => ⟨_, (hin a).2⟩) else 0))).trans ?_
  rw [← Equiv.sum_comp (windowEquiv (M + 1))]
  rw [Finset.sum_congr rfl fun n _ => key n, ← Finset.sum_filter]
  refine Finset.sum_bij' (fun n _ => (i 2).val + n.val - M) (fun m hm => ⟨m + M - (i 2).val, ?_⟩) ?_ ?_ ?_ ?_ ?_
  · have := Finset.mem_range.mp hm; omega
  · intro n hn
    have := (Finset.mem_filter.mp hn).2
    have := n.isLt
    exact Finset.mem_range.mpr (by omega)
  · intro m hm
    have := Finset.mem_range.mp hm
    exact Finset.mem_filter.mpr ⟨Finset.mem_univ _, by show M ≤ (i 2).val + (m + M - (i 2).val); omega⟩
  · intro n hn
    have := (Finset.mem_filter.mp hn).2
    exact Fin.ext (by show (i 2).val + n.val - M + M - (i 2).val = n.val; omega)
  · intro m hm
    show (i 2).val + (m + M - (i 2).val) - M = m
    have := Finset.mem_range.mp hm
    omega
  · intro n hn
    rfl

end Cert.Decay

end
-- ==== Proof.Val.Step.lean ====
/- A grid step's functions at the extended reals, read at an index. -/
module

public import proofs.«01_k».proof.Proof.KI.Steps
public import proofs.«01_k».proof.Proof.Math.Decay
public import proofs.«01_k».proof.Proof.Math.Cum
public import Idealize.ShloMosaic.Lib.Pipeline.Value
public import Idealize.ShloMosaic.Lib.Pipeline.ValueKit.Tiles
public import Idealize.ShloMosaic.PureOps.Ideal.Laws

@[expose] public section

noncomputable section

namespace Cert.KernelIdeal.Gen

open Cert.Decay Idealize.ShloMosaic Idealize.ShloMosaic.TcCoe

/-- A product of matrices into zero, its contraction's two factors named at each position. -/
theorem product_sum {sl sr so : Shape} {φ₁ φ₂ : FTy} (d : DotDims sl sr so) (l : FVec Ideal sl φ₁) (r : FVec Ideal sr φ₂) (j : so.Idx)
    (n : ℕ) (hr : d.contr.rank = 1) (hs : d.contr.size ⟨0, by omega⟩ = n) (f g : ℕ → EReal)
    (hf : ∀ q : d.contr.Idx, l (d.lhsIdx j q) = f (q ⟨0, by omega⟩).val) (hg : ∀ q : d.contr.Idx, r (d.rhsIdx j q) = g (q ⟨0, by omega⟩).val) :
    (matmul d none l r (constant so .f32 0x00000000#32) : FVec Ideal so .f32) j = ∑ k ∈ Finset.range n, f k * g k := by
  refine (Ideal.matmul_constant_zero_apply d none l r j).trans ?_
  rw [Finset.sum_range, ← Equiv.sum_comp (ValueIdx.contrEquiv1 d n hr hs).symm]
  refine Finset.sum_congr rfl fun k _ => ?_
  rw [hf, hg, ValueIdx.contrEquiv1_symm_val d n hr hs k]

/-- The decay sums' product. -/
theorem product_sums (l : S1024x256.Idx → EReal) (r : S256x256.Idx → EReal) (j : S1024x256.Idx) :
    (matmul (φ₁ := .bf16) (φ₂ := .bf16) dot_S1024x256_S256x256_S1024x256_1_0_0_1_n_n none (l : FVec Ideal S1024x256 .bf16) (r : FVec Ideal S256x256 .bf16)
      (constant S1024x256 .f32 0x00000000#32) : FVec Ideal S1024x256 .f32) j
      = ∑ k ∈ Finset.range 256, at2 l (j 0).val k * at2 r k (j 1).val := by
  refine product_sum _ l r j 256 rfl rfl _ _ (fun q => ?_) (fun q => ?_)
  · refine (at2_val l _).trans (congrArg₂ (at2 l) ?_ (DotDims.lhsIdx_val_of_single _ rfl j q))
    unfold DotDims.lhsIdx
    rw [dif_neg (show ¬(0 : Fin S1024x256.rank) ∈ dot_S1024x256_S256x256_S1024x256_1_0_0_1_n_n.lhsBatch by decide),
      dif_pos (show (0 : Fin S1024x256.rank) ∈ dot_S1024x256_S256x256_S1024x256_1_0_0_1_n_n.lhsNonContracting by decide)]
    rfl
  · refine (at2_val r _).trans (congrArg₂ (at2 r) (DotDims.rhsIdx_val_of_single _ rfl j q) ?_)
    unfold DotDims.rhsIdx
    rw [dif_neg (show ¬(1 : Fin S256x256.rank) ∈ dot_S1024x256_S256x256_S1024x256_1_0_0_1_n_n.rhsBatch by decide),
      dif_pos (show (1 : Fin S256x256.rank) ∈ dot_S1024x256_S256x256_S1024x256_1_0_0_1_n_n.rhsNonContracting by decide)]
    rfl

/-- The state's product. -/
theorem product_state (l : S128x512.Idx → EReal) (r : S128x256.Idx → EReal) (j : S512x256.Idx) :
    (matmul (φ₁ := .bf16) (φ₂ := .bf16) dot_S128x512_S128x256_S512x256_0_0_1_1_n_n none (l : FVec Ideal S128x512 .bf16) (r : FVec Ideal S128x256 .bf16)
      (constant S512x256 .f32 0x00000000#32) : FVec Ideal S512x256 .f32) j
      = ∑ k ∈ Finset.range 128, at2 l k (j 0).val * at2 r k (j 1).val := by
  refine product_sum _ l r j 128 rfl rfl _ _ (fun q => ?_) (fun q => ?_)
  · refine (at2_val l _).trans (congrArg₂ (at2 l) (DotDims.lhsIdx_val_of_single _ rfl j q) ?_)
    unfold DotDims.lhsIdx
    rw [dif_neg (show ¬(1 : Fin S128x512.rank) ∈ dot_S128x512_S128x256_S512x256_0_0_1_1_n_n.lhsBatch by decide),
      dif_pos (show (1 : Fin S128x512.rank) ∈ dot_S128x512_S128x256_S512x256_0_0_1_1_n_n.lhsNonContracting by decide)]
    rfl
  · refine (at2_val r _).trans (congrArg₂ (at2 r) (DotDims.rhsIdx_val_of_single _ rfl j q) ?_)
    unfold DotDims.rhsIdx
    rw [dif_neg (show ¬(1 : Fin S128x256.rank) ∈ dot_S128x512_S128x256_S512x256_0_0_1_1_n_n.rhsBatch by decide),
      dif_pos (show (1 : Fin S128x256.rank) ∈ dot_S128x512_S128x256_S512x256_0_0_1_1_n_n.rhsNonContracting by decide)]
    rfl

/-- The picked column's product. -/
theorem product_column (l : S128x256.Idx → EReal) (r : S128x128.Idx → EReal) (j : S256x128.Idx) :
    (matmul (φ₁ := .bf16) (φ₂ := .bf16) dot_S128x256_S128x128_S256x128_0_0_1_1_n_n none (l : FVec Ideal S128x256 .bf16) (r : FVec Ideal S128x128 .bf16)
      (constant S256x128 .f32 0x00000000#32) : FVec Ideal S256x128 .f32) j
      = ∑ k ∈ Finset.range 128, at2 l k (j 0).val * at2 r k (j 1).val := by
  refine product_sum _ l r j 128 rfl rfl _ _ (fun q => ?_) (fun q => ?_)
  · refine (at2_val l _).trans (congrArg₂ (at2 l) (DotDims.lhsIdx_val_of_single _ rfl j q) ?_)
    unfold DotDims.lhsIdx
    rw [dif_neg (show ¬(1 : Fin S128x256.rank) ∈ dot_S128x256_S128x128_S256x128_0_0_1_1_n_n.lhsBatch by decide),
      dif_pos (show (1 : Fin S128x256.rank) ∈ dot_S128x256_S128x128_S256x128_0_0_1_1_n_n.lhsNonContracting by decide)]
    rfl
  · refine (at2_val r _).trans (congrArg₂ (at2 r) (DotDims.rhsIdx_val_of_single _ rfl j q) ?_)
    unfold DotDims.rhsIdx
    rw [dif_neg (show ¬(1 : Fin S128x128.rank) ∈ dot_S128x256_S128x128_S256x128_0_0_1_1_n_n.rhsBatch by decide),
      dif_pos (show (1 : Fin S128x128.rank) ∈ dot_S128x256_S128x128_S256x128_0_0_1_1_n_n.rhsNonContracting by decide)]
    rfl

/-- The picked row's product. -/
theorem product_row (l : S8x128.Idx → EReal) (r : S128x512.Idx → EReal) (j : S8x512.Idx) :
    (matmul (φ₁ := .bf16) (φ₂ := .bf16) dot_S8x128_S128x512_S8x512_1_0_0_1_n_n none (l : FVec Ideal S8x128 .bf16) (r : FVec Ideal S128x512 .bf16)
      (constant S8x512 .f32 0x00000000#32) : FVec Ideal S8x512 .f32) j
      = ∑ k ∈ Finset.range 128, at2 l (j 0).val k * at2 r k (j 1).val := by
  refine product_sum _ l r j 128 rfl rfl _ _ (fun q => ?_) (fun q => ?_)
  · refine (at2_val l _).trans (congrArg₂ (at2 l) ?_ (DotDims.lhsIdx_val_of_single _ rfl j q))
    unfold DotDims.lhsIdx
    rw [dif_neg (show ¬(0 : Fin S8x128.rank) ∈ dot_S8x128_S128x512_S8x512_1_0_0_1_n_n.lhsBatch by decide),
      dif_pos (show (0 : Fin S8x128.rank) ∈ dot_S8x128_S128x512_S8x512_1_0_0_1_n_n.lhsNonContracting by decide)]
    rfl
  · refine (at2_val r _).trans (congrArg₂ (at2 r) (DotDims.rhsIdx_val_of_single _ rfl j q) ?_)
    unfold DotDims.rhsIdx
    rw [dif_neg (show ¬(1 : Fin S128x512.rank) ∈ dot_S8x128_S128x512_S8x512_1_0_0_1_n_n.rhsBatch by decide),
      dif_pos (show (1 : Fin S128x512.rank) ∈ dot_S8x128_S128x512_S8x512_1_0_0_1_n_n.rhsNonContracting by decide)]
    rfl

/-- A part of a matrix, read. -/
theorem part_apply {A B C D : ℕ} (x : (⟨2, ![A, B]⟩ : Shape).Idx → EReal) (o₀ o₁ : ℕ)
    (inb : ∀ a, (![o₀, o₁] : Fin 2 → ℕ) a + (⟨2, ![C, D]⟩ : Shape).size a ≤ (⟨2, ![A, B]⟩ : Shape).size a) (j : (⟨2, ![C, D]⟩ : Shape).Idx) :
    x ((Rect.unit (s := ⟨2, ![A, B]⟩) ![o₀, o₁] (⟨2, ![C, D]⟩ : Shape).size inb).idx j) = at2 x (o₀ + (j 0).val) (o₁ + (j 1).val) := by
  refine (at2_val x _).trans (congrArg₂ (at2 x) ?_ ?_)
  · exact Rect.idx_unit_val (s := ⟨2, ![A, B]⟩) ![o₀, o₁] (⟨2, ![C, D]⟩ : Shape).size inb j 0
  · exact Rect.idx_unit_val (s := ⟨2, ![A, B]⟩) ![o₀, o₁] (⟨2, ![C, D]⟩ : Shape).size inb j 1

/-- A slice of a matrix, read. -/
theorem slice_at {A B C D : ℕ} (v : (⟨2, ![A, B]⟩ : Shape).Idx → EReal) (o₀ o₁ : ℕ)
    (hs : (⟨2, ![A, B]⟩ : Shape).Slices ![o₀, o₁] ⟨2, ![C, D]⟩) (n c : ℕ) (hn : n < C) (hc : c < D) :
    at2 (extractStridedSlice ⟨2, ![C, D]⟩ ![o₀, o₁] v hs) n c = at2 v (o₀ + n) (o₁ + c) := by
  refine (at2_of_lt _ n c hn hc).trans ?_
  unfold extractStridedSlice
  exact at2_val v _

/-- Two matrices, one above the other: a row of the upper one. -/
theorem stack_upper {A A' B T : ℕ} (u : (⟨2, ![A, B]⟩ : Shape).Idx → EReal) (l : (⟨2, ![A', B]⟩ : Shape).Idx → EReal)
    (hs : Shape.Concatenates [⟨2, ![A, B]⟩, ⟨2, ![A', B]⟩] ⟨2, ![T, B]⟩ 0) (n c : ℕ) (hn : n < A) (hT : n < T) (hc : c < B) :
    at2 (concatenate (α := EReal) ⟨2, ![T, B]⟩ 0 [⟨⟨2, ![A, B]⟩, u⟩, ⟨⟨2, ![A', B]⟩, l⟩] hs) n c = at2 u n c := by
  refine (at2_of_lt _ n c hT hc).trans ?_
  refine Eq.trans ?_ (at2_of_lt u n c hn hc).symm
  exact concatenate_pair_apply_left (s₁ := ⟨2, ![A, B]⟩) (s₂ := ⟨2, ![A', B]⟩) (0 : Fin 2) u l hs (ij n c hT hc) rfl
    (ij n c hn hc) (fun b => match b with | ⟨0, _⟩ => rfl | ⟨1, _⟩ => rfl)

/-- And a row of the lower one. -/
theorem stack_lower {A A' B T : ℕ} (u : (⟨2, ![A, B]⟩ : Shape).Idx → EReal) (l : (⟨2, ![A', B]⟩ : Shape).Idx → EReal)
    (hs : Shape.Concatenates [⟨2, ![A, B]⟩, ⟨2, ![A', B]⟩] ⟨2, ![T, B]⟩ 0) (n c : ℕ) (hn : n < A') (hT : A + n < T) (hc : c < B) :
    at2 (concatenate (α := EReal) ⟨2, ![T, B]⟩ 0 [⟨⟨2, ![A, B]⟩, u⟩, ⟨⟨2, ![A', B]⟩, l⟩] hs) (A + n) c = at2 l n c := by
  refine (at2_of_lt _ (A + n) c hT hc).trans ?_
  refine Eq.trans ?_ (at2_of_lt l n c hn hc).symm
  exact concatenate_pair_apply_right (s₁ := ⟨2, ![A, B]⟩) (s₂ := ⟨2, ![A', B]⟩) (0 : Fin 2) u l hs (ij (A + n) c hT hc) rfl rfl
    (ij n c hn hc) (fun b hb => match b with | ⟨0, _⟩ => absurd rfl hb | ⟨1, _⟩ => rfl) (Nat.add_comm n A)

/-! ## The prompt's state -/

variable (x : Xs Ideal) (h : Fin 4)

theorem keys_at (n c : ℕ) (hn : n < 128) (hc : c < 256) : at2 (keys x h) n c = at2 (A := 128) (B := 1024) x.x1 n (256 * h.val + c) := by
  refine (at2_of_lt _ n c hn hc).trans ((part_apply (A := 128) (B := 1024) (C := 128) (D := 256) x.x1 0 (256 * h.val) _ _).trans ?_)
  exact congrArg₂ (at2 _) (Nat.zero_add n) rfl

theorem vals_at (n c : ℕ) (hn : n < 128) (hc : c < 512) : at2 (vals x h) n c = at2 (A := 128) (B := 2048) x.x2 n (512 * h.val + c) := by
  refine (at2_of_lt _ n c hn hc).trans ((part_apply (A := 128) (B := 2048) (C := 128) (D := 512) x.x2 0 (512 * h.val) _ _).trans ?_)
  exact congrArg₂ (at2 _) (Nat.zero_add n) rfl

theorem logs_at (n c : ℕ) (hn : n < 128) (hc : c < 512) : at2 (logs x h) n c = at2 (A := 128) (B := 2048) x.x4 n (512 * h.val + c) := by
  refine (at2_of_lt _ n c hn hc).trans ((part_apply (A := 128) (B := 2048) (C := 128) (D := 512) x.x4 0 (512 * h.val) _ _).trans ?_)
  exact congrArg₂ (at2 _) (Nat.zero_add n) rfl

/-- The high halves above the low halves. -/
def halves (v : S128x512.Idx → EReal) : S256x256.Idx → EReal :=
  concatenate (α := EReal) S256x256 0 [⟨S128x256, extractStridedSlice S128x256 ![0, 0] v slices_S128x512_o0_0_S128x256⟩,
    ⟨S128x256, extractStridedSlice S128x256 ![0, 256] v slices_S128x512_o0_256_S128x256⟩] concatenates_S128x256_S128x256_S256x256_d0

theorem halves_hi (v : S128x512.Idx → EReal) (k c : ℕ) (hk : k < 128) (hc : c < 256) : at2 (halves v) k c = at2 v k c :=
  (stack_upper _ _ _ k c hk (by omega) hc).trans ((slice_at v 0 0 _ k c hk hc).trans (congrArg₂ (at2 v) (Nat.zero_add k) (Nat.zero_add c)))

theorem halves_lo (v : S128x512.Idx → EReal) (k c : ℕ) (hk : k < 128) (hc : c < 256) :
    at2 (halves v) (128 + k) c = at2 v k (256 + c) :=
  (stack_lower _ _ _ k c hk (by omega) hc).trans ((slice_at v 0 256 _ k c hk hc).trans (congrArg₂ (at2 v) (Nat.zero_add k) rfl))

theorem sums_eq (j : S1024x256.Idx) :
    (sums x h : S1024x256.Idx → EReal) j
      = ∑ k ∈ Finset.range 256, at2 (A := 1024) (B := 256) x.x7 (j 0).val k * at2 (halves (logs x h)) k (j 1).val := by
  have e : shapeCast S128x512 (logs x h) shapeCasts_S128x512_S128x512 = logs x h := shapeCast_self _ _
  unfold sums k0_pay12
  simp only [shapeCast_self x.x7, shapeCast_self (matmul (F := Ideal) _ _ _ _ _)]
  refine (product_sums x.x7 (halves (shapeCast S128x512 (logs x h) shapeCasts_S128x512_S128x512)) j).trans ?_
  rw [e]

theorem sum_pre (r : ℕ → ℝ) (n : ℕ) : (∑ m ∈ Finset.range n, ((r m : ℝ) : EReal)) = ((pre r n : ℝ) : EReal) := by
  unfold pre
  induction n with
  | zero => simp
  | succ n ih => rw [Finset.sum_range_succ, ih, Finset.sum_range_succ, EReal.coe_add]

/-- The first 128 rows of the decay sums are the running sums of the log decays. -/
theorem sums_at (r : ℕ → ℝ) (i c : ℕ) (hi : i < 128) (hc : c < 256)
    (h7 : ∀ m, m < 256 → at2 (A := 1024) (B := 256) x.x7 i m = if m % 128 ≤ i then 1 else 0)
    (hhi : ∀ m, m < 128 → at2 (A := 128) (B := 2048) x.x4 m (512 * h.val + c) = ((r m : ℝ) : EReal))
    (hlo : ∀ m, m < 128 → at2 (A := 128) (B := 2048) x.x4 m (512 * h.val + (256 + c)) = 0) :
    at2 (sums x h) i c = ((pre r (i + 1) : ℝ) : EReal) := by
  rw [at2_of_lt _ i c (by omega) hc]
  refine (sums_eq x h _).trans ?_
  show (∑ k ∈ Finset.range (128 + 128), at2 (A := 1024) (B := 256) x.x7 i k * at2 (halves (logs x h)) k c) = _
  rw [Finset.sum_range_add]
  have e2 : (∑ k ∈ Finset.range 128, at2 (A := 1024) (B := 256) x.x7 i (128 + k) * at2 (halves (logs x h)) (128 + k) c) = 0 := by
    refine Finset.sum_eq_zero fun k hk => ?_
    rw [halves_lo _ k c (Finset.mem_range.mp hk) hc, logs_at x h k (256 + c) (Finset.mem_range.mp hk) (by omega), hlo k (Finset.mem_range.mp hk), mul_zero]
  rw [e2, add_zero]
  have e1 : ∀ k ∈ Finset.range 128, at2 (A := 1024) (B := 256) x.x7 i k * at2 (halves (logs x h)) k c = if k ∈ Finset.range (i + 1) then ((r k : ℝ) : EReal) else 0 := by
    intro k hk
    have hk' := Finset.mem_range.mp hk
    rw [halves_hi _ k c hk' hc, logs_at x h k c hk' (by omega), hhi k hk', h7 k (by omega), Nat.mod_eq_of_lt hk']
    by_cases hle : k ≤ i
    · rw [if_pos hle, if_pos (Finset.mem_range.mpr (by omega)), one_mul]
    · rw [if_neg hle, if_neg (fun hm => hle (by have := Finset.mem_range.mp hm; omega)), zero_mul]
  rw [Finset.sum_congr rfl e1, Finset.sum_ite_mem, Finset.inter_eq_right.mpr (fun k hk => Finset.mem_range.mpr (by have := Finset.mem_range.mp hk; omega)), sum_pre]

/-- A chunk takes head `h`'s state on by the chunk's 128 positions. -/
theorem chunk_at (r : ℕ → ℝ) (st : Vec Ideal S512x256 .f32) (vv c : ℕ) (hvv : vv < 512) (hc : c < 256)
    (h7 : ∀ i m, i < 128 → m < 256 → at2 (A := 1024) (B := 256) x.x7 i m = if m % 128 ≤ i then 1 else 0)
    (hhi : ∀ m, m < 128 → at2 (A := 128) (B := 2048) x.x4 m (512 * h.val + c) = ((r m : ℝ) : EReal))
    (hlo : ∀ m, m < 128 → at2 (A := 128) (B := 2048) x.x4 m (512 * h.val + (256 + c)) = 0) :
    at2 (A := 512) (B := 256) (chunk x h st) vv c
      = at2 (A := 512) (B := 256) st vv c * ((Real.exp (pre r 128) : ℝ) : EReal)
        + ∑ i ∈ Finset.range 128, at2 (A := 128) (B := 2048) x.x2 i (512 * h.val + vv)
            * (at2 (A := 128) (B := 1024) x.x1 i (256 * h.val + c) * ((Real.exp (pre r 128 - pre r (i + 1)) : ℝ) : EReal)) := by
  have hlast : (View.ld (sums x h) (Rect.unit (s := S1024x256) ![127, 0] S1x256.size inb_S1024x256_S1x256_127_0) : S1x256.Idx → EReal)
      (ij 0 c Nat.one_pos hc) = ((pre r 128 : ℝ) : EReal) := by
    refine (part_apply (A := 1024) (B := 256) (C := 1) (D := 256) (sums x h) 127 0 _ _).trans ?_
    refine Eq.trans ?_ (sums_at x h r 127 c (by omega) hc (fun m => h7 127 m (by omega)) hhi hlo)
    exact congrArg₂ (at2 _) rfl (Nat.zero_add c)
  rw [at2_of_lt _ vv c hvv hc, at2_of_lt (A := 512) (B := 256) st vv c hvv hc]
  unfold chunk k0_pay67 k0_pay15
  rw [shapeCast_self]
  refine congrArg₂ (· + ·) ?_ ?_
  · refine congrArg₂ (· * ·) rfl ?_
    rw [broadcastTo_apply _ broadcasts_S1x256_S512x256 _ (ij 0 c Nat.one_pos hc)
      (fun a => match a with | ⟨0, _⟩ => rfl | ⟨1, _⟩ => rfl)]
    exact (congrArg Ideal.exp hlast).trans (Ideal.exp_coe _)
  · refine (product_state _ _ _).trans (Finset.sum_congr rfl fun i hi => ?_)
    have hi' := Finset.mem_range.mp hi
    refine congrArg₂ (· * ·) (vals_at x h i vv hi' hvv) ?_
    refine (at2_of_lt (A := 128) (B := 256) _ i c hi' hc).trans ?_
    refine congrArg₂ (· * ·) ((at2_of_lt _ i c hi' hc).symm.trans (keys_at x h i c hi' hc)) ?_
    have hb : (broadcastTo S128x256 (View.ld (sums x h) (Rect.unit (s := S1024x256) ![127, 0] S1x256.size inb_S1024x256_S1x256_127_0))
        broadcasts_S1x256_S128x256 : S128x256.Idx → EReal) (ij i c hi' hc) = ((pre r 128 : ℝ) : EReal) := by
      rw [broadcastTo_apply _ broadcasts_S1x256_S128x256 _ (ij 0 c Nat.one_pos hc)
        (fun a => match a with | ⟨0, _⟩ => rfl | ⟨1, _⟩ => rfl)]
      exact hlast
    have hs : (View.ld (sums x h) (Rect.unit (s := S1024x256) ![0, 0] S128x256.size inb_S1024x256_S128x256_0_0) : S128x256.Idx → EReal)
        (ij i c hi' hc) = ((pre r (i + 1) : ℝ) : EReal) := by
      refine (part_apply (A := 1024) (B := 256) (C := 128) (D := 256) (sums x h) 0 0 _ _).trans ?_
      refine Eq.trans ?_ (sums_at x h r i c hi' hc (fun m => h7 i m hi') hhi hlo)
      exact congrArg₂ (at2 _) (Nat.zero_add i) (Nat.zero_add c)
    exact (congrArg Ideal.exp ((congrArg₂ (· - ·) hb hs).trans (EReal.coe_sub _ _).symm)).trans (Ideal.exp_coe _)

/-- A sequence's state starts at the meta tokens' state. -/
theorem start_at (vv c : ℕ) (hvv : vv < 512) (hc : c < 256) :
    at2 (A := 512) (B := 256) (start x h) vv c = at3 (A := 4) (B := 512) (C := 256) x.x6 h.val vv c := by
  rw [at2_of_lt _ vv c hvv hc]
  unfold start
  rw [shapeCast_self, shapeCast_apply _ shapeCasts_S1x512x256_S512x256 _
    (ijk 0 vv c Nat.one_pos hvv hc)
    (by rewrite [Shape.rowMajor_val_two, Shape.rowMajor_val_three]; show (0 * 512 + vv) * 256 + c = vv * 256 + c; omega)]
  refine (at3_val (A := 4) (B := 512) (C := 256) x.x6 _).trans ?_
  refine congr (congrArg₂ (at3 _) ?_ ?_) ?_
  · exact (Rect.idx_unit_val _ _ _ _ 0).trans (Nat.add_zero _)
  · exact (Rect.idx_unit_val _ _ _ _ 1).trans (Nat.zero_add _)
  · exact (Rect.idx_unit_val _ _ _ _ 2).trans (Nat.zero_add _)

end Cert.KernelIdeal.Gen

end
-- ==== Proof.Val.Token.lean ====
/- A sample token's state, entry by entry: the products that pick a row, and the update. -/
module

public import proofs.«01_k».proof.Proof.Val.Step

@[expose] public section

noncomputable section

namespace Cert.KernelIdeal.Gen

open Idealize Idealize.ShloMosaic Cert.Decay

/-- One where the two numbers agree, zero elsewhere. -/
theorem agree_at (n k : ℕ) (hn : n < 128) (hk : k < 128) :
    ((((IntOp.cmpi .eq (BitVec.ofNat 32 k) (BitVec.ofNat 32 n)).setWidth 32).toInt : ℝ) : EReal) = if k = n then 1 else 0 := by
  unfold IntOp.cmpi
  by_cases h : k = n
  · subst h
    rw [if_pos rfl, show (BitVec.ofNat 32 k == BitVec.ofNat 32 k) = true from beq_self_eq_true _,
      show ((BitVec.ofBool true).setWidth 32).toInt = 1 from by decide]
    norm_num
  · have e : (BitVec.ofNat 32 k == BitVec.ofNat 32 n) = false := by
      refine beq_eq_false_iff_ne.mpr fun hh => h ?_
      have := congrArg BitVec.toNat hh
      rw [BitVec.toNat_ofNat, BitVec.toNat_ofNat] at this
      omega
    rw [if_neg h, e]
    norm_num

theorem pickCol_at (n k l : ℕ) (hn : n < 128) (hk : k < 128) (hl : l < 128) :
    at2 (A := 128) (B := 128) (pickCol (F := Ideal) (BitVec.ofNat 32 n)) k l = if k = n then 1 else 0 :=
  by
  refine (at2_of_lt _ k l hk hl).trans (Eq.trans ?_ (agree_at n k hn hk))
  show ((((IntOp.cmpi .eq (BitVec.ofNat 32 (0 * 128 + k)) (BitVec.ofNat 32 n)).setWidth 32).toInt : ℝ) : EReal) = _
  rw [Nat.zero_mul, Nat.zero_add]

theorem pickRow_at (n l k : ℕ) (hn : n < 128) (hl : l < 8) (hk : k < 128) :
    at2 (A := 8) (B := 128) (pickRow (F := Ideal) (BitVec.ofNat 32 n)) l k = if k = n then 1 else 0 :=
  by
  refine (at2_of_lt _ l k hl hk).trans (Eq.trans ?_ (agree_at n k hn hk))
  show ((((IntOp.cmpi .eq (BitVec.ofNat 32 (0 * 128 + k)) (BitVec.ofNat 32 n)).setWidth 32).toInt : ℝ) : EReal) = _
  rw [Nat.zero_mul, Nat.zero_add]

theorem column_at (n : ℕ) (a : S128x256.Idx → EReal) (i l : ℕ) (hn : n < 128) (hi : i < 256) (hl : l < 128) :
    at2 (A := 256) (B := 128) (column (F := Ideal) (BitVec.ofNat 32 n) a) i l = at2 a n i := by
  refine (at2_of_lt _ i l hi hl).trans ((product_column a _ _).trans ?_)
  rw [Finset.sum_congr rfl fun k hk => ?_, Finset.sum_ite_eq' (Finset.range 128) n (fun k => at2 a k i), if_pos (Finset.mem_range.mpr hn)]
  refine (congrArg (at2 a k i * ·) (pickCol_at n k l hn (Finset.mem_range.mp hk) hl)).trans ?_
  rw [mul_ite, mul_one, mul_zero]

theorem row_at (n : ℕ) (b : S128x512.Idx → EReal) (c : ℕ) (hn : n < 128) (hc : c < 512) :
    at2 (A := 8) (B := 512) (matmul (φ₁ := .bf16) (φ₂ := .bf16) dot_S8x128_S128x512_S8x512_1_0_0_1_n_n none (pickRow (F := Ideal) (BitVec.ofNat 32 n))
      (b : FVec Ideal S128x512 .bf16) (constant S8x512 .f32 0x00000000#32) : FVec Ideal S8x512 .f32) 0 c = at2 b n c := by
  refine (at2_of_lt _ 0 c (by omega) hc).trans ((product_row _ b _).trans ?_)
  rw [Finset.sum_congr rfl fun k hk => ?_, Finset.sum_ite_eq' (Finset.range 128) n (fun k => at2 b k c), if_pos (Finset.mem_range.mpr hn)]
  refine (congrArg (· * at2 b k c) (pickRow_at n 0 k hn (by omega) (Finset.mem_range.mp hk))).trans ?_
  rw [ite_mul, one_mul, zero_mul]

/-- The four equal parts of a widened column. -/
theorem widen_at (a : S256x128.Idx → EReal) (v : EReal) (i c : ℕ) (hi : i < 256) (hc : c < 512)
    (ha : ∀ l, l < 128 → at2 a i l = v) : (widen (F := Ideal) a : S256x512.Idx → EReal) (ij i c hi hc) = v := by
  unfold widen
  have part : ∀ (p : ℕ) (hp : p < 4), 128 * p ≤ c → ∀ hl : c - 128 * p < 128,
      (concatenate (α := EReal) S256x512 1 [⟨S256x128, a⟩, ⟨S256x128, a⟩, ⟨S256x128, a⟩, ⟨S256x128, a⟩]
        concatenates_S256x128_S256x128_S256x128_S256x128_S256x512_d1) (ij i c hi hc) = v := by
    intro p hp hle hl
    refine Eq.trans ?_ ((at2_of_lt a i (c - 128 * p) hi hl).symm.trans (ha _ hl))
    refine concatenate_apply_piece (t := S256x512) 1 [⟨S256x128, a⟩, ⟨S256x128, a⟩, ⟨S256x128, a⟩, ⟨S256x128, a⟩] _ (ij i c hi hc)
      p hp S256x128 a ?_ rfl (128 * p) ?_ (ij i (c - 128 * p) hi hl)
      (fun b hb => match b with | ⟨0, _⟩ => rfl | ⟨1, _⟩ => absurd rfl hb) (by show 128 * p + (c - 128 * p) = c; omega)
    · match p, hp with
      | 0, _ => rfl | 1, _ => rfl | 2, _ => rfl | 3, _ => rfl
    · match p, hp with
      | 0, _ => rfl | 1, _ => rfl | 2, _ => rfl | 3, _ => rfl
  exact part (c / 128) (by omega) (by omega) (by omega)

variable (x : Xs Ideal) (h : Fin 4)

theorem skeys_at (n c : ℕ) (hn : n < 128) (hc : c < 256) : at2 (skeys x h) n c = at2 (A := 128) (B := 1024) x.x10 n (256 * h.val + c) := by
  refine (at2_of_lt _ n c hn hc).trans ((part_apply (A := 128) (B := 1024) (C := 128) (D := 256) x.x10 0 (256 * h.val) _ _).trans ?_)
  exact congrArg₂ (at2 _) (Nat.zero_add n) rfl

theorem svals_at (n c : ℕ) (hn : n < 128) (hc : c < 512) : at2 (svals x h) n c = at2 (A := 128) (B := 2048) x.x11 n (512 * h.val + c) := by
  refine (at2_of_lt _ n c hn hc).trans ((part_apply (A := 128) (B := 2048) (C := 128) (D := 512) x.x11 0 (512 * h.val) _ _).trans ?_)
  exact congrArg₂ (at2 _) (Nat.zero_add n) rfl

theorem slogHi_at (n c : ℕ) (hn : n < 128) (hc : c < 256) : at2 (slogHi x h) n c = at2 (A := 128) (B := 2048) x.x13 n (512 * h.val + c) := by
  refine (at2_of_lt _ n c hn hc).trans ((part_apply (A := 128) (B := 2048) (C := 128) (D := 256) x.x13 0 (512 * h.val) _ _).trans ?_)
  exact congrArg₂ (at2 _) (Nat.zero_add n) rfl

theorem slogLo_at (n c : ℕ) (hn : n < 128) (hc : c < 256) : at2 (slogLo x h) n c = at2 (A := 128) (B := 2048) x.x13 n (512 * h.val + 256 + c) := by
  refine (at2_of_lt _ n c hn hc).trans ((part_apply (A := 128) (B := 2048) (C := 128) (D := 256) x.x13 0 (512 * h.val + 256) _ _).trans ?_)
  exact congrArg₂ (at2 _) (Nat.zero_add n) rfl

/-- Token `n`'s new state: its old state decayed, and the product of its key and value. -/
theorem token_at (n : ℕ) (hn : n < 128) (s : Vec Ideal S1x1x256x512 .f32) (j : S1x1x256x512.Idx) :
    (token (BitVec.ofNat 32 n) x h s : S1x1x256x512.Idx → EReal) j
      = Ideal.exp (at2 (A := 128) (B := 2048) x.x13 n (512 * h.val + (j 2).val) + at2 (A := 128) (B := 2048) x.x13 n (512 * h.val + 256 + (j 2).val)) * s j
        + at2 (A := 128) (B := 1024) x.x10 n (256 * h.val + (j 2).val) * at2 (A := 128) (B := 2048) x.x11 n (512 * h.val + (j 3).val) := by
  have h0 : (j 0).val = 0 := Nat.lt_one_iff.mp (j 0).isLt
  have h1 : (j 1).val = 0 := Nat.lt_one_iff.mp (j 1).isLt
  have hk : (j 2).val < 256 := (j 2).isLt
  have hv : (j 3).val < 512 := (j 3).isLt
  have hm : (S256x512.rowMajor (ij (j 2).val (j 3).val hk hv)).val = (S1x1x256x512.rowMajor j).val := by
    rw [Shape.rowMajor_val_two, Shape.rowMajor_val_four]
    show (j 2).val * 512 + (j 3).val = (((j 0).val * 1 + (j 1).val) * 256 + (j 2).val) * 512 + (j 3).val
    rw [h0, h1]; omega
  unfold token
  refine (shapeCast_apply _ _ j (ij (j 2).val (j 3).val hk hv) hm).trans ?_
  refine congrArg₂ (· + ·) (congrArg₂ (· * ·) ?_ ?_) (congrArg₂ (· * ·) ?_ ?_)
  · refine widen_at _ _ _ _ hk hv fun l hl => (at2_of_lt _ _ l hk hl).trans (congrArg Ideal.exp (congrArg₂ (· + ·) ?_ ?_))
    · rw [shapeCast_self]
      exact (at2_of_lt _ _ l hk hl).symm.trans ((column_at n _ _ l hn hk hl).trans (slogHi_at x h n _ hn hk))
    · rw [shapeCast_self]
      exact (at2_of_lt _ _ l hk hl).symm.trans ((column_at n _ _ l hn hk hl).trans (slogLo_at x h n _ hn hk))
  · exact shapeCast_apply s _ _ j hm.symm
  · exact widen_at _ _ _ _ hk hv fun l hl => (column_at n _ _ l hn hk hl).trans (skeys_at x h n _ hn hk)
  · refine (broadcastTo_apply _ broadcasts_S1x512_S256x512 _ (ij 0 (j 3).val Nat.one_pos hv)
      (fun a => match a with | ⟨0, _⟩ => rfl | ⟨1, _⟩ => rfl)).trans ?_
    refine (at2_of_lt _ 0 _ Nat.one_pos hv).symm.trans ((slice_at (A := 8) (B := 512) (C := 1) (D := 512) _ 0 0 _ 0 _ Nat.one_pos hv).trans ?_)
    rw [Nat.zero_add, Nat.zero_add]
    exact (row_at n _ _ hn hv).trans (svals_at x h n _ hn hv)

end Cert.KernelIdeal.Gen

end
-- ==== Proof.Val.Host.lean ====
/- What the host computes before the call: the log decays in halves, and the matrix of the running sums. -/
module

public import proofs.«01_k».proof.Proof.Val.Step

@[expose] public section

noncomputable section

namespace Cert.KernelIdeal.Gen

open Idealize Idealize.ShloMosaic Idealize.ShloMosaic.TcCoe Idealize.ShloMosaic.Tactic Cert.Decay

variable (m : (ℓ : Loc nD τ sig) → Buf (Elt Ideal) ℓ)

/-- What rounding off the high half leaves, rounded. -/
def rest (v : S8448x256.Idx → EReal) : S8448x256.Idx → EReal :=
  truncf (F := Ideal) .bf16 (subf (F := Ideal) (φ := .f32) v (extf (F := Ideal) .f32 (truncf (F := Ideal) (φ := .f32) .bf16 v bitsLt_bf16_f32) bitsLt_bf16_f32)) bitsLt_bf16_f32

/-- The log decays, each head's high halves beside its low halves. -/
def twoHalves (v : S8448x1024.Idx → EReal) : S8448x2048.Idx → EReal :=
  concatenate (α := EReal) S8448x2048 1
    [⟨S8448x256, extractStridedSlice S8448x256 ![0, 0] v slices_S8448x1024_S8448x256_0_0⟩, ⟨S8448x256, rest (extractStridedSlice S8448x256 ![0, 0] v slices_S8448x1024_S8448x256_0_0)⟩,
     ⟨S8448x256, extractStridedSlice S8448x256 ![0, 256] v slices_S8448x1024_S8448x256_0_256⟩, ⟨S8448x256, rest (extractStridedSlice S8448x256 ![0, 256] v slices_S8448x1024_S8448x256_0_256)⟩,
     ⟨S8448x256, extractStridedSlice S8448x256 ![0, 512] v slices_S8448x1024_S8448x256_0_512⟩, ⟨S8448x256, rest (extractStridedSlice S8448x256 ![0, 512] v slices_S8448x1024_S8448x256_0_512)⟩,
     ⟨S8448x256, extractStridedSlice S8448x256 ![0, 768] v slices_S8448x1024_S8448x256_0_768⟩, ⟨S8448x256, rest (extractStridedSlice S8448x256 ![0, 768] v slices_S8448x1024_S8448x256_0_768)⟩]
    concatenates_S8448x256_S8448x256_S8448x256_S8448x256_S8448x256_S8448x256_S8448x256_S8448x256_S8448x2048_d1

set_option maxHeartbeats 4000000 in
theorem V_halves (c : Dev nD) : V m c main_v20 = twoHalves (m ((c : Thread nD τ).loc main_arg1)) := by
  show StableHlo.after hostOps0 _ (Proc.devRef .tc main_v20) = _
  after_results
  rfl

/-- The matrix of the running sums: its first 128 rows are ones up to the diagonal. -/
def upTo : S128x128.Idx → EReal :=
  uitofp (F := Ideal) .f32 (cmpi .sle (broadcastInDim S128x128 ![0, 1] bcast_S1x128_S128x128_0_1 (broadcastInDim S1x128 ![1] bcast_S128_S1x128_1 (iotaInDim S128 32 0)))
    (broadcastInDim S128x128 ![0, 1] bcast_S128x1_S128x128_0_1 (fun i => lit0 (S128x1.rowMajor i))))

set_option maxHeartbeats 4000000 in
theorem V_sums (c : Dev nD) : ∃ p1 p2 p3 p4 p5 p6 p7 : S128x128.Idx → EReal, V m c main_v64
    = (fun a : S1024x128.Idx → EReal => concatenate (α := EReal) S1024x256 1 [⟨S1024x128, a⟩, ⟨S1024x128, a⟩] concatenates_S1024x128_S1024x128_S1024x256_d1)
      (concatenate (α := EReal) S1024x128 0 [⟨S128x128, upTo⟩, ⟨S128x128, p1⟩, ⟨S128x128, p2⟩, ⟨S128x128, p3⟩, ⟨S128x128, p4⟩, ⟨S128x128, p5⟩, ⟨S128x128, p6⟩, ⟨S128x128, p7⟩]
        concatenates_S128x128_S128x128_S128x128_S128x128_S128x128_S128x128_S128x128_S128x128_S1024x128_d0) := by
  refine ⟨V m c main_v31, V m c main_v36, V m c main_v41, V m c main_v46, V m c main_v51, V m c main_v56, V m c main_v61, ?_⟩
  show StableHlo.after hostOps0 _ (Proc.devRef .tc main_v64) = _
  after_results
  rfl

end Cert.KernelIdeal.Gen

end
-- ==== Proof.Val.HostAt.lean ====
/- The host's arrays, entry by entry. -/
module

public import proofs.«01_k».proof.Proof.Val.Host

@[expose] public section

noncomputable section

namespace Cert.KernelIdeal.Gen

open Idealize Idealize.ShloMosaic Idealize.ShloMosaic.TcCoe Idealize.ShloMosaic.Tactic Cert.Decay

variable (m : (ℓ : Loc nD τ sig) → Buf (Elt Ideal) ℓ)

/-- Eight matrices side by side. -/
def beside (f : Fin 8 → S8448x256.Idx → EReal) : S8448x2048.Idx → EReal :=
  concatenate (α := EReal) S8448x2048 1 [⟨S8448x256, f 0⟩, ⟨S8448x256, f 1⟩, ⟨S8448x256, f 2⟩, ⟨S8448x256, f 3⟩, ⟨S8448x256, f 4⟩, ⟨S8448x256, f 5⟩, ⟨S8448x256, f 6⟩, ⟨S8448x256, f 7⟩]
    concatenates_S8448x256_S8448x256_S8448x256_S8448x256_S8448x256_S8448x256_S8448x256_S8448x256_S8448x2048_d1

theorem beside_at (f : Fin 8 → S8448x256.Idx → EReal) (k : Fin 8) (n c : ℕ) (hn : n < 8448) (hc : c < 256) :
    at2 (beside f) n (256 * k.val + c) = at2 (f k) n c := by
  have hk := k.isLt
  refine (at2_of_lt _ n _ hn (by omega)).trans (Eq.trans ?_ (at2_of_lt (f k) n c hn hc).symm)
  unfold beside
  refine concatenate_apply_piece (t := S8448x2048) 1 [⟨S8448x256, f 0⟩, ⟨S8448x256, f 1⟩, ⟨S8448x256, f 2⟩, ⟨S8448x256, f 3⟩, ⟨S8448x256, f 4⟩, ⟨S8448x256, f 5⟩, ⟨S8448x256, f 6⟩, ⟨S8448x256, f 7⟩] _ _
    k.val hk S8448x256 (f k) ?_ rfl (256 * k.val) ?_ (ij n c hn hc)
    (fun b hb => match b with | ⟨0, _⟩ => rfl | ⟨1, _⟩ => absurd rfl hb) rfl
  · fin_cases k <;> rfl
  · fin_cases k <;> rfl

theorem twoHalves_hi (v : S8448x1024.Idx → EReal) (h : Fin 4) (n c : ℕ) (hn : n < 8448) (hc : c < 256) :
    at2 (twoHalves v) n (512 * h.val + c) = at2 v n (256 * h.val + c) := by
  have e : twoHalves v = beside ![extractStridedSlice S8448x256 ![0, 0] v slices_S8448x1024_S8448x256_0_0, rest (extractStridedSlice S8448x256 ![0, 0] v slices_S8448x1024_S8448x256_0_0),
      extractStridedSlice S8448x256 ![0, 256] v slices_S8448x1024_S8448x256_0_256, rest (extractStridedSlice S8448x256 ![0, 256] v slices_S8448x1024_S8448x256_0_256),
      extractStridedSlice S8448x256 ![0, 512] v slices_S8448x1024_S8448x256_0_512, rest (extractStridedSlice S8448x256 ![0, 512] v slices_S8448x1024_S8448x256_0_512),
      extractStridedSlice S8448x256 ![0, 768] v slices_S8448x1024_S8448x256_0_768, rest (extractStridedSlice S8448x256 ![0, 768] v slices_S8448x1024_S8448x256_0_768)] := rfl
  rw [e]
  match h with
  | 0 => exact (beside_at _ 0 n c hn hc).trans ((slice_at (A := 8448) (B := 1024) (C := 8448) (D := 256) v 0 0 slices_S8448x1024_S8448x256_0_0 n c hn hc).trans (congrArg₂ (at2 v) (Nat.zero_add n) rfl))
  | 1 => exact (beside_at _ 2 n c hn hc).trans ((slice_at (A := 8448) (B := 1024) (C := 8448) (D := 256) v 0 256 slices_S8448x1024_S8448x256_0_256 n c hn hc).trans (congrArg₂ (at2 v) (Nat.zero_add n) rfl))
  | 2 => exact (beside_at _ 4 n c hn hc).trans ((slice_at (A := 8448) (B := 1024) (C := 8448) (D := 256) v 0 512 slices_S8448x1024_S8448x256_0_512 n c hn hc).trans (congrArg₂ (at2 v) (Nat.zero_add n) rfl))
  | 3 => exact (beside_at _ 6 n c hn hc).trans ((slice_at (A := 8448) (B := 1024) (C := 8448) (D := 256) v 0 768 slices_S8448x1024_S8448x256_0_768 n c hn hc).trans (congrArg₂ (at2 v) (Nat.zero_add n) rfl))

theorem rest_at (u : S8448x256.Idx → EReal) (n c : ℕ) (hn : n < 8448) (hc : c < 256) (r : ℝ) (hr : at2 u n c = (r : EReal)) : at2 (rest u) n c = 0 := by
  refine (at2_of_lt _ n c hn hc).trans ?_
  have e : u (ij n c hn hc) = (r : EReal) := (at2_of_lt u n c hn hc).symm.trans hr
  show u (ij n c hn hc) - u (ij n c hn hc) = 0
  rw [e, ← EReal.coe_sub, sub_self, EReal.coe_zero]

theorem twoHalves_lo (v : S8448x1024.Idx → EReal) (h : Fin 4) (n c : ℕ) (hn : n < 8448) (hc : c < 256)
    (hfin : ∀ n c, at2 v n c = (((at2 v n c).toReal : ℝ) : EReal)) :
    at2 (twoHalves v) n (512 * h.val + 256 + c) = 0 := by
  have e : twoHalves v = beside ![extractStridedSlice S8448x256 ![0, 0] v slices_S8448x1024_S8448x256_0_0, rest (extractStridedSlice S8448x256 ![0, 0] v slices_S8448x1024_S8448x256_0_0),
      extractStridedSlice S8448x256 ![0, 256] v slices_S8448x1024_S8448x256_0_256, rest (extractStridedSlice S8448x256 ![0, 256] v slices_S8448x1024_S8448x256_0_256),
      extractStridedSlice S8448x256 ![0, 512] v slices_S8448x1024_S8448x256_0_512, rest (extractStridedSlice S8448x256 ![0, 512] v slices_S8448x1024_S8448x256_0_512),
      extractStridedSlice S8448x256 ![0, 768] v slices_S8448x1024_S8448x256_0_768, rest (extractStridedSlice S8448x256 ![0, 768] v slices_S8448x1024_S8448x256_0_768)] := rfl
  rw [e]
  match h with
  | 0 => exact (beside_at _ 1 n c hn hc).trans (rest_at _ n c hn hc _ ((slice_at (A := 8448) (B := 1024) (C := 8448) (D := 256) v 0 0 slices_S8448x1024_S8448x256_0_0 n c hn hc).trans (hfin _ _)))
  | 1 => exact (beside_at _ 3 n c hn hc).trans (rest_at _ n c hn hc _ ((slice_at (A := 8448) (B := 1024) (C := 8448) (D := 256) v 0 256 slices_S8448x1024_S8448x256_0_256 n c hn hc).trans (hfin _ _)))
  | 2 => exact (beside_at _ 5 n c hn hc).trans (rest_at _ n c hn hc _ ((slice_at (A := 8448) (B := 1024) (C := 8448) (D := 256) v 0 512 slices_S8448x1024_S8448x256_0_512 n c hn hc).trans (hfin _ _)))
  | 3 => exact (beside_at _ 7 n c hn hc).trans (rest_at _ n c hn hc _ ((slice_at (A := 8448) (B := 1024) (C := 8448) (D := 256) v 0 768 slices_S8448x1024_S8448x256_0_768 n c hn hc).trans (hfin _ _)))

/-- The literal column counts the rows. -/
theorem lit0_val : ∀ i : Fin 128, lit0 i = BitVec.ofNat 32 i.val := by decide +kernel

theorem upTo_at (i k : ℕ) (hi : i < 128) (hk : k < 128) : at2 upTo i k = if k ≤ i then 1 else 0 := by
  refine (at2_of_lt _ i k hi hk).trans ?_
  have e : upTo (ij i k hi hk) = ((((IntOp.cmpi .sle (BitVec.ofNat 32 k) (lit0 (S128x1.rowMajor (ij i 0 hi Nat.one_pos)))).toNat : ℝ)) : EReal) := by
    unfold upTo
    refine congrArg (fun q : BitVec 1 => (((q.toNat : ℝ)) : EReal)) (congrArg₂ (IntOp.cmpi .sle) ?_ ?_)
    · refine (broadcastInDim_apply _ _ _ _ (ij 0 k Nat.one_pos hk) ?_).trans ?_
      · intro a; match a with
        | ⟨0, _⟩ => rfl
        | ⟨1, _⟩ => rfl
      · rfl
    · refine (broadcastInDim_apply _ _ _ _ (ij i 0 hi Nat.one_pos) ?_).trans rfl
      intro a; match a with
      | ⟨0, _⟩ => rfl
      | ⟨1, _⟩ => rfl
  have r : S128x1.rowMajor (ij i 0 hi Nat.one_pos) = (⟨i, hi⟩ : Fin 128) := by
    refine Fin.ext ((Shape.rowMajor_val_two _).trans ?_)
    show i * 1 + 0 = i
    omega
  have d : ∀ a b : Fin 128, (IntOp.cmpi .sle (BitVec.ofNat 32 b.val) (BitVec.ofNat 32 a.val)).toNat = if b.val ≤ a.val then 1 else 0 := by decide +kernel
  refine e.trans ?_
  rw [r, lit0_val, d ⟨i, hi⟩ ⟨k, hk⟩]
  by_cases h : k ≤ i
  · rw [if_pos h, if_pos h]; norm_num
  · rw [if_neg h, if_neg h]; norm_num

theorem V_sums_at (c : Dev nD) (i k : ℕ) (hi : i < 128) (hk : k < 256) :
    at2 (A := 1024) (B := 256) (V m c main_v64) i k = if k % 128 ≤ i then 1 else 0 := by
  obtain ⟨p1, p2, p3, p4, p5, p6, p7, e⟩ := V_sums m c
  refine (congrArg (fun X => at2 (A := 1024) (B := 256) X i k) e).trans ?_
  have top : ∀ k', k' < 128 → at2 (A := 1024) (B := 128) (concatenate (α := EReal) S1024x128 0 [⟨S128x128, upTo⟩, ⟨S128x128, p1⟩, ⟨S128x128, p2⟩, ⟨S128x128, p3⟩, ⟨S128x128, p4⟩, ⟨S128x128, p5⟩, ⟨S128x128, p6⟩, ⟨S128x128, p7⟩]
        concatenates_S128x128_S128x128_S128x128_S128x128_S128x128_S128x128_S128x128_S128x128_S1024x128_d0) i k' = if k' ≤ i then 1 else 0 := by
    intro k' hk'
    refine Eq.trans ?_ (upTo_at i k' hi hk')
    refine (at2_of_lt _ i k' (by omega) hk').trans (Eq.trans ?_ (at2_of_lt upTo i k' hi hk').symm)
    exact concatenate_apply_piece (t := S1024x128) 0 [⟨S128x128, upTo⟩, ⟨S128x128, p1⟩, ⟨S128x128, p2⟩, ⟨S128x128, p3⟩, ⟨S128x128, p4⟩, ⟨S128x128, p5⟩, ⟨S128x128, p6⟩, ⟨S128x128, p7⟩] _ _
      0 (by show 0 < 8; omega) S128x128 upTo rfl rfl 0 rfl (ij i k' hi hk')
      (fun b hb => match b with | ⟨0, _⟩ => absurd rfl hb | ⟨1, _⟩ => rfl) (Nat.zero_add i)
  refine (at2_of_lt _ i k (by omega) hk).trans ?_
  by_cases h : k < 128
  · refine (concatenate_pair_apply_left (s₁ := S1024x128) (s₂ := S1024x128) (t := S1024x256) 1 _ _ _ _ rfl (ij i k (by omega) h)
      (fun b => match b with | ⟨0, _⟩ => rfl | ⟨1, _⟩ => rfl)).trans ?_
    rw [Nat.mod_eq_of_lt h]
    exact (at2_of_lt _ i k (by omega) h).symm.trans (top k h)
  · refine (concatenate_pair_apply_right (s₁ := S1024x128) (s₂ := S1024x128) (t := S1024x256) 1 _ _ _ _ rfl rfl (ij i (k - 128) (by omega) (by omega))
      (fun b hb => match b with | ⟨0, _⟩ => rfl | ⟨1, _⟩ => absurd rfl hb) (by show k - 128 + 128 = k; omega)).trans ?_
    rw [show k % 128 = k - 128 by omega]
    exact (at2_of_lt _ i (k - 128) (by omega) (by omega)).symm.trans (top (k - 128) (by omega))

end Cert.KernelIdeal.Gen

end
-- ==== Proof.Val.Windows.lean ====
/- What each step of the GLA call finds in its windows. -/
module

public import Idealize.ShloMosaic.Lib.Pipeline.ValueKit
public import proofs.«01_k».proof.Proof.KI.Frame
public import proofs.«01_k».proof.Proof.Val.HostAt

@[expose] public section

noncomputable section

namespace Cert.KernelIdeal.Gen

open Idealize Idealize.ShloMosaic Idealize.ShloMosaic.TcCoe Idealize.ShloMosaic.Tactic Cert.Decay

variable (m : (ℓ : Loc nD τ sig) → Buf (Elt Ideal) ℓ)

/-- The arguments. -/
abbrev argP (c : Dev nD) : S8448x12288.Idx → EReal := m ((c : Thread nD τ).loc main_arg0)
abbrev argL (c : Dev nD) : S8448x1024.Idx → EReal := m ((c : Thread nD τ).loc main_arg1)
abbrev argS (c : Dev nD) : S4x512x256.Idx → EReal := m ((c : Thread nD τ).loc main_arg3)
abbrev argT (c : Dev nD) : S128x4x256x512.Idx → EReal := m ((c : Thread nD τ).loc main_arg4)

theorem idx1 : ∀ t : Fin cfg0.N, win0_1.index t (0 : Fin 2) = min t.val 63 ∧ win0_1.index t (1 : Fin 2) = 1 := (by decide +kernel : ∀ t : Fin grid0.N, _)
theorem idx2 : ∀ t : Fin cfg0.N, win0_2.index t (0 : Fin 2) = min t.val 63 ∧ win0_2.index t (1 : Fin 2) = 1 := (by decide +kernel : ∀ t : Fin grid0.N, _)
theorem idx4 : ∀ t : Fin cfg0.N, win0_4.index t (0 : Fin 2) = min t.val 63 ∧ win0_4.index t (1 : Fin 2) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx10 : ∀ t : Fin cfg0.N, win0_10.index t (0 : Fin 2) = 64 ∧ win0_10.index t (1 : Fin 2) = 1 := (by decide +kernel : ∀ t : Fin grid0.N, _)
theorem idx11 : ∀ t : Fin cfg0.N, win0_11.index t (0 : Fin 2) = 64 ∧ win0_11.index t (1 : Fin 2) = 1 := (by decide +kernel : ∀ t : Fin grid0.N, _)
theorem idx13 : ∀ t : Fin cfg0.N, win0_13.index t (0 : Fin 2) = 64 ∧ win0_13.index t (1 : Fin 2) = 0 := (by decide +kernel : ∀ t : Fin grid0.N, _)
theorem idx14 : ∀ t : Fin cfg0.N, win0_14.index t (0 : Fin 4) = min t.val 63 ∧ win0_14.index t (1 : Fin 4) = 0 ∧ win0_14.index t (2 : Fin 4) = 0 ∧ win0_14.index t (3 : Fin 4) = 0 := (by decide +kernel : ∀ t : Fin grid0.N, _)

theorem x1_at (c : Dev nD) (t : Fin cfg0.N) (n k : ℕ) (hn : n < 128) (hk : k < 1024) :
    at2 (A := 128) (B := 1024) (xs m c t).x1 n k = at2 (A := 8448) (B := 12288) (argP m c) (128 * min t.val 63 + n) (1024 + k) := by
  obtain ⟨e0, e1⟩ := idx1 t
  refine (at2_of_lt _ n k hn hk).trans ?_
  show V m c main_arg0 (((cfg0.win 1).blk t).view.emb (ij n k hn hk)) = _
  rw [V_main_arg0]
  refine (at2_val (A := 8448) (B := 12288) _ _).trans (congrArg₂ (at2 _) ?_ ?_)
  · show win0_1.index t (0 : Fin 2) * 128 + 1 * n = _; omega
  · show win0_1.index t (1 : Fin 2) * 1024 + 1 * k = _; omega

theorem x2_at (c : Dev nD) (t : Fin cfg0.N) (n k : ℕ) (hn : n < 128) (hk : k < 2048) :
    at2 (A := 128) (B := 2048) (xs m c t).x2 n k = at2 (A := 8448) (B := 12288) (argP m c) (128 * min t.val 63 + n) (2048 + k) := by
  obtain ⟨e0, e1⟩ := idx2 t
  refine (at2_of_lt _ n k hn hk).trans ?_
  show V m c main_arg0 (((cfg0.win 2).blk t).view.emb (ij n k hn hk)) = _
  rw [V_main_arg0]
  refine (at2_val (A := 8448) (B := 12288) _ _).trans (congrArg₂ (at2 _) ?_ ?_)
  · show win0_2.index t (0 : Fin 2) * 128 + 1 * n = _; omega
  · show win0_2.index t (1 : Fin 2) * 2048 + 1 * k = _; omega

theorem x4_at (c : Dev nD) (t : Fin cfg0.N) (n k : ℕ) (hn : n < 128) (hk : k < 2048) :
    at2 (A := 128) (B := 2048) (xs m c t).x4 n k = at2 (twoHalves (argL m c)) (128 * min t.val 63 + n) k := by
  obtain ⟨e0, e1⟩ := idx4 t
  refine (at2_of_lt _ n k hn hk).trans ?_
  show V m c main_v20 (((cfg0.win 4).blk t).view.emb (ij n k hn hk)) = _
  rw [V_halves]
  refine (at2_val (A := 8448) (B := 2048) _ _).trans (congrArg₂ (at2 _) ?_ ?_)
  · show win0_4.index t (0 : Fin 2) * 128 + 1 * n = _; omega
  · show win0_4.index t (1 : Fin 2) * 2048 + 1 * k = _; omega

theorem x6_at (c : Dev nD) (t : Fin cfg0.N) (h a b : ℕ) (hh : h < 4) (ha : a < 512) (hb : b < 256) :
    at3 (A := 4) (B := 512) (C := 256) (xs m c t).x6 h a b = at3 (A := 4) (B := 512) (C := 256) (argS m c) h a b := by
  obtain ⟨e0, e1, e2⟩ := idx6 t
  refine (at3_val (A := 4) (B := 512) (C := 256) (xs m c t).x6 (ijk h a b hh ha hb)).symm.trans ?_
  show V m c main_arg3 (((cfg0.win 6).blk t).view.emb (ijk h a b hh ha hb)) = _
  rw [V_main_arg3]
  refine (at3_val (A := 4) (B := 512) (C := 256) _ _).trans ?_
  have f0 : ((((cfg0.win 6).blk t).view.emb (ijk h a b hh ha hb)) (0 : Fin 3)).val = h := by
    show win0_6.index t (0 : Fin 3) * 4 + 1 * h = _; omega
  have f1 : ((((cfg0.win 6).blk t).view.emb (ijk h a b hh ha hb)) (1 : Fin 3)).val = a := by
    show win0_6.index t (1 : Fin 3) * 512 + 1 * a = _; omega
  have f2 : ((((cfg0.win 6).blk t).view.emb (ijk h a b hh ha hb)) (2 : Fin 3)).val = b := by
    show win0_6.index t (2 : Fin 3) * 256 + 1 * b = _; omega
  exact (congrArg (fun q => at3 _ q _ _) f0).trans ((congrArg (fun q => at3 _ h q _) f1).trans (congrArg (fun q => at3 _ h a q) f2))

theorem x7_at (c : Dev nD) (t : Fin cfg0.N) (i k : ℕ) (hi : i < 128) (hk : k < 256) :
    at2 (A := 1024) (B := 256) (xs m c t).x7 i k = if k % 128 ≤ i then 1 else 0 := by
  obtain ⟨e0, e1⟩ := idx7 t
  refine Eq.trans ?_ (V_sums_at m c i k hi hk)
  refine (at2_of_lt _ i k (by omega) hk).trans ?_
  show V m c main_v64 (((cfg0.win 7).blk t).view.emb (ij i k (by omega) hk)) = _
  refine (at2_val (A := 1024) (B := 256) _ _).trans (congrArg₂ (at2 _) ?_ ?_)
  · show win0_7.index t (0 : Fin 2) * 1024 + 1 * i = _; omega
  · show win0_7.index t (1 : Fin 2) * 256 + 1 * k = _; omega

theorem x10_at (c : Dev nD) (t : Fin cfg0.N) (n k : ℕ) (hn : n < 128) (hk : k < 1024) :
    at2 (A := 128) (B := 1024) (xs m c t).x10 n k = at2 (A := 8448) (B := 12288) (argP m c) (8192 + n) (1024 + k) := by
  obtain ⟨e0, e1⟩ := idx10 t
  refine (at2_of_lt _ n k hn hk).trans ?_
  show V m c main_arg0 (((cfg0.win 10).blk t).view.emb (ij n k hn hk)) = _
  rw [V_main_arg0]
  refine (at2_val (A := 8448) (B := 12288) _ _).trans (congrArg₂ (at2 _) ?_ ?_)
  · show win0_10.index t (0 : Fin 2) * 128 + 1 * n = _; omega
  · show win0_10.index t (1 : Fin 2) * 1024 + 1 * k = _; omega

theorem x11_at (c : Dev nD) (t : Fin cfg0.N) (n k : ℕ) (hn : n < 128) (hk : k < 2048) :
    at2 (A := 128) (B := 2048) (xs m c t).x11 n k = at2 (A := 8448) (B := 12288) (argP m c) (8192 + n) (2048 + k) := by
  obtain ⟨e0, e1⟩ := idx11 t
  refine (at2_of_lt _ n k hn hk).trans ?_
  show V m c main_arg0 (((cfg0.win 11).blk t).view.emb (ij n k hn hk)) = _
  rw [V_main_arg0]
  refine (at2_val (A := 8448) (B := 12288) _ _).trans (congrArg₂ (at2 _) ?_ ?_)
  · show win0_11.index t (0 : Fin 2) * 128 + 1 * n = _; omega
  · show win0_11.index t (1 : Fin 2) * 2048 + 1 * k = _; omega

theorem x13_at (c : Dev nD) (t : Fin cfg0.N) (n k : ℕ) (hn : n < 128) (hk : k < 2048) :
    at2 (A := 128) (B := 2048) (xs m c t).x13 n k = at2 (twoHalves (argL m c)) (8192 + n) k := by
  obtain ⟨e0, e1⟩ := idx13 t
  refine (at2_of_lt _ n k hn hk).trans ?_
  show V m c main_v20 (((cfg0.win 13).blk t).view.emb (ij n k hn hk)) = _
  rw [V_halves]
  refine (at2_val (A := 8448) (B := 2048) _ _).trans (congrArg₂ (at2 _) ?_ ?_)
  · show win0_13.index t (0 : Fin 2) * 128 + 1 * n = _; omega
  · show win0_13.index t (1 : Fin 2) * 2048 + 1 * k = _; omega

theorem x14_at (c : Dev nD) (t : Fin cfg0.N) (n h a b : ℕ) (hn : n < 2) (hh : h < 4) (ha : a < 256) (hb : b < 512) :
    (xs m c t).x14 (ijkl n h a b hn hh ha hb) = argT m c (ijkl (2 * min t.val 63 + n) h a b (by omega) hh ha hb) := by
  obtain ⟨e0, e1, e2, e3⟩ := idx14 t
  show V m c main_arg4 (((cfg0.win 14).blk t).view.emb (ijkl n h a b hn hh ha hb)) = _
  rw [V_main_arg4]
  refine congrArg (argT m c) (funext fun d => Fin.ext ?_)
  match d with
  | ⟨0, _⟩ => show win0_14.index t (0 : Fin 4) * 2 + 1 * n = 2 * min t.val 63 + n; omega
  | ⟨1, _⟩ => show win0_14.index t (1 : Fin 4) * 4 + 1 * h = h; omega
  | ⟨2, _⟩ => show win0_14.index t (2 : Fin 4) * 256 + 1 * a = a; omega
  | ⟨3, _⟩ => show win0_14.index t (3 : Fin 4) * 512 + 1 * b = b; omega

end Cert.KernelIdeal.Gen

end
-- ==== Proof.Val.Run.lean ====
/- What the GLA call's steps leave: the heads' states after each chunk, and the stored tiles. -/
module

public import proofs.«01_k».proof.Proof.KI.ValA
public import proofs.«01_k».proof.Proof.KI.ValB
public import proofs.«01_k».proof.Proof.KI.ValC
public import proofs.«01_k».proof.Proof.KI.ValD
public import proofs.«01_k».proof.Proof.Val.Step
public import proofs.«01_k».proof.Proof.Val.Token
public import proofs.«01_k».proof.Proof.Val.Windows

@[expose] public section

noncomputable section

namespace Cert.KernelIdeal.Gen

open Idealize Idealize.ShloMosaic Idealize.ShloMosaic.TcCoe Idealize.ShloMosaic.Tactic Cert.Decay

variable (m : (ℓ : Loc nD τ sig) → Buf (Elt Ideal) ℓ)

/-- Head `h`'s state. -/
def headOf (o : Outs Ideal) (h : Fin 4) : Vec Ideal S512x256 .f32 :=
  match h with
  | 0 => o.s1
  | 1 => o.s2
  | 2 => o.s3
  | 3 => o.s4

/-- A sequence's first step starts from the meta state. -/
theorem head_first (c : Dev nD) (t : Fin cfg0.N) (ht : t.val < 64) (hs : t.val % 16 = 0) (h : Fin 4) :
    headOf (nextAt m c t) h = chunk (xs m c t) h (start (xs m c t) h) := by
  rw [nextAt_eq]
  rcases point_cases t with ⟨_, k⟩ | ⟨_, k⟩ | ⟨_, k⟩ | ⟨_, k⟩ | ⟨_, k⟩
  · rw [stepAt_A c _ _ k]
    have s := statesA c _ (rf t) k (xs m c t) (prevAt m c t)
    match h with
    | 0 => exact s.1
    | 1 => exact s.2.1
    | 2 => exact s.2.2.1
    | 3 => exact s.2.2.2
  · exact absurd ((hcond0_1 t).mpr hs) k.2.1
  · exact absurd ((hcond0_1 t).mpr hs) k.2.1
  · rw [stepAt_D c _ _ k]
    have s := statesD c _ (rf t) k (xs m c t) (prevAt m c t)
    match h with
    | 0 => exact s.1
    | 1 => exact s.2.1
    | 2 => exact s.2.2.1
    | 3 => exact s.2.2.2
  · exact absurd ((hcond0_0 t).mpr ht) k.1

/-- A later step goes on from the state before. -/
theorem head_later (c : Dev nD) (t : Fin cfg0.N) (ht : t.val < 64) (hs : t.val % 16 ≠ 0) (h : Fin 4) :
    headOf (nextAt m c t) h = chunk (xs m c t) h (headOf (prevAt m c t) h) := by
  rw [nextAt_eq]
  rcases point_cases t with ⟨_, k⟩ | ⟨_, k⟩ | ⟨_, k⟩ | ⟨_, k⟩ | ⟨_, k⟩
  · exact absurd ((hcond0_1 t).mp k.2.1) hs
  · rw [stepAt_B c _ _ k]
    have s := statesB c _ (rf t) k (xs m c t) (prevAt m c t)
    match h with
    | 0 => exact s.1
    | 1 => exact s.2.1
    | 2 => exact s.2.2.1
    | 3 => exact s.2.2.2
  · rw [stepAt_C c _ _ k]
    have s := statesC c _ (rf t) k (xs m c t) (prevAt m c t)
    match h with
    | 0 => exact s.1
    | 1 => exact s.2.1
    | 2 => exact s.2.2.1
    | 3 => exact s.2.2.2
  · exact absurd ((hcond0_1 t).mp k.2.1) hs
  · exact absurd ((hcond0_0 t).mpr ht) k.1

/-- Sequence `b`'s state of head `h` at value `vv` and key `kk` after `N` positions. -/
def stateOf (c : Dev nD) (b h vv kk N : ℕ) : EReal :=
  closed (fun n => (at2 (A := 8448) (B := 1024) (argL m c) (2048 * b + n) (256 * h + kk)).toReal)
    (fun n => at2 (A := 8448) (B := 12288) (argP m c) (2048 * b + n) (1024 + 256 * h + kk))
    (fun n => at2 (A := 8448) (B := 12288) (argP m c) (2048 * b + n) (2048 + 512 * h + vv))
    (at3 (A := 4) (B := 512) (C := 256) (argS m c) h vv kk) N

/-- One step takes a state after `128 · s` positions to that after `128 · (s + 1)`. -/
theorem step_state (c : Dev nD) (hfin : ∀ n k, at2 (A := 8448) (B := 1024) (argL m c) n k = (((at2 (A := 8448) (B := 1024) (argL m c) n k).toReal : ℝ) : EReal))
    (t : Fin cfg0.N) (ht : t.val < 64) (h : Fin 4) (st : Vec Ideal S512x256 .f32) (vv kk : ℕ) (hv : vv < 512) (hk : kk < 256)
    (hst : at2 (A := 512) (B := 256) st vv kk = stateOf m c (t.val / 16) h.val vv kk (128 * (t.val % 16))) :
    at2 (A := 512) (B := 256) (chunk (xs m c t) h st) vv kk = stateOf m c (t.val / 16) h.val vv kk (128 * (t.val % 16) + 128) := by
  have hh := h.isLt
  have row : ∀ i, 128 * min t.val 63 + i = 2048 * (t.val / 16) + (128 * (t.val % 16) + i) := fun i => by omega
  refine (chunk_at (xs m c t) h (fun i => (at2 (A := 8448) (B := 1024) (argL m c) (2048 * (t.val / 16) + (128 * (t.val % 16) + i)) (256 * h.val + kk)).toReal) st vv kk hv hk
    (x7_at m c t) ?_ ?_).trans ?_
  · intro i hi
    rw [x4_at m c t i _ hi (by omega), twoHalves_hi (argL m c) h _ kk (by omega) hk, row]
    exact hfin _ _
  · intro i hi
    rw [x4_at m c t i _ hi (by omega), ← Nat.add_assoc]
    exact twoHalves_lo (argL m c) h _ kk (by omega) hk hfin
  · rw [hst]
    refine Eq.trans ?_ (closed_add _ _ _ _ (128 * (t.val % 16)) 128)
    refine congrArg₂ (· + ·) rfl (Finset.sum_congr rfl fun i hi => ?_)
    have hi' : i < 128 := Finset.mem_range.mp hi
    rw [x2_at m c t i _ hi' (by omega), x1_at m c t i _ hi' (by omega), row]
    rw [Nat.add_assoc 1024, Nat.add_assoc 2048]

theorem closed_zero (r : ℕ → ℝ) (k v : ℕ → EReal) (S0 : EReal) : closed r k v S0 0 = S0 := by
  unfold closed pre
  rw [Finset.sum_range_zero, Finset.sum_range_zero, Real.exp_zero, EReal.coe_one, mul_one, add_zero]

/-- After step `n` every head's state is that after `128 · (n % 16 + 1)` positions of its sequence. -/
theorem head_at (c : Dev nD) (hfin : ∀ n k, at2 (A := 8448) (B := 1024) (argL m c) n k = (((at2 (A := 8448) (B := 1024) (argL m c) n k).toReal : ℝ) : EReal))
    (h : Fin 4) (vv kk : ℕ) (hv : vv < 512) (hk : kk < 256) :
    ∀ (n : ℕ) (hn : n < cfg0.N), n < 64 →
      at2 (A := 512) (B := 256) (headOf (nextAt m c ⟨n, hn⟩) h) vv kk = stateOf m c (n / 16) h.val vv kk (128 * (n % 16) + 128) := by
  intro n
  induction n with
  | zero =>
    intro hn h64
    rw [head_first m c ⟨0, hn⟩ h64 rfl h]
    refine step_state m c hfin ⟨0, hn⟩ h64 h _ vv kk hv hk ?_
    rw [start_at (xs m c ⟨0, hn⟩) h vv kk hv hk, x6_at m c ⟨0, hn⟩ h.val vv kk h.isLt hv hk]
    exact (closed_zero _ _ _ _).symm
  | succ n ih =>
    intro hn h64
    by_cases hs : (n + 1) % 16 = 0
    · rw [head_first m c ⟨n + 1, hn⟩ h64 hs h]
      refine step_state m c hfin ⟨n + 1, hn⟩ h64 h _ vv kk hv hk ?_
      rw [start_at (xs m c ⟨n + 1, hn⟩) h vv kk hv hk, x6_at m c ⟨n + 1, hn⟩ h.val vv kk h.isLt hv hk]
      show _ = stateOf m c ((n + 1) / 16) h.val vv kk (128 * ((n + 1) % 16))
      rw [hs]
      exact (closed_zero _ _ _ _).symm
    · rw [head_later m c ⟨n + 1, hn⟩ h64 hs h]
      refine step_state m c hfin ⟨n + 1, hn⟩ h64 h _ vv kk hv hk ?_
      refine (ih (Nat.lt_of_succ_lt hn) (by omega)).trans ?_
      show stateOf m c (n / 16) h.val vv kk (128 * (n % 16) + 128) = stateOf m c ((n + 1) / 16) h.val vv kk (128 * ((n + 1) % 16))
      rw [show n / 16 = (n + 1) / 16 by omega, show 128 * (n % 16) + 128 = 128 * ((n + 1) % 16) by omega]

/-- The turned state at an index of the result's tile. -/
theorem turned_at (s : Vec Ideal S512x256 .f32) (j : S1x1x256x512.Idx) :
    (turned s : S1x1x256x512.Idx → EReal) j = at2 (A := 512) (B := 256) s (j 3).val (j 2).val := by
  have h0 : (j 0).val = 0 := Nat.lt_one_iff.mp (j 0).isLt
  have h1 : (j 1).val = 0 := Nat.lt_one_iff.mp (j 1).isLt
  have hk : (j 2).val < 256 := (j 2).isLt
  have hv : (j 3).val < 512 := (j 3).isLt
  unfold turned
  rw [shapeCast_apply _ shapeCasts_S256x512_S1x1x256x512 j (ij (j 2).val (j 3).val hk hv) (by
    rw [Shape.rowMajor_val_two, Shape.rowMajor_val_four]
    show (j 2).val * 512 + (j 3).val = (((j 0).val * 1 + (j 1).val) * 256 + (j 2).val) * 512 + (j 3).val
    rw [h0, h1]; omega)]
  refine (transpose_apply _ _ _ _ (ij (j 3).val (j 2).val hv hk) (fun b => match b with | ⟨0, _⟩ => rfl | ⟨1, _⟩ => rfl)).trans ?_
  exact (at2_of_lt (A := 512) (B := 256) s _ _ hv hk).symm

/-- The final states stored, entry by entry. -/
theorem finals_at (s : Fin 4 → Vec Ideal S512x256 .f32) (y : S1x4x256x512.Idx)
    (hy : ∃ pc ∈ (finals s : List (View.Piece (Elt Ideal) S1x4x256x512 .f32)), y ∈ pc.1.set) :
    (View.canon (finals s) : S1x4x256x512.Idx → EReal) y = at2 (A := 512) (B := 256) (s (y 1)) (y 3).val (y 2).val := by
  refine View.canon_apply_of_pieces (Val := Elt Ideal) (e := .f32) (fun y : S1x4x256x512.Idx => at2 (A := 512) (B := 256) (s (y 1)) (y 3).val (y 2).val) (finals s) ?_ y hy
  have one : ∀ (h : Fin 4) (x : S1x1x256x512.Idx), (turned (s h) : S1x1x256x512.Idx → EReal) x
      = at2 (A := 512) (B := 256) (s (((finalAt h).emb x) 1)) (((finalAt h).emb x) 3).val (((finalAt h).emb x) 2).val := by
    intro h x
    have e1 : ((finalAt h).emb x) 1 = h := Fin.ext ((Rect.idx_unit_val (s := S1x4x256x512) _ _ _ x 1).trans (by
      have : (x 1).val = 0 := Nat.lt_one_iff.mp (x 1).isLt
      show h.val + (x 1).val = h.val; omega))
    have e2 : (((finalAt h).emb x) 2).val = (x 2).val := (Rect.idx_unit_val (s := S1x4x256x512) _ _ _ x 2).trans (Nat.zero_add _)
    have e3 : (((finalAt h).emb x) 3).val = (x 3).val := (Rect.idx_unit_val (s := S1x4x256x512) _ _ _ x 3).trans (Nat.zero_add _)
    rw [e1, e2, e3]
    exact turned_at (s h) x
  intro p hp
  unfold finals at hp
  simp only [List.mem_cons, List.not_mem_nil, or_false] at hp
  rcases hp with rfl | rfl | rfl | rfl
  · exact one 3
  · exact one 2
  · exact one 1
  · exact one 0

set_option maxHeartbeats 4000000 in
/-- A sequence's last step stores the final states. -/
theorem out16_last (c : Dev nD) (t : Fin cfg0.N) (ht : t.val < 64) (hs : t.val % 16 = 15) (y : S1x4x256x512.Idx) :
    (nextAt m c t).o16 y = at2 (A := 512) (B := 256) (headOf (nextAt m c t) (y 1)) (y 3).val (y 2).val := by
  have k : CaseC (grid0.coords t) := by
    unfold CaseC
    simp only [hcond0_0, hcond0_1, hcond0_2, hcond0_3, hcond0_4]
    omega
  rw [nextAt_eq, stepAt_C c _ _ k]
  have s := statesC c _ (rf t) k (xs m c t) (prevAt m c t)
  have cov := coverC_o16 c _ (rf t) k (xs m c t) (prevAt m c t) y
  have e := finalsC c _ (rf t) k (xs m c t) (prevAt m c t)
  rw [e] at cov
  have o : (outsC c (grid0.coords t) (rf t) k (xs m c t) (prevAt m c t)).o16
      = View.canon (finals ![chunk (xs m c t) 0 (prevAt m c t).s1, chunk (xs m c t) 1 (prevAt m c t).s2, chunk (xs m c t) 2 (prevAt m c t).s3, chunk (xs m c t) 3 (prevAt m c t).s4]) := by
    dsimp only [outsC]
    rw [View.read_writes_junk_eq_canon, e]
  rw [o]
  refine (finals_at _ y cov).trans ?_
  have key : ∀ h : Fin 4, at2 (A := 512) (B := 256) ((![chunk (xs m c t) 0 (prevAt m c t).s1, chunk (xs m c t) 1 (prevAt m c t).s2, chunk (xs m c t) 2 (prevAt m c t).s3, chunk (xs m c t) 3 (prevAt m c t).s4] : Fin 4 → Vec Ideal S512x256 .f32) h) (y 3).val (y 2).val
      = at2 (A := 512) (B := 256) (headOf (outsC c (grid0.coords t) (rf t) k (xs m c t) (prevAt m c t)) h) (y 3).val (y 2).val := by
    intro h
    match h with
    | 0 => exact congrArg (fun z => at2 (A := 512) (B := 256) z _ _) s.1.symm
    | 1 => exact congrArg (fun z => at2 (A := 512) (B := 256) z _ _) s.2.1.symm
    | 2 => exact congrArg (fun z => at2 (A := 512) (B := 256) z _ _) s.2.2.1.symm
    | 3 => exact congrArg (fun z => at2 (A := 512) (B := 256) z _ _) s.2.2.2.symm
  exact key (y 1)

theorem prev_succ (c : Dev nD) (n : ℕ) (hn : n + 1 < cfg0.N) : prevAt m c ⟨n + 1, hn⟩ = nextAt m c ⟨n, Nat.lt_of_succ_lt hn⟩ := rfl

set_option maxHeartbeats 4000000 in
/-- The last point leaves what the point before it left. -/
theorem out_end (c : Dev nD) (h64 : 64 < cfg0.N) (h63 : 63 < cfg0.N) :
    (nextAt m c ⟨64, h64⟩).o16 = (nextAt m c ⟨63, h63⟩).o16 ∧ (nextAt m c ⟨64, h64⟩).o17 = (nextAt m c ⟨63, h63⟩).o17 := by
  have k : CaseE (grid0.coords ⟨64, h64⟩) := by
    exact ⟨fun q => absurd ((hcond0_0 _).mp q) (Nat.lt_irrefl 64), (hcond0_4 _).mpr rfl⟩
  have hp : prevAt m c ⟨64, h64⟩ = nextAt m c ⟨63, h63⟩ := prev_succ m c 63 h64
  rw [nextAt_eq m c ⟨64, h64⟩, stepAt_E c _ _ k, hp]
  generalize nextAt m c ⟨63, h63⟩ = o
  dsimp only [outsE]
  exact ⟨rfl, rfl⟩

/-- Token `2 w + j`'s state of a head after it, entry by entry. -/
def sampled (x : Xs Ideal) (w : ℕ) (y : S2x4x256x512.Idx) : EReal :=
  Ideal.exp (at2 (A := 128) (B := 2048) x.x13 (2 * w + (y 0).val) (512 * (y 1).val + (y 2).val)
      + at2 (A := 128) (B := 2048) x.x13 (2 * w + (y 0).val) (512 * (y 1).val + 256 + (y 2).val)) * x.x14 y
    + at2 (A := 128) (B := 1024) x.x10 (2 * w + (y 0).val) (256 * (y 1).val + (y 2).val)
      * at2 (A := 128) (B := 2048) x.x11 (2 * w + (y 0).val) (512 * (y 1).val + (y 3).val)

theorem tiles_at (x : Xs Ideal) (w : ℕ) (hw : w < 64) (y : S2x4x256x512.Idx)
    (hy : ∃ pc ∈ (tiles (BitVec.ofNat 32 w) x : List (View.Piece (Elt Ideal) S2x4x256x512 .f32)), y ∈ pc.1.set) :
    (View.canon (tiles (BitVec.ofNat 32 w) x) : S2x4x256x512.Idx → EReal) y = sampled x w y := by
  refine View.canon_apply_of_pieces (Val := Elt Ideal) (e := .f32) (sampled x w) (tiles (BitVec.ofNat 32 w) x) ?_ y hy
  have one : ∀ (j : Fin 2) (h : Fin 4) (z : S1x1x256x512.Idx), (tile (BitVec.ofNat 32 w) x j h).2 z = sampled x w ((tileAt j h).emb z) := by
    intro j h z
    have hj := j.isLt
    have en : Scalar.addi (Scalar.muli (BitVec.ofNat 32 w) 2#32) (BitVec.ofNat 32 j.val) = BitVec.ofNat 32 (2 * w + j.val) := by
      show BitVec.ofNat 32 w * 2#32 + BitVec.ofNat 32 j.val = _
      apply BitVec.eq_of_toNat_eq
      simp only [BitVec.toNat_add, BitVec.toNat_mul, BitVec.toNat_ofNat]
      omega
    have e0 : (((tileAt j h).emb z) 0).val = j.val := (Rect.idx_unit_val (s := S2x4x256x512) _ _ _ z 0).trans (by
      have : (z 0).val = 0 := Nat.lt_one_iff.mp (z 0).isLt
      show j.val + (z 0).val = j.val; omega)
    have e1 : (((tileAt j h).emb z) 1).val = h.val := (Rect.idx_unit_val (s := S2x4x256x512) _ _ _ z 1).trans (by
      have : (z 1).val = 0 := Nat.lt_one_iff.mp (z 1).isLt
      show h.val + (z 1).val = h.val; omega)
    have e2 : (((tileAt j h).emb z) 2).val = (z 2).val := (Rect.idx_unit_val (s := S2x4x256x512) _ _ _ z 2).trans (Nat.zero_add _)
    have e3 : (((tileAt j h).emb z) 3).val = (z 3).val := (Rect.idx_unit_val (s := S2x4x256x512) _ _ _ z 3).trans (Nat.zero_add _)
    unfold sampled
    rw [e0, e1, e2, e3]
    show (token (Scalar.addi (Scalar.muli (BitVec.ofNat 32 w) 2#32) (BitVec.ofNat 32 j.val)) x h (View.ld x.x14 (tileAt j h)) : S1x1x256x512.Idx → EReal) z = _
    rw [en]
    exact token_at x h (2 * w + j.val) (by omega) _ z
  intro p hp
  unfold tiles at hp
  simp only [List.mem_cons, List.not_mem_nil, or_false] at hp
  rcases hp with rfl | rfl | rfl | rfl | rfl | rfl | rfl | rfl
  · exact one 1 3
  · exact one 0 3
  · exact one 1 2
  · exact one 0 2
  · exact one 1 1
  · exact one 0 1
  · exact one 1 0
  · exact one 0 0

set_option maxHeartbeats 4000000 in
/-- A step stores its two tokens' states. -/
theorem out17_at (c : Dev nD) (t : Fin cfg0.N) (ht : t.val < 64) (y : S2x4x256x512.Idx) :
    (nextAt m c t).o17 y = sampled (xs m c t) t.val y := by
  have e0 : (grid0.coords t 0).val = t.val / 1 % 65 := Pipeline.Grid.coords_val t 0 (by decide) rfl
  have e0 : (grid0.coords t 0).val = t.val := e0.trans (by omega)
  have fin : ∀ L : List (View.Piece (Elt Ideal) S2x4x256x512 .f32), L = tiles (BitVec.ofNat 32 (grid0.coords t 0).val) (xs m c t) → (∃ pc ∈ L, y ∈ pc.1.set) →
      VO0_17.read (Elt Ideal) (VO0_17.writes (Elt Ideal) VO0_17.junk L) y = sampled (xs m c t) t.val y := by
    intro L hL cov
    rw [View.read_writes_junk_eq_canon]
    subst hL
    rw [e0] at cov ⊢
    exact tiles_at (xs m c t) t.val ht y cov
  rw [nextAt_eq]
  rcases point_cases t with ⟨_, k⟩ | ⟨_, k⟩ | ⟨_, k⟩ | ⟨_, k⟩ | ⟨_, k⟩
  · rw [stepAt_A c _ _ k]
    dsimp only [outsA]
    exact fin _ (tilesA c _ (rf t) k (xs m c t) (prevAt m c t)) (coverA_o17 c _ (rf t) k (xs m c t) y)
  · rw [stepAt_B c _ _ k]
    dsimp only [outsB]
    exact fin _ (tilesB c _ (rf t) k (xs m c t) (prevAt m c t)) (coverB_o17 c _ (rf t) k (xs m c t) (prevAt m c t) y)
  · rw [stepAt_C c _ _ k]
    dsimp only [outsC]
    exact fin _ (tilesC c _ (rf t) k (xs m c t) (prevAt m c t)) (coverC_o17 c _ (rf t) k (xs m c t) (prevAt m c t) y)
  · rw [stepAt_D c _ _ k]
    dsimp only [outsD]
    exact fin _ (tilesD c _ (rf t) k (xs m c t) (prevAt m c t)) (coverD_o17 c _ (rf t) k (xs m c t) (prevAt m c t) y)
  · exact absurd ((hcond0_0 t).mpr ht) k.1

end Cert.KernelIdeal.Gen

end
-- ==== Proof.Val.Arrays.lean ====
/- The two results of the GLA call as arrays. -/
module

public import proofs.«01_k».proof.Proof.Val.Run

@[expose] public section

noncomputable section

namespace Cert.KernelIdeal.Gen

open Idealize Idealize.ShloMosaic Idealize.ShloMosaic.TcCoe Idealize.ShloMosaic.Tactic Cert.Decay Idealize.SL.Sem
open Idealize.ShloMosaic.Pipeline (Dat)

variable (m : (ℓ : Loc nD τ sig) → Buf (Elt Ideal) ℓ) (ρ : Dev nD → PrngReg)

theorem idx16 : ∀ t : Fin cfg0.N, win0_16.index t (0 : Fin 4) = min t.val 63 / 16 ∧ win0_16.index t (1 : Fin 4) = 0 ∧ win0_16.index t (2 : Fin 4) = 0 ∧ win0_16.index t (3 : Fin 4) = 0 := (by decide +kernel : ∀ t : Fin grid0.N, _)
theorem idx17 : ∀ t : Fin cfg0.N, win0_17.index t (0 : Fin 4) = min t.val 63 ∧ win0_17.index t (1 : Fin 4) = 0 ∧ win0_17.index t (2 : Fin 4) = 0 ∧ win0_17.index t (3 : Fin 4) = 0 := (by decide +kernel : ∀ t : Fin grid0.N, _)
theorem flush16 : ∀ t : Fin cfg0.N, (cfg0.win 16).flush t = true → t.val = 64 ∨ (t.val < 64 ∧ t.val % 16 = 15) := by decide +kernel

/-- The prompts' final states. -/
def promptStates (c : Dev nD) : S4x4x256x512.Idx → EReal := fun y => stateOf m c (y 0).val (y 1).val (y 3).val (y 2).val 2048

/-- The samples' states. -/
def sampleStates (c : Dev nD) : S128x4x256x512.Idx → EReal := fun y =>
  Ideal.exp (at2 (A := 8448) (B := 1024) (argL m c) (8192 + (y 0).val) (256 * (y 1).val + (y 2).val)) * argT m c y
    + at2 (A := 8448) (B := 12288) (argP m c) (8192 + (y 0).val) (1024 + 256 * (y 1).val + (y 2).val)
      * at2 (A := 8448) (B := 12288) (argP m c) (8192 + (y 0).val) (2048 + 512 * (y 1).val + (y 3).val)

variable (hfin : ∀ c n k, at2 (A := 8448) (B := 1024) (argL m c) n k = (((at2 (A := 8448) (B := 1024) (argL m c) n k).toReal : ℝ) : EReal))
include hfin

/-- What a sequence's last step leaves in the buffer of final states. -/
theorem out16_at (c : Dev nD) (t : Fin cfg0.N) (ht : t.val < 64) (hs : t.val % 16 = 15) (y : S1x4x256x512.Idx) :
    (nextAt m c t).o16 y = stateOf m c (t.val / 16) (y 1).val (y 3).val (y 2).val 2048 := by
  have key : ∀ (h : Fin 4), at2 (A := 512) (B := 256) (headOf (nextAt m c t) h) (y 3).val (y 2).val = stateOf m c (t.val / 16) h.val (y 3).val (y 2).val 2048 := by
    intro h
    refine (head_at m c (hfin c) h (y 3).val (y 2).val (y 3).isLt (y 2).isLt t.val t.isLt ht).trans ?_
    rw [hs]
  exact (out16_last m c t ht hs y).trans (key (y 1))

theorem array16 (c : Dev nD) : (dats m 0 c).arrAt 16 cfg0.N = promptStates m c := by
  refine (dats m 0 c).arrAt_eq_of_covers 16 _ (by decide +kernel) fun t hf y => ?_
  show (dats m 0 c).after 16 t y = _
  rw [after0_16]
  obtain ⟨e0, e1, e2, e3⟩ := idx16 t
  have hy : (y 0).val = 0 := Nat.lt_one_iff.mp (y 0).isLt
  have val : (nextAt m c t).o16 y = stateOf m c (min t.val 63 / 16) (y 1).val (y 3).val (y 2).val 2048 := by
    rcases flush16 t hf with h | ⟨h, hs⟩
    · obtain ⟨n, hn⟩ := t
      have h : n = 64 := h
      subst h
      rw [(out_end m c hn (Nat.lt_of_succ_lt hn)).1]
      exact out16_at m hfin c ⟨63, Nat.lt_of_succ_lt hn⟩ (by show 63 < 64; omega) (show 63 % 16 = 15 from rfl) y
    · rw [show min t.val 63 / 16 = t.val / 16 by omega]
      exact out16_at m hfin c t h hs y
  refine val.trans ?_
  unfold promptStates
  have f0 : ((((cfg0.win 16).blk t).view.emb y) (0 : Fin 4)).val = min t.val 63 / 16 := by
    show win0_16.index t (0 : Fin 4) * 1 + 1 * (y 0).val = _; omega
  have f1 : ((((cfg0.win 16).blk t).view.emb y) (1 : Fin 4)).val = (y 1).val := by
    show win0_16.index t (1 : Fin 4) * 4 + 1 * (y 1).val = _; omega
  have f2 : ((((cfg0.win 16).blk t).view.emb y) (2 : Fin 4)).val = (y 2).val := by
    show win0_16.index t (2 : Fin 4) * 256 + 1 * (y 2).val = _; omega
  have f3 : ((((cfg0.win 16).blk t).view.emb y) (3 : Fin 4)).val = (y 3).val := by
    show win0_16.index t (3 : Fin 4) * 512 + 1 * (y 3).val = _; omega
  rw [f0, f1, f2, f3]

/-- What a step's stores hold, over the arguments. -/
theorem sampled_at (c : Dev nD) (t : Fin cfg0.N) (ht : t.val < 64) (y : S2x4x256x512.Idx) (z : S128x4x256x512.Idx)
    (h0 : (z 0).val = 2 * t.val + (y 0).val) (h1 : (z 1).val = (y 1).val) (h2 : (z 2).val = (y 2).val) (h3 : (z 3).val = (y 3).val) :
    sampled (xs m c t) t.val y = sampleStates m c z := by
  have b0 : (y 0).val < 2 := (y 0).isLt
  have b1 : (y 1).val < 4 := (y 1).isLt
  have b2 : (y 2).val < 256 := (y 2).isLt
  have b3 : (y 3).val < 512 := (y 3).isLt
  unfold sampled sampleStates
  rw [h0, h1, h2, h3]
  rw [x13_at m c t _ _ (by omega) (by omega), x13_at m c t _ _ (by omega) (by omega), x10_at m c t _ _ (by omega) (by omega), x11_at m c t _ _ (by omega) (by omega)]
  rw [twoHalves_hi (argL m c) ⟨(y 1).val, b1⟩ _ _ (by omega) b2, twoHalves_lo (argL m c) ⟨(y 1).val, b1⟩ _ _ (by omega) b2 (hfin c), add_zero]
  rw [Nat.add_assoc 1024, Nat.add_assoc 2048]
  have ez : (xs m c t).x14 y = argT m c z := by
    have ey : y = ijkl (y 0).val (y 1).val (y 2).val (y 3).val b0 b1 b2 b3 := by
      funext a
      match a with
      | ⟨0, _⟩ => rfl
      | ⟨1, _⟩ => rfl
      | ⟨2, _⟩ => rfl
      | ⟨3, _⟩ => rfl
    refine (congrArg (xs m c t).x14 ey).trans ((x14_at m c t _ _ _ _ b0 b1 b2 b3).trans (congrArg (argT m c) ?_))
    funext a
    apply Fin.ext
    match a with
    | ⟨0, _⟩ => show 2 * min t.val 63 + (y 0).val = (z 0).val; omega
    | ⟨1, _⟩ => exact h1.symm
    | ⟨2, _⟩ => exact h2.symm
    | ⟨3, _⟩ => exact h3.symm
  rw [ez]

theorem array17 (c : Dev nD) : (dats m 0 c).arrAt 17 cfg0.N = sampleStates m c := by
  refine (dats m 0 c).arrAt_eq_of_covers 17 _ (by decide +kernel) fun t hf y => ?_
  show (dats m 0 c).after 17 t y = _
  rw [after0_17]
  obtain ⟨e0, e1, e2, e3⟩ := idx17 t
  have hN : t.val < 65 := lt_of_lt_of_eq t.isLt (show cfg0.N = 65 from N_0)
  have f0 : ((((cfg0.win 17).blk t).view.emb y) (0 : Fin 4)).val = 2 * min t.val 63 + (y 0).val := by
    show win0_17.index t (0 : Fin 4) * 2 + 1 * (y 0).val = _; omega
  have f1 : ((((cfg0.win 17).blk t).view.emb y) (1 : Fin 4)).val = (y 1).val := by
    show win0_17.index t (1 : Fin 4) * 4 + 1 * (y 1).val = _; omega
  have f2 : ((((cfg0.win 17).blk t).view.emb y) (2 : Fin 4)).val = (y 2).val := by
    show win0_17.index t (2 : Fin 4) * 256 + 1 * (y 2).val = _; omega
  have f3 : ((((cfg0.win 17).blk t).view.emb y) (3 : Fin 4)).val = (y 3).val := by
    show win0_17.index t (3 : Fin 4) * 512 + 1 * (y 3).val = _; omega
  by_cases h : t.val < 64
  · refine (out17_at m c t h y).trans (sampled_at m hfin c t h y _ ?_ f1 f2 f3)
    rw [f0]; omega
  · have h64 : t.val = 64 := by omega
    have h63 : 63 < cfg0.N := by have := N_0; show 63 < grid0.N; omega
    have et : t = ⟨64, by rw [← h64]; exact t.isLt⟩ := Fin.ext h64
    have e : (nextAt m c t).o17 = (nextAt m c ⟨63, h63⟩).o17 :=
      (congrArg (fun q => (nextAt m c q).o17) et).trans (out_end m c (by rw [← h64]; exact t.isLt) h63).2
    refine (congrFun e y).trans ((out17_at m c ⟨63, h63⟩ (by show 63 < 64; omega) y).trans (sampled_at m hfin c ⟨63, h63⟩ (by show 63 < 64; omega) y _ ?_ f1 f2 f3))
    rw [f0, h64]; rfl

/-- The run: both results named, the arguments kept. -/
theorem run_values : θ_run defs (onTc (τ := τ) (main (F := Ideal))) ⟨m, fun _ => 0, ρ⟩ (fun r => (∀ c : Dev nD,
      r.2.mem ((c : Thread nD τ).loc main_v65_1) = promptStates m c ∧ r.2.mem ((c : Thread nD τ).loc main_v65_2) = sampleStates m c)
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_and ((θ_run defs _ _).mono (fun r h c => ⟨((h c).1 16).trans (array16 m hfin c), ((h c).1 17).trans (array17 m hfin c)⟩) (run_main m ρ)) (unchanged m ρ)

end Cert.KernelIdeal.Gen

end
-- ==== Proof.Val.Pre.lean ====
/- What the precondition says: every log decay is a real number. -/
module

public import proofs.«01_k».proof.Proof.Gen.Pre_finite_decay
public import proofs.«01_k».proof.Proof.Math.Cum
public import Idealize.ShloMosaic.Lib.ReduceAll

@[expose] public section

noncomputable section

namespace Cert.Pre_finite_decay.Gen

open Idealize.ShloMosaic Cert.Decay

theorem real_of_abs_lt (x b : EReal) (h : Ideal.cmp .olt (max x (-x)) b = 1#1) : x = ((x.toReal : ℝ) : EReal) := by
  have lt : max x (-x) < b := by
    by_contra k
    have e : Ideal.cmp .olt (max x (-x)) b = BitVec.ofBool false := congrArg BitVec.ofBool (decide_eq_false k)
    rw [e] at h
    exact absurd h (by decide)
  have top : max x (-x) ≠ ⊤ := ne_top_of_lt lt
  refine (EReal.coe_toReal ?_ ?_).symm
  · rintro rfl
    exact top (max_eq_left le_top)
  · rintro rfl
    exact top (max_eq_right bot_le)

theorem real_of_pre (x0 : S8448x12288.Idx → EReal) (x1 : S8448x1024.Idx → EReal) (x2 : S1x512.Idx → EReal) (x3 : S4x512x256.Idx → EReal)
    (x4 : S128x4x256x512.Idx → EReal) (h : Cert.Pre_finite_decay.fn (F := Ideal) x0 x1 x2 x3 x4 = fun _ => 1#1) (n k : ℕ) :
    at2 x1 n k = (((at2 x1 n k).toReal : ℝ) : EReal) := by
  by_cases hb : n < 8448 ∧ k < 1024
  · rw [at2_of_lt x1 n k hb.1 hb.2]
    haveI : Subsingleton S_.Idx := ⟨fun a b => funext fun d => d.elim0⟩
    have e := congrFun h (Shape.Idx.first h_S_)
    have one := Host.reduce_andi_all (t := S_) _ _ _ _ _ e (ij n k hb.1 hb.2)
    exact real_of_abs_lt _ _ one
  · unfold at2
    rw [dif_neg hb, EReal.toReal_zero, EReal.coe_zero]

end Cert.Pre_finite_decay.Gen

end
-- ==== Proof.Val.Ref.lean ====
/- The plain reference read at an index: the states as sums over the positions. -/
module

public import proofs.«01_k».proof.Proof.Gen.ReferenceIdeal.Read
public import proofs.«01_k».proof.Proof.Math.Decay
public import proofs.«01_k».proof.Proof.Math.Cum

@[expose] public section

noncomputable section

namespace Cert.ReferenceIdeal.Read

open Cert.ReferenceIdeal Cert.ReferenceIdeal.Gen Cert.Decay Idealize.ShloMosaic Idealize.ShloMosaic.StableHlo

variable (x0 : S8448x12288.Idx → EReal) (x1 : S8448x1024.Idx → EReal) (x3 : S4x512x256.Idx → EReal) (x4 : S128x4x256x512.Idx → EReal)

/-- The prompts' keys. -/
theorem keys_apply (j : S4x4x2048x256.Idx) :
    val_main_v8 (F := Ideal) x0 j = at2 x0 (2048 * (j 0).val + (j 2).val) (1024 + 256 * (j 1).val + (j 3).val) := by
  have h0 : (j 0).val < 4 := (j 0).isLt
  have h1 : (j 1).val < 4 := (j 1).isLt
  have h2 : (j 2).val < 2048 := (j 2).isLt
  have h3 : (j 3).val < 256 := (j 3).isLt
  rw [val_main_v8_apply, val_main_v7_apply, val_main_v6_apply, val_main_v1_apply, val_main_v0_apply]
  refine (at2_val x0 _).trans (congrArg₂ (at2 x0) ?_ ?_)
  · show ((((j 0).val * 2048 + (j 2).val) * 4 + (j 1).val) * 256 + (j 3).val) / 1024 = _
    omega
  · show 1024 + ((((j 0).val * 2048 + (j 2).val) * 4 + (j 1).val) * 256 + (j 3).val) % 1024 = _
    omega

/-- The prompts' values. -/
theorem vals_apply (j : S4x4x2048x512.Idx) :
    val_main_v11 (F := Ideal) x0 j = at2 x0 (2048 * (j 0).val + (j 2).val) (2048 + 512 * (j 1).val + (j 3).val) := by
  have h0 : (j 0).val < 4 := (j 0).isLt
  have h1 : (j 1).val < 4 := (j 1).isLt
  have h2 : (j 2).val < 2048 := (j 2).isLt
  have h3 : (j 3).val < 512 := (j 3).isLt
  rw [val_main_v11_apply, val_main_v10_apply, val_main_v9_apply, val_main_v2_apply, val_main_v0_apply]
  refine (at2_val x0 _).trans (congrArg₂ (at2 x0) ?_ ?_)
  · show ((((j 0).val * 2048 + (j 2).val) * 4 + (j 1).val) * 512 + (j 3).val) / 2048 = _
    omega
  · show 2048 + ((((j 0).val * 2048 + (j 2).val) * 4 + (j 1).val) * 512 + (j 3).val) % 2048 = _
    omega

/-- The prompts' log decays. -/
theorem logs_apply (j : S4x4x2048x256.Idx) :
    val_main_v14 (F := Ideal) x1 j = at2 x1 (2048 * (j 0).val + (j 2).val) (256 * (j 1).val + (j 3).val) := by
  have h0 : (j 0).val < 4 := (j 0).isLt
  have h1 : (j 1).val < 4 := (j 1).isLt
  have h2 : (j 2).val < 2048 := (j 2).isLt
  have h3 : (j 3).val < 256 := (j 3).isLt
  rw [val_main_v14_apply, val_main_v13_apply, val_main_v12_apply]
  refine (at2_val x1 _).trans (congrArg₂ (at2 x1) ?_ ?_)
  · show ((((j 0).val * 2048 + (j 2).val) * 4 + (j 1).val) * 256 + (j 3).val) / 1024 = _
    omega
  · show ((((j 0).val * 2048 + (j 2).val) * 4 + (j 1).val) * 256 + (j 3).val) % 1024 = _
    omega

variable (hfin : ∀ n c, at2 x1 n c = (((at2 x1 n c).toReal : ℝ) : EReal))

theorem sum_coe (r : ℕ → ℝ) (n : ℕ) : (∑ m ∈ Finset.range n, ((r m : ℝ) : EReal)) = ((pre r n : ℝ) : EReal) := by
  unfold pre
  induction n with
  | zero => simp
  | succ n ih => rw [Finset.sum_range_succ, ih, Finset.sum_range_succ, EReal.coe_add]

theorem zero_init : FloatOps.ofBits (F := Ideal) .f32 0x00000000#32 = (0 : EReal) := by
  exact Ideal.ofBits_zero_f32

section

include hfin

/-- The running sums of the prompts' log decays. -/
theorem sums_apply (j : S4x4x2048x256.Idx) :
    val_main_v15 (F := Ideal) x1 j
      = ((pre (fun n => (at2 x1 (2048 * (j 0).val + n) (256 * (j 1).val + (j 3).val)).toReal) ((j 2).val + 1) : ℝ) : EReal) := by
  have h0 : (j 0).val < 4 := (j 0).isLt
  have h1 : (j 1).val < 4 := (j 1).isLt
  have h2 : (j 2).val < 2048 := (j 2).isLt
  have h3 : (j 3).val < 256 := (j 3).isLt
  unfold val_main_v15 Host.reduceWindowAdd
  rw [Ideal.hostReduceWindowAdd_def]
  refine (running_sum (A := 4) (B := 4) (N := 2048) (D := 256) (M := 2047) (by norm_num) (val_main_v14 (F := Ideal) x1) _ ?_
    reduceWindows_S4x4x2048x256_S4x4x2048x256_w1s1p0_0_w1s1p0_0_w2048s1p2047_0_w1s1p0_0 j).trans ?_
  · rw [val_main_call0_call0_v0_apply, val_main_call0_call0_cst_apply]
    exact zero_init
  · rw [← sum_coe]
    refine Finset.sum_congr rfl fun n hn => ?_
    have hn' := Finset.mem_range.mp hn
    rw [← hfin]
    unfold at4
    rw [dif_pos ⟨h0, h1, by omega, h3⟩]
    exact logs_apply x1 _

/-- The prompts' states. -/
theorem states_apply (i : S4x4x256x512.Idx) :
    val_main_v27 (F := Ideal) x0 x1 x3 i
      = closed (fun n => (at2 x1 (2048 * (i 0).val + n) (256 * (i 1).val + (i 2).val)).toReal)
          (fun n => at2 x0 (2048 * (i 0).val + n) (1024 + 256 * (i 1).val + (i 2).val))
          (fun n => at2 x0 (2048 * (i 0).val + n) (2048 + 512 * (i 1).val + (i 3).val))
          (at3 x3 (i 1).val (i 3).val (i 2).val) 2048 := by
  have h0 : (i 0).val < 4 := (i 0).isLt
  have h1 : (i 1).val < 4 := (i 1).isLt
  have h2 : (i 2).val < 256 := (i 2).isLt
  have h3 : (i 3).val < 512 := (i 3).isLt
  rw [val_main_v27_apply, val_main_v26_apply]
  unfold closed
  refine congrArg₂ (· + ·) ?_ ?_
  · rw [val_main_v21_apply]
    refine (mul_comm _ _).trans (congrArg₂ (· * ·) ?_ ?_)
    · rw [val_main_v5_apply, val_main_v4_apply, val_main_v3_apply]
      exact at3_val x3 _
    · rw [val_main_v20_apply, val_main_v19_apply, val_main_v18_apply, val_main_v17_apply, val_main_v16_apply, sums_apply x1 hfin]
      refine (Ideal.exp_coe _).trans (congrArg (fun e => ((Real.exp e : ℝ) : EReal)) ?_)
      have e0 : (idx_main_v16 (idx_main_v17 (idx_main_v19 (idx_main_v20 i))) 0).val = (i 0).val := by
        show ((((i 0).val * 4 + (i 1).val) * 256 + (i 2).val) / 1024) = _
        omega
      have e1 : (idx_main_v16 (idx_main_v17 (idx_main_v19 (idx_main_v20 i))) 1).val = (i 1).val := by
        show ((((i 0).val * 4 + (i 1).val) * 256 + (i 2).val) / 256 % 4) = _
        omega
      have e3 : (idx_main_v16 (idx_main_v17 (idx_main_v19 (idx_main_v20 i))) 3).val = (i 2).val := by
        show ((((i 0).val * 4 + (i 1).val) * 256 + (i 2).val) % 256) = _
        omega
      rw [e0, e1, e3]
      rfl
  · rw [Finset.sum_range]
    refine Finset.sum_congr rfl fun k _ => ?_
    refine (mul_comm _ _).trans (congrArg₂ (· * ·) (vals_apply x0 _) ?_)
    rw [val_main_v25_apply]
    refine congrArg₂ (· * ·) (keys_apply x0 _) ?_
    rw [val_main_v24_apply, val_main_v23_apply, val_main_v22_apply, val_main_v16_apply, sums_apply x1 hfin, sums_apply x1 hfin]
    refine (congrArg Ideal.exp (EReal.coe_sub _ _).symm).trans (Ideal.exp_coe _)

end

/-- The samples' keys. -/
theorem skeys_apply (j : S128x4x1x256.Idx) :
    val_main_v30 (F := Ideal) x0 j = at2 x0 (8192 + (j 0).val) (1024 + 256 * (j 1).val + (j 3).val) := by
  have h0 : (j 0).val < 128 := (j 0).isLt
  have h1 : (j 1).val < 4 := (j 1).isLt
  have h2 : (j 2).val < 1 := (j 2).isLt
  have h3 : (j 3).val < 256 := (j 3).isLt
  rw [val_main_v30_apply, val_main_v29_apply, val_main_v28_apply, val_main_v1_apply, val_main_v0_apply]
  refine (at2_val x0 _).trans (congrArg₂ (at2 x0) ?_ ?_)
  · show 8192 + ((((j 0).val * 1 + (j 2).val) * 4 + (j 1).val) * 256 + (j 3).val) / 1024 = _
    omega
  · show 1024 + ((((j 0).val * 1 + (j 2).val) * 4 + (j 1).val) * 256 + (j 3).val) % 1024 = _
    omega

/-- The samples' values. -/
theorem svals_apply (j : S128x4x1x512.Idx) :
    val_main_v33 (F := Ideal) x0 j = at2 x0 (8192 + (j 0).val) (2048 + 512 * (j 1).val + (j 3).val) := by
  have h0 : (j 0).val < 128 := (j 0).isLt
  have h1 : (j 1).val < 4 := (j 1).isLt
  have h2 : (j 2).val < 1 := (j 2).isLt
  have h3 : (j 3).val < 512 := (j 3).isLt
  rw [val_main_v33_apply, val_main_v32_apply, val_main_v31_apply, val_main_v2_apply, val_main_v0_apply]
  refine (at2_val x0 _).trans (congrArg₂ (at2 x0) ?_ ?_)
  · show 8192 + ((((j 0).val * 1 + (j 2).val) * 4 + (j 1).val) * 512 + (j 3).val) / 2048 = _
    omega
  · show 2048 + ((((j 0).val * 1 + (j 2).val) * 4 + (j 1).val) * 512 + (j 3).val) % 2048 = _
    omega

/-- The samples' log decays: the running sum of one entry is the entry. -/
theorem slogs_apply (j : S128x4x1x256.Idx) :
    val_main_v37 (F := Ideal) x1 j = at2 x1 (8192 + (j 0).val) (256 * (j 1).val + (j 3).val) := by
  have h0 : (j 0).val < 128 := (j 0).isLt
  have h1 : (j 1).val < 4 := (j 1).isLt
  have h2 : (j 2).val < 1 := (j 2).isLt
  have h3 : (j 3).val < 256 := (j 3).isLt
  unfold val_main_v37 Host.reduceWindowAdd
  rw [Ideal.hostReduceWindowAdd_def]
  refine (running_sum (A := 128) (B := 4) (N := 1) (D := 256) (M := 0) (by norm_num) (val_main_v36 (F := Ideal) x1) _ ?_
    reduceWindows_S128x4x1x256_S128x4x1x256_w1s1p0_0_w1s1p0_0_w1s1p0_0_w1s1p0_0 j).trans ?_
  · rw [val_main_call1_call0_v0_apply, val_main_call1_call0_cst_apply]
    exact zero_init
  · rw [show (j 2).val = 0 by omega, Finset.sum_range_one]
    unfold at4
    rw [dif_pos ⟨h0, h1, by omega, h3⟩, val_main_v36_apply, val_main_v35_apply, val_main_v34_apply]
    refine (at2_val x1 _).trans (congrArg₂ (at2 x1) ?_ ?_)
    · show 8192 + ((((j 0).val * 1 + 0) * 4 + (j 1).val) * 256 + (j 3).val) / 1024 = _
      omega
    · show ((((j 0).val * 1 + 0) * 4 + (j 1).val) * 256 + (j 3).val) % 1024 = _
      omega

include hfin

/-- The samples' states. -/
theorem sstates_apply (i : S128x4x256x512.Idx) :
    val_main_v47 (F := Ideal) x0 x1 x4 i
      = ((Real.exp (at2 x1 (8192 + (i 0).val) (256 * (i 1).val + (i 2).val)).toReal : ℝ) : EReal) * x4 i
        + at2 x0 (8192 + (i 0).val) (1024 + 256 * (i 1).val + (i 2).val) * at2 x0 (8192 + (i 0).val) (2048 + 512 * (i 1).val + (i 3).val) := by
  have h0 : (i 0).val < 128 := (i 0).isLt
  have h1 : (i 1).val < 4 := (i 1).isLt
  have h2 : (i 2).val < 256 := (i 2).isLt
  have h3 : (i 3).val < 512 := (i 3).isLt
  rw [val_main_v47_apply, val_main_v46_apply]
  refine congrArg₂ (· + ·) ?_ ?_
  · rw [val_main_v42_apply]
    refine congrArg₂ (· * ·) ?_ rfl
    rw [val_main_v41_apply, val_main_v40_apply, val_main_v39_apply, val_main_v38_apply, slogs_apply, hfin]
    refine (Ideal.exp_coe _).trans (congrArg (fun e => ((Real.exp e : ℝ) : EReal)) ?_)
    have e0 : (idx_main_v38 (idx_main_v40 (idx_main_v41 i)) 0).val = (i 0).val := by
      show ((((i 0).val * 4 + (i 1).val) * 256 + (i 2).val) / 1024) = _
      omega
    have e1 : (idx_main_v38 (idx_main_v40 (idx_main_v41 i)) 1).val = (i 1).val := by
      show ((((i 0).val * 4 + (i 1).val) * 256 + (i 2).val) / 256 % 4) = _
      omega
    have e3 : (idx_main_v38 (idx_main_v40 (idx_main_v41 i)) 3).val = (i 2).val := by
      show ((((i 0).val * 4 + (i 1).val) * 256 + (i 2).val) % 256) = _
      omega
    rw [e0, e1, e3]
  · rw [Fin.sum_univ_one]
    refine congrArg₂ (· * ·) ?_ (svals_apply x0 _)
    rw [val_main_v45_apply, skeys_apply]
    rw [val_main_v44_apply, val_main_v43_apply, slogs_apply, hfin]
    refine (congrArg₂ (· * ·) rfl (((congrArg Ideal.exp (EReal.coe_sub _ _).symm).trans (Ideal.exp_coe _)).trans
      (?_ : _ = ((1 : ℝ) : EReal)))).trans ?_
    · rw [sub_self, Real.exp_zero]
    · exact (congrArg₂ (· * ·) rfl EReal.coe_one).trans (mul_one _)

end Cert.ReferenceIdeal.Read

end
-- ==== Proof.Up.Runs.lean ====
/- The first feed-forward call: where its branches are taken, and what its body leaves at a grid point, over any float values. -/
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.VecWindow
public import Idealize.ShloMosaic.Lib.Pipeline.Value
public import Idealize.ShloMosaic.Lib.Exec

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition 1: a column block before the last. -/
abbrev cond0_0 (i : grid0.Coords) : Prop := k0_cond1 i = 1#1
theorem hcond0_0 : ∀ t : Fin cfg0.N, cond0_0 (grid0.coords t) ↔ t.val % 44 ≤ 42 :=
  (by decide +kernel : ∀ t : Fin grid0.N, cond0_0 (grid0.coords t) ↔ t.val % 44 ≤ 42)

/-- The body's condition 2: the last column block. -/
abbrev cond0_1 (i : grid0.Coords) : Prop := k0_cond2 i = 1#1
theorem hcond0_1 : ∀ t : Fin cfg0.N, cond0_1 (grid0.coords t) ↔ t.val % 44 = 43 :=
  (by decide +kernel : ∀ t : Fin grid0.N, cond0_1 (grid0.coords t) ↔ t.val % 44 = 43)

/-- The body's condition 3: the first row block, a column block before the last. -/
abbrev cond0_2 (i : grid0.Coords) : Prop := k0_cond3 i = 1#1
theorem hcond0_2 : ∀ t : Fin cfg0.N, cond0_2 (grid0.coords t) ↔ t.val < 43 :=
  (by decide +kernel : ∀ t : Fin grid0.N, cond0_2 (grid0.coords t) ↔ t.val < 43)

/-- The body's condition 4: the first row block, the last column block. -/
abbrev cond0_3 (i : grid0.Coords) : Prop := k0_cond4 i = 1#1
theorem hcond0_3 : ∀ t : Fin cfg0.N, cond0_3 (grid0.coords t) ↔ t.val % 176 = 43 :=
  (by decide +kernel : ∀ t : Fin grid0.N, cond0_3 (grid0.coords t) ↔ t.val % 176 = 43)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := (by decide +kernel : ∀ t : Fin grid0.N, cfg0.idle 4 (grid0.coords t) = false)

/-- The second result's block is stored at the first row block only, -/
theorem liveAt0_5 : ∀ t : Fin cfg0.N, t.val ≤ 43 → cfg0.idle 5 (grid0.coords t) = false :=
  (by decide +kernel : ∀ t : Fin grid0.N, t.val ≤ 43 → cfg0.idle 5 (grid0.coords t) = false)
theorem idleAt0_5 : ∀ t : Fin cfg0.N, ¬t.val ≤ 43 → cfg0.idle 5 (grid0.coords t) = true :=
  (by decide +kernel : ∀ t : Fin grid0.N, ¬t.val ≤ 43 → cfg0.idle 5 (grid0.coords t) = true)
/-- and written back there and after the last point. -/
theorem flush0_5 : ∀ t : Fin cfg0.N, ¬t.val ≤ 43 → (cfg0.win 5).flush t = decide (t.val = 175) := by decide +kernel

/-- Whether the second result's buffer holds nothing stored since it was last written back. -/
def fresh5 : ℕ → Bool
  | 0 => true
  | n + 1 => decide (n < 43) || decide (n = 175)
theorem fresh5_step : ∀ t : Fin cfg0.N,
    fresh5 (t.val + 1) = ((cfg0.win 5).flush t || (cfg0.idle 5 (cfg0.grid.coords t) && fresh5 t.val)) := by decide +kernel
theorem fresh5_eq (t : Fin cfg0.N) : cfg0.fresh 5 t.val = fresh5 t.val :=
  Pipeline.Cfg.fresh_tab cfg0 5 fresh5 rfl fresh5_step t.val (Nat.le_of_lt t.isLt)
theorem notFresh5 : ∀ t : Fin cfg0.N, ¬t.val ≤ 43 → cfg0.fresh 5 t.val = false := by
  intro t; rw [fresh5_eq t]; revert t; decide +kernel

/-- The offset of a whole block. -/
theorem zero2 : (![0, 0] : Fin 2 → ℕ) = fun _ => 0 := by funext a; fin_cases a <;> rfl

/-! The staging buffers at a point. -/

abbrev ms0_0 (t : Fin cfg0.N) : Memref sig .tc .vmem S2080x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2080x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)

set_option maxHeartbeats 1000000 in
/-- At the first row block, before the last column block, both results are stored. -/
theorem runA (c : Dev nD) (i : grid0.Coords) (arg2 : Memref sig .tc .vmem S2080x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S256x4096 .f32) (harg5 : arg5.IsWhole) (arg6 : Memref sig .tc .vmem S2080x256 .bf16) (harg6 : arg6.IsWhole) (arg7 : Memref sig .tc .vmem S256x4096 .bf16) (harg7 : arg7.IsWhole)
    (hc0 : cond0_0 i) (hc1 : ¬cond0_1 i) (hc2 : cond0_2 i) (hc3 : ¬cond0_3 i) (x0 : Vec F S2080x4096 .bf16) (x1 : Vec F S4096x256 .f32) (x2 : Vec F S4096x256 .f32) (x3 : Vec F S256x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1 x2) ∗ owns (c : Thread nD τ) arg7 fullShare (k0_pay3 x3)) -∗ K ⟨⟩))
      ⊢ wp frame (wpE (defs₀ (F := F)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    sl_unfold_words
    simp only [View.readAt_eq_ld, Memref.IsWhole.read_unread, View.ld_unit_zero (S := S2080x4096) zero2, View.ld_unit_zero (S := S4096x256) zero2, View.ld_unit_zero (S := S256x4096) zero2]
  iexists _; isplitr; swap; · iexact H5
  ipureintro
  refine (View.read_writes_full _ _ _ _ _).trans ?_
  sl_unfold_words
  simp only [View.readAt_eq_ld, Memref.IsWhole.read_unread, View.ld_unit_zero (S := S2080x4096) zero2, View.ld_unit_zero (S := S4096x256) zero2, View.ld_unit_zero (S := S256x4096) zero2]

set_option maxHeartbeats 1000000 in
/-- At the first row block's last column block both are stored as zeros. -/
theorem runB (c : Dev nD) (i : grid0.Coords) (arg2 : Memref sig .tc .vmem S2080x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S256x4096 .f32) (harg5 : arg5.IsWhole) (arg6 : Memref sig .tc .vmem S2080x256 .bf16) (harg6 : arg6.IsWhole) (arg7 : Memref sig .tc .vmem S256x4096 .bf16) (harg7 : arg7.IsWhole)
    (hc0 : ¬cond0_0 i) (hc1 : cond0_1 i) (hc2 : ¬cond0_2 i) (hc3 : cond0_3 i) (x0 : Vec F S2080x4096 .bf16) (x1 : Vec F S4096x256 .f32) (x2 : Vec F S4096x256 .f32) (x3 : Vec F S256x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare ((k0_pay2 (F := F))) ∗ owns (c : Thread nD τ) arg7 fullShare ((k0_pay4 (F := F)))) -∗ K ⟨⟩))
      ⊢ wp frame (wpE (defs₀ (F := F)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact View.read_writes_full _ _ _ _ _
  iexists _; isplitr; swap; · iexact H5
  ipureintro
  exact View.read_writes_full _ _ _ _ _

set_option maxHeartbeats 1000000 in
/-- At a later row block, before the last column block, only the first result is stored. -/
theorem runC (c : Dev nD) (i : grid0.Coords) (arg2 : Memref sig .tc .vmem S2080x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S256x4096 .f32) (harg5 : arg5.IsWhole) (arg6 : Memref sig .tc .vmem S2080x256 .bf16) (harg6 : arg6.IsWhole) (arg7 : Memref sig .tc .vmem S256x4096 .bf16) (harg7 : arg7.IsWhole)
    (hc0 : cond0_0 i) (hc1 : ¬cond0_1 i) (hc2 : ¬cond0_2 i) (hc3 : ¬cond0_3 i) (x0 : Vec F S2080x4096 .bf16) (x1 : Vec F S4096x256 .f32) (x2 : Vec F S4096x256 .f32) (x3 : Vec F S256x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1 x2)) -∗ K ⟨⟩))
      ⊢ wp frame (wpE (defs₀ (F := F)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  refine (View.read_writes_full _ _ _ _ _).trans ?_
  sl_unfold_words
  simp only [View.readAt_eq_ld, Memref.IsWhole.read_unread, View.ld_unit_zero (S := S2080x4096) zero2, View.ld_unit_zero (S := S4096x256) zero2, View.ld_unit_zero (S := S256x4096) zero2]

set_option maxHeartbeats 1000000 in
/-- At a later row block's last column block the first result is stored as zeros. -/
theorem runD (c : Dev nD) (i : grid0.Coords) (arg2 : Memref sig .tc .vmem S2080x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S256x4096 .f32) (harg5 : arg5.IsWhole) (arg6 : Memref sig .tc .vmem S2080x256 .bf16) (harg6 : arg6.IsWhole) (arg7 : Memref sig .tc .vmem S256x4096 .bf16) (harg7 : arg7.IsWhole)
    (hc0 : ¬cond0_0 i) (hc1 : cond0_1 i) (hc2 : ¬cond0_2 i) (hc3 : ¬cond0_3 i) (x0 : Vec F S2080x4096 .bf16) (x1 : Vec F S4096x256 .f32) (x2 : Vec F S4096x256 .f32) (x3 : Vec F S256x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare ((k0_pay2 (F := F)))) -∗ K ⟨⟩))
      ⊢ wp frame (wpE (defs₀ (F := F)) Variants.none c none) Set.univ (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro
  exact View.read_writes_full _ _ _ _ _

end Cert.Kernel2Ideal.Gen

end
-- ==== Proof.Up.Frame.lean ====
/- The first feed-forward call run as a whole, over any float values: what each result's block holds after a grid point, and the frame. -/
module

public import proofs.«01_k».proof.Proof.Up.Runs
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves of the first result: the gated product, zeros in the last column block. -/
def left4 (c : Dev nD) (t : Fin cfg0.N) : Vec F S2080x256 .bf16 :=
  if t.val % 44 ≤ 42 then k0_pay1 (iblk m c 0 t) (iblk m c 1 t) (iblk m c 2 t) else k0_pay2

/-- What it leaves of the second: the weight's block, and from the first row block's last column block on zeros. -/
def left5 (c : Dev nD) (t : Fin cfg0.N) : Vec F S256x4096 .bf16 :=
  if t.val < 43 then k0_pay3 (iblk m c 3 t) else k0_pay4

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left4 m c t
    | ⟨5, _⟩ => left5 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left4 m c t := by dsimp only [dats]
theorem after0_5 (c : Dev nD) (t : Fin cfg0.N) : (dats m 0 c).after 5 t = left5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The second result's block is carried through the later row blocks, which store nothing into it. -/
theorem carry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5]
  by_cases h : t.val ≤ 43
  · rw [liveAt0_5 t h] at hi
    exact absurd hi Bool.false_ne_true
  · unfold left5
    rw [if_neg (by omega), if_neg (by show ¬t.val - 1 < 43; omega)]

theorem before5 (c : Dev nD) (t : Fin cfg0.N) (h : ¬t.val ≤ 43) (d) : (dats m 0 c).before 5 t d = k0_pay4 := by
  rw [Dat.before_out_traj _ 5 rfl (fun _ _ => rfl) (carry5 m c) t.val t rfl d, if_neg (by rw [notFresh5 t h]; exact Bool.false_ne_true), after0_5]
  unfold left5
  rw [if_neg (by show ¬t.val - 1 < 43; omega)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The two results' parts of it: -/
theorem leaves4 (c : Dev nD) (t : Fin cfg0.N) : (dats m 0 c).leavesExact 4 t = owns (c : Thread nD τ) (ms0_4 t) fullShare (left4 m c t) := by
  rw [← after0_4]; unfold Dat.leavesExact; rw [liveAt0_4 t]
/-- where the second is stored, -/
theorem leaves5_live (c : Dev nD) (t : Fin cfg0.N) (h : t.val ≤ 43) : (dats m 0 c).leavesExact 5 t = owns (c : Thread nD τ) (ms0_5 t) fullShare (left5 m c t) := by
  rw [← after0_5]; unfold Dat.leavesExact; rw [liveAt0_5 t h]
/-- and where it is not. -/
theorem leaves5_idle (c : Dev nD) (t : Fin cfg0.N) (h : ¬t.val ≤ 43) :
    owns (c : Thread nD τ) (ms0_5 t) fullShare (k0_pay4 (F := F)) ⊢ (dats m 0 c).leavesExact 5 t := by
  by_cases h' : t.val = 175
  · rw [show (dats m 0 c).leavesExact 5 t = owns (c : Thread nD τ) (ms0_5 t) fullShare ((dats m 0 c).after 5 t) from by
      unfold Dat.leavesExact; rw [idleAt0_5 t h, (flush0_5 t h).trans (decide_eq_true h')]]
    rw [after0_5]
    unfold left5
    rw [if_neg (by omega)]
  · rw [Dat.leavesExact_idle (dats m 0 c) 5 t (idleAt0_5 t h) ((flush0_5 t h).trans (decide_eq_false h'))]
    iintro H
    iexists (k0_pay4 (F := F))
    rw [before5 m c t h]
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 176 := lt_of_lt_of_eq t.isLt (show cfg0.N = 176 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [leaves4]
  by_cases h0 : t.val % 44 ≤ 42
  · by_cases h1 : t.val < 43
    · rw [show left4 m c t = k0_pay1 (iblk m c 0 t) (iblk m c 1 t) (iblk m c 2 t) from if_pos (by omega)]
      rw [leaves5_live m c t (by omega), show left5 m c t = k0_pay3 (iblk m c 3 t) from if_pos (by omega)]
      iintro ⟨HΦ, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ ((hcond0_0 t).mpr (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [show left4 m c t = k0_pay1 (iblk m c 0 t) (iblk m c 1 t) (iblk m c 2 t) from if_pos (by omega)]
      simp only [before5 m c t (show ¬t.val ≤ 43 by omega)]
      iintro ⟨HΦ, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iapply (leaves5_idle m c t (by omega))
      iexact H5
  · by_cases h1 : t.val = 43
    · rw [show left4 m c t = k0_pay2 from if_neg (by omega)]
      rw [leaves5_live m c t (by omega), show left5 m c t = k0_pay4 from if_neg (by omega)]
      iintro ⟨HΦ, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ (fun h => absurd ((hcond0_0 t).mp h) (by omega)) ((hcond0_1 t).mpr (by omega)) (fun h => absurd ((hcond0_2 t).mp h) (by omega)) ((hcond0_3 t).mpr (by omega)) (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [show left4 m c t = k0_pay2 from if_neg (by omega)]
      simp only [before5 m c t (show ¬t.val ≤ 43 by omega)]
      iintro ⟨HΦ, Ho, ⟨%d0, H0⟩, ⟨%d1, H1⟩, ⟨%d2, H2⟩, ⟨%d3, H3⟩, ⟨%d4, H4⟩, ⟨%d5, H5⟩⟩
      iapply (runD c (grid0.coords t) _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) _)
      isplitl [H0]; · iexact H0
      isplitl [H1]; · iexact H1
      isplitl [H2]; · iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iapply (leaves5_idle m c t (by omega))
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, and every semaphore counter of the machine at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel2Ideal.Gen

end
-- ==== Proof.Math.Feed.lean ====
/- The gated feed-forward product as a formula over matrices. -/
module

public import proofs.«01_k».proof.Proof.Math.Cum

@[expose] public section

noncomputable section

namespace Cert.Decay

open Idealize.ShloMosaic

/-- Row `n` of one matrix times column `c` of another, over the first `K` positions. -/
def rowCol {A B C D : ℕ} (K : ℕ) (x : (⟨2, ![A, B]⟩ : Shape).Idx → EReal) (w : (⟨2, ![C, D]⟩ : Shape).Idx → EReal) (n c : ℕ) : EReal :=
  ∑ k ∈ Finset.range K, at2 x n k * at2 w k c

/-- The gated product at row `n`, column `c`: the gate times its logistic, times the other product. -/
def gated {A B C D : ℕ} (K : ℕ) (h : (⟨2, ![A, B]⟩ : Shape).Idx → EReal) (wg wu : (⟨2, ![C, D]⟩ : Shape).Idx → EReal) (n c : ℕ) : EReal :=
  rowCol K h wg n c * Ideal.logistic (rowCol K h wg n c) * rowCol K h wu n c

theorem at2_outside {A B : ℕ} (x : (⟨2, ![A, B]⟩ : Shape).Idx → EReal) (n c : ℕ) (h : A ≤ n ∨ B ≤ c) : at2 x n c = 0 := by
  unfold at2
  rw [dif_neg (by omega)]

end Cert.Decay

end
-- ==== Proof.Up.Values.lean ====
/- The first feed-forward call's two results as arrays, at the extended reals. -/
module

public import proofs.«01_k».proof.Proof.Up.Frame
public import proofs.«01_k».proof.Proof.Math.Feed
public import proofs.«01_k».proof.Proof.Val.Step
public import Idealize.ShloMosaic.Lib.Pipeline.ValueKit

@[expose] public section

noncomputable section

namespace Cert.Kernel2Ideal.Gen

open Idealize Idealize.ShloMosaic Idealize.ShloMosaic.TcCoe Idealize.ShloMosaic.Tactic Cert.Decay Idealize.SL.Sem
open Cert.KernelIdeal.Gen (product_sum)
open Idealize.ShloMosaic.Pipeline (Dat)

/-- The first result over the operands: the gated product, and zeros in the columns past the last. -/
def gatedPad (h : S8320x4096.Idx → EReal) (wg wu : S4096x11008.Idx → EReal) : S8320x11264.Idx → EReal := fun y =>
  if (y 1).val < 11008 then gated 4096 h wg wu (y 0).val (y 1).val else 0

/-- The second over its operand: the weight, and zeros in the rows past the last. -/
def weightPad (wd : S11008x4096.Idx → EReal) : S11264x4096.Idx → EReal := fun y => at2 wd (y 0).val (y 1).val

/-- A block's product. -/
theorem product_up (l : S2080x4096.Idx → EReal) (r : S4096x256.Idx → EReal) (j : S2080x256.Idx) :
    (matmul (φ₁ := .bf16) (φ₂ := .bf16) dot_S2080x4096_S4096x256_S2080x256_1_0_0_1_n_n none (l : FVec Ideal S2080x4096 .bf16) (r : FVec Ideal S4096x256 .bf16)
      (constant S2080x256 .f32 0x00000000#32) : FVec Ideal S2080x256 .f32) j
      = rowCol 4096 l r (j 0).val (j 1).val := by
  refine product_sum _ l r j 4096 rfl rfl _ _ (fun q => ?_) (fun q => ?_)
  · refine (at2_val l _).trans (congrArg₂ (at2 l) ?_ (DotDims.lhsIdx_val_of_single _ rfl j q))
    unfold DotDims.lhsIdx
    rw [dif_neg (show ¬(0 : Fin S2080x4096.rank) ∈ dot_S2080x4096_S4096x256_S2080x256_1_0_0_1_n_n.lhsBatch by decide),
      dif_pos (show (0 : Fin S2080x4096.rank) ∈ dot_S2080x4096_S4096x256_S2080x256_1_0_0_1_n_n.lhsNonContracting by decide)]
    rfl
  · refine (at2_val r _).trans (congrArg₂ (at2 r) (DotDims.rhsIdx_val_of_single _ rfl j q) ?_)
    unfold DotDims.rhsIdx
    rw [dif_neg (show ¬(1 : Fin S4096x256.rank) ∈ dot_S2080x4096_S4096x256_S2080x256_1_0_0_1_n_n.rhsBatch by decide),
      dif_pos (show (1 : Fin S4096x256.rank) ∈ dot_S2080x4096_S4096x256_S2080x256_1_0_0_1_n_n.rhsNonContracting by decide)]
    rfl

theorem gate_at (h : S2080x4096.Idx → EReal) (wg wu : S4096x256.Idx → EReal) (j : S2080x256.Idx) :
    k0_pay1 (F := Ideal) h wg wu j = gated 4096 h wg wu (j 0).val (j 1).val := by
  unfold gated
  rw [← product_up h wg j, ← product_up h wu j]
  rfl

theorem zeros4_at (j : S2080x256.Idx) : k0_pay2 (F := Ideal) j = 0 := by
  show Ideal.ofBits .bf16 0x0000#16 = 0
  simp [Ideal.ofBits, Ideal.ieee]

theorem zeros5_at (j : S256x4096.Idx) : k0_pay4 (F := Ideal) j = 0 := by
  show Ideal.ofBits .bf16 0x0000#16 = 0
  simp [Ideal.ofBits, Ideal.ieee]

variable (m : (ℓ : Loc nD τ sig) → Buf (Elt Ideal) ℓ) (ρ : Dev nD → PrngReg)

theorem idx0 : ∀ t : Fin cfg0.N, win0_0.index t (0 : Fin 2) = t.val / 44 ∧ win0_0.index t (1 : Fin 2) = 0 := (by decide +kernel : ∀ t : Fin grid0.N, _)
theorem idx1 : ∀ t : Fin cfg0.N, win0_1.index t (0 : Fin 2) = 0 ∧ win0_1.index t (1 : Fin 2) = min (t.val % 44) 42 := (by decide +kernel : ∀ t : Fin grid0.N, _)
theorem idx2 : ∀ t : Fin cfg0.N, win0_2.index t (0 : Fin 2) = 0 ∧ win0_2.index t (1 : Fin 2) = min (t.val % 44) 42 := (by decide +kernel : ∀ t : Fin grid0.N, _)
theorem idx3 : ∀ t : Fin cfg0.N, win0_3.index t (0 : Fin 2) = min t.val 42 ∧ win0_3.index t (1 : Fin 2) = 0 := (by decide +kernel : ∀ t : Fin grid0.N, _)
theorem idx4 : ∀ t : Fin cfg0.N, win0_4.index t (0 : Fin 2) = t.val / 44 ∧ win0_4.index t (1 : Fin 2) = t.val % 44 := (by decide +kernel : ∀ t : Fin grid0.N, _)
theorem idx5 : ∀ t : Fin cfg0.N, win0_5.index t (0 : Fin 2) = min t.val 43 ∧ win0_5.index t (1 : Fin 2) = 0 := (by decide +kernel : ∀ t : Fin grid0.N, _)

/-- The call's operands. -/
abbrev argH (c : Dev nD) : S8320x4096.Idx → EReal := m ((c : Thread nD τ).loc main_arg0)
abbrev argG (c : Dev nD) : S4096x11008.Idx → EReal := m ((c : Thread nD τ).loc main_arg1)
abbrev argU (c : Dev nD) : S4096x11008.Idx → EReal := m ((c : Thread nD τ).loc main_arg2)
abbrev argD (c : Dev nD) : S11008x4096.Idx → EReal := m ((c : Thread nD τ).loc main_arg3)

theorem h_at (c : Dev nD) (t : Fin cfg0.N) (n k : ℕ) (hn : n < 2080) (hk : k < 4096) :
    at2 (A := 2080) (B := 4096) (iblk m c 0 t) n k = at2 (A := 8320) (B := 4096) (argH m c) (2080 * (t.val / 44) + n) k := by
  obtain ⟨e0, e1⟩ := idx0 t
  refine (at2_of_lt _ n k hn hk).trans ?_
  show V m c main_arg0 (((cfg0.win 0).blk t).view.emb (ij n k hn hk)) = _
  rw [V_main_arg0]
  refine (at2_val (A := 8320) (B := 4096) _ _).trans (congrArg₂ (at2 _) ?_ ?_)
  · show win0_0.index t (0 : Fin 2) * 2080 + 1 * n = _; omega
  · show win0_0.index t (1 : Fin 2) * 4096 + 1 * k = _; omega

theorem wg_at (c : Dev nD) (t : Fin cfg0.N) (n k : ℕ) (hn : n < 4096) (hk : k < 256) :
    at2 (A := 4096) (B := 256) (iblk m c 1 t) n k = at2 (A := 4096) (B := 11008) (argG m c) n (256 * min (t.val % 44) 42 + k) := by
  obtain ⟨e0, e1⟩ := idx1 t
  refine (at2_of_lt _ n k hn hk).trans ?_
  show V m c main_arg1 (((cfg0.win 1).blk t).view.emb (ij n k hn hk)) = _
  rw [V_main_arg1]
  refine (at2_val (A := 4096) (B := 11008) _ _).trans (congrArg₂ (at2 _) ?_ ?_)
  · show win0_1.index t (0 : Fin 2) * 4096 + 1 * n = _; omega
  · show win0_1.index t (1 : Fin 2) * 256 + 1 * k = _; omega

theorem wu_at (c : Dev nD) (t : Fin cfg0.N) (n k : ℕ) (hn : n < 4096) (hk : k < 256) :
    at2 (A := 4096) (B := 256) (iblk m c 2 t) n k = at2 (A := 4096) (B := 11008) (argU m c) n (256 * min (t.val % 44) 42 + k) := by
  obtain ⟨e0, e1⟩ := idx2 t
  refine (at2_of_lt _ n k hn hk).trans ?_
  show V m c main_arg2 (((cfg0.win 2).blk t).view.emb (ij n k hn hk)) = _
  rw [V_main_arg2]
  refine (at2_val (A := 4096) (B := 11008) _ _).trans (congrArg₂ (at2 _) ?_ ?_)
  · show win0_2.index t (0 : Fin 2) * 4096 + 1 * n = _; omega
  · show win0_2.index t (1 : Fin 2) * 256 + 1 * k = _; omega

theorem left4_at (c : Dev nD) (t : Fin cfg0.N) (y : S2080x256.Idx) (z : S8320x11264.Idx)
    (h0 : (z 0).val = 2080 * (t.val / 44) + (y 0).val) (h1 : (z 1).val = 256 * (t.val % 44) + (y 1).val) :
    left4 m c t y = gatedPad (argH m c) (argG m c) (argU m c) z := by
  have b0 : (y 0).val < 2080 := (y 0).isLt
  have b1 : (y 1).val < 256 := (y 1).isLt
  unfold left4 gatedPad
  by_cases ht : t.val % 44 ≤ 42
  · rw [if_pos ht, if_pos (by omega), h0, h1]
    refine (gate_at _ _ _ y).trans ?_
    have eg : rowCol 4096 (A := 2080) (B := 4096) (C := 4096) (D := 256) (iblk m c 0 t) (iblk m c 1 t) (y 0).val (y 1).val
        = rowCol 4096 (argH m c) (argG m c) (2080 * (t.val / 44) + (y 0).val) (256 * (t.val % 44) + (y 1).val) := by
      unfold rowCol
      refine Finset.sum_congr rfl fun k hk => ?_
      have hk := Finset.mem_range.mp hk
      rw [h_at m c t _ _ b0 hk, wg_at m c t _ _ hk b1, Nat.min_eq_left ht]
    have eu : rowCol 4096 (A := 2080) (B := 4096) (C := 4096) (D := 256) (iblk m c 0 t) (iblk m c 2 t) (y 0).val (y 1).val
        = rowCol 4096 (argH m c) (argU m c) (2080 * (t.val / 44) + (y 0).val) (256 * (t.val % 44) + (y 1).val) := by
      unfold rowCol
      refine Finset.sum_congr rfl fun k hk => ?_
      have hk := Finset.mem_range.mp hk
      rw [h_at m c t _ _ b0 hk, wu_at m c t _ _ hk b1, Nat.min_eq_left ht]
    unfold gated
    rw [eg, eu]
  · rw [if_neg ht, if_neg (by omega)]
    exact zeros4_at y

theorem array4 (c : Dev nD) : (dats m 0 c).arrAt 4 cfg0.N = gatedPad (argH m c) (argG m c) (argU m c) := by
  refine (dats m 0 c).arrAt_eq_of_covers 4 _ (by decide +kernel) fun t _ y => ?_
  show (dats m 0 c).after 4 t y = _
  rw [after0_4]
  obtain ⟨e0, e1⟩ := idx4 t
  refine left4_at m c t y _ ?_ ?_
  · show win0_4.index t (0 : Fin 2) * 2080 + 1 * (y 0).val = _; omega
  · show win0_4.index t (1 : Fin 2) * 256 + 1 * (y 1).val = _; omega

theorem flush5 : ∀ t : Fin cfg0.N, (cfg0.win 5).flush t = true → t.val < 43 ∨ t.val = 175 := by decide +kernel

theorem array5 (c : Dev nD) : (dats m 0 c).arrAt 5 cfg0.N = weightPad (argD m c) := by
  refine (dats m 0 c).arrAt_eq_of_covers 5 _ (by decide +kernel) fun t hf y => ?_
  show (dats m 0 c).after 5 t y = _
  rw [after0_5]
  obtain ⟨e0, e1⟩ := idx5 t
  have b0 : (y 0).val < 256 := (y 0).isLt
  have b1 : (y 1).val < 4096 := (y 1).isLt
  unfold weightPad
  have f0 : ((((cfg0.win 5).blk t).view.emb y) (0 : Fin 2)).val = 256 * min t.val 43 + (y 0).val := by
    show win0_5.index t (0 : Fin 2) * 256 + 1 * (y 0).val = _; omega
  have f1 : ((((cfg0.win 5).blk t).view.emb y) (1 : Fin 2)).val = (y 1).val := by
    show win0_5.index t (1 : Fin 2) * 4096 + 1 * (y 1).val = _; omega
  rw [f0, f1]
  unfold left5
  by_cases h : t.val < 43
  · rw [if_pos h]
    obtain ⟨d0, d1⟩ := idx3 t
    show V m c main_arg3 (((cfg0.win 3).blk t).view.emb y) = _
    rw [V_main_arg3]
    refine (at2_val (A := 11008) (B := 4096) _ _).trans (congrArg₂ (at2 _) ?_ ?_)
    · show win0_3.index t (0 : Fin 2) * 256 + 1 * (y 0).val = _; omega
    · show win0_3.index t (1 : Fin 2) * 4096 + 1 * (y 1).val = _; omega
  · rw [if_neg h, at2_outside _ _ _ (by have := flush5 t hf; omega)]
    exact zeros5_at y

/-- The run: both results named, the arguments kept. -/
theorem run_values : θ_run defs (onTc (τ := τ) (main (F := Ideal))) ⟨m, fun _ => 0, ρ⟩ (fun r => (∀ c : Dev nD,
      r.2.mem ((c : Thread nD τ).loc main_v0_0) = gatedPad (argH m c) (argG m c) (argU m c) ∧ r.2.mem ((c : Thread nD τ).loc main_v0_1) = weightPad (argD m c))
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_and ((θ_run defs _ _).mono (fun r h c => ⟨((h c).1 4).trans (array4 m c), ((h c).1 5).trans (array5 m c)⟩) (run_main m ρ)) (unchanged m ρ)

end Cert.Kernel2Ideal.Gen

end
-- ==== Proof.Up.Reference.lean ====
/- The first feed-forward call's reference, read at an index. -/
module

public import proofs.«01_k».proof.Proof.Up.Values
public import proofs.«01_k».proof.Proof.Gen.Reference2Ideal.Read

@[expose] public section

noncomputable section

namespace Cert.Reference2Ideal.Read

open Cert.Reference2Ideal.Gen Cert.Decay Idealize.ShloMosaic Idealize.ShloMosaic.TcCoe
open Cert.Kernel2Ideal.Gen (gatedPad weightPad)

theorem one_f32 : Ideal.ofBits .f32 0x3F800000#32 = 1 := by
  simp [Ideal.ofBits, Ideal.ieee, -EReal.coe_mul]; norm_num

theorem gate_sum (x0 : S8320x4096.Idx → EReal) (x1 : S4096x11008.Idx → EReal) (i : S8320x11008.Idx) :
    val_main_v1 (F := Ideal) x0 x1 i = rowCol 4096 x0 x1 (i 0).val (i 1).val := by
  rw [val_main_v1_apply]
  unfold rowCol
  rw [Finset.sum_range]
  refine Finset.sum_congr rfl fun k _ => congrArg₂ (· * ·) ?_ ?_
  · exact at2_val (A := 8320) (B := 4096) x0 _
  · exact at2_val (A := 4096) (B := 11008) x1 _

theorem up_sum (x0 : S8320x4096.Idx → EReal) (x2 : S4096x11008.Idx → EReal) (i : S8320x11008.Idx) :
    val_main_v3 (F := Ideal) x0 x2 i = rowCol 4096 x0 x2 (i 0).val (i 1).val := gate_sum x0 x2 i

theorem gated_at (x0 : S8320x4096.Idx → EReal) (x1 x2 : S4096x11008.Idx → EReal) (i : S8320x11008.Idx) :
    val_main_v4 (F := Ideal) x0 x1 x2 i = gated 4096 x0 x1 x2 (i 0).val (i 1).val := by
  unfold gated Ideal.logistic
  rw [← gate_sum x0 x1 i, ← up_sum x0 x2 i, ← one_f32]
  rfl

theorem gatedPad_at (x0 : S8320x4096.Idx → EReal) (x1 x2 : S4096x11008.Idx → EReal) (y : S8320x11264.Idx) :
    val_main_v6 (F := Ideal) x0 x1 x2 y = gatedPad x0 x1 x2 y := by
  have b0 : (y 0).val < 8320 := (y 0).isLt
  show val_main_v5 (F := Ideal) x0 x1 x2 y = _
  unfold val_main_v5 gatedPad pad
  by_cases h : (y 1).val < 11008
  · rw [if_pos h, dif_pos (by
      intro a
      match a with
      | ⟨0, _⟩ => exact ⟨Nat.zero_le _, Nat.mod_one _, by show ((y 0).val - 0) / 1 < 8320; omega⟩
      | ⟨1, _⟩ => exact ⟨Nat.zero_le _, Nat.mod_one _, by show ((y 1).val - 0) / 1 < 11008; omega⟩)]
    refine (gated_at x0 x1 x2 _).trans (congrArg₂ (gated 4096 x0 x1 x2) ?_ ?_)
    · show ((y 0).val - 0) / 1 = _; omega
    · show ((y 1).val - 0) / 1 = _; omega
  · rw [if_neg h, dif_neg (fun hin => h (by have := (hin 1).2.2; change ((y 1).val - 0) / 1 < 11008 at this; omega))]
    show ((((0#32 : BitVec 32).toInt : ℝ)) : EReal) = 0
    simp

theorem weightPad_at (x3 : S11008x4096.Idx → EReal) (y : S11264x4096.Idx) :
    val_main_v8 (F := Ideal) x3 y = weightPad x3 y := by
  have b1 : (y 1).val < 4096 := (y 1).isLt
  show val_main_v7 (F := Ideal) x3 y = _
  unfold val_main_v7 weightPad pad
  by_cases h : (y 0).val < 11008
  · rw [dif_pos (by
      intro a
      match a with
      | ⟨0, _⟩ => exact ⟨Nat.zero_le _, Nat.mod_one _, by show ((y 0).val - 0) / 1 < 11008; omega⟩
      | ⟨1, _⟩ => exact ⟨Nat.zero_le _, Nat.mod_one _, by show ((y 1).val - 0) / 1 < 4096; omega⟩)]
    refine (at2_val (A := 11008) (B := 4096) x3 _).trans (congrArg₂ (at2 x3) ?_ ?_)
    · show ((y 0).val - 0) / 1 = _; omega
    · show ((y 1).val - 0) / 1 = _; omega
  · rw [at2_outside _ _ _ (by omega), dif_neg (fun hin => h (by have := (hin 0).2.2; change ((y 0).val - 0) / 1 < 11008 at this; omega))]
    show ((((0#32 : BitVec 32).toInt : ℝ)) : EReal) = 0
    simp

end Cert.Reference2Ideal.Read

end
-- ==== Proof.Up.Claims.lean ====
/- The first feed-forward call's claims: its frames, and that kernel and reference end with the same two arrays. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Up.Reference
public import Idealize.ShloMosaic.Adequacy
public import Idealize.ShloMosaic.Init

@[expose] public section

noncomputable section

namespace Cert.Up

open Idealize.ShloMosaic Idealize.SL.Sem

/-- The kernel's frame with the second program in place of the first: the two have the same text. -/
def FrameBits : Prop := ∀ (m : (ℓ : Loc Cert.Kernel2Ideal.nD Cert.Kernel2Ideal.τ Cert.Kernel2Ideal.sig) → Buf (Elt Bits) ℓ)
    (g : Dev Cert.Kernel2Ideal.nD → PrngReg), Cert.Pre_Kernel2 m →
  θ_run (Cert.Kernel2Ideal.defs (F := Bits)) (onTc (τ := Cert.Kernel2Ideal.τ) (Cert.Kernel2Ideal.main (F := Bits)))
    ⟨m, fun _ => 0, g⟩ (fun r => (∀ c : Dev Cert.Kernel2Ideal.nD,
      r.2.mem ((c.tc : Thread Cert.Kernel2Ideal.nD Cert.Kernel2Ideal.τ).loc Cert.Kernel2Ideal.main_arg0)
        = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1)
        = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2)
        = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3)
        = m ((c.tc : Thread Cert.Kernel2Ideal.nD Cert.Kernel2Ideal.τ).loc Cert.Kernel2Ideal.main_arg3))
      ∧ r.2.sem = fun _ => 0)

theorem frameBits : FrameBits := fun m ρ _ => Cert.Kernel2Ideal.Gen.frame (F := Bits) m ρ

theorem same_text : Cert.quiescent_Kernel2 = FrameBits := by
  sl_kernel_rfl

/-- The kernel at the machine's floats: the one run, read at `Bits`. -/
theorem frame_kernel : Cert.quiescent_Kernel2 := same_text ▸ frameBits

/-- The kernel at the extended reals. -/
theorem frame_ideal : Cert.quiescent_Kernel2Ideal := fun m ρ _ =>
  (θ_run Cert.Kernel2Ideal.defs _ _).mono (fun _ h => h) (Cert.Kernel2Ideal.Gen.frame (F := Ideal) m ρ)

/-- The reference at the extended reals. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Kernel and reference end with the same gated product and the same padded weight. -/
theorem same_arrays : Cert.algebraic_Kernel2Ideal_Reference2Ideal := by
  intro m g m' g' _ hargs
  refine ⟨fun c => Cert.Kernel2Ideal.Gen.gatedPad (Cert.Kernel2Ideal.Gen.argH m c) (Cert.Kernel2Ideal.Gen.argG m c) (Cert.Kernel2Ideal.Gen.argU m c),
    fun c => Cert.Kernel2Ideal.Gen.weightPad (Cert.Kernel2Ideal.Gen.argD m c),
    (θ_run Cert.Kernel2Ideal.defs _ _).mono (fun r h c => ⟨(h.1 c).1, (h.1 c).2, h.2 c⟩) (Cert.Kernel2Ideal.Gen.run_values m g),
    (θ_run Cert.Reference2Ideal.defs _ _).mono (fun r h c => ⟨(h c).1.trans ?_, (h c).2.1.trans ?_, (h c).2.2⟩)
      (Cert.Reference2Ideal.Value.run (F := Ideal) m' g')⟩
  · obtain ⟨e0, e1, e2, e3⟩ := hargs c
    refine (Cert.Reference2Ideal.Read.val_main_v6_eq _ _ _).trans ?_
    rw [e0, e1, e2]
    funext i
    exact Cert.Reference2Ideal.Read.gatedPad_at _ _ _ i
  · obtain ⟨e0, e1, e2, e3⟩ := hargs c
    refine (Cert.Reference2Ideal.Read.val_main_v8_eq _).trans ?_
    rw [e3]
    funext i
    exact Cert.Reference2Ideal.Read.weightPad_at _ i

end Cert.Up

end
-- ==== Proof.Down.Runs.lean ====
/- The second feed-forward call: what its body leaves at a grid point, over any float values. -/
module

public import proofs.«01_k».proof.Proof.Gen.Kernel3Ideal.Frame
public import proofs.«01_k».proof.Proof.Gen.Kernel3Ideal.Skeleton
public import Idealize.ShloMosaic.Lib.VecWindow
public import Idealize.ShloMosaic.Lib.Pipeline.Value
public import Idealize.ShloMosaic.Lib.Exec

@[expose] public section

set_option maxRecDepth 16384

noncomputable section

namespace Cert.Kernel3Ideal.Gen

open Idealize.ShloMosaic Idealize.ShloMosaic.TcCoe Idealize.ShloMosaic.Tactic

variable {F : FTy → Type} [FloatOps F]

theorem zeros2 : (![0, 0] : Fin 2 → ℕ) = fun _ => 0 := by
  funext a; match a with
  | ⟨0, _⟩ => rfl
  | ⟨1, _⟩ => rfl

set_option maxHeartbeats 4000000 in
theorem out_first (c : Dev nD) (i : grid0.Coords) (arg3 : Memref sig .tc .vmem S2080x1024 .bf16) (harg3 : arg3.IsWhole) (arg4 : Memref sig .tc .vmem S1024x1024 .bf16) (harg4 : arg4.IsWhole)
    (arg5 : Memref sig .tc .vmem S2080x1024 .f32) (harg5 : arg5.IsWhole) (arg6 : Memref sig .tc .vmem S2080x128 .f32) (harg6 : arg6.IsWhole) (arg7 : Memref sig .tc .vmem S2080x128 .f32) (harg7 : arg7.IsWhole)
    (arg8 : Memref sig .tc .vmem S1x1024 .f32) (harg8 : arg8.IsWhole) (arg9 : Memref sig .tc .vmem S1x1024 .f32) (harg9 : arg9.IsWhole) (arg10 : Memref sig .tc .vmem S2080x1024 .f32) (harg10 : arg10.IsWhole)
    (hc0 : cond0_0 i) (hc1 : ¬cond0_1 i)
    (x0 : Vec F S2080x1024 .bf16) (x1 : Vec F S1024x1024 .bf16) (x2 : Vec F S2080x1024 .f32) (x3 x4 : Vec F S2080x128 .f32) (x5 x6 : Vec F S1x1024 .f32) :
    out0_A_7 c i arg3 harg3 arg4 harg4 arg5 harg5 arg6 harg6 arg7 harg7 arg8 harg8 arg9 harg9 arg10 harg10 hc0 hc1 x0 x1 x2 x3 x4 x5 x6
      = k0_pay1 x2 x5 x6 x3 x4 x0 x1 := by
  unfold out0_A_7 kernelRun0_A
  dsimp only
  sl_unfold_words
  refine (View.read_writes_full (Val := Elt F) _ _ _ _ _).trans ?_
  simp only [View.readAt_eq_ld, Memref.IsWhole.read_unread]
  simp only [View.ld_unit_zero (S := S2080x1024) zeros2, View.ld_unit_zero (S := S1024x1024) zeros2, View.ld_unit_zero (S := S2080x128) zeros2, View.ld_unit_zero (S := S1x1024) zeros2]

set_option maxHeartbeats 4000000 in
theorem out_next (c : Dev nD) (i : grid0.Coords) (arg3 : Memref sig .tc .vmem S2080x1024 .bf16) (harg3 : arg3.IsWhole) (arg4 : Memref sig .tc .vmem S1024x1024 .bf16) (harg4 : arg4.IsWhole)
    (arg5 : Memref sig .tc .vmem S2080x1024 .f32) (harg5 : arg5.IsWhole) (arg6 : Memref sig .tc .vmem S2080x128 .f32) (harg6 : arg6.IsWhole) (arg7 : Memref sig .tc .vmem S2080x128 .f32) (harg7 : arg7.IsWhole)
    (arg8 : Memref sig .tc .vmem S1x1024 .f32) (harg8 : arg8.IsWhole) (arg9 : Memref sig .tc .vmem S1x1024 .f32) (harg9 : arg9.IsWhole) (arg10 : Memref sig .tc .vmem S2080x1024 .f32) (harg10 : arg10.IsWhole)
    (hc0 : ¬cond0_0 i) (hc1 : cond0_1 i)
    (x0 : Vec F S2080x1024 .bf16) (x1 : Vec F S1024x1024 .bf16) (x2 : Vec F S2080x1024 .f32) (x3 x4 : Vec F S2080x128 .f32) (x5 x6 : Vec F S1x1024 .f32) (p : Vec F S2080x1024 .f32) :
    out0_B_7 c i arg3 harg3 arg4 harg4 arg5 harg5 arg6 harg6 arg7 harg7 arg8 harg8 arg9 harg9 arg10 harg10 hc0 hc1 x0 x1 x2 x3 x4 x5 x6 p
      = k0_pay2 p x0 x1 := by
  unfold out0_B_7 kernelRun0_B
  dsimp only
  sl_unfold_words
  refine (View.read_writes_full (Val := Elt F) _ _ _ _ _).trans ?_
  simp only [View.readAt_eq_ld, Memref.IsWhole.read_unread]
  simp only [View.ld_unit_zero (S := S2080x1024) zeros2, View.ld_unit_zero (S := S1024x1024) zeros2]

end Cert.Kernel3Ideal.Gen

end
-- ==== Proof.Math.Down.lean ====
/- A matrix product beside a scaled layer norm, as a formula over matrices. -/
module

public import proofs.«01_k».proof.Proof.Math.Feed
public import Mathlib.Data.EReal.Operations

@[expose] public section

noncomputable section

namespace Cert.Decay

open Idealize.ShloMosaic

/-- The position `c` of a vector. -/
def pos {A : ℕ} (c : ℕ) (h : c < A) : (⟨1, ![A]⟩ : Shape).Idx := fun a => match a with | ⟨0, _⟩ => ⟨c, h⟩

/-- A vector's entry at position `c`; zero outside. -/
def at1 {A : ℕ} (x : (⟨1, ![A]⟩ : Shape).Idx → EReal) (c : ℕ) : EReal := if h : c < A then x (pos c h) else 0

theorem at1_of_lt {A : ℕ} (x : (⟨1, ![A]⟩ : Shape).Idx → EReal) (c : ℕ) (h : c < A) : at1 x c = x (pos c h) := by
  unfold at1
  rw [dif_pos h]

theorem at1_val {A : ℕ} (x : (⟨1, ![A]⟩ : Shape).Idx → EReal) (i : (⟨1, ![A]⟩ : Shape).Idx) : x i = at1 x (i 0).val := by
  refine Eq.trans (congrArg x ?_) (at1_of_lt x _ (i 0).isLt).symm
  funext a
  match a with
  | ⟨0, _⟩ => rfl

/-- The first `a + b` positions of a row times a column: the first `a`, then the next `b`. -/
theorem rowCol_add {A B C D : ℕ} (a b : ℕ) (x : (⟨2, ![A, B]⟩ : Shape).Idx → EReal) (w : (⟨2, ![C, D]⟩ : Shape).Idx → EReal) (n c : ℕ) :
    rowCol (a + b) x w n c = rowCol a x w n c + ∑ k ∈ Finset.range b, at2 x n (a + k) * at2 w (a + k) c :=
  Finset.sum_range_add _ _ _

/-- The residual stream's scale. -/
def scale : EReal := Ideal.ofBits .f32 0x3F9837F0#32

theorem scale_val : scale = ((9975792 / 8388608 : ℝ) : EReal) := by
  unfold scale
  simp [Ideal.ofBits, Ideal.ieee, -EReal.coe_mul]
  norm_num

theorem scale_nonneg : 0 ≤ scale := by
  rw [scale_val]
  exact_mod_cast (by norm_num : (0 : ℝ) ≤ 9975792 / 8388608)

theorem scale_ne_top : scale ≠ ⊤ := by
  rw [scale_val]
  exact EReal.coe_ne_top _

/-- A nonnegative finite scale goes inside a sum. -/
theorem scale_in (x g b : EReal) : scale * (x * g + b) = x * (scale * g) + scale * b := by
  rw [EReal.left_distrib_of_nonneg_of_ne_top scale_nonneg scale_ne_top, mul_left_comm]

/-- A layer norm at row `n`, column `c`, over a row's mean and reciprocal deviation. -/
def normed {A B C D E G : ℕ} (s : (⟨2, ![A, B]⟩ : Shape).Idx → EReal) (mu rs : (⟨2, ![C, D]⟩ : Shape).Idx → EReal)
    (g : (⟨1, ![E]⟩ : Shape).Idx → EReal) (b : (⟨1, ![G]⟩ : Shape).Idx → EReal) (n c : ℕ) : EReal :=
  (at2 s n c - at2 mu n 0) * at2 rs n 0 * at1 g c + at1 b c

end Cert.Decay

end
-- ==== Proof.Down.Values.lean ====
/- The second feed-forward call's result as an array, at the extended reals. -/
module

public import proofs.«01_k».proof.Proof.Down.Runs
public import proofs.«01_k».proof.Proof.Math.Down
public import proofs.«01_k».proof.Proof.Val.Step
public import Idealize.ShloMosaic.Lib.Pipeline.ValueKit

@[expose] public section

noncomputable section

namespace Cert.Kernel3Ideal.Gen

open Idealize Idealize.ShloMosaic Idealize.ShloMosaic.TcCoe Idealize.ShloMosaic.Tactic Cert.Decay Idealize.SL.Sem
open Cert.KernelIdeal.Gen (product_sum)
open Idealize.ShloMosaic.Pipeline (Dat)

/-- The result over the operands: the scaled layer norm and the product. -/
def downOf (a : S8320x11264.Idx → EReal) (w : S11264x4096.Idx → EReal) (s : S8320x4096.Idx → EReal) (mu rs : S8320x1.Idx → EReal)
    (g b : S4096.Idx → EReal) : S8320x4096.Idx → EReal := fun y =>
  scale * normed s mu rs g b (y 0).val (y 1).val + rowCol 11264 a w (y 0).val (y 1).val

/-- A block's product. -/
theorem product_down (l : S2080x1024.Idx → EReal) (r : S1024x1024.Idx → EReal) (j : S2080x1024.Idx) :
    (matmul (φ₁ := .bf16) (φ₂ := .bf16) dot_S2080x1024_S1024x1024_S2080x1024_1_0_0_1_n_n none (l : FVec Ideal S2080x1024 .bf16) (r : FVec Ideal S1024x1024 .bf16)
      (constant S2080x1024 .f32 0x00000000#32) : FVec Ideal S2080x1024 .f32) j
      = rowCol 1024 l r (j 0).val (j 1).val := by
  refine product_sum _ l r j 1024 rfl rfl _ _ (fun q => ?_) (fun q => ?_)
  · refine (at2_val l _).trans (congrArg₂ (at2 l) ?_ (DotDims.lhsIdx_val_of_single _ rfl j q))
    unfold DotDims.lhsIdx
    rw [dif_neg (show ¬(0 : Fin S2080x1024.rank) ∈ dot_S2080x1024_S1024x1024_S2080x1024_1_0_0_1_n_n.lhsBatch by decide),
      dif_pos (show (0 : Fin S2080x1024.rank) ∈ dot_S2080x1024_S1024x1024_S2080x1024_1_0_0_1_n_n.lhsNonContracting by decide)]
    rfl
  · refine (at2_val r _).trans (congrArg₂ (at2 r) (DotDims.rhsIdx_val_of_single _ rfl j q) ?_)
    unfold DotDims.rhsIdx
    rw [dif_neg (show ¬(1 : Fin S1024x1024.rank) ∈ dot_S2080x1024_S1024x1024_S2080x1024_1_0_0_1_n_n.rhsBatch by decide),
      dif_pos (show (1 : Fin S1024x1024.rank) ∈ dot_S2080x1024_S1024x1024_S2080x1024_1_0_0_1_n_n.rhsNonContracting by decide)]
    rfl

/-- One matrix eight times side by side. -/
def eight (x : S2080x128.Idx → EReal) : S2080x1024.Idx → EReal :=
  concatenate (α := EReal) S2080x1024 1 [⟨S2080x128, x⟩, ⟨S2080x128, x⟩, ⟨S2080x128, x⟩, ⟨S2080x128, x⟩, ⟨S2080x128, x⟩, ⟨S2080x128, x⟩, ⟨S2080x128, x⟩, ⟨S2080x128, x⟩]
    concatenates_S2080x128_S2080x128_S2080x128_S2080x128_S2080x128_S2080x128_S2080x128_S2080x128_S2080x1024_d1

theorem eight_at (x : S2080x128.Idx → EReal) (j : S2080x1024.Idx) : eight x j = at2 x (j 0).val ((j 1).val % 128) := by
  have b0 : (j 0).val < 2080 := (j 0).isLt
  have b1 : (j 1).val < 1024 := (j 1).isLt
  have hc : (j 1).val % 128 < 128 := Nat.mod_lt _ (by decide)
  refine Eq.trans ?_ (at2_of_lt x _ _ b0 hc).symm
  obtain ⟨k, hk⟩ : ∃ k : Fin 8, k.val = (j 1).val / 128 := ⟨⟨(j 1).val / 128, by omega⟩, rfl⟩
  unfold eight
  refine concatenate_apply_piece (t := S2080x1024) 1 [⟨S2080x128, x⟩, ⟨S2080x128, x⟩, ⟨S2080x128, x⟩, ⟨S2080x128, x⟩, ⟨S2080x128, x⟩, ⟨S2080x128, x⟩, ⟨S2080x128, x⟩, ⟨S2080x128, x⟩] _ _
    k.val k.isLt S2080x128 x ?_ rfl (128 * k.val) ?_ (ij (j 0).val ((j 1).val % 128) b0 hc)
    (fun b hb => match b with | ⟨0, _⟩ => rfl | ⟨1, _⟩ => absurd rfl hb) ?_
  · fin_cases k <;> rfl
  · fin_cases k <;> rfl
  · show 128 * k.val + (j 1).val % 128 = (j 1).val; omega

/-- The first step's block: the scaled norm of the block and the block's product. -/
theorem first_at (x2 : S2080x1024.Idx → EReal) (x5 x6 : S1x1024.Idx → EReal) (x3 x4 : S2080x128.Idx → EReal) (x0 : S2080x1024.Idx → EReal) (x1 : S1024x1024.Idx → EReal)
    (j : S2080x1024.Idx) : k0_pay1 (F := Ideal) x2 x5 x6 x3 x4 x0 x1 j
      = (at2 x2 (j 0).val (j 1).val - at2 x3 (j 0).val ((j 1).val % 128)) * at2 x4 (j 0).val ((j 1).val % 128) * at2 x5 0 (j 1).val + at2 x6 0 (j 1).val
        + rowCol 1024 x0 x1 (j 0).val (j 1).val := by
  have row : ∀ (x : S1x1024.Idx → EReal), broadcastTo S2080x1024 x broadcasts_S1x1024_S2080x1024 j = at2 x 0 (j 1).val := fun x =>
    (broadcastTo_apply x _ j (ij 0 (j 1).val Nat.one_pos (j 1).isLt) (fun a => match a with
      | ⟨0, _⟩ => rfl
      | ⟨1, _⟩ => rfl)).trans (at2_of_lt x 0 _ Nat.one_pos (j 1).isLt).symm
  have same : ∀ x : S2080x128.Idx → EReal, eight x = eight (shapeCast S2080x128 x shapeCasts_S2080x128_S2080x128) := fun x => congrArg eight (shapeCast_self x _).symm
  rw [← product_down x0 x1 j, ← eight_at x3 j, ← eight_at x4 j, ← row x5, ← row x6, ← at2_val x2 j]
  unfold k0_pay1
  simp only [shapeCast_self]
  rw [same x3, same x4]
  rfl

/-- A later step's block: what the step before left and the block's product. -/
theorem next_at (p x0 : S2080x1024.Idx → EReal) (x1 : S1024x1024.Idx → EReal) (j : S2080x1024.Idx) :
    k0_pay2 (F := Ideal) p x0 x1 j = p j + rowCol 1024 x0 x1 (j 0).val (j 1).val := by
  rw [← product_down x0 x1 j]
  unfold k0_pay2
  simp only [shapeCast_self]
  rfl

variable (m : (ℓ : Loc nD τ sig) → Buf (Elt Ideal) ℓ) (ρ : Dev nD → PrngReg)

theorem idx0 : ∀ t : Fin cfg0.N, win0_0.index t (0 : Fin 2) = t.val / 44 ∧ win0_0.index t (1 : Fin 2) = t.val % 11 := (by decide +kernel : ∀ t : Fin grid0.N, _)
theorem idx1 : ∀ t : Fin cfg0.N, win0_1.index t (0 : Fin 2) = t.val % 11 ∧ win0_1.index t (1 : Fin 2) = t.val / 11 % 4 := (by decide +kernel : ∀ t : Fin grid0.N, _)
theorem idx2 : ∀ t : Fin cfg0.N, win0_2.index t (0 : Fin 2) = t.val / 44 ∧ win0_2.index t (1 : Fin 2) = t.val / 11 % 4 := (by decide +kernel : ∀ t : Fin grid0.N, _)
theorem idx3 : ∀ t : Fin cfg0.N, win0_3.index t (0 : Fin 2) = t.val / 44 ∧ win0_3.index t (1 : Fin 2) = 0 := (by decide +kernel : ∀ t : Fin grid0.N, _)
theorem idx4 : ∀ t : Fin cfg0.N, win0_4.index t (0 : Fin 2) = t.val / 44 ∧ win0_4.index t (1 : Fin 2) = 0 := (by decide +kernel : ∀ t : Fin grid0.N, _)
theorem idx5 : ∀ t : Fin cfg0.N, win0_5.index t (0 : Fin 2) = 0 ∧ win0_5.index t (1 : Fin 2) = t.val / 11 % 4 := (by decide +kernel : ∀ t : Fin grid0.N, _)
theorem idx6 : ∀ t : Fin cfg0.N, win0_6.index t (0 : Fin 2) = 0 ∧ win0_6.index t (1 : Fin 2) = t.val / 11 % 4 := (by decide +kernel : ∀ t : Fin grid0.N, _)
theorem idx7 : ∀ t : Fin cfg0.N, win0_7.index t (0 : Fin 2) = t.val / 44 ∧ win0_7.index t (1 : Fin 2) = t.val / 11 % 4 := (by decide +kernel : ∀ t : Fin grid0.N, _)

/-- The call's operands. -/
abbrev argA (c : Dev nD) : S8320x11264.Idx → EReal := m ((c : Thread nD τ).loc main_arg0)
abbrev argW (c : Dev nD) : S11264x4096.Idx → EReal := m ((c : Thread nD τ).loc main_arg1)
abbrev argS (c : Dev nD) : S8320x4096.Idx → EReal := m ((c : Thread nD τ).loc main_arg2)
abbrev argM (c : Dev nD) : S8320x1.Idx → EReal := m ((c : Thread nD τ).loc main_arg3)
abbrev argR (c : Dev nD) : S8320x1.Idx → EReal := m ((c : Thread nD τ).loc main_arg4)
abbrev argG (c : Dev nD) : S4096.Idx → EReal := m ((c : Thread nD τ).loc main_arg5)
abbrev argB (c : Dev nD) : S4096.Idx → EReal := m ((c : Thread nD τ).loc main_arg6)

/-- One column spread over the lanes. -/
def spread (x : S8320x1.Idx → EReal) : S8320x128.Idx → EReal := broadcastInDim S8320x128 ![0, 1] bcast_S8320x1_S8320x128_0_1 x

/-- A vector scaled, as one row. -/
def scaledRow (x : S4096.Idx → EReal) : S1x4096.Idx → EReal :=
  mulf (F := Ideal) (φ := .f32) (broadcastInDim S1x4096 ![] bcast_S_S1x4096 (constant S_ .f32 0x3F9837F0#32)) (shapeCast S1x4096 x shapeCasts_S4096_S1x4096)

set_option maxHeartbeats 4000000 in
theorem V_means (c : Dev nD) : V m c main_v2 = spread (argM m c) := by
  show StableHlo.after hostOps0 _ (Proc.devRef .tc main_v2) = _
  after_results
  rfl

set_option maxHeartbeats 4000000 in
theorem V_devs (c : Dev nD) : V m c main_v3 = spread (argR m c) := by
  show StableHlo.after hostOps0 _ (Proc.devRef .tc main_v3) = _
  after_results
  rfl

set_option maxHeartbeats 4000000 in
theorem V_gain (c : Dev nD) : V m c main_v5 = scaledRow (argG m c) := by
  show StableHlo.after hostOps0 _ (Proc.devRef .tc main_v5) = _
  after_results
  rfl

set_option maxHeartbeats 4000000 in
theorem V_bias (c : Dev nD) : V m c main_v7 = scaledRow (argB m c) := by
  show StableHlo.after hostOps0 _ (Proc.devRef .tc main_v7) = _
  after_results
  rfl

theorem spread_at (x : S8320x1.Idx → EReal) (i : S8320x128.Idx) : spread x i = at2 x (i 0).val 0 := by
  unfold spread
  refine (broadcastInDim_apply _ _ x i (ij (i 0).val 0 (i 0).isLt Nat.one_pos) ?_).trans (at2_of_lt x _ 0 (i 0).isLt Nat.one_pos).symm
  intro a; match a with
  | ⟨0, _⟩ => rfl
  | ⟨1, _⟩ => rfl

theorem scaledRow_at (x : S4096.Idx → EReal) (i : S1x4096.Idx) : scaledRow x i = scale * at1 x (i 1).val := by
  have b0 : (i 0).val < 1 := (i 0).isLt
  unfold scaledRow
  refine congrArg₂ (fun a b : EReal => a * b) rfl ?_
  refine (shapeCast_apply x _ i (pos (i 1).val (i 1).isLt) ?_).trans (at1_val x _)
  refine (Shape.rowMajor_val_one _).trans (Eq.trans ?_ (Shape.rowMajor_val_two _).symm)
  show (i 1).val = (i 0).val * 4096 + (i 1).val
  omega

theorem a_at (c : Dev nD) (t : Fin cfg0.N) (n k : ℕ) (hn : n < 2080) (hk : k < 1024) :
    at2 (A := 2080) (B := 1024) (iblk m c 0 t) n k = at2 (A := 8320) (B := 11264) (argA m c) (2080 * (t.val / 44) + n) (1024 * (t.val % 11) + k) := by
  obtain ⟨e0, e1⟩ := idx0 t
  refine (at2_of_lt _ n k hn hk).trans ?_
  show V m c main_arg0 (((cfg0.win 0).blk t).view.emb (ij n k hn hk)) = _
  rw [V_main_arg0]
  refine (at2_val (A := 8320) (B := 11264) _ _).trans (congrArg₂ (at2 _) ?_ ?_)
  · show win0_0.index t (0 : Fin 2) * 2080 + 1 * n = _; omega
  · show win0_0.index t (1 : Fin 2) * 1024 + 1 * k = _; omega

theorem w_at (c : Dev nD) (t : Fin cfg0.N) (n k : ℕ) (hn : n < 1024) (hk : k < 1024) :
    at2 (A := 1024) (B := 1024) (iblk m c 1 t) n k = at2 (A := 11264) (B := 4096) (argW m c) (1024 * (t.val % 11) + n) (1024 * (t.val / 11 % 4) + k) := by
  obtain ⟨e0, e1⟩ := idx1 t
  refine (at2_of_lt _ n k hn hk).trans ?_
  show V m c main_arg1 (((cfg0.win 1).blk t).view.emb (ij n k hn hk)) = _
  rw [V_main_arg1]
  refine (at2_val (A := 11264) (B := 4096) _ _).trans (congrArg₂ (at2 _) ?_ ?_)
  · show win0_1.index t (0 : Fin 2) * 1024 + 1 * n = _; omega
  · show win0_1.index t (1 : Fin 2) * 1024 + 1 * k = _; omega

theorem s_at (c : Dev nD) (t : Fin cfg0.N) (n k : ℕ) (hn : n < 2080) (hk : k < 1024) :
    at2 (A := 2080) (B := 1024) (iblk m c 2 t) n k = at2 (A := 8320) (B := 4096) (argS m c) (2080 * (t.val / 44) + n) (1024 * (t.val / 11 % 4) + k) := by
  obtain ⟨e0, e1⟩ := idx2 t
  refine (at2_of_lt _ n k hn hk).trans ?_
  show V m c main_arg2 (((cfg0.win 2).blk t).view.emb (ij n k hn hk)) = _
  rw [V_main_arg2]
  refine (at2_val (A := 8320) (B := 4096) _ _).trans (congrArg₂ (at2 _) ?_ ?_)
  · show win0_2.index t (0 : Fin 2) * 2080 + 1 * n = _; omega
  · show win0_2.index t (1 : Fin 2) * 1024 + 1 * k = _; omega

theorem mean_at (c : Dev nD) (t : Fin cfg0.N) (n k : ℕ) (hn : n < 2080) (hk : k < 128) :
    at2 (A := 2080) (B := 128) (iblk m c 3 t) n k = at2 (A := 8320) (B := 1) (argM m c) (2080 * (t.val / 44) + n) 0 := by
  obtain ⟨e0, e1⟩ := idx3 t
  refine (at2_of_lt _ n k hn hk).trans ?_
  show V m c main_v2 (((cfg0.win 3).blk t).view.emb (ij n k hn hk)) = _
  rw [V_means]
  refine (spread_at _ _).trans (congrArg₂ (at2 _) ?_ rfl)
  show win0_3.index t (0 : Fin 2) * 2080 + 1 * n = _; omega

theorem dev_at (c : Dev nD) (t : Fin cfg0.N) (n k : ℕ) (hn : n < 2080) (hk : k < 128) :
    at2 (A := 2080) (B := 128) (iblk m c 4 t) n k = at2 (A := 8320) (B := 1) (argR m c) (2080 * (t.val / 44) + n) 0 := by
  obtain ⟨e0, e1⟩ := idx4 t
  refine (at2_of_lt _ n k hn hk).trans ?_
  show V m c main_v3 (((cfg0.win 4).blk t).view.emb (ij n k hn hk)) = _
  rw [V_devs]
  refine (spread_at _ _).trans (congrArg₂ (at2 _) ?_ rfl)
  show win0_4.index t (0 : Fin 2) * 2080 + 1 * n = _; omega

theorem gain_at (c : Dev nD) (t : Fin cfg0.N) (k : ℕ) (hk : k < 1024) :
    at2 (A := 1) (B := 1024) (iblk m c 5 t) 0 k = scale * at1 (A := 4096) (argG m c) (1024 * (t.val / 11 % 4) + k) := by
  obtain ⟨e0, e1⟩ := idx5 t
  refine (at2_of_lt _ 0 k Nat.one_pos hk).trans ?_
  show V m c main_v5 (((cfg0.win 5).blk t).view.emb (ij 0 k Nat.one_pos hk)) = _
  rw [V_gain]
  refine (scaledRow_at _ _).trans (congrArg (fun q => scale * at1 (A := 4096) (argG m c) q) ?_)
  show win0_5.index t (1 : Fin 2) * 1024 + 1 * k = _; omega

theorem bias_at (c : Dev nD) (t : Fin cfg0.N) (k : ℕ) (hk : k < 1024) :
    at2 (A := 1) (B := 1024) (iblk m c 6 t) 0 k = scale * at1 (A := 4096) (argB m c) (1024 * (t.val / 11 % 4) + k) := by
  obtain ⟨e0, e1⟩ := idx6 t
  refine (at2_of_lt _ 0 k Nat.one_pos hk).trans ?_
  show V m c main_v7 (((cfg0.win 6).blk t).view.emb (ij 0 k Nat.one_pos hk)) = _
  rw [V_bias]
  refine (scaledRow_at _ _).trans (congrArg (fun q => scale * at1 (A := 4096) (argB m c) q) ?_)
  show win0_6.index t (1 : Fin 2) * 1024 + 1 * k = _; omega

/-- A block's product in the operands' own positions. -/
theorem block_sum (c : Dev nD) (t : Fin cfg0.N) (n k : ℕ) (hn : n < 2080) (hk : k < 1024) :
    rowCol 1024 (A := 2080) (B := 1024) (C := 1024) (D := 1024) (iblk m c 0 t) (iblk m c 1 t) n k
      = ∑ q ∈ Finset.range 1024, at2 (A := 8320) (B := 11264) (argA m c) (2080 * (t.val / 44) + n) (1024 * (t.val % 11) + q)
          * at2 (A := 11264) (B := 4096) (argW m c) (1024 * (t.val % 11) + q) (1024 * (t.val / 11 % 4) + k) := by
  unfold rowCol
  refine Finset.sum_congr rfl fun q hq => ?_
  have hq := Finset.mem_range.mp hq
  rw [a_at m c t _ _ hn hq, w_at m c t _ _ hq hk]

/-- After step `r` of a block's run the buffer holds the scaled norm and the product over the first `r + 1` pieces. -/
theorem steps (c : Dev nD) (r : ℕ) : ∀ (t : Fin cfg0.N), t.val % 11 = r → ∀ y : S2080x1024.Idx,
    outsAt0 m c t.val t.isLt y
      = scale * normed (argS m c) (argM m c) (argR m c) (argG m c) (argB m c) (2080 * (t.val / 44) + (y 0).val) (1024 * (t.val / 11 % 4) + (y 1).val)
        + rowCol (1024 * (r + 1)) (argA m c) (argW m c) (2080 * (t.val / 44) + (y 0).val) (1024 * (t.val / 11 % 4) + (y 1).val) := by
  induction r with
  | zero =>
    intro t ht y
    have b0 : (y 0).val < 2080 := (y 0).isLt
    have b1 : (y 1).val < 1024 := (y 1).isLt
    have b2 : (y 1).val % 128 < 128 := Nat.mod_lt _ (by decide)
    refine (congrFun (outsAt0_A m c t ht (by omega)) y).trans ?_
    refine (congrFun (out_first c _ _ _ _ _ _ _ _ _ _ _ _ _ _ _ _ _ _ _ _ _ _ _ _ _ _) y).trans ?_
    refine (first_at _ _ _ _ _ _ _ y).trans ?_
    unfold normed
    rw [scale_in, block_sum m c t _ _ b0 b1, s_at m c t _ _ b0 b1, mean_at m c t _ _ b0 b2, dev_at m c t _ _ b0 b2, gain_at m c t _ b1, bias_at m c t _ b1, ht]
    refine congrArg₂ (fun a b : EReal => a + b) rfl ?_
    unfold rowCol
    refine Finset.sum_congr rfl fun q _ => ?_
    rw [Nat.mul_zero, Nat.zero_add]
  | succ r ih =>
    intro t ht y
    have b0 : (y 0).val < 2080 := (y 0).isLt
    have b1 : (y 1).val < 1024 := (y 1).isLt
    refine (congrFun (outsAt0_B m c t (by omega) (by omega)) y).trans ?_
    refine (congrFun (out_next c _ _ _ _ _ _ _ _ _ _ _ _ _ _ _ _ _ _ _ _ _ _ _ _ _ _ _) y).trans ?_
    refine (next_at _ _ _ y).trans ?_
    have hp : t.val - 1 < cfg0.N := Nat.lt_of_le_of_lt (Nat.sub_le _ _) t.isLt
    have e := ih ⟨t.val - 1, hp⟩ (by show (t.val - 1) % 11 = r; omega) y
    have d0 : (t.val - 1) / 44 = t.val / 44 := by omega
    have d1 : (t.val - 1) / 11 = t.val / 11 := by omega
    rw [show 1024 * (r + 1 + 1) = 1024 * (r + 1) + 1024 from rfl, rowCol_add, ← add_assoc, block_sum m c t _ _ b0 b1, ht]
    refine congrArg₂ (fun a b : EReal => a + b) (e.trans ?_) rfl
    dsimp only
    rw [d0, d1]

theorem flush7 : ∀ t : Fin cfg0.N, (cfg0.win 7).flush t = true → t.val % 11 = 10 := by decide +kernel

theorem array7 (c : Dev nD) : (dats m 0 c).arrAt 7 cfg0.N = downOf (argA m c) (argW m c) (argS m c) (argM m c) (argR m c) (argG m c) (argB m c) := by
  refine (dats m 0 c).arrAt_eq_of_covers 7 _ (by decide +kernel) fun t hf y => ?_
  show (dats m 0 c).after 7 t y = _
  rw [after0_7]
  obtain ⟨e0, e1⟩ := idx7 t
  have f0 : ((((cfg0.win 7).blk t).view.emb y) (0 : Fin 2)).val = 2080 * (t.val / 44) + (y 0).val := by
    show win0_7.index t (0 : Fin 2) * 2080 + 1 * (y 0).val = _; omega
  have f1 : ((((cfg0.win 7).blk t).view.emb y) (1 : Fin 2)).val = 1024 * (t.val / 11 % 4) + (y 1).val := by
    show win0_7.index t (1 : Fin 2) * 1024 + 1 * (y 1).val = _; omega
  refine (steps m c 10 t (flush7 t hf) y).trans ?_
  unfold downOf
  rw [f0, f1]

/-- The run: the result named, the arguments kept. -/
theorem run_values : θ_run defs (onTc (τ := τ) (main (F := Ideal))) ⟨m, fun _ => 0, ρ⟩ (fun r => (∀ c : Dev nD,
      r.2.mem ((c : Thread nD τ).loc main_v8) = downOf (argA m c) (argW m c) (argS m c) (argM m c) (argR m c) (argG m c) (argB m c))
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_and ((θ_run defs _ _).mono (fun r h c => ((h c).1 7).trans (array7 m c)) (run_main m ρ)) (unchanged m ρ)

end Cert.Kernel3Ideal.Gen

end
-- ==== Proof.Down.Reference.lean ====
/- The second feed-forward call's reference, read at an index. -/
module

public import proofs.«01_k».proof.Proof.Down.Values
public import proofs.«01_k».proof.Proof.Gen.Reference3Ideal.Read

@[expose] public section

noncomputable section

namespace Cert.Reference3Ideal.Read

open Cert.Reference3Ideal.Gen Cert.Decay Idealize.ShloMosaic Idealize.ShloMosaic.TcCoe
open Cert.Kernel3Ideal.Gen (downOf)

theorem down_sum (x0 : S8320x11264.Idx → EReal) (x1 : S11264x4096.Idx → EReal) (i : S8320x4096.Idx) :
    val_main_v14 (F := Ideal) x0 x1 i = rowCol 11264 x0 x1 (i 0).val (i 1).val := by
  rw [val_main_v14_apply]
  unfold rowCol
  rw [Finset.sum_range]
  refine Finset.sum_congr rfl fun k _ => congrArg₂ (· * ·) ?_ ?_
  · exact at2_val (A := 8320) (B := 11264) x0 _
  · exact at2_val (A := 11264) (B := 4096) x1 _

theorem normed_at (x2 : S8320x4096.Idx → EReal) (x3 x4 : S8320x1.Idx → EReal) (x5 x6 : S4096.Idx → EReal) (i : S8320x4096.Idx) :
    val_main_v9 (F := Ideal) x2 x3 x4 x5 x6 i = normed x2 x3 x4 x5 x6 (i 0).val (i 1).val := by
  have e2 : x2 i = at2 x2 (i 0).val (i 1).val := at2_val (A := 8320) (B := 4096) x2 i
  have e3 : val_main_v0 (F := Ideal) x3 i = at2 x3 (i 0).val 0 := (val_main_v0_apply (F := Ideal) x3 i).trans (at2_val (A := 8320) (B := 1) x3 _)
  have e4 : val_main_v2 (F := Ideal) x4 i = at2 x4 (i 0).val 0 := (val_main_v2_apply (F := Ideal) x4 i).trans (at2_val (A := 8320) (B := 1) x4 _)
  have e5 : val_main_v5 (F := Ideal) x5 i = at1 x5 (i 1).val := (val_main_v5_apply (F := Ideal) x5 i).trans ((val_main_v4_apply (F := Ideal) x5 _).trans (at1_val (A := 4096) x5 _))
  have e6 : val_main_v8 (F := Ideal) x6 i = at1 x6 (i 1).val := (val_main_v8_apply (F := Ideal) x6 i).trans ((val_main_v7_apply (F := Ideal) x6 _).trans (at1_val (A := 4096) x6 _))
  unfold normed
  rw [← e2, ← e3, ← e4, ← e5, ← e6]
  rfl

theorem down_at (x0 : S8320x11264.Idx → EReal) (x1 : S11264x4096.Idx → EReal) (x2 : S8320x4096.Idx → EReal) (x3 x4 : S8320x1.Idx → EReal) (x5 x6 : S4096.Idx → EReal)
    (i : S8320x4096.Idx) : val_main_v15 (F := Ideal) x0 x1 x2 x3 x4 x5 x6 i = downOf x0 x1 x2 x3 x4 x5 x6 i := by
  unfold downOf
  rw [← normed_at x2 x3 x4 x5 x6 i, ← down_sum x0 x1 i]
  rfl

end Cert.Reference3Ideal.Read

end
-- ==== Proof.Down.Claims.lean ====
/- The second feed-forward call's claims: its frames, and that kernel and reference end with the same array. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Down.Reference
public import Idealize.ShloMosaic.Adequacy
public import Idealize.ShloMosaic.Init

@[expose] public section

noncomputable section

namespace Cert.Down

open Idealize.ShloMosaic Idealize.SL.Sem

/-- The kernel's frame with the second program in place of the first: the two have the same text. -/
def FrameBits : Prop := ∀ (m : (ℓ : Loc Cert.Kernel3Ideal.nD Cert.Kernel3Ideal.τ Cert.Kernel3Ideal.sig) → Buf (Elt Bits) ℓ)
    (g : Dev Cert.Kernel3Ideal.nD → PrngReg), Cert.Pre_Kernel3 m →
  θ_run (Cert.Kernel3Ideal.defs (F := Bits)) (onTc (τ := Cert.Kernel3Ideal.τ) (Cert.Kernel3Ideal.main (F := Bits)))
    ⟨m, fun _ => 0, g⟩ (fun r => (∀ c : Dev Cert.Kernel3Ideal.nD,
      r.2.mem ((c.tc : Thread Cert.Kernel3Ideal.nD Cert.Kernel3Ideal.τ).loc Cert.Kernel3Ideal.main_arg0)
        = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1)
        = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2)
        = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3)
        = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4)
        = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5)
        = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6)
        = m ((c.tc : Thread Cert.Kernel3Ideal.nD Cert.Kernel3Ideal.τ).loc Cert.Kernel3Ideal.main_arg6))
      ∧ r.2.sem = fun _ => 0)

theorem frameBits : FrameBits := fun m ρ _ => Cert.Kernel3Ideal.Gen.frame (F := Bits) m ρ

theorem same_text : Cert.quiescent_Kernel3 = FrameBits := by
  sl_kernel_rfl

/-- The kernel at the machine's floats: the one run, read at `Bits`. -/
theorem frame_kernel : Cert.quiescent_Kernel3 := same_text ▸ frameBits

/-- The kernel at the extended reals. -/
theorem frame_ideal : Cert.quiescent_Kernel3Ideal := fun m ρ _ =>
  (θ_run Cert.Kernel3Ideal.defs _ _).mono (fun _ h => h) (Cert.Kernel3Ideal.Gen.frame (F := Ideal) m ρ)

/-- The reference at the extended reals. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with the same sum of the scaled norm and the product. -/
theorem same_arrays : Cert.algebraic_Kernel3Ideal_Reference3Ideal := by
  intro m g m' g' _ hargs
  refine ⟨fun c => Cert.Kernel3Ideal.Gen.downOf (Cert.Kernel3Ideal.Gen.argA m c) (Cert.Kernel3Ideal.Gen.argW m c) (Cert.Kernel3Ideal.Gen.argS m c)
      (Cert.Kernel3Ideal.Gen.argM m c) (Cert.Kernel3Ideal.Gen.argR m c) (Cert.Kernel3Ideal.Gen.argG m c) (Cert.Kernel3Ideal.Gen.argB m c),
    (θ_run Cert.Kernel3Ideal.defs _ _).mono (fun r h c => ⟨h.1 c, h.2 c⟩) (Cert.Kernel3Ideal.Gen.run_values m g),
    (θ_run Cert.Reference3Ideal.defs _ _).mono (fun r h c => ⟨(h c).1.trans ?_, (h c).2⟩)
      (Cert.Reference3Ideal.Value.run (F := Ideal) m' g')⟩
  obtain ⟨e0, e1, e2, e3, e4, e5, e6⟩ := hargs c
  refine (Cert.Reference3Ideal.Read.val_main_v15_eq _ _ _ _ _ _ _).trans ?_
  rw [e0, e1, e2, e3, e4, e5, e6]
  funext i
  exact Cert.Reference3Ideal.Read.down_at _ _ _ _ _ _ _ i

end Cert.Down

end
-- ==== Proof.Proj.Runs.lean ====
/- The input projection call: where its branches are taken, and what its body leaves at a grid point, over any float values. -/
module

public import proofs.«01_k».proof.Proof.Gen.Kernel4Ideal.Frame
public import proofs.«01_k».proof.Proof.Gen.Kernel4Ideal.Skeleton
public import Idealize.ShloMosaic.Lib.Pipeline.TableIdle
public import Idealize.ShloMosaic.Lib.VecWindow
public import Idealize.ShloMosaic.Lib.Pipeline.Value
public import Idealize.ShloMosaic.Lib.Exec

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition 1: a column block of the queries. -/
abbrev cond0_0 (i : grid0.Coords) : Prop := k0_cond1 i = 1#1
theorem hcond0_0 : ∀ t : Fin cfg0.N, cond0_0 (grid0.coords t) ↔ t.val % 24 < 4 :=
  (by decide +kernel : ∀ t : Fin grid0.N, cond0_0 (grid0.coords t) ↔ t.val % 24 < 4)

/-- The body's condition 2: a column block of the output gate. -/
abbrev cond0_1 (i : grid0.Coords) : Prop := k0_cond2 i = 1#1
theorem hcond0_1 : ∀ t : Fin cfg0.N, cond0_1 (grid0.coords t) ↔ 8 ≤ t.val % 24 ∧ t.val % 24 < 12 :=
  (by decide +kernel : ∀ t : Fin grid0.N, cond0_1 (grid0.coords t) ↔ 8 ≤ t.val % 24 ∧ t.val % 24 < 12)

/-- The body's condition 3: any other column block. -/
abbrev cond0_2 (i : grid0.Coords) : Prop := k0_cond3 i = 1#1
theorem hcond0_2 : ∀ t : Fin cfg0.N, cond0_2 (grid0.coords t) ↔ 4 ≤ t.val % 24 ∧ ¬(8 ≤ t.val % 24 ∧ t.val % 24 < 12) :=
  (by decide +kernel : ∀ t : Fin grid0.N, cond0_2 (grid0.coords t) ↔ 4 ≤ t.val % 24 ∧ ¬(8 ≤ t.val % 24 ∧ t.val % 24 < 12))

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := (by decide +kernel : ∀ t : Fin grid0.N, cfg0.idle 5 (grid0.coords t) = false)

/-- The second result's block is stored at the query column blocks only, -/
theorem liveAt0_6 : ∀ t : Fin cfg0.N, t.val % 24 < 4 → cfg0.idle 6 (grid0.coords t) = false :=
  (by decide +kernel : ∀ t : Fin grid0.N, t.val % 24 < 4 → cfg0.idle 6 (grid0.coords t) = false)
theorem idleAt0_6 : ∀ t : Fin cfg0.N, ¬t.val % 24 < 4 → cfg0.idle 6 (grid0.coords t) = true :=
  (by decide +kernel : ∀ t : Fin grid0.N, ¬t.val % 24 < 4 → cfg0.idle 6 (grid0.coords t) = true)
/-- and the last of a row block's is written back at the row block's end. -/
theorem flush0_6 : ∀ t : Fin cfg0.N, ¬t.val % 24 < 4 → (cfg0.win 6).flush t = decide (t.val % 24 = 23) := by decide +kernel

/-- Whether the second result's buffer holds nothing stored since it was last written back. -/
def fresh6 (n : ℕ) : Bool := decide (n % 24 < 4)
theorem fresh6_step : ∀ t : Fin cfg0.N,
    fresh6 (t.val + 1) = ((cfg0.win 6).flush t || (cfg0.idle 6 (cfg0.grid.coords t) && fresh6 t.val)) := by decide +kernel
theorem fresh6_eq (t : Fin cfg0.N) : cfg0.fresh 6 t.val = fresh6 t.val :=
  Pipeline.Cfg.fresh_tab cfg0 6 fresh6 rfl fresh6_step t.val (Nat.le_of_lt t.isLt)
theorem notFresh6 : ∀ t : Fin cfg0.N, ¬t.val % 24 < 4 → cfg0.fresh 6 t.val = false := by
  intro t; rw [fresh6_eq t]; revert t; decide +kernel

/-- The offset of a whole block. -/
theorem zero2 : (![0, 0] : Fin 2 → ℕ) = fun _ => 0 := by funext a; fin_cases a <;> rfl

/-! The staging buffers at a point. -/

abbrev ms0_0 (t : Fin cfg0.N) : Memref sig .tc .vmem S1408x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1408x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1408x512 .bf16 := win0_6.stage (cfg0.slots t 6)
abbrev hs0_6 (t : Fin cfg0.N) : (ms0_6 t).IsWhole := hstage0_6 ((cfg0.slots t 6).cast nbuf0_6)

/-- One staging buffer of the second result, to read its two stored halves back from. -/
abbrev VO0_6 : View sig .tc .vmem S1408x512 .bf16 := (Memref.whole cc0_stg6_0 : Memref sig .tc .vmem S1408x512 .bf16).view

/-- The two halves stored into the second result's block: the log decay rounded, and what the rounding left. -/
def halves (x2 : Vec F S1408x128 .f32) (x3 : Vec F S128x256 .f32) (x4 : Vec F S1x256 .f32) : List (View.Piece (Elt F) S1408x512 .bf16) :=
  [⟨Rect.unit (s := S1408x512) ![0, 256] S1408x256.size inb_S1408x512_S1408x256_0_256, k0_pay2 (k0_pay6 x2 x3 x4)⟩,
    ⟨Rect.unit (s := S1408x512) ![0, 0] S1408x256.size inb_S1408x512_S1408x256_0_0, k0_pay1 (k0_pay6 x2 x3 x4)⟩]

/-- They cover it. -/
theorem covered (x2 : Vec F S1408x128 .f32) (x3 : Vec F S128x256 .f32) (x4 : Vec F S1x256 .f32) (y : S1408x512.Idx) : ∃ pc ∈ halves x2 x3 x4, y ∈ pc.1.set :=
  View.cover_of_tiledL (halves x2 x3 x4) S1408x256.size (by sl_kernel_rfl) y

/-- The block they make. -/
def decayOf (x2 : Vec F S1408x128 .f32) (x3 : Vec F S128x256 .f32) (x4 : Vec F S1x256 .f32) : Vec F S1408x512 .bf16 :=
  VO0_6.read (Elt F) (VO0_6.writes (Elt F) VO0_6.junk (halves x2 x3 x4))

set_option maxHeartbeats 2000000 in
/-- At a query column block both results are stored. -/
theorem runA (c : Dev nD) (i : grid0.Coords) (arg2 : Memref sig .tc .vmem S1408x4096 .bf16) (harg2 : arg2.IsWhole) (arg3 : Memref sig .tc .vmem S512x4096 .f32) (harg3 : arg3.IsWhole) (arg4 : Memref sig .tc .vmem S1408x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S1408x512 .bf16) (harg7 : arg7.IsWhole) (arg8 : Memref sig .tc .vmem S1408x512 .bf16) (harg8 : arg8.IsWhole)
    (hc0 : cond0_0 i) (hc1 : ¬cond0_1 i) (hc2 : ¬cond0_2 i) (x0 : Vec F S1408x4096 .bf16) (x1 : Vec F S512x4096 .f32) (x2 : Vec F S1408x128 .f32) (x3 : Vec F S128x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 x1) ∗ owns (c : Thread nD τ) arg8 fullShare (decayOf x2 x3 x4)) -∗ K ⟨⟩))
      ⊢ wp frame (wpE (defs₀ (F := F)) Variants.none c none) Set.univ (cc0_proj i arg2 harg2 arg3 harg3 arg4 harg4 arg5 harg5 arg6 harg6 arg7 harg7 arg8 harg8) K := by
  simp only [cc0_proj_eq_skeleton]; unfold cc0_proj_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    sl_unfold_words
    simp only [View.readAt_eq_ld, Memref.IsWhole.read_unread, View.ld_unit_zero (S := S1408x4096) zero2, View.ld_unit_zero (S := S512x4096) zero2, View.ld_unit_zero (S := S1408x128) zero2, View.ld_unit_zero (S := S128x256) zero2, View.ld_unit_zero (S := S1x256) zero2]
  iexists _; isplitr; swap; · iexact H6
  ipureintro
  refine Eq.trans ?_ (View.read_writes_of_cover arg8.view f6 VO0_6 VO0_6.junk (halves x2 x3 x4) (covered x2 x3 x4))
  sl_unfold_words
  simp only [View.readAt_eq_ld, Memref.IsWhole.read_unread, View.ld_unit_zero (S := S1408x4096) zero2, View.ld_unit_zero (S := S512x4096) zero2, View.ld_unit_zero (S := S1408x128) zero2, View.ld_unit_zero (S := S128x256) zero2, View.ld_unit_zero (S := S1x256) zero2]
  try rfl

set_option maxHeartbeats 2000000 in
/-- At an output gate's column block the first result is stored, gated. -/
theorem runB (c : Dev nD) (i : grid0.Coords) (arg2 : Memref sig .tc .vmem S1408x4096 .bf16) (harg2 : arg2.IsWhole) (arg3 : Memref sig .tc .vmem S512x4096 .f32) (harg3 : arg3.IsWhole) (arg4 : Memref sig .tc .vmem S1408x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S1408x512 .bf16) (harg7 : arg7.IsWhole) (arg8 : Memref sig .tc .vmem S1408x512 .bf16) (harg8 : arg8.IsWhole)
    (hc0 : ¬cond0_0 i) (hc1 : cond0_1 i) (hc2 : ¬cond0_2 i) (x0 : Vec F S1408x4096 .bf16) (x1 : Vec F S512x4096 .f32) (x2 : Vec F S1408x128 .f32) (x3 : Vec F S128x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1)) -∗ K ⟨⟩))
      ⊢ wp frame (wpE (defs₀ (F := F)) Variants.none c none) Set.univ (cc0_proj i arg2 harg2 arg3 harg3 arg4 harg4 arg5 harg5 arg6 harg6 arg7 harg7 arg8 harg8) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  refine (View.read_writes_full _ _ _ _ _).trans ?_
  sl_unfold_words
  simp only [View.readAt_eq_ld, Memref.IsWhole.read_unread, View.ld_unit_zero (S := S1408x4096) zero2, View.ld_unit_zero (S := S512x4096) zero2, View.ld_unit_zero (S := S1408x128) zero2, View.ld_unit_zero (S := S128x256) zero2, View.ld_unit_zero (S := S1x256) zero2]

set_option maxHeartbeats 2000000 in
/-- At any other only the first result is stored. -/
theorem runC (c : Dev nD) (i : grid0.Coords) (arg2 : Memref sig .tc .vmem S1408x4096 .bf16) (harg2 : arg2.IsWhole) (arg3 : Memref sig .tc .vmem S512x4096 .f32) (harg3 : arg3.IsWhole) (arg4 : Memref sig .tc .vmem S1408x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S1408x512 .bf16) (harg7 : arg7.IsWhole) (arg8 : Memref sig .tc .vmem S1408x512 .bf16) (harg8 : arg8.IsWhole)
    (hc0 : ¬cond0_0 i) (hc1 : ¬cond0_1 i) (hc2 : cond0_2 i) (x0 : Vec F S1408x4096 .bf16) (x1 : Vec F S512x4096 .f32) (x2 : Vec F S1408x128 .f32) (x3 : Vec F S128x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 x0 x1)) -∗ K ⟨⟩))
      ⊢ wp frame (wpE (defs₀ (F := F)) Variants.none c none) Set.univ (cc0_proj i arg2 harg2 arg3 harg3 arg4 harg4 arg5 harg5 arg6 harg6 arg7 harg7 arg8 harg8) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap; · iexact H5
  ipureintro
  refine (View.read_writes_full _ _ _ _ _).trans ?_
  sl_unfold_words
  simp only [View.readAt_eq_ld, Memref.IsWhole.read_unread, View.ld_unit_zero (S := S1408x4096) zero2, View.ld_unit_zero (S := S512x4096) zero2, View.ld_unit_zero (S := S1408x128) zero2, View.ld_unit_zero (S := S128x256) zero2, View.ld_unit_zero (S := S1x256) zero2]

end Cert.Kernel4Ideal.Gen

end
-- ==== Proof.Proj.Frame.lean ====
/- The input projection call run as a whole, over any float values: what each result's block holds after a grid point, and the frame. -/
module

public import proofs.«01_k».proof.Proof.Proj.Runs
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves of the first result: the product, gated in the output gate's columns. -/
def left5 (c : Dev nD) (t : Fin cfg0.N) : Vec F S1408x512 .bf16 :=
  if t.val % 24 < 4 then k0_pay5 (iblk m c 0 t) (iblk m c 1 t)
  else if 8 ≤ t.val % 24 ∧ t.val % 24 < 12 then k0_pay3 (iblk m c 0 t) (iblk m c 1 t)
  else k0_pay4 (iblk m c 0 t) (iblk m c 1 t)

/-- The point that last stored the second result's block: this one, or the row block's fourth. -/
def lastStored (t : Fin cfg0.N) : Fin cfg0.N := ⟨t.val - (t.val % 24 - 3), Nat.lt_of_le_of_lt (Nat.sub_le _ _) t.isLt⟩

/-- What a point leaves of the second result: the decay's two halves as last stored. -/
def left6 (c : Dev nD) (t : Fin cfg0.N) : Vec F S1408x512 .bf16 :=
  decayOf (iblk m c 2 (lastStored t)) (iblk m c 3 (lastStored t)) (iblk m c 4 (lastStored t))

theorem left6_live (c : Dev nD) (t : Fin cfg0.N) (h : t.val % 24 < 4) : left6 m c t = decayOf (iblk m c 2 t) (iblk m c 3 t) (iblk m c 4 t) := by
  have e : lastStored t = t := Fin.ext (by show t.val - (t.val % 24 - 3) = t.val; omega)
  unfold left6
  rw [e]

theorem left6_idle (c : Dev nD) (t : Fin cfg0.N) (h : ¬t.val % 24 < 4) : left6 m c t = left6 m c ⟨t.val - 1, Nat.lt_of_le_of_lt (Nat.sub_le _ _) t.isLt⟩ := by
  have e : lastStored t = lastStored ⟨t.val - 1, Nat.lt_of_le_of_lt (Nat.sub_le _ _) t.isLt⟩ :=
    Fin.ext (by show t.val - (t.val % 24 - 3) = (t.val - 1) - ((t.val - 1) % 24 - 3); omega)
  unfold left6
  rw [e]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left5 m c t := by dsimp only [dats]
theorem after0_6 (c : Dev nD) (t : Fin cfg0.N) : (dats m 0 c).after 6 t = left6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's block is carried through the points that store nothing into it. -/
theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h : t.val % 24 < 4
  · rw [liveAt0_6 t h] at hi
    exact absurd hi Bool.false_ne_true
  · exact left6_idle m c t h

theorem before6 (c : Dev nD) (t : Fin cfg0.N) (h : ¬t.val % 24 < 4) (d) : (dats m 0 c).before 6 t d = left6 m c t := by
  rw [Dat.before_out_traj _ 6 rfl (fun _ _ => rfl) (carry6 m c) t.val t rfl d, if_neg (by rw [notFresh6 t h]; exact Bool.false_ne_true), after0_6]
  exact (left6_idle m c t h).symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The two results' parts of it: -/
theorem leaves5 (c : Dev nD) (t : Fin cfg0.N) : (dats m 0 c).leavesExact 5 t = owns (c : Thread nD τ) (ms0_5 t) fullShare (left5 m c t) := by
  rw [← after0_5]; unfold Dat.leavesExact; rw [liveAt0_5 t]
/-- where the second is stored, -/
theorem leaves6_live (c : Dev nD) (t : Fin cfg0.N) (h : t.val % 24 < 4) : (dats m 0 c).leavesExact 6 t = owns (c : Thread nD τ) (ms0_6 t) fullShare (left6 m c t) := by
  rw [← after0_6]; unfold Dat.leavesExact; rw [liveAt0_6 t h]
/-- and where it is not. -/
theorem leaves6_idle (c : Dev nD) (t : Fin cfg0.N) (h : ¬t.val % 24 < 4) :
    owns (c : Thread nD τ) (ms0_6 t) fullShare (left6 m c t) ⊢ (dats m 0 c).leavesExact 6 t := by
  by_cases h' : t.val % 24 = 23
  · rw [show (dats m 0 c).leavesExact 6 t = owns (c : Thread nD τ) (ms0_6 t) fullShare ((dats m 0 c).after 6 t) from by
      unfold Dat.leavesExact; rw [idleAt0_6 t h, (flush0_6 t h).trans (decide_eq_true h')]]
    rw [after0_6]
  · rw [Dat.leavesExact_idle (dats m 0 c) 6 t (idleAt0_6 t h) ((flush0_6 t h).trans (decide_eq_false h'))]
    iintro H
    iexists (left6 m c t)
    rw [before6 m c t h]
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [leaves5]
  by_cases h0 : t.val % 24 < 4
  · rw [show left5 m c t = k0_pay5 (iblk m c 0 t) (iblk m c 1 t) from if_pos h0]
    rw [leaves6_live m c t h0, left6_live m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0_0 t).mpr (by omega)) (fun h => absurd ((hcond0_1 t).mp h) (by omega)) (fun h => absurd ((hcond0_2 t).mp h) (by omega)) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : 8 ≤ t.val % 24 ∧ t.val % 24 < 12
    · rw [show left5 m c t = k0_pay3 (iblk m c 0 t) (iblk m c 1 t) from (if_neg h0).trans (if_pos h1)]
      simp only [before6 m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ (fun h => absurd ((hcond0_0 t).mp h) (by omega)) ((hcond0_1 t).mpr (by omega)) (fun h => absurd ((hcond0_2 t).mp h) (by omega)) (iblk m c 0 t) (iblk m c 1 t) (iblk m c 2 t) (iblk m c 3 t) (iblk m c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves6_idle m c t h0)
      iexact H6
    · rw [show left5 m c t = k0_pay4 (iblk m c 0 t) (iblk m c 1 t) from (if_neg h0).trans (if_neg h1)]
      simp only [before6 m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runC c (grid0.coords t) _ _ _ _ _ _ _ _ _ _ _ _ _ _ (fun h => absurd ((hcond0_0 t).mp h) (by omega)) (fun h => absurd ((hcond0_1 t).mp h) (by omega)) ((hcond0_2 t).mpr (by omega)) (iblk m c 0 t) (iblk m c 1 t) (iblk m c 2 t) (iblk m c 3 t) (iblk m c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (leaves6_idle m c t h0)
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, and every semaphore counter of the machine at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Gen

end
-- ==== Proof.Proj.Values.lean ====
/- The input projection call's first result as an array, at the extended reals. -/
module

public import proofs.«01_k».proof.Proof.Proj.Frame
public import proofs.«01_k».proof.Proof.Math.Feed
public import proofs.«01_k».proof.Proof.Val.Step
public import Idealize.ShloMosaic.Lib.Pipeline.ValueKit

@[expose] public section

noncomputable section

namespace Cert.Kernel4Ideal.Gen

open Idealize Idealize.ShloMosaic Idealize.ShloMosaic.TcCoe Idealize.ShloMosaic.Tactic Cert.Decay Idealize.SL.Sem
open Cert.KernelIdeal.Gen (product_sum)
open Idealize.ShloMosaic.Pipeline (Dat)

/-- The weight's column that a column of the result is of: the sixteen columns of the decay's low-rank gate are passed over. -/
def colOf (c : ℕ) : ℕ := if c < 6144 then c else c + 16

/-- A number times its logistic. -/
def silu (x : EReal) : EReal := x * Ideal.logistic x

/-- The first result over the operands: the product, gated in the output gate's columns. -/
def projected (h : S8448x4096.Idx → EReal) (w : S4096x12304.Idx → EReal) : S8448x12288.Idx → EReal := fun y =>
  if 4096 ≤ (y 1).val ∧ (y 1).val < 6144 then silu (rowCol 4096 h w (y 0).val (colOf (y 1).val)) else rowCol 4096 h w (y 0).val (colOf (y 1).val)

/-- Row `n` of one matrix times row `c` of another, over the first 4096 positions. -/
def rowRow {A B C D : ℕ} (x : (⟨2, ![A, B]⟩ : Shape).Idx → EReal) (w : (⟨2, ![C, D]⟩ : Shape).Idx → EReal) (n c : ℕ) : EReal :=
  ∑ k ∈ Finset.range 4096, at2 x n k * at2 w c k

/-- A block's product: the weight's block holds its columns as rows. -/
theorem product_proj (l : S1408x4096.Idx → EReal) (r : S512x4096.Idx → EReal) (j : S1408x512.Idx) :
    (matmul (φ₁ := .bf16) (φ₂ := .bf16) dot_S1408x4096_S512x4096_S1408x512_1_1_0_0_n_n none (l : FVec Ideal S1408x4096 .bf16) (r : FVec Ideal S512x4096 .bf16)
      (constant S1408x512 .f32 0x00000000#32) : FVec Ideal S1408x512 .f32) j
      = rowRow l r (j 0).val (j 1).val := by
  refine product_sum _ l r j 4096 rfl rfl _ _ (fun q => ?_) (fun q => ?_)
  · refine (at2_val l _).trans (congrArg₂ (at2 l) ?_ (DotDims.lhsIdx_val_of_single _ rfl j q))
    unfold DotDims.lhsIdx
    rw [dif_neg (show ¬(0 : Fin S1408x4096.rank) ∈ dot_S1408x4096_S512x4096_S1408x512_1_1_0_0_n_n.lhsBatch by decide),
      dif_pos (show (0 : Fin S1408x4096.rank) ∈ dot_S1408x4096_S512x4096_S1408x512_1_1_0_0_n_n.lhsNonContracting by decide)]
    rfl
  · refine (at2_val r _).trans (congrArg₂ (at2 r) ?_ (DotDims.rhsIdx_val_of_single _ rfl j q))
    unfold DotDims.rhsIdx
    rw [dif_neg (show ¬(0 : Fin S512x4096.rank) ∈ dot_S1408x4096_S512x4096_S1408x512_1_1_0_0_n_n.rhsBatch by decide),
      dif_pos (show (0 : Fin S512x4096.rank) ∈ dot_S1408x4096_S512x4096_S1408x512_1_1_0_0_n_n.rhsNonContracting by decide)]
    rfl

theorem same_weight (w : S512x4096.Idx → EReal) : shapeCast S512x4096 w shapeCasts_S512x4096_S512x4096 = w := shapeCast_self _ _

theorem plain_at (h : S1408x4096.Idx → EReal) (w : S512x4096.Idx → EReal) (j : S1408x512.Idx) :
    k0_pay4 (F := Ideal) h w j = rowRow h w (j 0).val (j 1).val := by
  refine Eq.trans ?_ (product_proj h w j)
  unfold k0_pay4
  simp only [shapeCast_self]
  rfl

theorem query_at (h : S1408x4096.Idx → EReal) (w : S512x4096.Idx → EReal) (j : S1408x512.Idx) :
    k0_pay5 (F := Ideal) h w j = rowRow h w (j 0).val (j 1).val := plain_at h w j

theorem gate_at (h : S1408x4096.Idx → EReal) (w : S512x4096.Idx → EReal) (j : S1408x512.Idx) :
    k0_pay3 (F := Ideal) h w j = silu (rowRow h w (j 0).val (j 1).val) := by
  rw [← product_proj h w j]
  unfold k0_pay3 silu
  simp only [shapeCast_self]
  rfl

variable (m : (ℓ : Loc nD τ sig) → Buf (Elt Ideal) ℓ) (ρ : Dev nD → PrngReg)

theorem idx0 : ∀ t : Fin cfg0.N, win0_0.index t (0 : Fin 2) = t.val / 24 ∧ win0_0.index t (1 : Fin 2) = 0 := (by decide +kernel : ∀ t : Fin grid0.N, _)
theorem idx1 : ∀ t : Fin cfg0.N, win0_1.index t (0 : Fin 2) = colOf (512 * (t.val % 24)) ∧ win0_1.index t (1 : Fin 2) = 0 := (by decide +kernel : ∀ t : Fin grid0.N, _)
theorem idx5 : ∀ t : Fin cfg0.N, win0_5.index t (0 : Fin 2) = t.val / 24 ∧ win0_5.index t (1 : Fin 2) = t.val % 24 := (by decide +kernel : ∀ t : Fin grid0.N, _)

/-- The call's operands that the first result is of. -/
abbrev argH (c : Dev nD) : S8448x4096.Idx → EReal := m ((c : Thread nD τ).loc main_arg0)
abbrev argW (c : Dev nD) : S4096x12304.Idx → EReal := m ((c : Thread nD τ).loc main_arg1)

set_option maxHeartbeats 4000000 in
theorem V_weight (c : Dev nD) : V m c main_v0 = transpose S12304x4096 [1, 0] (argW m c) transposes_S4096x12304_S12304x4096_1_0 := by
  show StableHlo.after (hostOps0 ++ (hostOps0_1 ++ (hostOps0_2 ++ []))) _ (Proc.devRef .tc main_v0) = _
  after_results
  rfl

theorem h_at (c : Dev nD) (t : Fin cfg0.N) (n k : ℕ) (hn : n < 1408) (hk : k < 4096) :
    at2 (A := 1408) (B := 4096) (iblk m c 0 t) n k = at2 (A := 8448) (B := 4096) (argH m c) (1408 * (t.val / 24) + n) k := by
  obtain ⟨e0, e1⟩ := idx0 t
  refine (at2_of_lt _ n k hn hk).trans ?_
  show V m c main_arg0 (((cfg0.win 0).blk t).view.emb (ij n k hn hk)) = _
  rw [V_main_arg0]
  refine (at2_val (A := 8448) (B := 4096) _ _).trans (congrArg₂ (at2 _) ?_ ?_)
  · show win0_0.index t (0 : Fin 2) * 1408 + 1 * n = _; omega
  · show win0_0.index t (1 : Fin 2) * 4096 + 1 * k = _; omega

theorem turned (w : S4096x12304.Idx → EReal) (i : S12304x4096.Idx) :
    transpose S12304x4096 [1, 0] w transposes_S4096x12304_S12304x4096_1_0 i = at2 w (i 1).val (i 0).val :=
  at2_val (A := 4096) (B := 12304) w _

theorem w_at (c : Dev nD) (t : Fin cfg0.N) (n k : ℕ) (hn : n < 512) (hk : k < 4096) :
    at2 (A := 512) (B := 4096) (iblk m c 1 t) n k = at2 (A := 4096) (B := 12304) (argW m c) k (colOf (512 * (t.val % 24)) + n) := by
  obtain ⟨e0, e1⟩ := idx1 t
  refine (at2_of_lt _ n k hn hk).trans ?_
  show V m c main_v0 (((cfg0.win 1).blk t).view.emb (ij n k hn hk)) = _
  rw [V_weight]
  refine (turned _ _).trans (congrArg₂ (at2 _) ?_ ?_)
  · show win0_1.index t (1 : Fin 2) + 1 * k = _; omega
  · show win0_1.index t (0 : Fin 2) + 1 * n = _; omega

theorem block_at (c : Dev nD) (t : Fin cfg0.N) (n k : ℕ) (hn : n < 1408) (hk : k < 512) :
    rowRow (A := 1408) (B := 4096) (C := 512) (D := 4096) (iblk m c 0 t) (iblk m c 1 t) n k
      = rowCol 4096 (argH m c) (argW m c) (1408 * (t.val / 24) + n) (colOf (512 * (t.val % 24) + k)) := by
  have e : colOf (512 * (t.val % 24)) + k = colOf (512 * (t.val % 24) + k) := by
    unfold colOf
    split <;> split <;> omega
  unfold rowRow rowCol
  refine Finset.sum_congr rfl fun q hq => ?_
  have hq := Finset.mem_range.mp hq
  rw [h_at m c t _ _ hn hq, w_at m c t _ _ hk hq, e]

theorem left5_at (c : Dev nD) (t : Fin cfg0.N) (y : S1408x512.Idx) (z : S8448x12288.Idx)
    (h0 : (z 0).val = 1408 * (t.val / 24) + (y 0).val) (h1 : (z 1).val = 512 * (t.val % 24) + (y 1).val) :
    left5 m c t y = projected (argH m c) (argW m c) z := by
  have b0 : (y 0).val < 1408 := (y 0).isLt
  have b1 : (y 1).val < 512 := (y 1).isLt
  have e := block_at m c t _ _ b0 b1
  unfold left5 projected
  rw [h0, h1, ← e]
  by_cases hq : t.val % 24 < 4
  · rw [if_pos hq, if_neg (by omega)]
    exact query_at _ _ y
  · rw [if_neg hq]
    by_cases hg : 8 ≤ t.val % 24 ∧ t.val % 24 < 12
    · rw [if_pos hg, if_pos (by omega)]
      exact gate_at _ _ y
    · rw [if_neg hg, if_neg (by omega)]
      exact plain_at _ _ y

theorem array5 (c : Dev nD) : (dats m 0 c).arrAt 5 cfg0.N = projected (argH m c) (argW m c) := by
  refine (dats m 0 c).arrAt_eq_of_covers 5 _ (by decide +kernel) fun t _ y => ?_
  show (dats m 0 c).after 5 t y = _
  rw [after0_5]
  obtain ⟨e0, e1⟩ := idx5 t
  refine left5_at m c t y _ ?_ ?_
  · show win0_5.index t (0 : Fin 2) * 1408 + 1 * (y 0).val = _; omega
  · show win0_5.index t (1 : Fin 2) * 512 + 1 * (y 1).val = _; omega

/-- The run: the first result named, the arguments kept. -/
theorem run_values : θ_run defs (onTc (τ := τ) (main (F := Ideal))) ⟨m, fun _ => 0, ρ⟩ (fun r => (∀ c : Dev nD,
      r.2.mem ((c : Thread nD τ).loc main_v3_0) = projected (argH m c) (argW m c))
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_and ((θ_run defs _ _).mono (fun r h c => ((h c).1 5).trans (array5 m c)) (run_main m ρ)) (unchanged m ρ)

end Cert.Kernel4Ideal.Gen

end
-- ==== Proof.Proj.Reference.lean ====
/- The input projection call's reference, read at an index. -/
module

public import proofs.«01_k».proof.Proof.Proj.Values
public import proofs.«01_k».proof.Proof.Gen.Reference4Ideal.Read

@[expose] public section

set_option maxRecDepth 16384

noncomputable section

namespace Cert.Reference4Ideal.Read

open Cert.Reference4Ideal.Gen Cert.Decay Idealize.ShloMosaic Idealize.ShloMosaic.TcCoe
open Cert.Kernel4Ideal.Gen (projected colOf silu)

theorem one_f32 : Ideal.ofBits .f32 0x3F800000#32 = 1 := by
  simp [Ideal.ofBits, Ideal.ieee, -EReal.coe_mul]; norm_num

theorem product_at (x0 : S8448x4096.Idx → EReal) (x1 : S4096x12304.Idx → EReal) (i : S8448x12304.Idx) :
    val_main_v1 (F := Ideal) x0 x1 i = rowCol 4096 x0 x1 (i 0).val (i 1).val := by
  rw [val_main_v1_apply]
  unfold rowCol
  rw [Finset.sum_range]
  refine Finset.sum_congr rfl fun k _ => congrArg₂ (· * ·) ?_ ?_
  · exact at2_val (A := 8448) (B := 4096) x0 _
  · exact at2_val (A := 4096) (B := 12304) x1 _

/-- The three parts of the result: the product's first columns, -/
theorem first_at (x0 : S8448x4096.Idx → EReal) (x1 : S4096x12304.Idx → EReal) (i : S8448x4096.Idx) :
    val_main_v2 (F := Ideal) x0 x1 i = rowCol 4096 x0 x1 (i 0).val (i 1).val := by
  refine (val_main_v2_apply (F := Ideal) x0 x1 i).trans ((product_at x0 x1 _).trans (congrArg₂ (rowCol 4096 x0 x1) ?_ ?_))
  · show (idx_main_v2 i (0 : Fin 2)).val = _; simp [idx_main_v2]
  · show (idx_main_v2 i (1 : Fin 2)).val = _; simp [idx_main_v2]

/-- the output gate's, gated, -/
theorem gate_at (x0 : S8448x4096.Idx → EReal) (x1 : S4096x12304.Idx → EReal) (i : S8448x2048.Idx) :
    val_main_v5 (F := Ideal) x0 x1 i = silu (rowCol 4096 x0 x1 (i 0).val (4096 + (i 1).val)) := by
  have e : val_main_v3 (F := Ideal) x0 x1 i = rowCol 4096 x0 x1 (i 0).val (4096 + (i 1).val) := by
    refine (val_main_v3_apply (F := Ideal) x0 x1 i).trans ((product_at x0 x1 _).trans (congrArg₂ (rowCol 4096 x0 x1) ?_ ?_))
    · show (idx_main_v3 i (0 : Fin 2)).val = _; simp [idx_main_v3]
    · show (idx_main_v3 i (1 : Fin 2)).val = _; simp [idx_main_v3]; try omega
  unfold silu Ideal.logistic
  rw [← e, ← one_f32]
  rfl

/-- and the last ones, past the decay's low-rank gate. -/
theorem last_at (x0 : S8448x4096.Idx → EReal) (x1 : S4096x12304.Idx → EReal) (i : S8448x6144.Idx) :
    val_main_v4 (F := Ideal) x0 x1 i = rowCol 4096 x0 x1 (i 0).val (6160 + (i 1).val) := by
  refine (val_main_v4_apply (F := Ideal) x0 x1 i).trans ((product_at x0 x1 _).trans (congrArg₂ (rowCol 4096 x0 x1) ?_ ?_))
  · show (idx_main_v4 i (0 : Fin 2)).val = _; simp [idx_main_v4]
  · show (idx_main_v4 i (1 : Fin 2)).val = _; simp [idx_main_v4]; try omega

theorem joined_at (p : S8448x4096.Idx → EReal) (q : S8448x2048.Idx → EReal) (r : S8448x6144.Idx → EReal) (hcc) (i : S8448x12288.Idx) :
    concatenate S8448x12288 1 [⟨S8448x4096, p⟩, ⟨S8448x2048, q⟩, ⟨S8448x6144, r⟩] hcc i
      = if (i 1).val < 4096 then at2 p (i 0).val (i 1).val else if (i 1).val < 6144 then at2 q (i 0).val ((i 1).val - 4096) else at2 r (i 0).val ((i 1).val - 6144) := by
  have b0 : (i 0).val < 8448 := (i 0).isLt
  have b1 : (i 1).val < 12288 := (i 1).isLt
  split
  · rename_i h
    refine (concatenate_apply_piece (t := S8448x12288) 1 [⟨S8448x4096, p⟩, ⟨S8448x2048, q⟩, ⟨S8448x6144, r⟩] _ _ 0 (Nat.succ_pos 2) S8448x4096 p rfl rfl 0 rfl (ij (i 0).val (i 1).val b0 h)
      (fun b hb => match b with | ⟨0, _⟩ => rfl | ⟨1, _⟩ => absurd rfl hb) (by show 0 + (i 1).val = _; omega)).trans (at2_of_lt p _ _ b0 h).symm
  · rename_i h
    split
    · rename_i h2
      obtain ⟨n, hn⟩ : ∃ n, n = (i 1).val - 4096 := ⟨_, rfl⟩
      have h' : n < 2048 := by omega
      rw [← hn]
      refine (concatenate_apply_piece (t := S8448x12288) 1 [⟨S8448x4096, p⟩, ⟨S8448x2048, q⟩, ⟨S8448x6144, r⟩] _ _ 1 (Nat.succ_lt_succ (Nat.succ_pos 1)) S8448x2048 q rfl rfl 4096 rfl (ij (i 0).val n b0 h')
        (fun b hb => match b with | ⟨0, _⟩ => rfl | ⟨1, _⟩ => absurd rfl hb) (by show 4096 + n = (i 1).val; omega)).trans (at2_of_lt q _ _ b0 h').symm
    · rename_i h2
      obtain ⟨n, hn⟩ : ∃ n, n = (i 1).val - 6144 := ⟨_, rfl⟩
      have h' : n < 6144 := by omega
      rw [← hn]
      refine (concatenate_apply_piece (t := S8448x12288) 1 [⟨S8448x4096, p⟩, ⟨S8448x2048, q⟩, ⟨S8448x6144, r⟩] _ _ 2 (Nat.lt_succ_self 2) S8448x6144 r rfl rfl 6144 rfl (ij (i 0).val n b0 h')
        (fun b hb => match b with | ⟨0, _⟩ => rfl | ⟨1, _⟩ => absurd rfl hb) (by show 6144 + n = (i 1).val; omega)).trans (at2_of_lt r _ _ b0 h').symm

theorem projected_at (x0 : S8448x4096.Idx → EReal) (x1 : S4096x12304.Idx → EReal) (i : S8448x12288.Idx) :
    val_main_v7 (F := Ideal) x0 x1 i = projected x0 x1 i := by
  have b0 : (i 0).val < 8448 := (i 0).isLt
  have b1 : (i 1).val < 12288 := (i 1).isLt
  show val_main_v6 (F := Ideal) x0 x1 i = _
  unfold val_main_v6 projected colOf
  refine (joined_at _ _ _ _ i).trans ?_
  by_cases h : (i 1).val < 4096
  · rw [if_pos h, if_neg (by omega), if_pos (by omega), at2_of_lt _ _ _ b0 h]
    exact first_at x0 x1 _
  · rw [if_neg h]
    by_cases h2 : (i 1).val < 6144
    · obtain ⟨n, hn⟩ : ∃ n, n = (i 1).val - 4096 := ⟨_, rfl⟩
      rw [if_pos h2, if_pos ⟨by omega, h2⟩, if_pos h2, ← hn, at2_of_lt _ _ _ b0 (show n < 2048 by omega)]
      refine (gate_at x0 x1 _).trans (congrArg (fun k => silu (rowCol 4096 x0 x1 (i 0).val k)) ?_)
      show 4096 + n = _; omega
    · obtain ⟨n, hn⟩ : ∃ n, n = (i 1).val - 6144 := ⟨_, rfl⟩
      rw [if_neg h2, if_neg (fun hb => h2 hb.2), if_neg h2, ← hn, at2_of_lt _ _ _ b0 (show n < 6144 by omega)]
      refine (last_at x0 x1 _).trans (congrArg (rowCol 4096 x0 x1 (i 0).val) ?_)
      show 6160 + n = _; omega

end Cert.Reference4Ideal.Read

end
-- ==== Proof.Proj.Claims.lean ====
/- The input projection call's claims: its frames, and that kernel and reference end with the same first array. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Proj.Reference
public import Idealize.ShloMosaic.Adequacy
public import Idealize.ShloMosaic.Init

@[expose] public section

noncomputable section

namespace Cert.Proj

open Idealize.ShloMosaic Idealize.SL.Sem

/-- The kernel's frame with the second program in place of the first: the two have the same text. -/
def FrameBits : Prop := ∀ (m : (ℓ : Loc Cert.Kernel4Ideal.nD Cert.Kernel4Ideal.τ Cert.Kernel4Ideal.sig) → Buf (Elt Bits) ℓ)
    (g : Dev Cert.Kernel4Ideal.nD → PrngReg), Cert.Pre_Kernel4 m →
  θ_run (Cert.Kernel4Ideal.defs (F := Bits)) (onTc (τ := Cert.Kernel4Ideal.τ) (Cert.Kernel4Ideal.main (F := Bits)))
    ⟨m, fun _ => 0, g⟩ (fun r => (∀ c : Dev Cert.Kernel4Ideal.nD,
      r.2.mem ((c.tc : Thread Cert.Kernel4Ideal.nD Cert.Kernel4Ideal.τ).loc Cert.Kernel4Ideal.main_arg0)
        = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1)
        = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2)
        = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3)
        = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4)
        = m ((c.tc : Thread Cert.Kernel4Ideal.nD Cert.Kernel4Ideal.τ).loc Cert.Kernel4Ideal.main_arg4))
      ∧ r.2.sem = fun _ => 0)

theorem frameBits : FrameBits := fun m ρ _ => Cert.Kernel4Ideal.Gen.frame (F := Bits) m ρ

theorem same_text : Cert.quiescent_Kernel4 = FrameBits := by
  sl_kernel_rfl

/-- The kernel at the machine's floats: the one run, read at `Bits`. -/
theorem frame_kernel : Cert.quiescent_Kernel4 := same_text ▸ frameBits

/-- The kernel at the extended reals. -/
theorem frame_ideal : Cert.quiescent_Kernel4Ideal := fun m ρ _ =>
  (θ_run Cert.Kernel4Ideal.defs _ _).mono (fun _ h => h) (Cert.Kernel4Ideal.Gen.frame (F := Ideal) m ρ)

/-- The reference at the extended reals. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with the same projection. -/
theorem same_arrays : Cert.algebraic_Kernel4Ideal_Reference4Ideal := by
  intro m g m' g' _ hargs
  refine ⟨fun c => Cert.Kernel4Ideal.Gen.projected (Cert.Kernel4Ideal.Gen.argH m c) (Cert.Kernel4Ideal.Gen.argW m c),
    (θ_run Cert.Kernel4Ideal.defs _ _).mono (fun r h c => ⟨h.1 c, h.2 c⟩) (Cert.Kernel4Ideal.Gen.run_values m g),
    (θ_run Cert.Reference4Ideal.defs _ _).mono (fun r h c => ⟨(h c).1.trans ?_, (h c).2⟩)
      (Cert.Reference4Ideal.Value.run (F := Ideal) m' g')⟩
  obtain ⟨e0, e1, _⟩ := hargs c
  refine (Cert.Reference4Ideal.Read.val_main_v7_eq _ _).trans ?_
  rw [e0, e1]
  funext i
  exact Cert.Reference4Ideal.Read.projected_at _ _ i

end Cert.Proj

end
-- ==== Proof.Out.Runs.lean ====
/- The output projection's call: what its body leaves at a grid point, over any float values. -/
module

public import proofs.«01_k».proof.Proof.Gen.Kernel5Ideal.Frame
public import proofs.«01_k».proof.Proof.Gen.Kernel5Ideal.Skeleton
public import Idealize.ShloMosaic.Lib.VecWindow
public import Idealize.ShloMosaic.Lib.Pipeline.Value
public import Idealize.ShloMosaic.Lib.Exec

@[expose] public section

set_option maxRecDepth 16384

noncomputable section

namespace Cert.Kernel5Ideal.Gen

open Idealize.ShloMosaic Idealize.ShloMosaic.TcCoe Idealize.ShloMosaic.Tactic

variable {F : FTy → Type} [FloatOps F]

theorem zeros2 : (![0, 0] : Fin 2 → ℕ) = fun _ => 0 := by
  funext a; match a with
  | ⟨0, _⟩ => rfl
  | ⟨1, _⟩ => rfl

set_option maxHeartbeats 4000000 in
theorem out_upper (c : Dev nD) (i : grid0.Coords)
    (arg2 : Memref sig .tc .vmem S1664x2048 .bf16) (harg2 : arg2.IsWhole)
    (arg3 : Memref sig .tc .vmem S1664x2048 .bf16) (harg3 : arg3.IsWhole)
    (arg4 : Memref sig .tc .vmem S2048x256 .f32) (harg4 : arg4.IsWhole)
    (arg5 : Memref sig .tc .vmem S2048x256 .f32) (harg5 : arg5.IsWhole)
    (arg6 : Memref sig .tc .vmem S1664x256 .f32) (harg6 : arg6.IsWhole)
    (arg7 : Memref sig .tc .vmem S1664x128 .f32) (harg7 : arg7.IsWhole)
    (arg8 : Memref sig .tc .vmem S1664x128 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1664x256 .f32) (harg11 : arg11.IsWhole)
    (arg12 : Memref sig .tc .vmem S1664x256 .f32) (harg12 : arg12.IsWhole)
    (hc0 : cond0_0 i) (hc1 : ¬cond0_1 i)
    (x0 x1 : Vec F S1664x2048 .bf16) (x2 x3 : Vec F S2048x256 .f32) (x4 : Vec F S1664x256 .f32) (x5 x6 : Vec F S1664x128 .f32) (x7 x8 : Vec F S1x256 .f32) (x9 : Vec F S1664x256 .f32) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9
      = k0_pay1 x4 x7 x8 x5 x6 x0 x2 x1 x3 := by
  unfold out0_A_10 kernelRun0_A
  dsimp only
  sl_unfold_words
  refine (View.read_writes_full (Val := Elt F) _ _ _ _ _).trans ?_
  simp only [View.readAt_eq_ld, Memref.IsWhole.read_unread]
  simp only [View.ld_unit_zero (S := S1664x2048) zeros2, View.ld_unit_zero (S := S2048x256) zeros2, View.ld_unit_zero (S := S1664x256) zeros2, View.ld_unit_zero (S := S1664x128) zeros2, View.ld_unit_zero (S := S1x256) zeros2]

set_option maxHeartbeats 4000000 in
theorem out_lower (c : Dev nD) (i : grid0.Coords)
    (arg2 : Memref sig .tc .vmem S1664x2048 .bf16) (harg2 : arg2.IsWhole)
    (arg3 : Memref sig .tc .vmem S1664x2048 .bf16) (harg3 : arg3.IsWhole)
    (arg4 : Memref sig .tc .vmem S2048x256 .f32) (harg4 : arg4.IsWhole)
    (arg5 : Memref sig .tc .vmem S2048x256 .f32) (harg5 : arg5.IsWhole)
    (arg6 : Memref sig .tc .vmem S1664x256 .f32) (harg6 : arg6.IsWhole)
    (arg7 : Memref sig .tc .vmem S1664x128 .f32) (harg7 : arg7.IsWhole)
    (arg8 : Memref sig .tc .vmem S1664x128 .f32) (harg8 : arg8.IsWhole)
    (arg9 : Memref sig .tc .vmem S1x256 .f32) (harg9 : arg9.IsWhole)
    (arg10 : Memref sig .tc .vmem S1x256 .f32) (harg10 : arg10.IsWhole)
    (arg11 : Memref sig .tc .vmem S1664x256 .f32) (harg11 : arg11.IsWhole)
    (arg12 : Memref sig .tc .vmem S1664x256 .f32) (harg12 : arg12.IsWhole)
    (hc0 : ¬cond0_0 i) (hc1 : cond0_1 i)
    (x0 x1 : Vec F S1664x2048 .bf16) (x2 x3 : Vec F S2048x256 .f32) (x4 : Vec F S1664x256 .f32) (x5 x6 : Vec F S1664x128 .f32) (x7 x8 : Vec F S1x256 .f32) (x9 : Vec F S1664x256 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9
      = k0_pay2 x9 x0 x2 x1 x3 := by
  unfold out0_B_10 kernelRun0_B
  dsimp only
  sl_unfold_words
  refine (View.read_writes_full (Val := Elt F) _ _ _ _ _).trans ?_
  simp only [View.readAt_eq_ld, Memref.IsWhole.read_unread]
  simp only [View.ld_unit_zero (S := S1664x2048) zeros2, View.ld_unit_zero (S := S2048x256) zeros2, View.ld_unit_zero (S := S1664x256) zeros2]

end Cert.Kernel5Ideal.Gen

end
-- ==== Proof.Out.Values.lean ====
/- The output projection call's result as an array, at the extended reals. -/
module

public import proofs.«01_k».proof.Proof.Out.Runs
public import proofs.«01_k».proof.Proof.Math.Down
public import proofs.«01_k».proof.Proof.Val.Step
public import Idealize.ShloMosaic.Lib.Pipeline.ValueKit

@[expose] public section

noncomputable section

namespace Cert.Kernel5Ideal.Gen

open Idealize Idealize.ShloMosaic Idealize.ShloMosaic.TcCoe Idealize.ShloMosaic.Tactic Cert.Decay Idealize.SL.Sem
open Cert.KernelIdeal.Gen (product_sum)
open Idealize.ShloMosaic.Pipeline (Dat)

/-- The residual stream at row `n`, column `c`: a layer norm of the rows up to 6656, the given rows from there. -/
def streamOf (s : S8192x4096.Idx → EReal) (mu rs : S8448x1.Idx → EReal) (g b : S4096.Idx → EReal) (h : S1792x4096.Idx → EReal) (n c : ℕ) : EReal :=
  if n < 6656 then normed s mu rs g b n c else at2 h (n - 6656) c

/-- The two operands side by side times the weights, at row `n`, column `c`. -/
def mixOf (o y : S8448x2048.Idx → EReal) (w : S4096x4096.Idx → EReal) (n c : ℕ) : EReal :=
  rowCol 2048 o w n c + ∑ q ∈ Finset.range 2048, at2 y n q * at2 w (2048 + q) c

/-- The result over the operands: the scaled residual stream and the product. -/
def projOf (o y : S8448x2048.Idx → EReal) (w : S4096x4096.Idx → EReal) (s : S8192x4096.Idx → EReal) (mu rs : S8448x1.Idx → EReal)
    (g b : S4096.Idx → EReal) (h : S1792x4096.Idx → EReal) : S8320x4096.Idx → EReal := fun i =>
  scale * streamOf s mu rs g b h (i 0).val (i 1).val + mixOf o y w (i 0).val (i 1).val

/-- A block's product. -/
theorem product_out (l : S1664x2048.Idx → EReal) (r : S2048x256.Idx → EReal) (j : S1664x256.Idx) :
    (matmul (φ₁ := .bf16) (φ₂ := .bf16) dot_S1664x2048_S2048x256_S1664x256_1_0_0_1_n_n none (l : FVec Ideal S1664x2048 .bf16) (r : FVec Ideal S2048x256 .bf16)
      (constant S1664x256 .f32 0x00000000#32) : FVec Ideal S1664x256 .f32) j
      = rowCol 2048 l r (j 0).val (j 1).val := by
  refine product_sum _ l r j 2048 rfl rfl _ _ (fun q => ?_) (fun q => ?_)
  · refine (at2_val l _).trans (congrArg₂ (at2 l) ?_ (DotDims.lhsIdx_val_of_single _ rfl j q))
    unfold DotDims.lhsIdx
    rw [dif_neg (show ¬(0 : Fin S1664x2048.rank) ∈ dot_S1664x2048_S2048x256_S1664x256_1_0_0_1_n_n.lhsBatch by decide),
      dif_pos (show (0 : Fin S1664x2048.rank) ∈ dot_S1664x2048_S2048x256_S1664x256_1_0_0_1_n_n.lhsNonContracting by decide)]
    rfl
  · refine (at2_val r _).trans (congrArg₂ (at2 r) (DotDims.rhsIdx_val_of_single _ rfl j q) ?_)
    unfold DotDims.rhsIdx
    rw [dif_neg (show ¬(1 : Fin S2048x256.rank) ∈ dot_S1664x2048_S2048x256_S1664x256_1_0_0_1_n_n.rhsBatch by decide),
      dif_pos (show (1 : Fin S2048x256.rank) ∈ dot_S1664x2048_S2048x256_S1664x256_1_0_0_1_n_n.rhsNonContracting by decide)]
    rfl

/-- One matrix twice side by side. -/
def twice (x : S1664x128.Idx → EReal) : S1664x256.Idx → EReal :=
  concatenate (α := EReal) S1664x256 1 [⟨S1664x128, x⟩, ⟨S1664x128, x⟩] concatenates_S1664x128_S1664x128_S1664x256_d1

theorem twice_at (x : S1664x128.Idx → EReal) (j : S1664x256.Idx) : twice x j = at2 x (j 0).val ((j 1).val % 128) := by
  have b0 : (j 0).val < 1664 := (j 0).isLt
  have b1 : (j 1).val < 256 := (j 1).isLt
  have hc : (j 1).val % 128 < 128 := Nat.mod_lt _ (by decide)
  refine Eq.trans ?_ (at2_of_lt x _ _ b0 hc).symm
  obtain ⟨k, hk⟩ : ∃ k : Fin 2, k.val = (j 1).val / 128 := ⟨⟨(j 1).val / 128, by omega⟩, rfl⟩
  unfold twice
  refine concatenate_apply_piece (t := S1664x256) 1 [⟨S1664x128, x⟩, ⟨S1664x128, x⟩] _ _
    k.val k.isLt S1664x128 x ?_ rfl (128 * k.val) ?_ (ij (j 0).val ((j 1).val % 128) b0 hc)
    (fun b hb => match b with | ⟨0, _⟩ => rfl | ⟨1, _⟩ => absurd rfl hb) ?_
  · fin_cases k <;> rfl
  · fin_cases k <;> rfl
  · show 128 * k.val + (j 1).val % 128 = (j 1).val; omega

/-- A block of the rows that are normed here: the scaled norm of the block and the two products. -/
theorem upper_at (x4 : S1664x256.Idx → EReal) (x7 x8 : S1x256.Idx → EReal) (x5 x6 : S1664x128.Idx → EReal) (x0 : S1664x2048.Idx → EReal) (x2 : S2048x256.Idx → EReal)
    (x1 : S1664x2048.Idx → EReal) (x3 : S2048x256.Idx → EReal) (j : S1664x256.Idx) : k0_pay1 (F := Ideal) x4 x7 x8 x5 x6 x0 x2 x1 x3 j
      = (at2 x4 (j 0).val (j 1).val - at2 x5 (j 0).val ((j 1).val % 128)) * at2 x6 (j 0).val ((j 1).val % 128) * at2 x7 0 (j 1).val + at2 x8 0 (j 1).val
        + (rowCol 2048 x0 x2 (j 0).val (j 1).val + rowCol 2048 x1 x3 (j 0).val (j 1).val) := by
  have row : ∀ (x : S1x256.Idx → EReal), broadcastTo S1664x256 x broadcasts_S1x256_S1664x256 j = at2 x 0 (j 1).val := fun x =>
    (broadcastTo_apply x _ j (ij 0 (j 1).val Nat.one_pos (j 1).isLt) (fun a => match a with
      | ⟨0, _⟩ => rfl
      | ⟨1, _⟩ => rfl)).trans (at2_of_lt x 0 _ Nat.one_pos (j 1).isLt).symm
  have same : ∀ x : S1664x128.Idx → EReal, twice x = twice (shapeCast S1664x128 x shapeCasts_S1664x128_S1664x128) := fun x => congrArg twice (shapeCast_self x _).symm
  rw [← product_out x0 x2 j, ← product_out x1 x3 j, ← twice_at x5 j, ← twice_at x6 j, ← row x7, ← row x8, ← at2_val x4 j]
  unfold k0_pay1
  simp only [shapeCast_self]
  rw [same x5, same x6]
  rfl

/-- A block of the given rows: the scaled block and the two products. -/
theorem lower_at (x9 : S1664x256.Idx → EReal) (x0 : S1664x2048.Idx → EReal) (x2 : S2048x256.Idx → EReal) (x1 : S1664x2048.Idx → EReal) (x3 : S2048x256.Idx → EReal)
    (j : S1664x256.Idx) : k0_pay2 (F := Ideal) x9 x0 x2 x1 x3 j
      = scale * at2 x9 (j 0).val (j 1).val + (rowCol 2048 x0 x2 (j 0).val (j 1).val + rowCol 2048 x1 x3 (j 0).val (j 1).val) := by
  rw [← product_out x0 x2 j, ← product_out x1 x3 j, ← at2_val x9 j]
  rfl

variable (m : (ℓ : Loc nD τ sig) → Buf (Elt Ideal) ℓ) (ρ : Dev nD → PrngReg)

theorem idx0 : ∀ t : Fin cfg0.N, win0_0.index t (0 : Fin 2) = t.val / 16 ∧ win0_0.index t (1 : Fin 2) = 0 := (by decide +kernel : ∀ t : Fin grid0.N, _)
theorem idx1 : ∀ t : Fin cfg0.N, win0_1.index t (0 : Fin 2) = t.val / 16 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 16 := (by decide +kernel : ∀ t : Fin grid0.N, _)
theorem idx3 : ∀ t : Fin cfg0.N, win0_3.index t (0 : Fin 2) = 1 ∧ win0_3.index t (1 : Fin 2) = t.val % 16 := (by decide +kernel : ∀ t : Fin grid0.N, _)
theorem idx5 : ∀ t : Fin cfg0.N, win0_5.index t (0 : Fin 2) = t.val / 16 ∧ win0_5.index t (1 : Fin 2) = 0 := (by decide +kernel : ∀ t : Fin grid0.N, _)
theorem idx6 : ∀ t : Fin cfg0.N, win0_6.index t (0 : Fin 2) = t.val / 16 ∧ win0_6.index t (1 : Fin 2) = 0 := (by decide +kernel : ∀ t : Fin grid0.N, _)
theorem idx7 : ∀ t : Fin cfg0.N, win0_7.index t (0 : Fin 2) = 0 ∧ win0_7.index t (1 : Fin 2) = t.val % 16 := (by decide +kernel : ∀ t : Fin grid0.N, _)
theorem idx8 : ∀ t : Fin cfg0.N, win0_8.index t (0 : Fin 2) = 0 ∧ win0_8.index t (1 : Fin 2) = t.val % 16 := (by decide +kernel : ∀ t : Fin grid0.N, _)
theorem idx10 : ∀ t : Fin cfg0.N, win0_10.index t (0 : Fin 2) = t.val / 16 ∧ win0_10.index t (1 : Fin 2) = t.val % 16 := (by decide +kernel : ∀ t : Fin grid0.N, _)
theorem idx4 : ∀ t : Fin cfg0.N, t.val < 64 → win0_4.index t (0 : Fin 2) = t.val / 16 ∧ win0_4.index t (1 : Fin 2) = t.val % 16 := (by decide +kernel : ∀ t : Fin grid0.N, _)
theorem idx9 : ∀ t : Fin cfg0.N, ¬t.val < 64 → win0_9.index t (0 : Fin 2) = 0 ∧ win0_9.index t (1 : Fin 2) = t.val % 16 := (by decide +kernel : ∀ t : Fin grid0.N, _)

/-- The call's operands. -/
abbrev argO (c : Dev nD) : S8448x2048.Idx → EReal := m ((c : Thread nD τ).loc main_arg0)
abbrev argY (c : Dev nD) : S8448x2048.Idx → EReal := m ((c : Thread nD τ).loc main_arg1)
abbrev argW (c : Dev nD) : S4096x4096.Idx → EReal := m ((c : Thread nD τ).loc main_arg2)
abbrev argS (c : Dev nD) : S8192x4096.Idx → EReal := m ((c : Thread nD τ).loc main_arg3)
abbrev argM (c : Dev nD) : S8448x1.Idx → EReal := m ((c : Thread nD τ).loc main_arg4)
abbrev argR (c : Dev nD) : S8448x1.Idx → EReal := m ((c : Thread nD τ).loc main_arg5)
abbrev argG (c : Dev nD) : S4096.Idx → EReal := m ((c : Thread nD τ).loc main_arg6)
abbrev argB (c : Dev nD) : S4096.Idx → EReal := m ((c : Thread nD τ).loc main_arg7)
abbrev argH (c : Dev nD) : S1792x4096.Idx → EReal := m ((c : Thread nD τ).loc main_arg8)

/-- One column spread over the lanes. -/
def spread (x : S8448x1.Idx → EReal) : S8448x128.Idx → EReal := broadcastInDim S8448x128 ![0, 1] bcast_S8448x1_S8448x128_0_1 x

/-- A vector scaled, as one row. -/
def scaledRow (x : S4096.Idx → EReal) : S1x4096.Idx → EReal :=
  mulf (F := Ideal) (φ := .f32) (broadcastInDim S1x4096 ![] bcast_S_S1x4096 (constant S_ .f32 0x3F9837F0#32)) (shapeCast S1x4096 x shapeCasts_S4096_S1x4096)

set_option maxHeartbeats 4000000 in
theorem V_means (c : Dev nD) : V m c main_v2 = spread (argM m c) := by
  show StableHlo.after hostOps0 _ (Proc.devRef .tc main_v2) = _
  after_results
  rfl

set_option maxHeartbeats 4000000 in
theorem V_devs (c : Dev nD) : V m c main_v3 = spread (argR m c) := by
  show StableHlo.after hostOps0 _ (Proc.devRef .tc main_v3) = _
  after_results
  rfl

set_option maxHeartbeats 4000000 in
theorem V_gain (c : Dev nD) : V m c main_v5 = scaledRow (argG m c) := by
  show StableHlo.after hostOps0 _ (Proc.devRef .tc main_v5) = _
  after_results
  rfl

set_option maxHeartbeats 4000000 in
theorem V_bias (c : Dev nD) : V m c main_v7 = scaledRow (argB m c) := by
  show StableHlo.after hostOps0 _ (Proc.devRef .tc main_v7) = _
  after_results
  rfl

theorem spread_at (x : S8448x1.Idx → EReal) (i : S8448x128.Idx) : spread x i = at2 x (i 0).val 0 := by
  unfold spread
  refine (broadcastInDim_apply _ _ x i (ij (i 0).val 0 (i 0).isLt Nat.one_pos) ?_).trans (at2_of_lt x _ 0 (i 0).isLt Nat.one_pos).symm
  intro a; match a with
  | ⟨0, _⟩ => rfl
  | ⟨1, _⟩ => rfl

theorem scaledRow_at (x : S4096.Idx → EReal) (i : S1x4096.Idx) : scaledRow x i = scale * at1 x (i 1).val := by
  have b0 : (i 0).val < 1 := (i 0).isLt
  unfold scaledRow
  refine congrArg₂ (fun a b : EReal => a * b) rfl ?_
  refine (shapeCast_apply x _ i (pos (i 1).val (i 1).isLt) ?_).trans (at1_val x _)
  refine (Shape.rowMajor_val_one _).trans (Eq.trans ?_ (Shape.rowMajor_val_two _).symm)
  show (i 1).val = (i 0).val * 4096 + (i 1).val
  omega

theorem o_at (c : Dev nD) (t : Fin cfg0.N) (n k : ℕ) (hn : n < 1664) (hk : k < 2048) :
    at2 (A := 1664) (B := 2048) (X0_0 m c t) n k = at2 (A := 8448) (B := 2048) (argO m c) (1664 * (t.val / 16) + n) (k) := by
  obtain ⟨e0, e1⟩ := idx0 t
  refine (at2_of_lt _ n k hn hk).trans ?_
  unfold X0_0 Pipeline.Window.fill
  rw [dif_pos (moved0_0 t (ij n k hn hk))]
  show V m c main_arg0 (((cfg0.win 0).blk t).view.emb _) = _
  rw [V_main_arg0]
  refine (at2_val (A := 8448) (B := 2048) _ _).trans (congrArg₂ (at2 _) ?_ ?_)
  · show win0_0.index t (0 : Fin 2) * 1664 + 1 * n = _; omega
  · show win0_0.index t (1 : Fin 2) * 2048 + 1 * k = _; omega

theorem y_at (c : Dev nD) (t : Fin cfg0.N) (n k : ℕ) (hn : n < 1664) (hk : k < 2048) :
    at2 (A := 1664) (B := 2048) (X0_1 m c t) n k = at2 (A := 8448) (B := 2048) (argY m c) (1664 * (t.val / 16) + n) (k) := by
  obtain ⟨e0, e1⟩ := idx1 t
  refine (at2_of_lt _ n k hn hk).trans ?_
  unfold X0_1 Pipeline.Window.fill
  rw [dif_pos (moved0_1 t (ij n k hn hk))]
  show V m c main_arg1 (((cfg0.win 1).blk t).view.emb _) = _
  rw [V_main_arg1]
  refine (at2_val (A := 8448) (B := 2048) _ _).trans (congrArg₂ (at2 _) ?_ ?_)
  · show win0_1.index t (0 : Fin 2) * 1664 + 1 * n = _; omega
  · show win0_1.index t (1 : Fin 2) * 2048 + 1 * k = _; omega

theorem w_at (c : Dev nD) (t : Fin cfg0.N) (n k : ℕ) (hn : n < 2048) (hk : k < 256) :
    at2 (A := 2048) (B := 256) (iblk m c 2 t) n k = at2 (A := 4096) (B := 4096) (argW m c) (n) (256 * (t.val % 16) + k) := by
  obtain ⟨e0, e1⟩ := idx2 t
  refine (at2_of_lt _ n k hn hk).trans ?_
  show V m c main_arg2 (((cfg0.win 2).blk t).view.emb (ij n k hn hk)) = _
  rw [V_main_arg2]
  refine (at2_val (A := 4096) (B := 4096) _ _).trans (congrArg₂ (at2 _) ?_ ?_)
  · show win0_2.index t (0 : Fin 2) * 2048 + 1 * n = _; omega
  · show win0_2.index t (1 : Fin 2) * 256 + 1 * k = _; omega

theorem v_at (c : Dev nD) (t : Fin cfg0.N) (n k : ℕ) (hn : n < 2048) (hk : k < 256) :
    at2 (A := 2048) (B := 256) (iblk m c 3 t) n k = at2 (A := 4096) (B := 4096) (argW m c) (2048 + n) (256 * (t.val % 16) + k) := by
  obtain ⟨e0, e1⟩ := idx3 t
  refine (at2_of_lt _ n k hn hk).trans ?_
  show V m c main_arg2 (((cfg0.win 3).blk t).view.emb (ij n k hn hk)) = _
  rw [V_main_arg2]
  refine (at2_val (A := 4096) (B := 4096) _ _).trans (congrArg₂ (at2 _) ?_ ?_)
  · show win0_3.index t (0 : Fin 2) * 2048 + 1 * n = _; omega
  · show win0_3.index t (1 : Fin 2) * 256 + 1 * k = _; omega

theorem s_at (c : Dev nD) (t : Fin cfg0.N) (ht : t.val < 64) (n k : ℕ) (hn : n < 1664) (hk : k < 256) :
    at2 (A := 1664) (B := 256) (X0_4 m c t) n k = at2 (A := 8192) (B := 4096) (argS m c) (1664 * (t.val / 16) + n) (256 * (t.val % 16) + k) := by
  obtain ⟨e0, e1⟩ := idx4 t ht
  refine (at2_of_lt _ n k hn hk).trans ?_
  unfold X0_4 Pipeline.Window.fill
  rw [dif_pos (moved0_4 t (ij n k hn hk))]
  show V m c main_arg3 (((cfg0.win 4).blk t).view.emb _) = _
  rw [V_main_arg3]
  refine (at2_val (A := 8192) (B := 4096) _ _).trans (congrArg₂ (at2 _) ?_ ?_)
  · show win0_4.index t (0 : Fin 2) * 1664 + 1 * n = _; omega
  · show win0_4.index t (1 : Fin 2) * 256 + 1 * k = _; omega

theorem h_at (c : Dev nD) (t : Fin cfg0.N) (ht : ¬t.val < 64) (n k : ℕ) (hn : n < 1664) (hk : k < 256) :
    at2 (A := 1664) (B := 256) (X0_9 m c t) n k = at2 (A := 1792) (B := 4096) (argH m c) (n) (256 * (t.val % 16) + k) := by
  obtain ⟨e0, e1⟩ := idx9 t ht
  refine (at2_of_lt _ n k hn hk).trans ?_
  unfold X0_9 Pipeline.Window.fill
  rw [dif_pos (moved0_9 t (ij n k hn hk))]
  show V m c main_arg8 (((cfg0.win 9).blk t).view.emb _) = _
  rw [V_main_arg8]
  refine (at2_val (A := 1792) (B := 4096) _ _).trans (congrArg₂ (at2 _) ?_ ?_)
  · show win0_9.index t (0 : Fin 2) * 1664 + 1 * n = _; omega
  · show win0_9.index t (1 : Fin 2) * 256 + 1 * k = _; omega

theorem mean_at (c : Dev nD) (t : Fin cfg0.N) (n k : ℕ) (hn : n < 1664) (hk : k < 128) :
    at2 (A := 1664) (B := 128) (X0_5 m c t) n k = at2 (A := 8448) (B := 1) (argM m c) (1664 * (t.val / 16) + n) 0 := by
  obtain ⟨e0, e1⟩ := idx5 t
  refine (at2_of_lt _ n k hn hk).trans ?_
  unfold X0_5 Pipeline.Window.fill
  rw [dif_pos (moved0_5 t (ij n k hn hk))]
  show V m c main_v2 (((cfg0.win 5).blk t).view.emb _) = _
  rw [V_means]
  refine (spread_at _ _).trans (congrArg₂ (at2 _) ?_ rfl)
  show win0_5.index t (0 : Fin 2) * 1664 + 1 * n = _; omega

theorem dev_at (c : Dev nD) (t : Fin cfg0.N) (n k : ℕ) (hn : n < 1664) (hk : k < 128) :
    at2 (A := 1664) (B := 128) (X0_6 m c t) n k = at2 (A := 8448) (B := 1) (argR m c) (1664 * (t.val / 16) + n) 0 := by
  obtain ⟨e0, e1⟩ := idx6 t
  refine (at2_of_lt _ n k hn hk).trans ?_
  unfold X0_6 Pipeline.Window.fill
  rw [dif_pos (moved0_6 t (ij n k hn hk))]
  show V m c main_v3 (((cfg0.win 6).blk t).view.emb _) = _
  rw [V_devs]
  refine (spread_at _ _).trans (congrArg₂ (at2 _) ?_ rfl)
  show win0_6.index t (0 : Fin 2) * 1664 + 1 * n = _; omega

theorem gain_at (c : Dev nD) (t : Fin cfg0.N) (k : ℕ) (hk : k < 256) :
    at2 (A := 1) (B := 256) (iblk m c 7 t) 0 k = scale * at1 (A := 4096) (argG m c) (256 * (t.val % 16) + k) := by
  obtain ⟨e0, e1⟩ := idx7 t
  refine (at2_of_lt _ 0 k Nat.one_pos hk).trans ?_
  show V m c main_v5 (((cfg0.win 7).blk t).view.emb (ij 0 k Nat.one_pos hk)) = _
  rw [V_gain]
  refine (scaledRow_at _ _).trans (congrArg (fun q => scale * at1 (A := 4096) (argG m c) q) ?_)
  show win0_7.index t (1 : Fin 2) * 256 + 1 * k = _; omega

theorem bias_at (c : Dev nD) (t : Fin cfg0.N) (k : ℕ) (hk : k < 256) :
    at2 (A := 1) (B := 256) (iblk m c 8 t) 0 k = scale * at1 (A := 4096) (argB m c) (256 * (t.val % 16) + k) := by
  obtain ⟨e0, e1⟩ := idx8 t
  refine (at2_of_lt _ 0 k Nat.one_pos hk).trans ?_
  show V m c main_v7 (((cfg0.win 8).blk t).view.emb (ij 0 k Nat.one_pos hk)) = _
  rw [V_bias]
  refine (scaledRow_at _ _).trans (congrArg (fun q => scale * at1 (A := 4096) (argB m c) q) ?_)
  show win0_8.index t (1 : Fin 2) * 256 + 1 * k = _; omega

/-- A block's products in the operands' own positions. -/
theorem block_mix (c : Dev nD) (t : Fin cfg0.N) (n k : ℕ) (hn : n < 1664) (hk : k < 256) :
    rowCol 2048 (A := 1664) (B := 2048) (C := 2048) (D := 256) (X0_0 m c t) (iblk m c 2 t) n k
        + rowCol 2048 (A := 1664) (B := 2048) (C := 2048) (D := 256) (X0_1 m c t) (iblk m c 3 t) n k
      = mixOf (argO m c) (argY m c) (argW m c) (1664 * (t.val / 16) + n) (256 * (t.val % 16) + k) := by
  unfold mixOf rowCol
  refine congrArg₂ (fun a b : EReal => a + b) (Finset.sum_congr rfl fun q hq => ?_) (Finset.sum_congr rfl fun q hq => ?_)
  · have hq := Finset.mem_range.mp hq
    rw [o_at m c t _ _ hn hq, w_at m c t _ _ hq hk]
  · have hq := Finset.mem_range.mp hq
    rw [y_at m c t _ _ hn hq, v_at m c t _ _ hq hk]

/-- What the call leaves at a point. -/
theorem step_at (c : Dev nD) (t : Fin cfg0.N) (y : S1664x256.Idx) : outsAt0 m c t.val t.isLt y
    = scale * streamOf (argS m c) (argM m c) (argR m c) (argG m c) (argB m c) (argH m c) (1664 * (t.val / 16) + (y 0).val) (256 * (t.val % 16) + (y 1).val)
      + mixOf (argO m c) (argY m c) (argW m c) (1664 * (t.val / 16) + (y 0).val) (256 * (t.val % 16) + (y 1).val) := by
  have b0 : (y 0).val < 1664 := (y 0).isLt
  have b1 : (y 1).val < 256 := (y 1).isLt
  have b2 : (y 1).val % 128 < 128 := Nat.mod_lt _ (by decide)
  have tN : t.val < 80 := t.isLt
  by_cases ht : t.val < 64
  · refine (congrFun (outsAt0_A m c t ht (by omega)) y).trans ?_
    refine (congrFun (out_upper c _ _ _ _ _ _ _ _ _ _ _ _ _ _ _ _ _ _ _ _ _ _ _ _ _ _ _ _ _ _ _ _ _ _ _) y).trans ?_
    refine (upper_at _ _ _ _ _ _ _ _ _ y).trans ?_
    unfold streamOf
    rw [if_pos (by omega)]
    unfold normed
    rw [scale_in, block_mix m c t _ _ b0 b1, s_at m c t ht _ _ b0 b1, mean_at m c t _ _ b0 b2, dev_at m c t _ _ b0 b2, gain_at m c t _ b1, bias_at m c t _ b1]
  · refine (congrFun (outsAt0_B m c t ht (by omega)) y).trans ?_
    refine (congrFun (out_lower c _ _ _ _ _ _ _ _ _ _ _ _ _ _ _ _ _ _ _ _ _ _ _ _ _ _ _ _ _ _ _ _ _ _ _) y).trans ?_
    refine (lower_at _ _ _ _ _ y).trans ?_
    have e : 1664 * (t.val / 16) + (y 0).val - 6656 = (y 0).val := by omega
    unfold streamOf
    rw [if_neg (by omega), e, block_mix m c t _ _ b0 b1, h_at m c t ht _ _ b0 b1]

theorem array10 (c : Dev nD) : (dats m 0 c).arrAt 10 cfg0.N = projOf (argO m c) (argY m c) (argW m c) (argS m c) (argM m c) (argR m c) (argG m c) (argB m c) (argH m c) := by
  refine (dats m 0 c).arrAt_eq_of_covers 10 _ (by decide +kernel) fun t hf y => ?_
  show (dats m 0 c).after 10 t y = _
  rw [after0_10]
  obtain ⟨e0, e1⟩ := idx10 t
  have f0 : ((((cfg0.win 10).blk t).view.emb y) (0 : Fin 2)).val = 1664 * (t.val / 16) + (y 0).val := by
    show win0_10.index t (0 : Fin 2) * 1664 + 1 * (y 0).val = _; omega
  have f1 : ((((cfg0.win 10).blk t).view.emb y) (1 : Fin 2)).val = 256 * (t.val % 16) + (y 1).val := by
    show win0_10.index t (1 : Fin 2) * 256 + 1 * (y 1).val = _; omega
  refine (step_at m c t y).trans ?_
  unfold projOf
  rw [f0, f1]

/-- The run: the result named, the arguments kept. -/
theorem run_values : θ_run defs (onTc (τ := τ) (main (F := Ideal))) ⟨m, fun _ => 0, ρ⟩ (fun r => (∀ c : Dev nD,
      r.2.mem ((c : Thread nD τ).loc main_v8) = projOf (argO m c) (argY m c) (argW m c) (argS m c) (argM m c) (argR m c) (argG m c) (argB m c) (argH m c))
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_and ((θ_run defs _ _).mono (fun r h c => ((h c).1 10).trans (array10 m c)) (run_main m ρ)) (unchanged m ρ)

end Cert.Kernel5Ideal.Gen

end
-- ==== Proof.Out.Reference.lean ====
/- The output projection call's reference, read at an index. -/
module

public import proofs.«01_k».proof.Proof.Out.Values
public import proofs.«01_k».proof.Proof.Gen.Reference5Ideal.Read

@[expose] public section

set_option maxRecDepth 16384

noncomputable section

namespace Cert.Reference5Ideal.Read

open Cert.Reference5Ideal.Gen Cert.Decay Idealize.ShloMosaic Idealize.ShloMosaic.TcCoe
open Cert.Kernel5Ideal.Gen (streamOf mixOf projOf)

/-- The two operands side by side, at an index. -/
theorem beside_at (x0 x1 : S8448x2048.Idx → EReal) (i : S8448x4096.Idx) : val_main_v15 (F := Ideal) x0 x1 i
    = if (i 1).val < 2048 then at2 x0 (i 0).val (i 1).val else at2 x1 (i 0).val ((i 1).val - 2048) := by
  have b0 : (i 0).val < 8448 := (i 0).isLt
  have b1 : (i 1).val < 4096 := (i 1).isLt
  unfold val_main_v15
  split
  · rename_i h
    refine (concatenate_apply_piece (t := S8448x4096) 1 [⟨S8448x2048, x0⟩, ⟨S8448x2048, x1⟩] _ _ 0 Nat.zero_lt_two S8448x2048 x0 rfl rfl 0 rfl (ij (i 0).val (i 1).val b0 h)
      (fun b hb => match b with | ⟨0, _⟩ => rfl | ⟨1, _⟩ => absurd rfl hb) (by show 0 + (i 1).val = _; omega)).trans (at2_of_lt x0 _ _ b0 h).symm
  · rename_i h
    have h' : (i 1).val - 2048 < 2048 := by omega
    refine (concatenate_apply_piece (t := S8448x4096) 1 [⟨S8448x2048, x0⟩, ⟨S8448x2048, x1⟩] _ _ 1 Nat.one_lt_two S8448x2048 x1 rfl rfl 2048 rfl (ij (i 0).val ((i 1).val - 2048) b0 h')
      (fun b hb => match b with | ⟨0, _⟩ => rfl | ⟨1, _⟩ => absurd rfl hb) (by show 2048 + ((i 1).val - 2048) = (i 1).val; omega)).trans (at2_of_lt x1 _ _ b0 h').symm

/-- A term of the product over the two operands side by side. -/
def mixTerm (x0 x1 : S8448x2048.Idx → EReal) (x2 : S4096x4096.Idx → EReal) (n c : ℕ) (k : ℕ) : EReal :=
  (if k < 2048 then at2 x0 n k else at2 x1 n (k - 2048)) * at2 x2 k c

theorem mix_at (x0 x1 : S8448x2048.Idx → EReal) (x2 : S4096x4096.Idx → EReal) (i : S8320x4096.Idx) :
    val_main_v20 (F := Ideal) x0 x1 x2 i = mixOf x0 x1 x2 (i 0).val (i 1).val := by
  have e : ∀ k : Fin 4096, val_main_v17 (F := Ideal) x0 x1 (lidx_main_v20 i k) * x2 (ridx_main_v20 i k)
      = mixTerm x0 x1 x2 (i 0).val (i 1).val k.val := fun k => by
    unfold mixTerm
    refine congrArg₂ (fun a b : EReal => a * b) ?_ (at2_val (A := 4096) (B := 4096) x2 _)
    exact (val_main_v16_apply (F := Ideal) x0 x1 (lidx_main_v20 i k)).trans (beside_at x0 x1 _)
  refine (val_main_v20_apply x0 x1 x2 i).trans ((Finset.sum_congr rfl fun k _ => e k).trans ?_)
  refine (Finset.sum_range (n := 4096) (mixTerm x0 x1 x2 (i 0).val (i 1).val)).symm.trans ?_
  refine (Finset.sum_range_add (mixTerm x0 x1 x2 (i 0).val (i 1).val) 2048 2048).trans ?_
  unfold mixOf rowCol
  refine congrArg₂ (fun a b : EReal => a + b) (Finset.sum_congr rfl fun q hq => ?_) (Finset.sum_congr rfl fun q _ => ?_)
  · unfold mixTerm
    rw [if_pos (Finset.mem_range.mp hq)]
  · unfold mixTerm
    rw [if_neg (by omega), Nat.add_sub_cancel_left]

theorem normed_at (x3 : S8192x4096.Idx → EReal) (x4 x5 : S8448x1.Idx → EReal) (x6 x7 : S4096.Idx → EReal) (i : S6656x4096.Idx) :
    val_main_v12 (F := Ideal) x3 x4 x5 x6 x7 i = normed x3 x4 x5 x6 x7 (i 0).val (i 1).val := by
  have e3 : val_main_v0 (F := Ideal) x3 i = at2 x3 (i 0).val (i 1).val := (val_main_v0_apply (F := Ideal) x3 i).trans (at2_val (A := 8192) (B := 4096) x3 _)
  have e4 : val_main_v2 (F := Ideal) x4 i = at2 x4 (i 0).val 0 := (val_main_v2_apply (F := Ideal) x4 i).trans ((val_main_v1_apply (F := Ideal) x4 _).trans (at2_val (A := 8448) (B := 1) x4 _))
  have e5 : val_main_v5 (F := Ideal) x5 i = at2 x5 (i 0).val 0 := (val_main_v5_apply (F := Ideal) x5 i).trans ((val_main_v4_apply (F := Ideal) x5 _).trans (at2_val (A := 8448) (B := 1) x5 _))
  have e6 : val_main_v8 (F := Ideal) x6 i = at1 x6 (i 1).val := (val_main_v8_apply (F := Ideal) x6 i).trans ((val_main_v7_apply (F := Ideal) x6 _).trans (at1_val (A := 4096) x6 _))
  have e7 : val_main_v11 (F := Ideal) x7 i = at1 x7 (i 1).val := (val_main_v11_apply (F := Ideal) x7 i).trans ((val_main_v10_apply (F := Ideal) x7 _).trans (at1_val (A := 4096) x7 _))
  unfold normed
  rw [← e3, ← e4, ← e5, ← e6, ← e7]
  rfl

theorem stream_at (x3 : S8192x4096.Idx → EReal) (x4 x5 : S8448x1.Idx → EReal) (x6 x7 : S4096.Idx → EReal) (x8 : S1792x4096.Idx → EReal) (i : S8320x4096.Idx) :
    val_main_v14 (F := Ideal) x3 x4 x5 x6 x7 x8 i = streamOf x3 x4 x5 x6 x7 x8 (i 0).val (i 1).val := by
  have b0 : (i 0).val < 8320 := (i 0).isLt
  have b1 : (i 1).val < 4096 := (i 1).isLt
  unfold val_main_v14 streamOf
  split
  · rename_i h
    exact (concatenate_apply_piece (t := S8320x4096) 0 [⟨S6656x4096, val_main_v12 (F := Ideal) x3 x4 x5 x6 x7⟩, ⟨S1664x4096, val_main_v13 (F := Ideal) x8⟩] _ _ 0 Nat.zero_lt_two S6656x4096 _ rfl rfl 0 rfl
      (ij (i 0).val (i 1).val h b1) (fun b hb => match b with | ⟨0, _⟩ => absurd rfl hb | ⟨1, _⟩ => rfl) (by show 0 + (i 0).val = _; omega)).trans (normed_at x3 x4 x5 x6 x7 _)
  · rename_i h
    obtain ⟨n, hn⟩ : ∃ n, n = (i 0).val - 6656 := ⟨_, rfl⟩
    have h' : n < 1664 := by omega
    rw [← hn]
    refine (concatenate_apply_piece (t := S8320x4096) 0 [⟨S6656x4096, val_main_v12 (F := Ideal) x3 x4 x5 x6 x7⟩, ⟨S1664x4096, val_main_v13 (F := Ideal) x8⟩] _ i 1 Nat.one_lt_two S1664x4096 _ rfl rfl 6656 rfl
      (ij n (i 1).val h' b1) ?_ ?_).trans ((val_main_v13_apply (F := Ideal) x8 _).trans (at2_val (A := 1792) (B := 4096) x8 _))
    · intro b hb
      match b with
      | ⟨0, _⟩ => exact absurd rfl hb
      | ⟨1, _⟩ => rfl
    · show 6656 + n = (i 0).val
      omega

theorem proj_at (x0 x1 : S8448x2048.Idx → EReal) (x2 : S4096x4096.Idx → EReal) (x3 : S8192x4096.Idx → EReal) (x4 x5 : S8448x1.Idx → EReal) (x6 x7 : S4096.Idx → EReal)
    (x8 : S1792x4096.Idx → EReal) (i : S8320x4096.Idx) : val_main_v21 (F := Ideal) x0 x1 x2 x3 x4 x5 x6 x7 x8 i = projOf x0 x1 x2 x3 x4 x5 x6 x7 x8 i := by
  unfold projOf
  rw [← stream_at x3 x4 x5 x6 x7 x8 i, ← mix_at x0 x1 x2 i]
  refine congrArg₂ (fun a b : EReal => a + b) (congrArg₂ (fun a b : EReal => a * b) ?_ rfl) rfl
  exact val_main_v18_apply (F := Ideal) i

end Cert.Reference5Ideal.Read

end
-- ==== Proof.Out.Claims.lean ====
/- The output projection call's claims: its frames, and that kernel and reference end with the same array. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Out.Reference
public import Idealize.ShloMosaic.Adequacy
public import Idealize.ShloMosaic.Init

@[expose] public section

noncomputable section

namespace Cert.Out

open Idealize.ShloMosaic Idealize.SL.Sem

/-- The kernel's frame with the second program in place of the first: the two have the same text. -/
def FrameBits : Prop := ∀ (m : (ℓ : Loc Cert.Kernel5Ideal.nD Cert.Kernel5Ideal.τ Cert.Kernel5Ideal.sig) → Buf (Elt Bits) ℓ)
    (g : Dev Cert.Kernel5Ideal.nD → PrngReg), Cert.Pre_Kernel5 m →
  θ_run (Cert.Kernel5Ideal.defs (F := Bits)) (onTc (τ := Cert.Kernel5Ideal.τ) (Cert.Kernel5Ideal.main (F := Bits)))
    ⟨m, fun _ => 0, g⟩ (fun r => (∀ c : Dev Cert.Kernel5Ideal.nD,
        r.2.mem ((c.tc : Thread Cert.Kernel5Ideal.nD Cert.Kernel5Ideal.τ).loc Cert.Kernel5Ideal.main_arg0)
        = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1)
        = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2)
        = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3)
        = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4)
        = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5)
        = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6)
        = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7)
        = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8)
        = m ((c.tc : Thread Cert.Kernel5Ideal.nD Cert.Kernel5Ideal.τ).loc Cert.Kernel5Ideal.main_arg8))
      ∧ r.2.sem = fun _ => 0)

theorem frameBits : FrameBits := fun m ρ _ => Cert.Kernel5Ideal.Gen.frame (F := Bits) m ρ

theorem same_text : Cert.quiescent_Kernel5 = FrameBits := by
  sl_kernel_rfl

/-- The kernel at the machine's floats: the one run, read at `Bits`. -/
theorem frame_kernel : Cert.quiescent_Kernel5 := same_text ▸ frameBits

/-- The kernel at the extended reals. -/
theorem frame_ideal : Cert.quiescent_Kernel5Ideal := fun m ρ _ =>
  (θ_run Cert.Kernel5Ideal.defs _ _).mono (fun _ h => h) (Cert.Kernel5Ideal.Gen.frame (F := Ideal) m ρ)

/-- The reference at the extended reals. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference end with the same sum of the scaled stream and the product. -/
theorem same_arrays : Cert.algebraic_Kernel5Ideal_Reference5Ideal := by
  intro m g m' g' _ hargs
  refine ⟨fun c => Cert.Kernel5Ideal.Gen.projOf (Cert.Kernel5Ideal.Gen.argO m c) (Cert.Kernel5Ideal.Gen.argY m c) (Cert.Kernel5Ideal.Gen.argW m c) (Cert.Kernel5Ideal.Gen.argS m c) (Cert.Kernel5Ideal.Gen.argM m c) (Cert.Kernel5Ideal.Gen.argR m c) (Cert.Kernel5Ideal.Gen.argG m c) (Cert.Kernel5Ideal.Gen.argB m c) (Cert.Kernel5Ideal.Gen.argH m c),
    (θ_run Cert.Kernel5Ideal.defs _ _).mono (fun r h c => ⟨h.1 c, h.2 c⟩) (Cert.Kernel5Ideal.Gen.run_values m g),
    (θ_run Cert.Reference5Ideal.defs _ _).mono (fun r h c => ⟨(h c).1.trans ?_, (h c).2⟩)
      (Cert.Reference5Ideal.Value.run (F := Ideal) m' g')⟩
  obtain ⟨e0, e1, e2, e3, e4, e5, e6, e7, e8⟩ := hargs c
  refine (Cert.Reference5Ideal.Read.val_main_v21_eq _ _ _ _ _ _ _ _ _).trans ?_
  rw [e0, e1, e2, e3, e4, e5, e6, e7, e8]
  funext i
  exact Cert.Reference5Ideal.Read.proj_at _ _ _ _ _ _ _ _ _ i

end Cert.Out

end
-- ==== Proof.Norm.Runs.lean ====
/- The last layer norm: where its branches are taken, and what its body leaves at a grid point, over any float values. -/
module

public import proofs.«01_k».proof.Proof.Gen.Kernel6Ideal.Frame
public import proofs.«01_k».proof.Proof.Gen.Kernel6Ideal.Skeleton
public import Idealize.ShloMosaic.Lib.Pipeline.TableIdle
public import Idealize.ShloMosaic.Lib.VecWindow
public import Idealize.ShloMosaic.Lib.Pipeline.Value
public import Idealize.ShloMosaic.Lib.Exec

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: the first point. -/
abbrev cond0_0 (i : grid0.Coords) : Prop := k0_cond1 i = 1#1
theorem hcond0_0 : ∀ t : Fin cfg0.N, cond0_0 (grid0.coords t) ↔ t.val = 0 :=
  (by decide +kernel : ∀ t : Fin grid0.N, cond0_0 (grid0.coords t) ↔ t.val = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := (by decide +kernel : ∀ t : Fin grid0.N, cfg0.idle 4 (grid0.coords t) = false)

/-- The second result's block is stored at the first point only, -/
theorem liveAt0_5 : ∀ t : Fin cfg0.N, t.val = 0 → cfg0.idle 5 (grid0.coords t) = false :=
  (by decide +kernel : ∀ t : Fin grid0.N, t.val = 0 → cfg0.idle 5 (grid0.coords t) = false)
theorem idleAt0_5 : ∀ t : Fin cfg0.N, ¬t.val = 0 → cfg0.idle 5 (grid0.coords t) = true :=
  (by decide +kernel : ∀ t : Fin grid0.N, ¬t.val = 0 → cfg0.idle 5 (grid0.coords t) = true)
/-- and written back after the last. -/
theorem back5 : ∀ t : Fin cfg0.N, (cfg0.win 5).flush t = decide (t.val = 15) := by decide +kernel

/-- Whether the second result's buffer holds nothing stored since it was last written back. -/
def fresh5 : ℕ → Bool
  | 0 => true
  | n + 1 => decide (n = 15)
theorem fresh5_step : ∀ t : Fin cfg0.N,
    fresh5 (t.val + 1) = ((cfg0.win 5).flush t || (cfg0.idle 5 (cfg0.grid.coords t) && fresh5 t.val)) := by decide +kernel
theorem fresh5_eq (t : Fin cfg0.N) : cfg0.fresh 5 t.val = fresh5 t.val :=
  Pipeline.Cfg.fresh_tab cfg0 5 fresh5 rfl fresh5_step t.val (Nat.le_of_lt t.isLt)
theorem notFresh5 : ∀ t : Fin cfg0.N, ¬t.val = 0 → cfg0.fresh 5 t.val = false := by
  intro t; rw [fresh5_eq t]; revert t; decide +kernel

/-- The offset of a whole block. -/
theorem zero2 : (![0, 0] : Fin 2 → ℕ) = fun _ => 0 := by funext a; fin_cases a <;> rfl

/-! The staging buffers at a point. -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .f32 := win0_5.stage (cfg0.slots t 5)
abbrev hs0_5 (t : Fin cfg0.N) : (ms0_5 t).IsWhole := hstage0_5 ((cfg0.slots t 5).cast nbuf0_5)

set_option maxHeartbeats 1000000 in
/-- At the first point both results' blocks are stored. -/
theorem runA (c : Dev nD) (i : grid0.Coords) (arg1 : Memref sig .tc .vmem S512x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S512x4096 .f32) (harg5 : arg5.IsWhole) (arg6 : Memref sig .tc .vmem S128x4096 .f32) (harg6 : arg6.IsWhole)
    (hc0 : cond0_0 i) (x0 : Vec F S512x4096 .f32) (x1 : Vec F S128x4096 .f32) (x2 : Vec F S1x4096 .f32) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x2 x3) ∗ owns (c : Thread nD τ) arg6 fullShare (k0_pay2 x1 x2 x3)) -∗ K ⟨⟩))
      ⊢ wp frame (wpE (defs₀ (F := F)) Variants.none c none) Set.univ (cc0_ln2 i arg1 harg1 arg2 harg2 arg3 harg3 arg4 harg4 arg5 harg5 arg6 harg6) K := by
  simp only [cc0_ln2_eq_skeleton]; unfold cc0_ln2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    sl_unfold_words
    simp only [View.readAt_eq_ld, Memref.IsWhole.read_unread, View.ld_unit_zero (S := S512x4096) zero2, View.ld_unit_zero (S := S128x4096) zero2, View.ld_unit_zero (S := S1x4096) zero2]
  iexists _; isplitr; swap; · iexact H5
  ipureintro
  refine (View.read_writes_full _ _ _ _ _).trans ?_
  sl_unfold_words
  simp only [View.readAt_eq_ld, Memref.IsWhole.read_unread, View.ld_unit_zero (S := S512x4096) zero2, View.ld_unit_zero (S := S128x4096) zero2, View.ld_unit_zero (S := S1x4096) zero2]

set_option maxHeartbeats 1000000 in
/-- At a later point only the first result's block is. -/
theorem runB (c : Dev nD) (i : grid0.Coords) (arg1 : Memref sig .tc .vmem S512x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S512x4096 .f32) (harg5 : arg5.IsWhole) (arg6 : Memref sig .tc .vmem S128x4096 .f32) (harg6 : arg6.IsWhole)
    (hc0 : ¬cond0_0 i) (x0 : Vec F S512x4096 .f32) (x1 : Vec F S128x4096 .f32) (x2 : Vec F S1x4096 .f32) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x2 x3)) -∗ K ⟨⟩))
      ⊢ wp frame (wpE (defs₀ (F := F)) Variants.none c none) Set.univ (cc0_ln2 i arg1 harg1 arg2 harg2 arg3 harg3 arg4 harg4 arg5 harg5 arg6 harg6) K := by
  simp only [cc0_ln2_eq_skeleton]; unfold cc0_ln2_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  refine (View.read_writes_full _ _ _ _ _).trans ?_
  sl_unfold_words
  simp only [View.readAt_eq_ld, Memref.IsWhole.read_unread, View.ld_unit_zero (S := S512x4096) zero2, View.ld_unit_zero (S := S128x4096) zero2, View.ld_unit_zero (S := S1x4096) zero2]

end Cert.Kernel6Ideal.Gen

end
-- ==== Proof.Norm.Frame.lean ====
/- The last layer norm run as a whole, over any float values: what each result's block holds after a grid point, and the frame. -/
module

public import proofs.«01_k».proof.Proof.Norm.Runs
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves of the first result: its block's rows normalised. -/
def left4 (c : Dev nD) (t : Fin cfg0.N) : Vec F S512x4096 .f32 := k0_pay1 (X0_0 m c t) (iblk m c 2 t) (iblk m c 3 t)

/-- What it leaves of the second: the last rows normalised, stored at the first point. -/
def left5 (c : Dev nD) : Vec F S128x4096 .f32 := k0_pay2 (iblk m c 1 t0_0) (iblk m c 2 t0_0) (iblk m c 3 t0_0)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => left4 m c t
    | ⟨5, _⟩ => left5 m c
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left4 m c t := by dsimp only [dats]
theorem after0_5 (c : Dev nD) (t : Fin cfg0.N) : (dats m 0 c).after 5 t = left5 m c := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem before5 (c : Dev nD) (t : Fin cfg0.N) (h : ¬t.val = 0) (d) : (dats m 0 c).before 5 t d = left5 m c := by
  rw [Dat.before_out_traj _ 5 rfl (fun _ _ => rfl) (fun t _ _ _ => (after0_5 m c t).trans (after0_5 m c _).symm) t.val t rfl d,
    if_neg (by rw [notFresh5 t h]; exact Bool.false_ne_true), after0_5]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The two results' parts of it: -/
theorem leaves4 (c : Dev nD) (t : Fin cfg0.N) : (dats m 0 c).leavesExact 4 t = owns (c : Thread nD τ) (ms0_4 t) fullShare (left4 m c t) := by
  rw [← after0_4]
/-- where the second is stored, -/
theorem leaves5_live (c : Dev nD) (t : Fin cfg0.N) (h : t.val = 0) : (dats m 0 c).leavesExact 5 t = owns (c : Thread nD τ) (ms0_5 t) fullShare (left5 m c) := by
  rw [← after0_5 m c t]; unfold Dat.leavesExact; rw [liveAt0_5 t h]
/-- and where it is not. -/
theorem leaves5_idle (c : Dev nD) (t : Fin cfg0.N) (h : ¬t.val = 0) :
    owns (c : Thread nD τ) (ms0_5 t) fullShare (left5 m c) ⊢ (dats m 0 c).leavesExact 5 t := by
  by_cases h' : t.val = 15
  · rw [show (dats m 0 c).leavesExact 5 t = owns (c : Thread nD τ) (ms0_5 t) fullShare ((dats m 0 c).after 5 t) from by
      unfold Dat.leavesExact; rw [idleAt0_5 t h, (back5 t).trans (decide_eq_true h')]]
    rw [after0_5 m c t]
  · rw [Dat.leavesExact_idle (dats m 0 c) 5 t (idleAt0_5 t h) ((back5 t).trans (decide_eq_false h'))]
    iintro H
    iexists (left5 m c)
    rw [before5 m c t h]
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [leaves4]
  unfold left4
  by_cases h0 : t.val = 0
  · rw [leaves5_live m c t h0, show left5 m c = k0_pay2 (iblk m c 1 t) (iblk m c 2 t) (iblk m c 3 t) from by
      obtain rfl : t = t0_0 := Fin.ext h0
      rfl]
    iintro ⟨HΦ, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ ((hcond0_0 t).mpr h0) (X0_0 m c t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before5 m c t h0]
    iintro ⟨HΦ, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ (fun h => h0 ((hcond0_0 t).mp h)) (X0_0 m c t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves5_idle m c t h0)
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, and every semaphore counter of the machine at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel6Ideal.Gen

end
-- ==== Proof.Math.Norm.lean ====
/- A layer norm with its own statistics, as a formula over matrices. -/
module

public import proofs.«01_k».proof.Proof.Math.Down

@[expose] public section

noncomputable section

namespace Cert.Decay

open Idealize.ShloMosaic

/-- The number of columns, 4096, as the programs write it. -/
def columns : EReal := Ideal.ofBits .f32 0x45800000#32

/-- What is added to the variance, the float next to 1e-5. -/
def small : EReal := Ideal.ofBits .f32 0x3727C5AC#32

/-- The mean of row `n`. -/
def rowMean {A B : ℕ} (x : (⟨2, ![A, B]⟩ : Shape).Idx → EReal) (n : ℕ) : EReal :=
  Ideal.div (∑ k ∈ Finset.range 4096, at2 x n k) columns

/-- The mean of the squared distances to it. -/
def rowVar {A B : ℕ} (x : (⟨2, ![A, B]⟩ : Shape).Idx → EReal) (n : ℕ) : EReal :=
  Ideal.div (∑ k ∈ Finset.range 4096, (at2 x n k - rowMean x n) * (at2 x n k - rowMean x n)) columns

/-- The norm's entry at row `n`, column `c`, with gain `g` and bias `b`. -/
def lineNorm {A B : ℕ} (x : (⟨2, ![A, B]⟩ : Shape).Idx → EReal) (n c : ℕ) (g b : EReal) : EReal :=
  (at2 x n c - rowMean x n) * Ideal.rsqrt (rowVar x n + small) * g + b

/-- Two rows with the same entries have the same norm. -/
theorem lineNorm_congr {A B C D : ℕ} (x : (⟨2, ![A, B]⟩ : Shape).Idx → EReal) (y : (⟨2, ![C, D]⟩ : Shape).Idx → EReal) (n n' c : ℕ) (g b : EReal)
    (hc : c < 4096) (h : ∀ k, k < 4096 → at2 x n k = at2 y n' k) : lineNorm x n c g b = lineNorm y n' c g b := by
  have hm : rowMean x n = rowMean y n' := by
    unfold rowMean
    rw [Finset.sum_congr rfl fun k hk => h k (Finset.mem_range.mp hk)]
  have hv : rowVar x n = rowVar y n' := by
    unfold rowVar
    rw [hm, Finset.sum_congr rfl fun k hk => by rw [h k (Finset.mem_range.mp hk)]]
  unfold lineNorm
  rw [hm, hv, h c hc]

end Cert.Decay

end
-- ==== Proof.Norm.Values.lean ====
/- The last layer norm's two arrays, at the extended reals. -/
module

public import proofs.«01_k».proof.Proof.Norm.Frame
public import proofs.«01_k».proof.Proof.Math.Norm
public import Idealize.ShloMosaic.Lib.Pipeline.ValueKit

@[expose] public section

set_option maxRecDepth 16384

noncomputable section

namespace Cert.Kernel6Ideal.Gen

open Idealize Idealize.ShloMosaic Idealize.ShloMosaic.TcCoe Idealize.ShloMosaic.Tactic Cert.Decay Idealize.SL.Sem
open Idealize.ShloMosaic.Pipeline (Dat)

/-- The rows `first` to `first + R` normed. -/
def normOf (R first : ℕ) (x : S8320x4096.Idx → EReal) (g b : S4096.Idx → EReal) : (⟨2, ![R, 4096]⟩ : Shape).Idx → EReal := fun y =>
  lineNorm x (first + (y 0).val) (y 1).val (at1 g (y 1).val) (at1 b (y 1).val)

/-! A block of 512 rows. -/

/-- A block's sums along its rows, as one column. -/
def sums512 (x : S512x4096.Idx → EReal) : S512x1.Idx → EReal :=
  shapeCast S512x1 (multiReduction (F := Ideal) (φ := .f32) .add [1] S512 x 0x00000000#32 reduces_S512x4096_S512 (.inl rfl) rfl) shapeCasts_S512_S512x1

theorem sums512_at (x : S512x4096.Idx → EReal) (i : S512x1.Idx) : sums512 x i = ∑ k ∈ Finset.range 4096, at2 x (i 0).val k := by
  have b1 : (i 1).val < 1 := (i 1).isLt
  unfold sums512
  refine (shapeCast_apply _ _ i (pos (i 0).val (i 0).isLt) ?_).trans ?_
  · refine (Shape.rowMajor_val_one _).trans (Eq.trans ?_ (Shape.rowMajor_val_two _).symm)
    show (i 0).val = (i 0).val * 1 + (i 1).val
    omega
  · refine (Ideal.multiReduction_add_single _ _ _ _ _ _).trans ?_
    rw [Finset.sum_range]
    refine Finset.sum_congr rfl fun k _ => ?_
    refine (at2_val (A := 512) (B := 4096) x _).trans (congrArg₂ (at2 x) ?_ ?_)
    · rfl
    · rfl

/-- One column repeated along the rows. -/
def wide512 (x : S512x1.Idx → EReal) : S512x4096.Idx → EReal := broadcastTo S512x4096 x broadcasts_S512x1_S512x4096

theorem wide512_at (x : S512x1.Idx → EReal) (j : S512x4096.Idx) : wide512 x j = x (ij (j 0).val 0 (j 0).isLt Nat.one_pos) :=
  broadcastTo_apply x _ j _ (fun a => match a with
    | ⟨0, _⟩ => rfl
    | ⟨1, _⟩ => rfl)

/-- The block's means. -/
def means512 (x : S512x4096.Idx → EReal) : S512x1.Idx → EReal := fun i => Ideal.div (sums512 x i) columns

theorem means512_at (x : S512x4096.Idx → EReal) (i : S512x1.Idx) : means512 x i = rowMean x (i 0).val := by
  unfold means512 rowMean
  rw [sums512_at]

/-- The squared distances to them. -/
def squares512 (x : S512x4096.Idx → EReal) : S512x4096.Idx → EReal := fun j => (x j - wide512 (means512 x) j) * (x j - wide512 (means512 x) j)

theorem squares512_at (x : S512x4096.Idx → EReal) (n k : ℕ) (hn : n < 512) (hk : k < 4096) :
    at2 (squares512 x) n k = (at2 x n k - rowMean x n) * (at2 x n k - rowMean x n) := by
  rw [at2_of_lt _ n k hn hk, at2_of_lt x n k hn hk]
  unfold squares512
  rw [wide512_at, means512_at]
  rfl

/-- The block's reciprocal deviations. -/
def devs512 (x : S512x4096.Idx → EReal) : S512x1.Idx → EReal := fun i => Ideal.rsqrt (Ideal.div (sums512 (squares512 x) i) columns + small)

theorem devs512_at (x : S512x4096.Idx → EReal) (i : S512x1.Idx) : devs512 x i = Ideal.rsqrt (rowVar x (i 0).val + small) := by
  unfold devs512 rowVar
  rw [sums512_at, Finset.sum_congr rfl fun k hk => squares512_at x (i 0).val k (i 0).isLt (Finset.mem_range.mp hk)]

/-- What is stored, over the block's rows, the gain's row and the bias' row. -/
theorem block512_at (x : S512x4096.Idx → EReal) (g b : S1x4096.Idx → EReal) (j : S512x4096.Idx) :
    k0_pay1 (F := Ideal) x g b j = lineNorm x (j 0).val (j 1).val (at2 g 0 (j 1).val) (at2 b 0 (j 1).val) := by
  have row : ∀ (x : S1x4096.Idx → EReal), broadcastTo S512x4096 x broadcasts_S1x4096_S512x4096 j = at2 x 0 (j 1).val := fun x =>
    (broadcastTo_apply x _ j (ij 0 (j 1).val Nat.one_pos (j 1).isLt) (fun a => match a with
      | ⟨0, _⟩ => rfl
      | ⟨1, _⟩ => rfl)).trans (at2_of_lt x 0 _ Nat.one_pos (j 1).isLt).symm
  have hm : wide512 (means512 x) j = rowMean x (j 0).val := (wide512_at _ j).trans (means512_at x _)
  have hd : wide512 (devs512 x) j = Ideal.rsqrt (rowVar x (j 0).val + small) := (wide512_at _ j).trans (devs512_at x _)
  unfold lineNorm
  rw [← row g, ← row b, ← hm, ← hd, ← at2_val x j]
  unfold k0_pay1
  simp only [shapeCast_self]
  rfl

/-! A block of 128 rows. -/

/-- A block's sums along its rows, as one column. -/
def sums128 (x : S128x4096.Idx → EReal) : S128x1.Idx → EReal :=
  shapeCast S128x1 (multiReduction (F := Ideal) (φ := .f32) .add [1] S128 x 0x00000000#32 reduces_S128x4096_S128 (.inl rfl) rfl) shapeCasts_S128_S128x1

theorem sums128_at (x : S128x4096.Idx → EReal) (i : S128x1.Idx) : sums128 x i = ∑ k ∈ Finset.range 4096, at2 x (i 0).val k := by
  have b1 : (i 1).val < 1 := (i 1).isLt
  unfold sums128
  refine (shapeCast_apply _ _ i (pos (i 0).val (i 0).isLt) ?_).trans ?_
  · refine (Shape.rowMajor_val_one _).trans (Eq.trans ?_ (Shape.rowMajor_val_two _).symm)
    show (i 0).val = (i 0).val * 1 + (i 1).val
    omega
  · refine (Ideal.multiReduction_add_single _ _ _ _ _ _).trans ?_
    rw [Finset.sum_range]
    refine Finset.sum_congr rfl fun k _ => ?_
    refine (at2_val (A := 128) (B := 4096) x _).trans (congrArg₂ (at2 x) ?_ ?_)
    · rfl
    · rfl

/-- One column repeated along the rows. -/
def wide128 (x : S128x1.Idx → EReal) : S128x4096.Idx → EReal := broadcastTo S128x4096 x broadcasts_S128x1_S128x4096

theorem wide128_at (x : S128x1.Idx → EReal) (j : S128x4096.Idx) : wide128 x j = x (ij (j 0).val 0 (j 0).isLt Nat.one_pos) :=
  broadcastTo_apply x _ j _ (fun a => match a with
    | ⟨0, _⟩ => rfl
    | ⟨1, _⟩ => rfl)

/-- The block's means. -/
def means128 (x : S128x4096.Idx → EReal) : S128x1.Idx → EReal := fun i => Ideal.div (sums128 x i) columns

theorem means128_at (x : S128x4096.Idx → EReal) (i : S128x1.Idx) : means128 x i = rowMean x (i 0).val := by
  unfold means128 rowMean
  rw [sums128_at]

/-- The squared distances to them. -/
def squares128 (x : S128x4096.Idx → EReal) : S128x4096.Idx → EReal := fun j => (x j - wide128 (means128 x) j) * (x j - wide128 (means128 x) j)

theorem squares128_at (x : S128x4096.Idx → EReal) (n k : ℕ) (hn : n < 128) (hk : k < 4096) :
    at2 (squares128 x) n k = (at2 x n k - rowMean x n) * (at2 x n k - rowMean x n) := by
  rw [at2_of_lt _ n k hn hk, at2_of_lt x n k hn hk]
  unfold squares128
  rw [wide128_at, means128_at]
  rfl

/-- The block's reciprocal deviations. -/
def devs128 (x : S128x4096.Idx → EReal) : S128x1.Idx → EReal := fun i => Ideal.rsqrt (Ideal.div (sums128 (squares128 x) i) columns + small)

theorem devs128_at (x : S128x4096.Idx → EReal) (i : S128x1.Idx) : devs128 x i = Ideal.rsqrt (rowVar x (i 0).val + small) := by
  unfold devs128 rowVar
  rw [sums128_at, Finset.sum_congr rfl fun k hk => squares128_at x (i 0).val k (i 0).isLt (Finset.mem_range.mp hk)]

/-- What is stored, over the block's rows, the gain's row and the bias' row. -/
theorem block128_at (x : S128x4096.Idx → EReal) (g b : S1x4096.Idx → EReal) (j : S128x4096.Idx) :
    k0_pay2 (F := Ideal) x g b j = lineNorm x (j 0).val (j 1).val (at2 g 0 (j 1).val) (at2 b 0 (j 1).val) := by
  have row : ∀ (x : S1x4096.Idx → EReal), broadcastTo S128x4096 x broadcasts_S1x4096_S128x4096 j = at2 x 0 (j 1).val := fun x =>
    (broadcastTo_apply x _ j (ij 0 (j 1).val Nat.one_pos (j 1).isLt) (fun a => match a with
      | ⟨0, _⟩ => rfl
      | ⟨1, _⟩ => rfl)).trans (at2_of_lt x 0 _ Nat.one_pos (j 1).isLt).symm
  have hm : wide128 (means128 x) j = rowMean x (j 0).val := (wide128_at _ j).trans (means128_at x _)
  have hd : wide128 (devs128 x) j = Ideal.rsqrt (rowVar x (j 0).val + small) := (wide128_at _ j).trans (devs128_at x _)
  unfold lineNorm
  rw [← row g, ← row b, ← hm, ← hd, ← at2_val x j]
  unfold k0_pay2
  simp only [shapeCast_self]
  rfl

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 64 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)

/-- The call's operands. -/
abbrev argX (c : Dev nD) : S8320x4096.Idx → EReal := m ((c : Thread nD τ).loc main_arg0)
abbrev argG (c : Dev nD) : S4096.Idx → EReal := m ((c : Thread nD τ).loc main_arg1)
abbrev argB (c : Dev nD) : S4096.Idx → EReal := m ((c : Thread nD τ).loc main_arg2)

/-- A vector as one row. -/
def asRow (x : S4096.Idx → EReal) : S1x4096.Idx → EReal := shapeCast S1x4096 x shapeCasts_S4096_S1x4096

theorem asRow_at (x : S4096.Idx → EReal) (i : S1x4096.Idx) : asRow x i = at1 x (i 1).val := by
  have b0 : (i 0).val < 1 := (i 0).isLt
  unfold asRow
  refine (shapeCast_apply x _ i (pos (i 1).val (i 1).isLt) ?_).trans (at1_val x _)
  refine (Shape.rowMajor_val_one _).trans (Eq.trans ?_ (Shape.rowMajor_val_two _).symm)
  show (i 1).val = (i 0).val * 4096 + (i 1).val
  omega

set_option maxHeartbeats 4000000 in
theorem V_gain (c : Dev nD) : V m c main_v0 = asRow (argG m c) := by
  show StableHlo.after hostOps0 _ (Proc.devRef .tc main_v0) = _
  after_results
  rfl

set_option maxHeartbeats 4000000 in
theorem V_bias (c : Dev nD) : V m c main_v1 = asRow (argB m c) := by
  show StableHlo.after hostOps0 _ (Proc.devRef .tc main_v1) = _
  after_results
  rfl

theorem x_at (c : Dev nD) (t : Fin cfg0.N) (n k : ℕ) (hn : n < 512) (hk : k < 4096) :
    at2 (A := 512) (B := 4096) (X0_0 m c t) n k = at2 (A := 8320) (B := 4096) (argX m c) (512 * t.val + n) k := by
  obtain ⟨e0, e1⟩ := idx0 t
  refine (at2_of_lt _ n k hn hk).trans ?_
  unfold X0_0 Pipeline.Window.fill
  rw [dif_pos (moved0_0 t (ij n k hn hk))]
  show V m c main_arg0 (((cfg0.win 0).blk t).view.emb _) = _
  rw [V_main_arg0]
  refine (at2_val (A := 8320) (B := 4096) _ _).trans (congrArg₂ (at2 _) ?_ ?_)
  · show win0_0.index t (0 : Fin 2) * 512 + 1 * n = _; omega
  · show win0_0.index t (1 : Fin 2) * 4096 + 1 * k = _; omega

theorem last_at (c : Dev nD) (t : Fin cfg0.N) (n k : ℕ) (hn : n < 128) (hk : k < 4096) :
    at2 (A := 128) (B := 4096) (iblk m c 1 t) n k = at2 (A := 8320) (B := 4096) (argX m c) (8192 + n) k := by
  obtain ⟨e0, e1⟩ := idx1 t
  refine (at2_of_lt _ n k hn hk).trans ?_
  show V m c main_arg0 (((cfg0.win 1).blk t).view.emb (ij n k hn hk)) = _
  rw [V_main_arg0]
  refine (at2_val (A := 8320) (B := 4096) _ _).trans (congrArg₂ (at2 _) ?_ ?_)
  · show win0_1.index t (0 : Fin 2) * 128 + 1 * n = _; omega
  · show win0_1.index t (1 : Fin 2) * 4096 + 1 * k = _; omega

theorem gain_at (c : Dev nD) (t : Fin cfg0.N) (k : ℕ) (hk : k < 4096) :
    at2 (A := 1) (B := 4096) (iblk m c 2 t) 0 k = at1 (A := 4096) (argG m c) k := by
  obtain ⟨e0, e1⟩ := idx2 t
  refine (at2_of_lt _ 0 k Nat.one_pos hk).trans ?_
  show V m c main_v0 (((cfg0.win 2).blk t).view.emb (ij 0 k Nat.one_pos hk)) = _
  rw [V_gain]
  refine (asRow_at _ _).trans (congrArg (at1 (A := 4096) (argG m c)) ?_)
  show win0_2.index t (1 : Fin 2) * 4096 + 1 * k = _; omega

theorem bias_at (c : Dev nD) (t : Fin cfg0.N) (k : ℕ) (hk : k < 4096) :
    at2 (A := 1) (B := 4096) (iblk m c 3 t) 0 k = at1 (A := 4096) (argB m c) k := by
  obtain ⟨e0, e1⟩ := idx3 t
  refine (at2_of_lt _ 0 k Nat.one_pos hk).trans ?_
  show V m c main_v1 (((cfg0.win 3).blk t).view.emb (ij 0 k Nat.one_pos hk)) = _
  rw [V_bias]
  refine (asRow_at _ _).trans (congrArg (at1 (A := 4096) (argB m c)) ?_)
  show win0_3.index t (1 : Fin 2) * 4096 + 1 * k = _; omega

theorem array4 (c : Dev nD) : (dats m 0 c).arrAt 4 cfg0.N = normOf 8192 0 (argX m c) (argG m c) (argB m c) := by
  refine (dats m 0 c).arrAt_eq_of_covers 4 _ (by decide +kernel) fun t hf y => ?_
  show (dats m 0 c).after 4 t y = _
  rw [after0_4]
  obtain ⟨e0, e1⟩ := idx4 t
  have b0 : (y 0).val < 512 := (y 0).isLt
  have b1 : (y 1).val < 4096 := (y 1).isLt
  have f0 : ((((cfg0.win 4).blk t).view.emb y) (0 : Fin 2)).val = 512 * t.val + (y 0).val := by
    show win0_4.index t (0 : Fin 2) * 512 + 1 * (y 0).val = _; omega
  have f1 : ((((cfg0.win 4).blk t).view.emb y) (1 : Fin 2)).val = (y 1).val := by
    show win0_4.index t (1 : Fin 2) * 4096 + 1 * (y 1).val = _; omega
  unfold left4
  refine (block512_at _ _ _ y).trans ?_
  rw [gain_at m c t _ b1, bias_at m c t _ b1]
  unfold normOf
  rw [f0, f1, Nat.zero_add]
  exact lineNorm_congr _ _ _ _ _ _ _ b1 fun k hk => x_at m c t _ k b0 hk

theorem array5 (c : Dev nD) : (dats m 0 c).arrAt 5 cfg0.N = normOf 128 8192 (argX m c) (argG m c) (argB m c) := by
  refine (dats m 0 c).arrAt_eq_of_covers 5 _ (by decide +kernel) fun t hf y => ?_
  show (dats m 0 c).after 5 t y = _
  rw [after0_5]
  obtain ⟨e0, e1⟩ := idx5 t
  have b0 : (y 0).val < 128 := (y 0).isLt
  have b1 : (y 1).val < 4096 := (y 1).isLt
  have f0 : ((((cfg0.win 5).blk t).view.emb y) (0 : Fin 2)).val = (y 0).val := by
    show win0_5.index t (0 : Fin 2) * 128 + 1 * (y 0).val = _; omega
  have f1 : ((((cfg0.win 5).blk t).view.emb y) (1 : Fin 2)).val = (y 1).val := by
    show win0_5.index t (1 : Fin 2) * 4096 + 1 * (y 1).val = _; omega
  unfold left5
  refine (block128_at _ _ _ y).trans ?_
  rw [gain_at m c t0_0 _ b1, bias_at m c t0_0 _ b1]
  unfold normOf
  rw [f0, f1]
  exact lineNorm_congr _ _ _ _ _ _ _ b1 fun k hk => last_at m c t0_0 _ k b0 hk

/-- The run: both results named, the arguments kept. -/
theorem run_values : θ_run defs (onTc (τ := τ) (main (F := Ideal))) ⟨m, fun _ => 0, ρ⟩ (fun r => (∀ c : Dev nD,
      r.2.mem ((c : Thread nD τ).loc main_v2_0) = normOf 8192 0 (argX m c) (argG m c) (argB m c)
      ∧ r.2.mem ((c : Thread nD τ).loc main_v2_1) = normOf 128 8192 (argX m c) (argG m c) (argB m c))
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and ((θ_run defs _ _).mono (fun r h c => ⟨((h c).1 4).trans (array4 m c), ((h c).1 5).trans (array5 m c)⟩) (run_main m ρ)) (unchanged m ρ)

end Cert.Kernel6Ideal.Gen

end
-- ==== Proof.Norm.Reference.lean ====
/- The last layer norm's reference, read at an index. -/
module

public import proofs.«01_k».proof.Proof.Norm.Values
public import proofs.«01_k».proof.Proof.Gen.Reference6Ideal.Read

@[expose] public section

noncomputable section

namespace Cert.Reference6Ideal.Read

open Cert.Reference6Ideal.Gen Cert.Decay Idealize.ShloMosaic Idealize.ShloMosaic.TcCoe
open Cert.Kernel6Ideal.Gen (normOf)

theorem zero_f32 : Ideal.ofBits .f32 0x00000000#32 = 0 := by
  simp [Ideal.ofBits, Ideal.ieee]

theorem mean_at (x : S8320x4096.Idx → EReal) (i : S8320x1.Idx) : val_main_v3 (F := Ideal) x i = rowMean x (i 0).val := by
  rw [val_main_v3_apply]
  unfold rowMean
  refine congrArg₂ Ideal.div ?_ (val_main_v2_apply i)
  rw [val_main_v1_apply, val_main_v0_apply, Finset.sum_range]
  refine (congrArg₂ (fun a b : EReal => a + b) zero_f32 ?_).trans (zero_add _)
  exact Finset.sum_congr rfl fun k _ => at2_val (A := 8320) (B := 4096) x _

theorem square_at (x : S8320x4096.Idx → EReal) (i : S8320x4096.Idx) :
    val_main_v6 (F := Ideal) x i = (at2 x (i 0).val (i 1).val - rowMean x (i 0).val) * (at2 x (i 0).val (i 1).val - rowMean x (i 0).val) := by
  have h : val_main_v5 (F := Ideal) x i = at2 x (i 0).val (i 1).val - rowMean x (i 0).val := by
    rw [val_main_v5_apply, val_main_v4_apply, mean_at]
    exact congrArg₂ (fun a b : EReal => a - b) (at2_val (A := 8320) (B := 4096) x i) rfl
  rw [val_main_v6_apply, h]
  rfl

theorem dev_at (x : S8320x4096.Idx → EReal) (i : S8320x1.Idx) : val_main_v15 (F := Ideal) x i = Ideal.rsqrt (rowVar x (i 0).val + small) := by
  rw [val_main_v15_apply, val_main_v14_apply, val_main_v10_apply]
  unfold rowVar
  refine congrArg Ideal.rsqrt (congrArg₂ (fun a b : EReal => a + b) (congrArg₂ Ideal.div ?_ (val_main_v9_apply i)) (val_main_v13_apply i))
  rw [val_main_v8_apply, val_main_v7_apply, Finset.sum_range]
  refine (congrArg₂ (fun a b : EReal => a + b) zero_f32 ?_).trans (zero_add _)
  exact Finset.sum_congr rfl fun k _ => square_at x _

theorem norm_at (x : S8320x4096.Idx → EReal) (g b : S4096.Idx → EReal) (i : S8320x4096.Idx) :
    val_main_v23 (F := Ideal) x g b i = lineNorm x (i 0).val (i 1).val (at1 g (i 1).val) (at1 b (i 1).val) := by
  rw [val_main_v23_apply, val_main_v20_apply, val_main_v17_apply, val_main_v12_apply, val_main_v11_apply, val_main_v16_apply, mean_at, dev_at,
    val_main_v19_apply, val_main_v18_apply, val_main_v22_apply, val_main_v21_apply]
  unfold lineNorm
  refine congrArg₂ (fun a b : EReal => a + b) (congrArg₂ (fun a b : EReal => a * b) (congrArg₂ (fun a b : EReal => a * b)
    (congrArg₂ (fun a b : EReal => a - b) ?_ rfl) rfl) ?_) ?_
  · exact at2_val (A := 8320) (B := 4096) x i
  · exact at1_val (A := 4096) g _
  · exact at1_val (A := 4096) b _

/-- The first result: the first 8192 rows. -/
theorem prompts_at (x : S8320x4096.Idx → EReal) (g b : S4096.Idx → EReal) (y : S8192x4096.Idx) :
    val_main_v24 (F := Ideal) x g b y = normOf 8192 0 x g b y := by
  rw [val_main_v24_apply, norm_at]
  unfold normOf
  rw [Nat.zero_add]

/-- The second: the other 128. -/
theorem samples_at (x : S8320x4096.Idx → EReal) (g b : S4096.Idx → EReal) (y : S128x4096.Idx) :
    val_main_v25 (F := Ideal) x g b y = normOf 128 8192 x g b y := by
  rw [val_main_v25_apply, norm_at]
  rfl

end Cert.Reference6Ideal.Read

end
-- ==== Proof.Norm.Claims.lean ====
/- The last layer norm's claims: its frames, and that kernel and reference end with the same two arrays. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Norm.Reference
public import Idealize.ShloMosaic.Adequacy
public import Idealize.ShloMosaic.Init

@[expose] public section

noncomputable section

namespace Cert.Norm

open Idealize.ShloMosaic Idealize.SL.Sem

/-- The kernel's frame with the second program in place of the first: the two have the same text. -/
def FrameBits : Prop := ∀ (m : (ℓ : Loc Cert.Kernel6Ideal.nD Cert.Kernel6Ideal.τ Cert.Kernel6Ideal.sig) → Buf (Elt Bits) ℓ)
    (g : Dev Cert.Kernel6Ideal.nD → PrngReg), Cert.Pre_Kernel6 m →
  θ_run (Cert.Kernel6Ideal.defs (F := Bits)) (onTc (τ := Cert.Kernel6Ideal.τ) (Cert.Kernel6Ideal.main (F := Bits)))
    ⟨m, fun _ => 0, g⟩ (fun r => (∀ c : Dev Cert.Kernel6Ideal.nD,
      r.2.mem ((c.tc : Thread Cert.Kernel6Ideal.nD Cert.Kernel6Ideal.τ).loc Cert.Kernel6Ideal.main_arg0)
        = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1)
        = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2)
        = m ((c.tc : Thread Cert.Kernel6Ideal.nD Cert.Kernel6Ideal.τ).loc Cert.Kernel6Ideal.main_arg2))
      ∧ r.2.sem = fun _ => 0)

theorem frameBits : FrameBits := fun m ρ _ => Cert.Kernel6Ideal.Gen.frame (F := Bits) m ρ

theorem same_text : Cert.quiescent_Kernel6 = FrameBits := by
  sl_kernel_rfl

/-- The kernel at the machine's floats: the one run, read at `Bits`. -/
theorem frame_kernel : Cert.quiescent_Kernel6 := same_text ▸ frameBits

/-- The kernel at the extended reals. -/
theorem frame_ideal : Cert.quiescent_Kernel6Ideal := fun m ρ _ =>
  (θ_run Cert.Kernel6Ideal.defs _ _).mono (fun _ h => h) (Cert.Kernel6Ideal.Gen.frame (F := Ideal) m ρ)

/-- The reference at the extended reals. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Kernel and reference end with the same two arrays of normed rows. -/
theorem same_arrays : Cert.algebraic_Kernel6Ideal_Reference6Ideal := by
  intro m g m' g' _ hargs
  refine ⟨fun c => Cert.Kernel6Ideal.Gen.normOf 8192 0 (Cert.Kernel6Ideal.Gen.argX m c) (Cert.Kernel6Ideal.Gen.argG m c) (Cert.Kernel6Ideal.Gen.argB m c),
    fun c => Cert.Kernel6Ideal.Gen.normOf 128 8192 (Cert.Kernel6Ideal.Gen.argX m c) (Cert.Kernel6Ideal.Gen.argG m c) (Cert.Kernel6Ideal.Gen.argB m c),
    (θ_run Cert.Kernel6Ideal.defs _ _).mono (fun r h c => ⟨(h.1 c).1, (h.1 c).2, h.2 c⟩) (Cert.Kernel6Ideal.Gen.run_values m g),
    (θ_run Cert.Reference6Ideal.defs _ _).mono (fun r h c => ⟨(h c).1.trans ?_, (h c).2.1.trans ?_, (h c).2.2⟩)
      (Cert.Reference6Ideal.Value.run (F := Ideal) m' g')⟩
  · obtain ⟨e0, e1, e2⟩ := hargs c
    refine (Cert.Reference6Ideal.Read.val_main_v24_eq _ _ _).trans ?_
    rw [e0, e1, e2]
    funext i
    exact Cert.Reference6Ideal.Read.prompts_at _ _ _ i
  · obtain ⟨e0, e1, e2⟩ := hargs c
    refine (Cert.Reference6Ideal.Read.val_main_v25_eq _ _ _).trans ?_
    rw [e0, e1, e2]
    funext i
    exact Cert.Reference6Ideal.Read.samples_at _ _ _ i

end Cert.Norm

end
-- ==== Proof.Conv.Runs.lean ====
/- The convolution: where its branches are taken, and what its body leaves at a grid point, over any float values. -/
module

public import proofs.«01_k».proof.Proof.Gen.Kernel7Ideal.Frame
public import proofs.«01_k».proof.Proof.Gen.Kernel7Ideal.Skeleton
public import Idealize.ShloMosaic.Lib.Pipeline.TableIdle
public import Idealize.ShloMosaic.Lib.VecWindow
public import Idealize.ShloMosaic.Lib.Pipeline.Value
public import Idealize.ShloMosaic.Lib.Exec

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's four conditions: a prompt point, a prompt's first point, a prompt's last point, and the samples' point. -/
abbrev cond0_0 (i : grid0.Coords) : Prop := k0_cond1 i = 1#1
abbrev cond0_1 (i : grid0.Coords) : Prop :=
  let arg0 : BitVec 32 := BitVec.ofNat 32 (i 0).val
  let v6 : BitVec 1 := Scalar.cmpi .eq 8#32 0#32
  let v7 : BitVec 32 := Scalar.select v6 1#32 8#32
  let v8 : BitVec 32 := Scalar.remsi arg0 v7
  let v9 : BitVec 1 := Scalar.cmpi .ne v8 0#32
  let v10 : BitVec 1 := Scalar.cmpi .slt v8 0#32
  let v11 : BitVec 1 := Scalar.cmpi .slt v7 0#32
  let v12 : BitVec 1 := Scalar.xori v10 v11
  let v13 : BitVec 1 := Scalar.andi v12 v9
  let v14 : BitVec 32 := Scalar.addi v8 v7
  let v15 : BitVec 32 := Scalar.select v13 v14 v8
  let v16 : BitVec 1 := Scalar.cmpi .eq v15 0#32
  let v17 : BitVec 32 := Scalar.extui v16
  let v18 : BitVec 1 := Scalar.cmpi .ne v17 0#32
  v18 = 1#1
abbrev cond0_2 (i : grid0.Coords) : Prop := k0_cond3 i = 1#1
abbrev cond0_3 (i : grid0.Coords) : Prop := k0_cond4 i = 1#1
theorem hcond0_0 : ∀ t : Fin cfg0.N, cond0_0 (grid0.coords t) ↔ t.val < 32 :=
  (by decide +kernel : ∀ t : Fin grid0.N, cond0_0 (grid0.coords t) ↔ t.val < 32)
theorem hcond0_1 : ∀ t : Fin cfg0.N, cond0_1 (grid0.coords t) ↔ t.val % 8 = 0 :=
  (by decide +kernel : ∀ t : Fin grid0.N, cond0_1 (grid0.coords t) ↔ t.val % 8 = 0)
theorem hcond0_2 : ∀ t : Fin cfg0.N, cond0_2 (grid0.coords t) ↔ t.val % 8 = 7 :=
  (by decide +kernel : ∀ t : Fin grid0.N, cond0_2 (grid0.coords t) ↔ t.val % 8 = 7)
theorem hcond0_3 : ∀ t : Fin cfg0.N, cond0_3 (grid0.coords t) ↔ t.val = 32 :=
  (by decide +kernel : ∀ t : Fin grid0.N, cond0_3 (grid0.coords t) ↔ t.val = 32)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- The prompts' buffers are stored at a prompt's last point, -/
theorem liveAt0_8 : ∀ t : Fin cfg0.N, t.val % 8 = 7 → cfg0.idle 8 (grid0.coords t) = false :=
  (by decide +kernel : ∀ t : Fin grid0.N, t.val % 8 = 7 → cfg0.idle 8 (grid0.coords t) = false)
theorem idleAt0_8 : ∀ t : Fin cfg0.N, ¬t.val % 8 = 7 → cfg0.idle 8 (grid0.coords t) = true :=
  (by decide +kernel : ∀ t : Fin grid0.N, ¬t.val % 8 = 7 → cfg0.idle 8 (grid0.coords t) = true)
/-- and written back there, but for the last prompt's, written back after the last point. -/
theorem back8 : ∀ t : Fin cfg0.N, ¬t.val % 8 = 7 → (cfg0.win 8).flush t = decide (t.val = 32) := by decide +kernel

/-- The samples' buffers are stored at the last point only, -/
theorem liveAt0_9 : ∀ t : Fin cfg0.N, t.val = 32 → cfg0.idle 9 (grid0.coords t) = false :=
  (by decide +kernel : ∀ t : Fin grid0.N, t.val = 32 → cfg0.idle 9 (grid0.coords t) = false)
theorem idleAt0_9 : ∀ t : Fin cfg0.N, ¬t.val = 32 → cfg0.idle 9 (grid0.coords t) = true :=
  (by decide +kernel : ∀ t : Fin grid0.N, ¬t.val = 32 → cfg0.idle 9 (grid0.coords t) = true)
/-- and written back after it. -/
theorem back9 : ∀ t : Fin cfg0.N, (cfg0.win 9).flush t = decide (t.val = 32) := by decide +kernel

/-- The offset of a whole block. -/
theorem zero2 : (![0, 0] : Fin 2 → ℕ) = fun _ => 0 := by funext a; fin_cases a <;> rfl

/-! The staging buffers at a point, and the scratch. -/

abbrev ms0_0 (t : Fin cfg0.N) : Memref sig .tc .vmem S256x2048 .bf16 := win0_0.stage (cfg0.slots t 0)
abbrev ms0_1 (t : Fin cfg0.N) : Memref sig .tc .vmem S256x2048 .bf16 := win0_1.stage (cfg0.slots t 1)
abbrev ms0_2 (t : Fin cfg0.N) : Memref sig .tc .vmem S256x2048 .bf16 := win0_2.stage (cfg0.slots t 2)
abbrev ms0_3 (t : Fin cfg0.N) : Memref sig .tc .vmem S16x2048 .bf16 := win0_3.stage (cfg0.slots t 3)
abbrev ms0_4 (t : Fin cfg0.N) : Memref sig .tc .vmem S16x2048 .bf16 := win0_4.stage (cfg0.slots t 4)
abbrev ms0_5 (t : Fin cfg0.N) : Memref sig .tc .vmem S3x2048 .f32 := win0_5.stage (cfg0.slots t 5)
abbrev ms0_6 (t : Fin cfg0.N) : Memref sig .tc .vmem S128x4096 .f32 := win0_6.stage (cfg0.slots t 6)
abbrev ms0_7 (t : Fin cfg0.N) : Memref sig .tc .vmem S256x2048 .bf16 := win0_7.stage (cfg0.slots t 7)
abbrev ms0_8 (t : Fin cfg0.N) : Memref sig .tc .vmem S1x2x2048 .f32 := win0_8.stage (cfg0.slots t 8)
abbrev ms0_9 (t : Fin cfg0.N) : Memref sig .tc .vmem S128x4096 .f32 := win0_9.stage (cfg0.slots t 9)
abbrev scM0_0 : Memref sig .tc .vmem S264x2048 .f32 := Memref.whole cc0_scratch0

/-- The scratch, opened. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The last two rows of a block of products. -/
def lastRows (x1 x2 : Vec F S256x2048 .bf16) : Vec F S1x2x2048 .f32 := k0_pay4 (k0_pay10 x1 x2)

/-- One staging buffer of the samples' result, to read its two stored halves back from. -/
abbrev VO0_9 : View sig .tc .vmem S128x4096 .f32 := (Memref.whole cc0_stg9_0 : Memref sig .tc .vmem S128x4096 .f32).view

/-- The two halves stored there: the samples' products, and the buffers' second halves. -/
def halves (x1 x2 : Vec F S256x2048 .bf16) (x6 : Vec F S128x4096 .f32) : List (View.Piece (Elt F) S128x4096 .f32) :=
  [⟨Rect.unit (s := S128x4096) ![0, 2048] S128x2048.size inb_S128x4096_S128x2048_0_2048,
      k0_pay5 (View.ld x1 (Rect.unit (s := S256x2048) ![0, 0] S128x2048.size inb_S256x2048_S128x2048_0_0)) (View.ld x2 (Rect.unit (s := S256x2048) ![0, 0] S128x2048.size inb_S256x2048_S128x2048_0_0))⟩,
    ⟨Rect.unit (s := S128x4096) ![0, 0] S128x2048.size inb_S128x4096_S128x2048_0_0,
      k0_pay6 (View.ld x6 (Rect.unit (s := S128x4096) ![0, 2048] S128x2048.size inb_S128x4096_S128x2048_0_2048))⟩]

/-- They cover it. -/
theorem covered (x1 x2 : Vec F S256x2048 .bf16) (x6 : Vec F S128x4096 .f32) (y : S128x4096.Idx) : ∃ pc ∈ halves x1 x2 x6, y ∈ pc.1.set :=
  View.cover_of_tiledL (halves x1 x2 x6) S128x2048.size (by sl_kernel_rfl) y

/-- The block they make. -/
def buffers (x1 x2 : Vec F S256x2048 .bf16) (x6 : Vec F S128x4096 .f32) : Vec F S128x4096 .f32 :=
  VO0_9.read (Elt F) (VO0_9.writes (Elt F) VO0_9.junk (halves x1 x2 x6))

set_option maxHeartbeats 4000000 in
/-- A prompt's first point. -/
theorem runA (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S3x2048 .f32) (harg6 : arg6.IsWhole) (arg7 : Memref sig .tc .vmem S128x4096 .f32) (harg7 : arg7.IsWhole) (arg8 : Memref sig .tc .vmem S256x2048 .bf16) (harg8 : arg8.IsWhole) (arg9 : Memref sig .tc .vmem S1x2x2048 .f32) (harg9 : arg9.IsWhole) (arg10 : Memref sig .tc .vmem S128x4096 .f32) (harg10 : arg10.IsWhole) (arg11 : Memref sig .tc .vmem S264x2048 .f32) (harg11 : arg11.IsWhole)
    (hc0 : cond0_0 i) (hc1 : cond0_1 i) (hc2 : ¬cond0_2 i) (hc3 : ¬cond0_3 i) (x0 : Vec F S256x2048 .bf16) (x1 : Vec F S256x2048 .bf16) (x2 : Vec F S256x2048 .bf16) (x3 : Vec F S16x2048 .bf16) (x4 : Vec F S16x2048 .bf16) (x5 : Vec F S3x2048 .f32) (x6 : Vec F S128x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg11 fullShare d)) -∗ K ⟨⟩))
      ⊢ wp frame (wpE (defs₀ (F := F)) Variants.none c none) Set.univ (cc0_conv i arg1 harg1 arg2 harg2 arg3 harg3 arg4 harg4 arg5 harg5 arg6 harg6 arg7 harg7 arg8 harg8 arg9 harg9 arg10 harg10 arg11 harg11) K := by
  simp only [cc0_conv_eq_skeleton]; unfold cc0_conv_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; iexists _; isplitr; swap; · iexact H7
    ipureintro; rfl
  iexists _; iexists _; isplitr; swap; · iexact H10
  ipureintro; rfl

set_option maxHeartbeats 4000000 in
/-- A point inside a prompt. -/
theorem runB (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S3x2048 .f32) (harg6 : arg6.IsWhole) (arg7 : Memref sig .tc .vmem S128x4096 .f32) (harg7 : arg7.IsWhole) (arg8 : Memref sig .tc .vmem S256x2048 .bf16) (harg8 : arg8.IsWhole) (arg9 : Memref sig .tc .vmem S1x2x2048 .f32) (harg9 : arg9.IsWhole) (arg10 : Memref sig .tc .vmem S128x4096 .f32) (harg10 : arg10.IsWhole) (arg11 : Memref sig .tc .vmem S264x2048 .f32) (harg11 : arg11.IsWhole)
    (hc0 : cond0_0 i) (hc1 : ¬cond0_1 i) (hc2 : ¬cond0_2 i) (hc3 : ¬cond0_3 i) (x0 : Vec F S256x2048 .bf16) (x1 : Vec F S256x2048 .bf16) (x2 : Vec F S256x2048 .bf16) (x3 : Vec F S16x2048 .bf16) (x4 : Vec F S16x2048 .bf16) (x5 : Vec F S3x2048 .f32) (x6 : Vec F S128x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg11 fullShare d)) -∗ K ⟨⟩))
      ⊢ wp frame (wpE (defs₀ (F := F)) Variants.none c none) Set.univ (cc0_conv i arg1 harg1 arg2 harg2 arg3 harg3 arg4 harg4 arg5 harg5 arg6 harg6 arg7 harg7 arg8 harg8 arg9 harg9 arg10 harg10 arg11 harg11) K := by
  simp only [cc0_conv_eq_skeleton]; unfold cc0_conv_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; iexists _; isplitr; swap; · iexact H7
    ipureintro; rfl
  iexists _; iexists _; isplitr; swap; · iexact H10
  ipureintro; rfl

set_option maxHeartbeats 4000000 in
/-- A prompt's last point stores its last two rows of products. -/
theorem runC (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S3x2048 .f32) (harg6 : arg6.IsWhole) (arg7 : Memref sig .tc .vmem S128x4096 .f32) (harg7 : arg7.IsWhole) (arg8 : Memref sig .tc .vmem S256x2048 .bf16) (harg8 : arg8.IsWhole) (arg9 : Memref sig .tc .vmem S1x2x2048 .f32) (harg9 : arg9.IsWhole) (arg10 : Memref sig .tc .vmem S128x4096 .f32) (harg10 : arg10.IsWhole) (arg11 : Memref sig .tc .vmem S264x2048 .f32) (harg11 : arg11.IsWhole)
    (hc0 : cond0_0 i) (hc1 : ¬cond0_1 i) (hc2 : cond0_2 i) (hc3 : ¬cond0_3 i) (x0 : Vec F S256x2048 .bf16) (x1 : Vec F S256x2048 .bf16) (x2 : Vec F S256x2048 .bf16) (x3 : Vec F S16x2048 .bf16) (x4 : Vec F S16x2048 .bf16) (x5 : Vec F S3x2048 .f32) (x6 : Vec F S128x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare (lastRows x1 x2) ∗ (∃ d, owns (c : Thread nD τ) arg11 fullShare d)) -∗ K ⟨⟩))
      ⊢ wp frame (wpE (defs₀ (F := F)) Variants.none c none) Set.univ (cc0_conv i arg1 harg1 arg2 harg2 arg3 harg3 arg4 harg4 arg5 harg5 arg6 harg6 arg7 harg7 arg8 harg8 arg9 harg9 arg10 harg10 arg11 harg11) K := by
  simp only [cc0_conv_eq_skeleton]; unfold cc0_conv_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; iexists _; isplitr; swap; · iexact H7
    ipureintro; rfl
  isplitl [H8]
  · iexists _; isplitr; swap; · iexact H8
    ipureintro
    refine (View.read_writes_full _ _ _ _ _).trans ?_
    sl_unfold_words
    unfold lastRows
    simp only [View.readAt_eq_ld, Memref.IsWhole.read_unread, View.ld_unit_zero (S := S256x2048) zero2]
  iexists _; iexists _; isplitr; swap; · iexact H10
  ipureintro; rfl

set_option maxHeartbeats 4000000 in
/-- The samples' point stores their buffers. -/
theorem runD (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S3x2048 .f32) (harg6 : arg6.IsWhole) (arg7 : Memref sig .tc .vmem S128x4096 .f32) (harg7 : arg7.IsWhole) (arg8 : Memref sig .tc .vmem S256x2048 .bf16) (harg8 : arg8.IsWhole) (arg9 : Memref sig .tc .vmem S1x2x2048 .f32) (harg9 : arg9.IsWhole) (arg10 : Memref sig .tc .vmem S128x4096 .f32) (harg10 : arg10.IsWhole) (arg11 : Memref sig .tc .vmem S264x2048 .f32) (harg11 : arg11.IsWhole)
    (hc0 : ¬cond0_0 i) (hc3 : cond0_3 i) (x0 : Vec F S256x2048 .bf16) (x1 : Vec F S256x2048 .bf16) (x2 : Vec F S256x2048 .bf16) (x3 : Vec F S16x2048 .bf16) (x4 : Vec F S16x2048 .bf16) (x5 : Vec F S3x2048 .f32) (x6 : Vec F S128x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg10 fullShare (buffers x1 x2 x6) ∗ (∃ d, owns (c : Thread nD τ) arg11 fullShare d)) -∗ K ⟨⟩))
      ⊢ wp frame (wpE (defs₀ (F := F)) Variants.none c none) Set.univ (cc0_conv i arg1 harg1 arg2 harg2 arg3 harg3 arg4 harg4 arg5 harg5 arg6 harg6 arg7 harg7 arg8 harg8 arg9 harg9 arg10 harg10 arg11 harg11) K := by
  simp only [cc0_conv_eq_skeleton]; unfold cc0_conv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; iexists _; isplitr; swap; · iexact H7
    ipureintro; rfl
  isplitl [H9]
  · iexists _; isplitr; swap; · iexact H9
    ipureintro
    refine Eq.trans ?_ (View.read_writes_of_cover arg10.view f9 VO0_9 VO0_9.junk (halves x1 x2 x6) (covered x1 x2 x6))
    sl_unfold_words
    simp only [View.readAt_eq_ld, Memref.IsWhole.read_unread]
    try rfl
  iexists _; iexists _; isplitr; swap; · iexact H10
  ipureintro; rfl

end Cert.Kernel7Ideal.Gen

end
-- ==== Proof.Conv.Frame.lean ====
/- The convolution's call run as a whole, over any float values: what its two buffer results hold after a grid point, and the frame. -/
module

public import proofs.«01_k».proof.Proof.Conv.Runs
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point whose rows the prompts' buffers hold after point `t`, where they hold any: the last point leaves what the one before stored. -/
def held (t : Fin cfg0.N) : Fin cfg0.N := if t.val = 32 then ⟨31, by decide⟩ else t

/-- What a point leaves of the prompts' buffers. -/
def left8 (c : Dev nD) (t : Fin cfg0.N) : Vec F S1x2x2048 .f32 := lastRows (iblk m c 1 (held t)) (iblk m c 2 (held t))

/-- What the last point leaves of the samples' buffers. -/
def left9 (c : Dev nD) (t : Fin cfg0.N) : Vec F S128x4096 .f32 := buffers (iblk m c 1 t) (iblk m c 2 t) (iblk m c 6 t)

/-- The result of which nothing is said: the convolution's own. -/
abbrev unsaid : Fin cfg0.W → Bool := fun | 7 => true | _ => false

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 0 t
    | ⟨8, _⟩ => left8 m c t
    | ⟨9, _⟩ => left9 m c t
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = left8 m c t := by dsimp only [dats]
theorem after0_9 (c : Dev nD) (t : Fin cfg0.N) : (dats m 0 c).after 9 t = left9 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Whether the prompts' buffers hold nothing stored since they were last written back. -/
def fresh8 (n : ℕ) : Bool := decide (n ≠ 32)
theorem fresh8_step : ∀ t : Fin cfg0.N,
    fresh8 (t.val + 1) = ((cfg0.win 8).flush t || (cfg0.idle 8 (cfg0.grid.coords t) && fresh8 t.val)) := by decide +kernel
theorem fresh8_eq (t : Fin cfg0.N) : cfg0.fresh 8 t.val = fresh8 t.val :=
  Pipeline.Cfg.fresh_tab cfg0 8 fresh8 rfl fresh8_step t.val (Nat.le_of_lt t.isLt)

theorem carry8 (c : Dev nD) (t : Fin cfg0.N) (h0 : t.val ≠ 0) (hi : cfg0.idle 8 (cfg0.grid.coords t) = true) (hf : cfg0.fresh 8 t.val = false) :
    (dats m 0 c).after 8 t = (dats m 0 c).after 8 ⟨t.val - 1, by omega⟩ := by
  have h : t.val = 32 := by
    rw [fresh8_eq t] at hf
    exact Decidable.not_not.mp (of_decide_eq_false hf)
  rw [after0_8, after0_8]
  unfold left8
  rw [show held t = held ⟨t.val - 1, by omega⟩ from Fin.ext (by
    unfold held
    rw [if_pos h, if_neg (by show ¬t.val - 1 = 32; omega)]
    show 31 = t.val - 1
    omega)]

theorem before8 (c : Dev nD) (t : Fin cfg0.N) (h : t.val = 32) (d) : (dats m 0 c).before 8 t d = left8 m c t := by
  have hi : cfg0.idle 8 (cfg0.grid.coords t) = true := idleAt0_8 t (by omega)
  have hf : cfg0.fresh 8 t.val = false := by rw [fresh8_eq t, h]; rfl
  rw [Dat.before_out_traj _ 8 rfl (fun _ _ => rfl) (carry8 m c) t.val t rfl d, if_neg (by rw [hf]; exact Bool.false_ne_true),
    ← carry8 m c t (by omega) hi hf, after0_8]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ X, owns (c : Thread nD τ) (ms0_7 t) fullShare X)
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ X, owns (c : Thread nD τ) (ms0_7 t) fullShare X)
    ∗ (dats m 0 c).leavesExact 8 t
    ∗ (dats m 0 c).leavesExact 9 t)

/-- The prompts' buffers' part of it: at a prompt's last point, -/
theorem leaves8_live (c : Dev nD) (t : Fin cfg0.N) (h : t.val % 8 = 7) : (dats m 0 c).leavesExact 8 t = owns (c : Thread nD τ) (ms0_8 t) fullShare (left8 m c t) := by
  rw [← after0_8 m c t]; unfold Dat.leavesExact; rw [liveAt0_8 t h]
/-- at another prompt point, -/
theorem leaves8_idle (c : Dev nD) (t : Fin cfg0.N) (h : ¬t.val % 8 = 7) (h' : ¬t.val = 32) :
    (dats m 0 c).leavesExact 8 t = iprop(∃ d, owns (c : Thread nD τ) (ms0_8 t) fullShare ((dats m 0 c).before 8 t d)) :=
  Dat.leavesExact_idle (dats m 0 c) 8 t (idleAt0_8 t h) ((back8 t h).trans (decide_eq_false h'))
/-- and at the last. -/
theorem leaves8_last (c : Dev nD) (t : Fin cfg0.N) (h : t.val = 32) : (dats m 0 c).leavesExact 8 t = owns (c : Thread nD τ) (ms0_8 t) fullShare (left8 m c t) := by
  rw [← after0_8 m c t]; unfold Dat.leavesExact; rw [idleAt0_8 t (by omega), (back8 t (by omega)).trans (decide_eq_true h)]
/-- The samples' buffers' part: at the last point, -/
theorem leaves9_live (c : Dev nD) (t : Fin cfg0.N) (h : t.val = 32) : (dats m 0 c).leavesExact 9 t = owns (c : Thread nD τ) (ms0_9 t) fullShare (left9 m c t) := by
  rw [← after0_9 m c t]; unfold Dat.leavesExact; rw [liveAt0_9 t h]
/-- and before it. -/
theorem leaves9_idle (c : Dev nD) (t : Fin cfg0.N) (h : ¬t.val = 32) :
    (dats m 0 c).leavesExact 9 t = iprop(∃ d, owns (c : Thread nD τ) (ms0_9 t) fullShare ((dats m 0 c).before 9 t d)) :=
  Dat.leavesExact_idle (dats m 0 c) 9 t (idleAt0_9 t h) ((back9 t).trans (decide_eq_false h))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h32 : t.val = 32
  · rw [leaves8_last m c t h32, leaves9_live m c t h32]
    simp only [before8 m c t h32]
    unfold left9
    iintro ⟨⟨HS, HG⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩⟩
    iapply (runD c (grid0.coords t) _ _ _ _ _ _ _ _ _ _ _ _ _ _ _ _ _ _ _ _ _ _ (fun h => absurd ((hcond0_0 t).mp h) (by omega)) ((hcond0_3 t).mpr (by omega)) (iblk m c 0 t) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexists _; iexact H9
    isplitl [HS]; · iexact HS
    iintro ⟨H0, H1, H2, H3, H4, H5, H6, H7, H9, HS⟩
    isplitl [HS HG]
    · isplitl [HS]; · iexact HS
      iexact HG
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [leaves9_idle m c t h32]
    by_cases h7 : t.val % 8 = 7
    · rw [leaves8_live m c t h7]
      rw [show left8 m c t = lastRows (iblk m c 1 t) (iblk m c 2 t) from by unfold left8 held; rw [if_neg h32]]
      iintro ⟨⟨HS, HG⟩, Ho, ⟨%d0, H0⟩, ⟨%d1, H1⟩, ⟨%d2, H2⟩, ⟨%d3, H3⟩, ⟨%d4, H4⟩, ⟨%d5, H5⟩, ⟨%d6, H6⟩, H7, ⟨%d8, H8⟩, H9⟩
      iapply (runC c (grid0.coords t) _ _ _ _ _ _ _ _ _ _ _ _ _ _ _ _ _ _ _ _ _ _ ((hcond0_0 t).mpr (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) (iblk m c 5 t) (iblk m c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS HG]
      · isplitl [HS]; · iexact HS
        iexact HG
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [leaves8_idle m c t h7 h32]
      by_cases h0 : t.val % 8 = 0
      · iintro ⟨⟨HS, HG⟩, Ho, ⟨%d0, H0⟩, ⟨%d1, H1⟩, ⟨%d2, H2⟩, ⟨%d3, H3⟩, ⟨%d4, H4⟩, ⟨%d5, H5⟩, ⟨%d6, H6⟩, H7, H8, H9⟩
        iapply (runA c (grid0.coords t) _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS HG]
        · isplitl [HS]; · iexact HS
          iexact HG
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iintro ⟨⟨HS, HG⟩, Ho, ⟨%d0, H0⟩, ⟨%d1, H1⟩, ⟨%d2, H2⟩, ⟨%d3, H3⟩, ⟨%d4, H4⟩, ⟨%d5, H5⟩, ⟨%d6, H6⟩, H7, H8, H9⟩
        iapply (runB c (grid0.coords t) _ _ _ _ _ _ _ _ _ _ _ _ _ _ _ _ _ _ _ _ _ _ ((hcond0_0 t).mpr (by omega)) (fun h => absurd ((hcond0_1 t).mp h) (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [HS HG]
        · isplitl [HS]; · iexact HS
          iexact HG
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

/-- What a run leaves: every array of the pipeline but the first result's at what the proof data says, the rest as they were. -/
abbrev Leaves (r : PUnit × MemSt nD τ sig (Elt F)) : Prop :=
  Pipeline.RDat.FramePost cfg0 (fun c => (dats m 0 c).toRForget unsaid) (V m) r

set_option backward.isDefEq.respectTransparency.types false in
/-- The run, and every semaphore counter of the machine at zero at its end. -/
theorem run_main_quiescent : θ_run defs (onTc (τ := τ) (main (F := F))) (s₀ m ρ) (fun r => Leaves m r ∧ r.2.sem = fun _ => 0) :=
  Pipeline.θ_run_frame_forget_shared (Q' := _) cfgs (dats m) (0 : Fin 1) launch₀0 defs₀ Variants.none unsaid m ρ main
    (hbody := fun c => (body_obligation m c).loose) (hq := fun _ _ _ => rfl)
    (howed := fun _ _ => rfl) (V := V m) (hmain := hmain m Variants.none) (hA := A_eq m) (hΦ := fun _ _ => rfl)

/-- The run, without the counters. -/
theorem run_main : θ_run defs (onTc (τ := τ) (main (F := F))) (s₀ m ρ) (Leaves m) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 4 rfl).trans ((A_eq m c 4).trans (V_main_arg0 m c)),
      (Pipeline.RDat.FramePost.arr_in h c 5 rfl).trans ((A_eq m c 5).trans (V_main_arg1 m c)),
      ((h c).2 main_arg2 (Pipeline.mem_restRefs_of main_arg2 (by decide) (by decide))).trans (V_main_arg2 m c)⟩) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel7Ideal.Gen

end
-- ==== Proof.Conv.Values.lean ====
/- The convolution's two buffer results, at the extended reals. -/
module

public import proofs.«01_k».proof.Proof.Conv.Frame
public import proofs.«01_k».proof.Proof.Math.Norm
public import Idealize.ShloMosaic.Lib.Pipeline.ValueKit
public import Idealize.ShloMosaic.Lib.WritesUnit

@[expose] public section

set_option maxRecDepth 16384

noncomputable section

namespace Cert.Kernel7Ideal.Gen

open Idealize Idealize.ShloMosaic Idealize.ShloMosaic.TcCoe Idealize.ShloMosaic.Tactic Cert.Decay Idealize.SL.Sem
open Idealize.ShloMosaic.Pipeline (Dat)

/-- The convolution's input at row `n`, channel `k`: the product of the two projections' entries. -/
def inputAt (p : S8448x12288.Idx → EReal) (n k : ℕ) : EReal := at2 p n (8192 + k) * at2 p n (10240 + k)

/-- The prompts' buffers: the last two inputs of each. -/
def promptBuffers (p : S8448x12288.Idx → EReal) : S4x2x2048.Idx → EReal := fun y =>
  inputAt p (2048 * (y 0).val + 2046 + (y 1).val) (y 2).val

/-- The samples' buffers: the later input of the old buffer, then the new one. -/
def sampleBuffers (p : S8448x12288.Idx → EReal) (b : S128x2x2048.Idx → EReal) : S128x4096.Idx → EReal := fun y =>
  if (y 1).val < 2048 then at3 b (y 0).val 1 (y 1).val else inputAt p (8192 + (y 0).val) ((y 1).val - 2048)

theorem lastRows_at (x1 x2 : S256x2048.Idx → EReal) (y : S1x2x2048.Idx) :
    lastRows (F := Ideal) x1 x2 y = at2 x1 (254 + (y 1).val) (y 2).val * at2 x2 (254 + (y 1).val) (y 2).val := by
  have b0 : (y 0).val < 1 := (y 0).isLt
  have b1 : (y 1).val < 2 := (y 1).isLt
  have b2 : (y 2).val < 2048 := (y 2).isLt
  rw [at2_of_lt x1 _ _ (by omega) b2, at2_of_lt x2 _ _ (by omega) b2]
  unfold lastRows k0_pay4 k0_pay2
  refine (shapeCast_apply _ _ y (ij (y 1).val (y 2).val b1 b2) ?_).trans ?_
  · refine (Shape.rowMajor_val_two _).trans (Eq.trans ?_ (Shape.rowMajor_val_three _).symm)
    show (y 1).val * 2048 + (y 2).val = ((y 0).val * 2 + (y 1).val) * 2048 + (y 2).val
    omega
  · exact (extractStridedSlice_apply _ _ _ _ (ij (254 + (y 1).val) (y 2).val (by omega) b2) (fun a => match a with
      | ⟨0, _⟩ => rfl
      | ⟨1, _⟩ => (Nat.zero_add _).symm)).trans rfl

/-- The top half of a block, -/
theorem ld_top (x : S256x2048.Idx → EReal) (n k : ℕ) (hn : n < 128) (hk : k < 2048) :
    View.ld (Val := Elt Ideal) (e' := .bf16) x (Rect.unit (s := S256x2048) ![0, 0] S128x2048.size inb_S256x2048_S128x2048_0_0) (ij n k hn hk)
      = x (ij n k (by omega) hk) :=
  congrArg x (funext fun a => Fin.ext (match a with
    | ⟨0, _⟩ => by show 0 + 1 * n = n; omega
    | ⟨1, _⟩ => by show 0 + 1 * k = k; omega))

/-- and the later half of the old buffers. -/
theorem ld_later (x : S128x4096.Idx → EReal) (n k : ℕ) (hn : n < 128) (hk : k < 2048) :
    View.ld (Val := Elt Ideal) (e' := .f32) x (Rect.unit (s := S128x4096) ![0, 2048] S128x2048.size inb_S128x4096_S128x2048_0_2048) (ij n k hn hk)
      = x (ij n (2048 + k) hn (by omega)) :=
  congrArg x (funext fun a => Fin.ext (match a with
    | ⟨0, _⟩ => by show 0 + 1 * n = n; omega
    | ⟨1, _⟩ => by show 2048 + 1 * k = 2048 + k; omega))

theorem buffers_at (x1 x2 : S256x2048.Idx → EReal) (x6 : S128x4096.Idx → EReal) (y : S128x4096.Idx) :
    buffers (F := Ideal) x1 x2 x6 y = if (y 1).val < 2048 then at2 x6 (y 0).val (2048 + (y 1).val)
      else at2 x1 (y 0).val ((y 1).val - 2048) * at2 x2 (y 0).val ((y 1).val - 2048) := by
  have b0 : (y 0).val < 128 := (y 0).isLt
  have b1 : (y 1).val < 4096 := (y 1).isLt
  unfold buffers halves
  by_cases h : (y 1).val < 2048
  · rw [if_pos h, at2_of_lt x6 _ _ b0 (by omega)]
    refine (View.read_writes_cons_unit_of_not_mem _ _ _ _ _ y rfl (1 : Fin 2) (Or.inl h)).trans ?_
    refine (View.read_writes_cons_unit_of_mem _ _ _ _ _ y (ij (y 0).val (y 1).val b0 h) rfl (fun a => match a with
      | ⟨0, _⟩ => (Nat.zero_add _).symm
      | ⟨1, _⟩ => (Nat.zero_add _).symm)).trans ?_
    unfold k0_pay6
    simp only [shapeCast_self]
    exact ld_later x6 _ _ b0 h
  · obtain ⟨n, hn⟩ : ∃ n, n = (y 1).val - 2048 := ⟨_, rfl⟩
    have hn' : n < 2048 := by omega
    rw [if_neg h, ← hn, at2_of_lt x1 _ _ (by omega) hn', at2_of_lt x2 _ _ (by omega) hn']
    refine (View.read_writes_cons_unit_of_mem _ _ _ _ _ y (ij (y 0).val n b0 hn') rfl (fun a => match a with
      | ⟨0, _⟩ => (Nat.zero_add _).symm
      | ⟨1, _⟩ => by show (y 1).val = 2048 + n; omega)).trans ?_
    unfold k0_pay5
    refine congrArg₂ (fun a b : EReal => a * b) ?_ ?_
    · exact ld_top x1 _ _ b0 hn'
    · exact ld_top x2 _ _ b0 hn'

variable (m : (ℓ : Loc nD τ sig) → Buf (Elt Ideal) ℓ) (ρ : Dev nD → PrngReg)

theorem idx1 : ∀ t : Fin cfg0.N, win0_1.index t (0 : Fin 2) = t.val ∧ win0_1.index t (1 : Fin 2) = 4 := (by decide +kernel : ∀ t : Fin grid0.N, _)
theorem idx2 : ∀ t : Fin cfg0.N, win0_2.index t (0 : Fin 2) = t.val ∧ win0_2.index t (1 : Fin 2) = 5 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx8 : ∀ t : Fin cfg0.N, win0_8.index t (1 : Fin 3) = 0 ∧ win0_8.index t (2 : Fin 3) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
/-- A prompt's buffers are written back with its last point's rows. -/
theorem held_last : ∀ t : Fin cfg0.N, (cfg0.win 8).flush t = true → (held t).val = 8 * win0_8.index t (0 : Fin 3) + 7 := by decide +kernel

/-- The call's operands. -/
abbrev argP (c : Dev nD) : S8448x12288.Idx → EReal := m ((c : Thread nD τ).loc main_arg0)
abbrev argB (c : Dev nD) : S128x2x2048.Idx → EReal := m ((c : Thread nD τ).loc main_arg2)

/-- The old buffers, each as one row. -/
def asRows (x : S128x2x2048.Idx → EReal) : S128x4096.Idx → EReal := shapeCast S128x4096 x shapeCasts_S128x2x2048_S128x4096

theorem asRows_at (x : S128x2x2048.Idx → EReal) (i : S128x4096.Idx) (n : ℕ) (hn : n < 2048) (h : (i 1).val = 2048 + n) : asRows x i = at3 x (i 0).val 1 n := by
  have b0 : (i 0).val < 128 := (i 0).isLt
  unfold asRows
  refine (shapeCast_apply x _ i (ijk (i 0).val 1 n b0 Nat.one_lt_two hn) ?_).trans (at3_val x _)
  refine (Shape.rowMajor_val_three _).trans (Eq.trans ?_ (Shape.rowMajor_val_two _).symm)
  show ((i 0).val * 2 + 1) * 2048 + n = (i 0).val * 4096 + (i 1).val
  omega

set_option maxHeartbeats 4000000 in
theorem V_buffers (c : Dev nD) : V m c main_v0 = asRows (argB m c) := by
  show StableHlo.after hostOps0 _ (Proc.devRef .tc main_v0) = _
  after_results
  rfl

theorem first_at (c : Dev nD) (t : Fin cfg0.N) (n k : ℕ) (hn : n < 256) (hk : k < 2048) :
    at2 (A := 256) (B := 2048) (iblk m c 1 t) n k = at2 (A := 8448) (B := 12288) (argP m c) (256 * t.val + n) (8192 + k) := by
  obtain ⟨e0, e1⟩ := idx1 t
  refine (at2_of_lt _ n k hn hk).trans ?_
  show V m c main_arg0 (((cfg0.win 1).blk t).view.emb (ij n k hn hk)) = _
  rw [V_main_arg0]
  refine (at2_val (A := 8448) (B := 12288) _ _).trans (congrArg₂ (at2 _) ?_ ?_)
  · show win0_1.index t (0 : Fin 2) * 256 + 1 * n = _; omega
  · show win0_1.index t (1 : Fin 2) * 2048 + 1 * k = _; omega

theorem second_at (c : Dev nD) (t : Fin cfg0.N) (n k : ℕ) (hn : n < 256) (hk : k < 2048) :
    at2 (A := 256) (B := 2048) (iblk m c 2 t) n k = at2 (A := 8448) (B := 12288) (argP m c) (256 * t.val + n) (10240 + k) := by
  obtain ⟨e0, e1⟩ := idx2 t
  refine (at2_of_lt _ n k hn hk).trans ?_
  show V m c main_arg0 (((cfg0.win 2).blk t).view.emb (ij n k hn hk)) = _
  rw [V_main_arg0]
  refine (at2_val (A := 8448) (B := 12288) _ _).trans (congrArg₂ (at2 _) ?_ ?_)
  · show win0_2.index t (0 : Fin 2) * 256 + 1 * n = _; omega
  · show win0_2.index t (1 : Fin 2) * 2048 + 1 * k = _; omega

theorem old_at (c : Dev nD) (t : Fin cfg0.N) (n k : ℕ) (hn : n < 128) (hk : k < 2048) :
    at2 (A := 128) (B := 4096) (iblk m c 6 t) n (2048 + k) = at3 (A := 128) (B := 2) (C := 2048) (argB m c) n 1 k := by
  obtain ⟨e0, e1⟩ := idx6 t
  refine (at2_of_lt _ n (2048 + k) hn (by omega)).trans ?_
  show V m c main_v0 (((cfg0.win 6).blk t).view.emb (ij n (2048 + k) hn (by omega))) = _
  rw [V_buffers]
  refine (asRows_at _ _ k hk ?_).trans (congrArg (fun a => at3 (A := 128) (B := 2) (C := 2048) (argB m c) a 1 k) ?_)
  · show win0_6.index t (1 : Fin 2) * 4096 + 1 * (2048 + k) = _; omega
  · show win0_6.index t (0 : Fin 2) * 128 + 1 * n = _; omega

theorem array8 (c : Dev nD) : (dats m 0 c).arrAt 8 cfg0.N = promptBuffers (argP m c) := by
  refine (dats m 0 c).arrAt_eq_of_covers 8 _ (by decide +kernel) fun t hf y => ?_
  show (dats m 0 c).after 8 t y = _
  rw [after0_8]
  obtain ⟨e1, e2⟩ := idx8 t
  have e0 := held_last t hf
  have b0 : (y 0).val < 1 := (y 0).isLt
  have b1 : (y 1).val < 2 := (y 1).isLt
  have b2 : (y 2).val < 2048 := (y 2).isLt
  have f0 : ((((cfg0.win 8).blk t).view.emb y) (0 : Fin 3)).val = win0_8.index t (0 : Fin 3) := by
    show win0_8.index t (0 : Fin 3) * 1 + 1 * (y 0).val = _; omega
  have f1 : ((((cfg0.win 8).blk t).view.emb y) (1 : Fin 3)).val = (y 1).val := by
    show win0_8.index t (1 : Fin 3) * 2 + 1 * (y 1).val = _; omega
  have f2 : ((((cfg0.win 8).blk t).view.emb y) (2 : Fin 3)).val = (y 2).val := by
    show win0_8.index t (2 : Fin 3) * 2048 + 1 * (y 2).val = _; omega
  unfold left8
  refine (lastRows_at _ _ y).trans ?_
  rw [first_at m c _ _ _ (by omega) b2, second_at m c _ _ _ (by omega) b2]
  unfold promptBuffers inputAt
  rw [f0, f1, f2, show 256 * (held t).val + (254 + (y 1).val) = 2048 * win0_8.index t (0 : Fin 3) + 2046 + (y 1).val from by omega]

theorem array9 (c : Dev nD) : (dats m 0 c).arrAt 9 cfg0.N = sampleBuffers (argP m c) (argB m c) := by
  refine (dats m 0 c).arrAt_eq_of_covers 9 _ (by decide +kernel) fun t hf y => ?_
  show (dats m 0 c).after 9 t y = _
  rw [after0_9]
  have h32 : t.val = 32 := of_decide_eq_true ((back9 t).symm.trans hf)
  obtain ⟨e0, e1⟩ := idx9 t
  have b0 : (y 0).val < 128 := (y 0).isLt
  have b1 : (y 1).val < 4096 := (y 1).isLt
  have f0 : ((((cfg0.win 9).blk t).view.emb y) (0 : Fin 2)).val = (y 0).val := by
    show win0_9.index t (0 : Fin 2) * 128 + 1 * (y 0).val = _; omega
  have f1 : ((((cfg0.win 9).blk t).view.emb y) (1 : Fin 2)).val = (y 1).val := by
    show win0_9.index t (1 : Fin 2) * 4096 + 1 * (y 1).val = _; omega
  unfold left9
  refine (buffers_at _ _ _ y).trans ?_
  unfold sampleBuffers
  rw [f0, f1]
  by_cases h : (y 1).val < 2048
  · rw [if_pos h, if_pos h, old_at m c t _ _ b0 h]
  · obtain ⟨n, hn⟩ : ∃ n, n = (y 1).val - 2048 := ⟨_, rfl⟩
    have hn' : n < 2048 := by omega
    rw [if_neg h, if_neg h, ← hn, first_at m c t _ _ (by omega) hn', second_at m c t _ _ (by omega) hn']
    unfold inputAt
    rw [h32]

/-- The run: both results named, the arguments kept. -/
theorem run_values : θ_run defs (onTc (τ := τ) (main (F := Ideal))) ⟨m, fun _ => 0, ρ⟩ (fun r => (∀ c : Dev nD,
      r.2.mem ((c : Thread nD τ).loc main_v1_1) = promptBuffers (argP m c)
      ∧ r.2.mem ((c : Thread nD τ).loc main_v1_2) = sampleBuffers (argP m c) (argB m c))
      ∧ ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and ((θ_run defs _ _).mono (fun r h c => ⟨
    (((dats m 0 c).toRForget_arrAt_iff (fgt := unsaid) (w := 8) rfl cfg0.N _).mp ((h c).1 8)).trans (array8 m c),
    (((dats m 0 c).toRForget_arrAt_iff (fgt := unsaid) (w := 9) rfl cfg0.N _).mp ((h c).1 9)).trans (array9 m c)⟩) (run_main m ρ)) (unchanged m ρ)

end Cert.Kernel7Ideal.Gen

end
-- ==== Proof.Conv.Reference.lean ====
/- The convolution's two buffer results as the reference writes them, read at an index. -/
module

public import proofs.«01_k».proof.Proof.Conv.Values
public import proofs.«01_k».proof.Proof.Gen.Reference7Ideal.Read

@[expose] public section

set_option maxRecDepth 16384

noncomputable section

namespace Cert.Reference7Ideal.Read

open Cert.Reference7Ideal.Gen Cert.Decay Idealize.ShloMosaic Idealize.ShloMosaic.TcCoe
open Cert.Kernel7Ideal.Gen (inputAt promptBuffers sampleBuffers)

theorem input_at (x : S8448x12288.Idx → EReal) (i : S8448x2048.Idx) : val_main_v3 (F := Ideal) x i = inputAt x (i 0).val (i 1).val := by
  rw [val_main_v3_apply, val_main_v1_apply, val_main_v2_apply, val_main_v0_apply, val_main_v0_apply]
  unfold inputAt
  exact congrArg₂ (fun a b : EReal => a * b) (at2_val (A := 8448) (B := 12288) x _) (at2_val (A := 8448) (B := 12288) x _)

/-- The prompts' buffers. -/
theorem prompts_at (x : S8448x12288.Idx → EReal) (y : S4x2x2048.Idx) : val_main_v6 (F := Ideal) x y = promptBuffers x y := by
  have b0 : (y 0).val < 4 := (y 0).isLt
  have b1 : (y 1).val < 2 := (y 1).isLt
  have b2 : (y 2).val < 2048 := (y 2).isLt
  rw [val_main_v6_apply, val_main_v5_apply, val_main_v4_apply, input_at]
  unfold promptBuffers
  refine congrArg₂ (inputAt x) ?_ ?_
  · show (((y 0).val * 2048 + (2046 + (y 1).val)) * 2048 + (y 2).val) / 2048 = _
    omega
  · show (((y 0).val * 2048 + (2046 + (y 1).val)) * 2048 + (y 2).val) % 2048 = _
    omega

/-- The samples' buffers. -/
theorem samples_at (x : S8448x12288.Idx → EReal) (b : S128x2x2048.Idx → EReal) (y : S128x4096.Idx) : val_main_v10 (F := Ideal) x b y = sampleBuffers x b y := by
  have b0 : (y 0).val < 128 := (y 0).isLt
  have b1 : (y 1).val < 4096 := (y 1).isLt
  unfold val_main_v10 sampleBuffers
  split
  · rename_i h
    refine (concatenate_apply_piece (t := S128x4096) 1 [⟨S128x2048, val_main_v8 (F := Ideal) b⟩, ⟨S128x2048, val_main_v9 (F := Ideal) x⟩] _ _ 0 Nat.zero_lt_two S128x2048 (val_main_v8 (F := Ideal) b) rfl rfl 0 rfl (ij (y 0).val (y 1).val b0 h)
      (fun a ha => match a with | ⟨0, _⟩ => rfl | ⟨1, _⟩ => absurd rfl ha) (by show 0 + (y 1).val = _; omega)).trans ?_
    rw [val_main_v8_apply, val_main_v7_apply]
    refine (at3_val (A := 128) (B := 2) (C := 2048) b _).trans ?_
    show at3 b (((y 0).val * 2048 + (y 1).val) / 2048) 1 (((y 0).val * 2048 + (y 1).val) % 2048) = _
    rw [show ((y 0).val * 2048 + (y 1).val) / 2048 = (y 0).val from by omega, show ((y 0).val * 2048 + (y 1).val) % 2048 = (y 1).val from by omega]
  · rename_i h
    obtain ⟨n, hn⟩ : ∃ n, n = (y 1).val - 2048 := ⟨_, rfl⟩
    have h' : n < 2048 := by omega
    rw [← hn]
    refine (concatenate_apply_piece (t := S128x4096) 1 [⟨S128x2048, val_main_v8 (F := Ideal) b⟩, ⟨S128x2048, val_main_v9 (F := Ideal) x⟩] _ _ 1 Nat.one_lt_two S128x2048 (val_main_v9 (F := Ideal) x) rfl rfl 2048 rfl (ij (y 0).val n b0 h')
      (fun a ha => match a with | ⟨0, _⟩ => rfl | ⟨1, _⟩ => absurd rfl ha) (by show 2048 + n = (y 1).val; omega)).trans ?_
    rw [val_main_v9_apply, input_at]
    exact congrArg₂ (inputAt x) rfl rfl

end Cert.Reference7Ideal.Read

end
-- ==== Proof.Conv.Claims.lean ====
/- The convolution's claims: its frames, and that kernel and reference end with the same buffers for the next call. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Conv.Reference
public import Idealize.ShloMosaic.Adequacy
public import Idealize.ShloMosaic.Init

@[expose] public section

noncomputable section

namespace Cert.Conv

open Idealize.ShloMosaic Idealize.SL.Sem

/-- The kernel's frame with the second program in place of the first: the two have the same text. -/
def FrameBits : Prop := ∀ (m : (ℓ : Loc Cert.Kernel7Ideal.nD Cert.Kernel7Ideal.τ Cert.Kernel7Ideal.sig) → Buf (Elt Bits) ℓ)
    (g : Dev Cert.Kernel7Ideal.nD → PrngReg), Cert.Pre_Kernel7 m →
  θ_run (Cert.Kernel7Ideal.defs (F := Bits)) (onTc (τ := Cert.Kernel7Ideal.τ) (Cert.Kernel7Ideal.main (F := Bits)))
    ⟨m, fun _ => 0, g⟩ (fun r => (∀ c : Dev Cert.Kernel7Ideal.nD,
      r.2.mem ((c.tc : Thread Cert.Kernel7Ideal.nD Cert.Kernel7Ideal.τ).loc Cert.Kernel7Ideal.main_arg0)
        = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1)
        = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2)
        = m ((c.tc : Thread Cert.Kernel7Ideal.nD Cert.Kernel7Ideal.τ).loc Cert.Kernel7Ideal.main_arg2))
      ∧ r.2.sem = fun _ => 0)

theorem frameBits : FrameBits := fun m ρ _ => Cert.Kernel7Ideal.Gen.frame (F := Bits) m ρ

theorem same_text : Cert.quiescent_Kernel7 = FrameBits := by
  sl_kernel_rfl

/-- The kernel at the machine's floats: the one run, read at `Bits`. -/
theorem frame_kernel : Cert.quiescent_Kernel7 := same_text ▸ frameBits

/-- The kernel at the extended reals. -/
theorem frame_ideal : Cert.quiescent_Kernel7Ideal := fun m ρ _ =>
  (θ_run Cert.Kernel7Ideal.defs _ _).mono (fun _ h => h) (Cert.Kernel7Ideal.Gen.frame (F := Ideal) m ρ)

/-- The reference at the extended reals. -/
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Kernel and reference end with the same two arrays of buffers. -/
theorem same_arrays : Cert.algebraic_Kernel7Ideal_Reference7Ideal := by
  intro m g m' g' _ hargs
  refine ⟨fun c => Cert.Kernel7Ideal.Gen.promptBuffers (Cert.Kernel7Ideal.Gen.argP m c),
    fun c => Cert.Kernel7Ideal.Gen.sampleBuffers (Cert.Kernel7Ideal.Gen.argP m c) (Cert.Kernel7Ideal.Gen.argB m c),
    (θ_run Cert.Kernel7Ideal.defs _ _).mono (fun r h c => ⟨(h.1 c).1, (h.1 c).2, h.2 c⟩) (Cert.Kernel7Ideal.Gen.run_values m g),
    (θ_run Cert.Reference7Ideal.defs _ _).mono (fun r h c => ⟨(h c).1.trans ?_, (h c).2.1.trans ?_, (h c).2.2⟩)
      (Cert.Reference7Ideal.Value.run (F := Ideal) m' g')⟩
  · obtain ⟨e0, e1, e2⟩ := hargs c
    refine (Cert.Reference7Ideal.Read.val_main_v6_eq _).trans ?_
    rw [e0]
    funext i
    exact Cert.Reference7Ideal.Read.prompts_at _ i
  · obtain ⟨e0, e1, e2⟩ := hargs c
    refine (Cert.Reference7Ideal.Read.val_main_v10_eq _ _).trans ?_
    rw [e0, e2]
    funext i
    exact Cert.Reference7Ideal.Read.samples_at _ _ i

end Cert.Conv

end
-- ==== Proof.lean ====
/- The claims about calls of the layer: of each the kernel at the machine's floats and at the extended reals,
   and the plain reference. Here those of the gated linear attention. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_decay
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.KI.Frame
public import proofs.«01_k».proof.Proof.Val.Arrays
public import proofs.«01_k».proof.Proof.Val.Pre
public import proofs.«01_k».proof.Proof.Val.Ref
public import proofs.«01_k».proof.Proof.Up.Claims
public import proofs.«01_k».proof.Proof.Down.Claims
public import proofs.«01_k».proof.Proof.Proj.Claims
public import proofs.«01_k».proof.Proof.Out.Claims
public import proofs.«01_k».proof.Proof.Norm.Claims
public import proofs.«01_k».proof.Proof.Conv.Claims
public import Idealize.ShloMosaic.Adequacy
public import Idealize.ShloMosaic.Init

@[expose] public section

noncomputable section

namespace Cert.Proof

open Idealize.ShloMosaic Idealize.SL.Sem

/-- The first claim with the second program in place of the first: the two have the same text. -/
def FrameBits : Prop := ∀ (m : (ℓ : Loc Cert.KernelIdeal.nD Cert.KernelIdeal.τ Cert.KernelIdeal.sig) → Buf (Elt Bits) ℓ)
    (g : Dev Cert.KernelIdeal.nD → PrngReg), Cert.Pre_Kernel m →
  θ_run (Cert.KernelIdeal.defs (F := Bits)) (onTc (τ := Cert.KernelIdeal.τ) (Cert.KernelIdeal.main (F := Bits)))
    ⟨m, fun _ => 0, g⟩ (fun r => (∀ c : Dev Cert.KernelIdeal.nD,
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2)
        = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3)
        = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4)
        = m ((c.tc : Thread Cert.KernelIdeal.nD Cert.KernelIdeal.τ).loc Cert.KernelIdeal.main_arg4))
      ∧ r.2.sem = fun _ => 0)

theorem frameBits : FrameBits := fun m ρ _ => Cert.KernelIdeal.Gen.frame (F := Bits) m ρ

theorem same_text : Cert.quiescent_Kernel = FrameBits := by
  sl_kernel_rfl

/-- The kernel at the machine's floats: the one run, read at `Bits`. -/
theorem frame_kernel : Cert.quiescent_Kernel := same_text ▸ frameBits

/-- The kernel at the extended reals. -/
theorem frame_ideal : Cert.quiescent_KernelIdeal := fun m ρ _ =>
  (θ_run Cert.KernelIdeal.defs _ _).mono (fun _ h => h) (Cert.KernelIdeal.Gen.frame (F := Ideal) m ρ)

/-- The reference at the extended reals. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel and the reference end with the same states: both are the decayed sums over the positions. -/
theorem same_states : Cert.algebraic_KernelIdeal_ReferenceIdeal_pre_finite_decay := by
  intro m g m' g' hp hargs
  have hfin := fun c => Cert.Pre_finite_decay.Gen.real_of_pre _ _ _ _ _ (hp c)
  refine ⟨fun c => Cert.KernelIdeal.Gen.promptStates m c, fun c => Cert.KernelIdeal.Gen.sampleStates m c,
    (θ_run Cert.KernelIdeal.defs _ _).mono (fun r h c => ⟨(h.1 c).1, (h.1 c).2, h.2 c⟩) (Cert.KernelIdeal.Gen.run_values m g hfin),
    (θ_run Cert.ReferenceIdeal.defs _ _).mono (fun r h c => ⟨(h c).1.trans ?_, (h c).2.1.trans ?_, (h c).2.2⟩)
      (Cert.ReferenceIdeal.Value.run (F := Ideal) m' g')⟩
  · obtain ⟨e0, e1, e2, e3, e4⟩ := hargs c
    refine (Cert.ReferenceIdeal.Read.val_main_v27_eq _ _ _).trans ?_
    rw [e0, e1, e3]
    funext i
    exact Cert.ReferenceIdeal.Read.states_apply _ _ _ (hfin c) i
  · obtain ⟨e0, e1, e2, e3, e4⟩ := hargs c
    refine (Cert.ReferenceIdeal.Read.val_main_v47_eq _ _ _).trans ?_
    rw [e0, e1, e4]
    funext i
    refine (Cert.ReferenceIdeal.Read.sstates_apply _ _ _ (hfin c) i).trans ?_
    unfold Cert.KernelIdeal.Gen.sampleStates
    refine congrArg₂ (· + ·) (congrArg₂ (· * ·) ?_ rfl) rfl
    exact ((congrArg Ideal.exp (hfin c _ _)).trans (Ideal.exp_coe _)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite_decay.Gen.facts,
  frame_kernel, frame_ideal, fun m g _ => frame_ideal m g trivial, frame_reference, fun m g _ => frame_reference m g trivial,
  Cert.Up.frame_kernel, Cert.Up.frame_ideal, Cert.Up.frame_reference,
  Cert.Down.frame_kernel, Cert.Down.frame_ideal, Cert.Down.frame_reference,
  Cert.Proj.frame_kernel, Cert.Proj.frame_ideal, Cert.Proj.frame_reference,
  Cert.Out.frame_kernel, Cert.Out.frame_ideal, Cert.Out.frame_reference,
  Cert.Norm.frame_kernel, Cert.Norm.frame_ideal, Cert.Norm.frame_reference,
  Cert.Conv.frame_kernel, Cert.Conv.frame_ideal, Cert.Conv.frame_reference,
  trivial, same_states, trivial, Cert.Up.same_arrays, trivial, Cert.Down.same_arrays, trivial, Cert.Proj.same_arrays, trivial, Cert.Out.same_arrays, trivial, Cert.Norm.same_arrays, trivial, Cert.Conv.same_arrays⟩

end Cert.Proof

end
